-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2 = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).2 = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).1 = (fun _ => 1#1)
    ∧ (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.1 = (fun _ => 1#1)
    ∧ (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.1 = (fun _ => 1#1)
    ∧ (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.1 = (fun _ => 1#1)
    ∧ (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.1 = (fun _ => 1#1)
    ∧ (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.2.1 = (fun _ => 1#1)
    ∧ (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_finite [hPre_diff_finite : Cert.Pre_diff_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).1 = (fun _ => 1#1)
    ∧ (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.1 = (fun _ => 1#1)
    ∧ (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.1 = (fun _ => 1#1)
    ∧ (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.1 = (fun _ => 1#1)
    ∧ (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.1 = (fun _ => 1#1)
    ∧ (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.2.1 = (fun _ => 1#1)
    ∧ (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dift (m : (ℓ : Loc Cert.Dift.nD Cert.Dift.τ Cert.Dift.sig) → Buf (Elt Bits) ℓ) : Prop :=
  True

def Pre_DiftIdeal (m : (ℓ : Loc Cert.DiftIdeal.nD Cert.DiftIdeal.τ Cert.DiftIdeal.sig) → Buf (Elt Ideal) ℓ) : Prop :=
  True

def Pre_DiftIdeal_diff_finite [hPre_diff_finite : Cert.Pre_diff_finite.Facts] (m : (ℓ : Loc Cert.DiftIdeal.nD Cert.DiftIdeal.τ Cert.DiftIdeal.sig) → Buf (Elt Ideal) ℓ) : Prop :=
  ∀ c : Dev Cert.DiftIdeal.nD,
    (Cert.Pre_diff_finite.fn (F := Ideal) (m ((c.tc : Thread Cert.DiftIdeal.nD Cert.DiftIdeal.τ).loc Cert.DiftIdeal.main_arg0)) (m ((c.tc : Thread Cert.DiftIdeal.nD Cert.DiftIdeal.τ).loc Cert.DiftIdeal.main_arg1)) (m ((c.tc : Thread Cert.DiftIdeal.nD Cert.DiftIdeal.τ).loc Cert.DiftIdeal.main_arg2)) (m ((c.tc : Thread Cert.DiftIdeal.nD Cert.DiftIdeal.τ).loc Cert.DiftIdeal.main_arg3)) (m ((c.tc : Thread Cert.DiftIdeal.nD Cert.DiftIdeal.τ).loc Cert.DiftIdeal.main_arg4)) (m ((c.tc : Thread Cert.DiftIdeal.nD Cert.DiftIdeal.τ).loc Cert.DiftIdeal.main_arg5)) (m ((c.tc : Thread Cert.DiftIdeal.nD Cert.DiftIdeal.τ).loc Cert.DiftIdeal.main_arg6)) (m ((c.tc : Thread Cert.DiftIdeal.nD Cert.DiftIdeal.τ).loc Cert.DiftIdeal.main_arg7))).1 = (fun _ => 1#1)
    ∧ (Cert.Pre_diff_finite.fn (F := Ideal) (m ((c.tc : Thread Cert.DiftIdeal.nD Cert.DiftIdeal.τ).loc Cert.DiftIdeal.main_arg0)) (m ((c.tc : Thread Cert.DiftIdeal.nD Cert.DiftIdeal.τ).loc Cert.DiftIdeal.main_arg1)) (m ((c.tc : Thread Cert.DiftIdeal.nD Cert.DiftIdeal.τ).loc Cert.DiftIdeal.main_arg2)) (m ((c.tc : Thread Cert.DiftIdeal.nD Cert.DiftIdeal.τ).loc Cert.DiftIdeal.main_arg3)) (m ((c.tc : Thread Cert.DiftIdeal.nD Cert.DiftIdeal.τ).loc Cert.DiftIdeal.main_arg4)) (m ((c.tc : Thread Cert.DiftIdeal.nD Cert.DiftIdeal.τ).loc Cert.DiftIdeal.main_arg5)) (m ((c.tc : Thread Cert.DiftIdeal.nD Cert.DiftIdeal.τ).loc Cert.DiftIdeal.main_arg6)) (m ((c.tc : Thread Cert.DiftIdeal.nD Cert.DiftIdeal.τ).loc Cert.DiftIdeal.main_arg7))).2.1 = (fun _ => 1#1)
    ∧ (Cert.Pre_diff_finite.fn (F := Ideal) (m ((c.tc : Thread Cert.DiftIdeal.nD Cert.DiftIdeal.τ).loc Cert.DiftIdeal.main_arg0)) (m ((c.tc : Thread Cert.DiftIdeal.nD Cert.DiftIdeal.τ).loc Cert.DiftIdeal.main_arg1)) (m ((c.tc : Thread Cert.DiftIdeal.nD Cert.DiftIdeal.τ).loc Cert.DiftIdeal.main_arg2)) (m ((c.tc : Thread Cert.DiftIdeal.nD Cert.DiftIdeal.τ).loc Cert.DiftIdeal.main_arg3)) (m ((c.tc : Thread Cert.DiftIdeal.nD Cert.DiftIdeal.τ).loc Cert.DiftIdeal.main_arg4)) (m ((c.tc : Thread Cert.DiftIdeal.nD Cert.DiftIdeal.τ).loc Cert.DiftIdeal.main_arg5)) (m ((c.tc : Thread Cert.DiftIdeal.nD Cert.DiftIdeal.τ).loc Cert.DiftIdeal.main_arg6)) (m ((c.tc : Thread Cert.DiftIdeal.nD Cert.DiftIdeal.τ).loc Cert.DiftIdeal.main_arg7))).2.2.1 = (fun _ => 1#1)
    ∧ (Cert.Pre_diff_finite.fn (F := Ideal) (m ((c.tc : Thread Cert.DiftIdeal.nD Cert.DiftIdeal.τ).loc Cert.DiftIdeal.main_arg0)) (m ((c.tc : Thread Cert.DiftIdeal.nD Cert.DiftIdeal.τ).loc Cert.DiftIdeal.main_arg1)) (m ((c.tc : Thread Cert.DiftIdeal.nD Cert.DiftIdeal.τ).loc Cert.DiftIdeal.main_arg2)) (m ((c.tc : Thread Cert.DiftIdeal.nD Cert.DiftIdeal.τ).loc Cert.DiftIdeal.main_arg3)) (m ((c.tc : Thread Cert.DiftIdeal.nD Cert.DiftIdeal.τ).loc Cert.DiftIdeal.main_arg4)) (m ((c.tc : Thread Cert.DiftIdeal.nD Cert.DiftIdeal.τ).loc Cert.DiftIdeal.main_arg5)) (m ((c.tc : Thread Cert.DiftIdeal.nD Cert.DiftIdeal.τ).loc Cert.DiftIdeal.main_arg6)) (m ((c.tc : Thread Cert.DiftIdeal.nD Cert.DiftIdeal.τ).loc Cert.DiftIdeal.main_arg7))).2.2.2.1 = (fun _ => 1#1)
    ∧ (Cert.Pre_diff_finite.fn (F := Ideal) (m ((c.tc : Thread Cert.DiftIdeal.nD Cert.DiftIdeal.τ).loc Cert.DiftIdeal.main_arg0)) (m ((c.tc : Thread Cert.DiftIdeal.nD Cert.DiftIdeal.τ).loc Cert.DiftIdeal.main_arg1)) (m ((c.tc : Thread Cert.DiftIdeal.nD Cert.DiftIdeal.τ).loc Cert.DiftIdeal.main_arg2)) (m ((c.tc : Thread Cert.DiftIdeal.nD Cert.DiftIdeal.τ).loc Cert.DiftIdeal.main_arg3)) (m ((c.tc : Thread Cert.DiftIdeal.nD Cert.DiftIdeal.τ).loc Cert.DiftIdeal.main_arg4)) (m ((c.tc : Thread Cert.DiftIdeal.nD Cert.DiftIdeal.τ).loc Cert.DiftIdeal.main_arg5)) (m ((c.tc : Thread Cert.DiftIdeal.nD Cert.DiftIdeal.τ).loc Cert.DiftIdeal.main_arg6)) (m ((c.tc : Thread Cert.DiftIdeal.nD Cert.DiftIdeal.τ).loc Cert.DiftIdeal.main_arg7))).2.2.2.2.1 = (fun _ => 1#1)
    ∧ (Cert.Pre_diff_finite.fn (F := Ideal) (m ((c.tc : Thread Cert.DiftIdeal.nD Cert.DiftIdeal.τ).loc Cert.DiftIdeal.main_arg0)) (m ((c.tc : Thread Cert.DiftIdeal.nD Cert.DiftIdeal.τ).loc Cert.DiftIdeal.main_arg1)) (m ((c.tc : Thread Cert.DiftIdeal.nD Cert.DiftIdeal.τ).loc Cert.DiftIdeal.main_arg2)) (m ((c.tc : Thread Cert.DiftIdeal.nD Cert.DiftIdeal.τ).loc Cert.DiftIdeal.main_arg3)) (m ((c.tc : Thread Cert.DiftIdeal.nD Cert.DiftIdeal.τ).loc Cert.DiftIdeal.main_arg4)) (m ((c.tc : Thread Cert.DiftIdeal.nD Cert.DiftIdeal.τ).loc Cert.DiftIdeal.main_arg5)) (m ((c.tc : Thread Cert.DiftIdeal.nD Cert.DiftIdeal.τ).loc Cert.DiftIdeal.main_arg6)) (m ((c.tc : Thread Cert.DiftIdeal.nD Cert.DiftIdeal.τ).loc Cert.DiftIdeal.main_arg7))).2.2.2.2.2.1 = (fun _ => 1#1)
    ∧ (Cert.Pre_diff_finite.fn (F := Ideal) (m ((c.tc : Thread Cert.DiftIdeal.nD Cert.DiftIdeal.τ).loc Cert.DiftIdeal.main_arg0)) (m ((c.tc : Thread Cert.DiftIdeal.nD Cert.DiftIdeal.τ).loc Cert.DiftIdeal.main_arg1)) (m ((c.tc : Thread Cert.DiftIdeal.nD Cert.DiftIdeal.τ).loc Cert.DiftIdeal.main_arg2)) (m ((c.tc : Thread Cert.DiftIdeal.nD Cert.DiftIdeal.τ).loc Cert.DiftIdeal.main_arg3)) (m ((c.tc : Thread Cert.DiftIdeal.nD Cert.DiftIdeal.τ).loc Cert.DiftIdeal.main_arg4)) (m ((c.tc : Thread Cert.DiftIdeal.nD Cert.DiftIdeal.τ).loc Cert.DiftIdeal.main_arg5)) (m ((c.tc : Thread Cert.DiftIdeal.nD Cert.DiftIdeal.τ).loc Cert.DiftIdeal.main_arg6)) (m ((c.tc : Thread Cert.DiftIdeal.nD Cert.DiftIdeal.τ).loc Cert.DiftIdeal.main_arg7))).2.2.2.2.2.2 = (fun _ => 1#1)

def Pre_DiftRefIdeal (m : (ℓ : Loc Cert.DiftRefIdeal.nD Cert.DiftRefIdeal.τ Cert.DiftRefIdeal.sig) → Buf (Elt Ideal) ℓ) : Prop :=
  True

def Pre_DiftRefIdeal_diff_finite [hPre_diff_finite : Cert.Pre_diff_finite.Facts] (m : (ℓ : Loc Cert.DiftRefIdeal.nD Cert.DiftRefIdeal.τ Cert.DiftRefIdeal.sig) → Buf (Elt Ideal) ℓ) : Prop :=
  ∀ c : Dev Cert.DiftRefIdeal.nD,
    (Cert.Pre_diff_finite.fn (F := Ideal) (m ((c.tc : Thread Cert.DiftRefIdeal.nD Cert.DiftRefIdeal.τ).loc Cert.DiftRefIdeal.main_arg0)) (m ((c.tc : Thread Cert.DiftRefIdeal.nD Cert.DiftRefIdeal.τ).loc Cert.DiftRefIdeal.main_arg1)) (m ((c.tc : Thread Cert.DiftRefIdeal.nD Cert.DiftRefIdeal.τ).loc Cert.DiftRefIdeal.main_arg2)) (m ((c.tc : Thread Cert.DiftRefIdeal.nD Cert.DiftRefIdeal.τ).loc Cert.DiftRefIdeal.main_arg3)) (m ((c.tc : Thread Cert.DiftRefIdeal.nD Cert.DiftRefIdeal.τ).loc Cert.DiftRefIdeal.main_arg4)) (m ((c.tc : Thread Cert.DiftRefIdeal.nD Cert.DiftRefIdeal.τ).loc Cert.DiftRefIdeal.main_arg5)) (m ((c.tc : Thread Cert.DiftRefIdeal.nD Cert.DiftRefIdeal.τ).loc Cert.DiftRefIdeal.main_arg6)) (m ((c.tc : Thread Cert.DiftRefIdeal.nD Cert.DiftRefIdeal.τ).loc Cert.DiftRefIdeal.main_arg7))).1 = (fun _ => 1#1)
    ∧ (Cert.Pre_diff_finite.fn (F := Ideal) (m ((c.tc : Thread Cert.DiftRefIdeal.nD Cert.DiftRefIdeal.τ).loc Cert.DiftRefIdeal.main_arg0)) (m ((c.tc : Thread Cert.DiftRefIdeal.nD Cert.DiftRefIdeal.τ).loc Cert.DiftRefIdeal.main_arg1)) (m ((c.tc : Thread Cert.DiftRefIdeal.nD Cert.DiftRefIdeal.τ).loc Cert.DiftRefIdeal.main_arg2)) (m ((c.tc : Thread Cert.DiftRefIdeal.nD Cert.DiftRefIdeal.τ).loc Cert.DiftRefIdeal.main_arg3)) (m ((c.tc : Thread Cert.DiftRefIdeal.nD Cert.DiftRefIdeal.τ).loc Cert.DiftRefIdeal.main_arg4)) (m ((c.tc : Thread Cert.DiftRefIdeal.nD Cert.DiftRefIdeal.τ).loc Cert.DiftRefIdeal.main_arg5)) (m ((c.tc : Thread Cert.DiftRefIdeal.nD Cert.DiftRefIdeal.τ).loc Cert.DiftRefIdeal.main_arg6)) (m ((c.tc : Thread Cert.DiftRefIdeal.nD Cert.DiftRefIdeal.τ).loc Cert.DiftRefIdeal.main_arg7))).2.1 = (fun _ => 1#1)
    ∧ (Cert.Pre_diff_finite.fn (F := Ideal) (m ((c.tc : Thread Cert.DiftRefIdeal.nD Cert.DiftRefIdeal.τ).loc Cert.DiftRefIdeal.main_arg0)) (m ((c.tc : Thread Cert.DiftRefIdeal.nD Cert.DiftRefIdeal.τ).loc Cert.DiftRefIdeal.main_arg1)) (m ((c.tc : Thread Cert.DiftRefIdeal.nD Cert.DiftRefIdeal.τ).loc Cert.DiftRefIdeal.main_arg2)) (m ((c.tc : Thread Cert.DiftRefIdeal.nD Cert.DiftRefIdeal.τ).loc Cert.DiftRefIdeal.main_arg3)) (m ((c.tc : Thread Cert.DiftRefIdeal.nD Cert.DiftRefIdeal.τ).loc Cert.DiftRefIdeal.main_arg4)) (m ((c.tc : Thread Cert.DiftRefIdeal.nD Cert.DiftRefIdeal.τ).loc Cert.DiftRefIdeal.main_arg5)) (m ((c.tc : Thread Cert.DiftRefIdeal.nD Cert.DiftRefIdeal.τ).loc Cert.DiftRefIdeal.main_arg6)) (m ((c.tc : Thread Cert.DiftRefIdeal.nD Cert.DiftRefIdeal.τ).loc Cert.DiftRefIdeal.main_arg7))).2.2.1 = (fun _ => 1#1)
    ∧ (Cert.Pre_diff_finite.fn (F := Ideal) (m ((c.tc : Thread Cert.DiftRefIdeal.nD Cert.DiftRefIdeal.τ).loc Cert.DiftRefIdeal.main_arg0)) (m ((c.tc : Thread Cert.DiftRefIdeal.nD Cert.DiftRefIdeal.τ).loc Cert.DiftRefIdeal.main_arg1)) (m ((c.tc : Thread Cert.DiftRefIdeal.nD Cert.DiftRefIdeal.τ).loc Cert.DiftRefIdeal.main_arg2)) (m ((c.tc : Thread Cert.DiftRefIdeal.nD Cert.DiftRefIdeal.τ).loc Cert.DiftRefIdeal.main_arg3)) (m ((c.tc : Thread Cert.DiftRefIdeal.nD Cert.DiftRefIdeal.τ).loc Cert.DiftRefIdeal.main_arg4)) (m ((c.tc : Thread Cert.DiftRefIdeal.nD Cert.DiftRefIdeal.τ).loc Cert.DiftRefIdeal.main_arg5)) (m ((c.tc : Thread Cert.DiftRefIdeal.nD Cert.DiftRefIdeal.τ).loc Cert.DiftRefIdeal.main_arg6)) (m ((c.tc : Thread Cert.DiftRefIdeal.nD Cert.DiftRefIdeal.τ).loc Cert.DiftRefIdeal.main_arg7))).2.2.2.1 = (fun _ => 1#1)
    ∧ (Cert.Pre_diff_finite.fn (F := Ideal) (m ((c.tc : Thread Cert.DiftRefIdeal.nD Cert.DiftRefIdeal.τ).loc Cert.DiftRefIdeal.main_arg0)) (m ((c.tc : Thread Cert.DiftRefIdeal.nD Cert.DiftRefIdeal.τ).loc Cert.DiftRefIdeal.main_arg1)) (m ((c.tc : Thread Cert.DiftRefIdeal.nD Cert.DiftRefIdeal.τ).loc Cert.DiftRefIdeal.main_arg2)) (m ((c.tc : Thread Cert.DiftRefIdeal.nD Cert.DiftRefIdeal.τ).loc Cert.DiftRefIdeal.main_arg3)) (m ((c.tc : Thread Cert.DiftRefIdeal.nD Cert.DiftRefIdeal.τ).loc Cert.DiftRefIdeal.main_arg4)) (m ((c.tc : Thread Cert.DiftRefIdeal.nD Cert.DiftRefIdeal.τ).loc Cert.DiftRefIdeal.main_arg5)) (m ((c.tc : Thread Cert.DiftRefIdeal.nD Cert.DiftRefIdeal.τ).loc Cert.DiftRefIdeal.main_arg6)) (m ((c.tc : Thread Cert.DiftRefIdeal.nD Cert.DiftRefIdeal.τ).loc Cert.DiftRefIdeal.main_arg7))).2.2.2.2.1 = (fun _ => 1#1)
    ∧ (Cert.Pre_diff_finite.fn (F := Ideal) (m ((c.tc : Thread Cert.DiftRefIdeal.nD Cert.DiftRefIdeal.τ).loc Cert.DiftRefIdeal.main_arg0)) (m ((c.tc : Thread Cert.DiftRefIdeal.nD Cert.DiftRefIdeal.τ).loc Cert.DiftRefIdeal.main_arg1)) (m ((c.tc : Thread Cert.DiftRefIdeal.nD Cert.DiftRefIdeal.τ).loc Cert.DiftRefIdeal.main_arg2)) (m ((c.tc : Thread Cert.DiftRefIdeal.nD Cert.DiftRefIdeal.τ).loc Cert.DiftRefIdeal.main_arg3)) (m ((c.tc : Thread Cert.DiftRefIdeal.nD Cert.DiftRefIdeal.τ).loc Cert.DiftRefIdeal.main_arg4)) (m ((c.tc : Thread Cert.DiftRefIdeal.nD Cert.DiftRefIdeal.τ).loc Cert.DiftRefIdeal.main_arg5)) (m ((c.tc : Thread Cert.DiftRefIdeal.nD Cert.DiftRefIdeal.τ).loc Cert.DiftRefIdeal.main_arg6)) (m ((c.tc : Thread Cert.DiftRefIdeal.nD Cert.DiftRefIdeal.τ).loc Cert.DiftRefIdeal.main_arg7))).2.2.2.2.2.1 = (fun _ => 1#1)
    ∧ (Cert.Pre_diff_finite.fn (F := Ideal) (m ((c.tc : Thread Cert.DiftRefIdeal.nD Cert.DiftRefIdeal.τ).loc Cert.DiftRefIdeal.main_arg0)) (m ((c.tc : Thread Cert.DiftRefIdeal.nD Cert.DiftRefIdeal.τ).loc Cert.DiftRefIdeal.main_arg1)) (m ((c.tc : Thread Cert.DiftRefIdeal.nD Cert.DiftRefIdeal.τ).loc Cert.DiftRefIdeal.main_arg2)) (m ((c.tc : Thread Cert.DiftRefIdeal.nD Cert.DiftRefIdeal.τ).loc Cert.DiftRefIdeal.main_arg3)) (m ((c.tc : Thread Cert.DiftRefIdeal.nD Cert.DiftRefIdeal.τ).loc Cert.DiftRefIdeal.main_arg4)) (m ((c.tc : Thread Cert.DiftRefIdeal.nD Cert.DiftRefIdeal.τ).loc Cert.DiftRefIdeal.main_arg5)) (m ((c.tc : Thread Cert.DiftRefIdeal.nD Cert.DiftRefIdeal.τ).loc Cert.DiftRefIdeal.main_arg6)) (m ((c.tc : Thread Cert.DiftRefIdeal.nD Cert.DiftRefIdeal.τ).loc Cert.DiftRefIdeal.main_arg7))).2.2.2.2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_DiffRefIdeal_pre_diff_finite [hDiffRefIdeal : Cert.DiffRefIdeal.Facts] [hPre_diff_finite : Cert.Pre_diff_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Dift [hDift : Cert.Dift.Facts] : Prop :=
  ∀ (m : (ℓ : Loc Cert.Dift.nD Cert.Dift.τ Cert.Dift.sig) → Buf (Elt Bits) ℓ) (g : Dev Cert.Dift.nD → PrngReg), Pre_Dift m →
    θ_run (Cert.Dift.defs (F := Bits)) (onTc (τ := Cert.Dift.τ) (Cert.Dift.main (F := Bits))) ⟨m, fun _ => 0, g⟩ (fun r => (∀ c : Dev Cert.Dift.nD,
      r.2.mem ((c.tc : Thread Cert.Dift.nD Cert.Dift.τ).loc Cert.Dift.main_arg0) = m ((c.tc : Thread Cert.Dift.nD Cert.Dift.τ).loc Cert.Dift.main_arg0)
      ∧ r.2.mem ((c.tc : Thread Cert.Dift.nD Cert.Dift.τ).loc Cert.Dift.main_arg1) = m ((c.tc : Thread Cert.Dift.nD Cert.Dift.τ).loc Cert.Dift.main_arg1)
      ∧ r.2.mem ((c.tc : Thread Cert.Dift.nD Cert.Dift.τ).loc Cert.Dift.main_arg2) = m ((c.tc : Thread Cert.Dift.nD Cert.Dift.τ).loc Cert.Dift.main_arg2)
      ∧ r.2.mem ((c.tc : Thread Cert.Dift.nD Cert.Dift.τ).loc Cert.Dift.main_arg3) = m ((c.tc : Thread Cert.Dift.nD Cert.Dift.τ).loc Cert.Dift.main_arg3)
      ∧ r.2.mem ((c.tc : Thread Cert.Dift.nD Cert.Dift.τ).loc Cert.Dift.main_arg4) = m ((c.tc : Thread Cert.Dift.nD Cert.Dift.τ).loc Cert.Dift.main_arg4)
      ∧ r.2.mem ((c.tc : Thread Cert.Dift.nD Cert.Dift.τ).loc Cert.Dift.main_arg5) = m ((c.tc : Thread Cert.Dift.nD Cert.Dift.τ).loc Cert.Dift.main_arg5)
      ∧ r.2.mem ((c.tc : Thread Cert.Dift.nD Cert.Dift.τ).loc Cert.Dift.main_arg6) = m ((c.tc : Thread Cert.Dift.nD Cert.Dift.τ).loc Cert.Dift.main_arg6)
      ∧ r.2.mem ((c.tc : Thread Cert.Dift.nD Cert.Dift.τ).loc Cert.Dift.main_arg7) = m ((c.tc : Thread Cert.Dift.nD Cert.Dift.τ).loc Cert.Dift.main_arg7))
      ∧ r.2.sem = fun _ => 0)

def quiescent_DiftIdeal [hDiftIdeal : Cert.DiftIdeal.Facts] : Prop :=
  ∀ (m : (ℓ : Loc Cert.DiftIdeal.nD Cert.DiftIdeal.τ Cert.DiftIdeal.sig) → Buf (Elt Ideal) ℓ) (g : Dev Cert.DiftIdeal.nD → PrngReg), Pre_DiftIdeal m →
    θ_run (Cert.DiftIdeal.defs (F := Ideal)) (onTc (τ := Cert.DiftIdeal.τ) (Cert.DiftIdeal.main (F := Ideal))) ⟨m, fun _ => 0, g⟩ (fun r => (∀ c : Dev Cert.DiftIdeal.nD,
      r.2.mem ((c.tc : Thread Cert.DiftIdeal.nD Cert.DiftIdeal.τ).loc Cert.DiftIdeal.main_arg0) = m ((c.tc : Thread Cert.DiftIdeal.nD Cert.DiftIdeal.τ).loc Cert.DiftIdeal.main_arg0)
      ∧ r.2.mem ((c.tc : Thread Cert.DiftIdeal.nD Cert.DiftIdeal.τ).loc Cert.DiftIdeal.main_arg1) = m ((c.tc : Thread Cert.DiftIdeal.nD Cert.DiftIdeal.τ).loc Cert.DiftIdeal.main_arg1)
      ∧ r.2.mem ((c.tc : Thread Cert.DiftIdeal.nD Cert.DiftIdeal.τ).loc Cert.DiftIdeal.main_arg2) = m ((c.tc : Thread Cert.DiftIdeal.nD Cert.DiftIdeal.τ).loc Cert.DiftIdeal.main_arg2)
      ∧ r.2.mem ((c.tc : Thread Cert.DiftIdeal.nD Cert.DiftIdeal.τ).loc Cert.DiftIdeal.main_arg3) = m ((c.tc : Thread Cert.DiftIdeal.nD Cert.DiftIdeal.τ).loc Cert.DiftIdeal.main_arg3)
      ∧ r.2.mem ((c.tc : Thread Cert.DiftIdeal.nD Cert.DiftIdeal.τ).loc Cert.DiftIdeal.main_arg4) = m ((c.tc : Thread Cert.DiftIdeal.nD Cert.DiftIdeal.τ).loc Cert.DiftIdeal.main_arg4)
      ∧ r.2.mem ((c.tc : Thread Cert.DiftIdeal.nD Cert.DiftIdeal.τ).loc Cert.DiftIdeal.main_arg5) = m ((c.tc : Thread Cert.DiftIdeal.nD Cert.DiftIdeal.τ).loc Cert.DiftIdeal.main_arg5)
      ∧ r.2.mem ((c.tc : Thread Cert.DiftIdeal.nD Cert.DiftIdeal.τ).loc Cert.DiftIdeal.main_arg6) = m ((c.tc : Thread Cert.DiftIdeal.nD Cert.DiftIdeal.τ).loc Cert.DiftIdeal.main_arg6)
      ∧ r.2.mem ((c.tc : Thread Cert.DiftIdeal.nD Cert.DiftIdeal.τ).loc Cert.DiftIdeal.main_arg7) = m ((c.tc : Thread Cert.DiftIdeal.nD Cert.DiftIdeal.τ).loc Cert.DiftIdeal.main_arg7))
      ∧ r.2.sem = fun _ => 0)

def quiescent_DiftIdeal_pre_diff_finite [hDiftIdeal : Cert.DiftIdeal.Facts] [hPre_diff_finite : Cert.Pre_diff_finite.Facts] : Prop :=
  ∀ (m : (ℓ : Loc Cert.DiftIdeal.nD Cert.DiftIdeal.τ Cert.DiftIdeal.sig) → Buf (Elt Ideal) ℓ) (g : Dev Cert.DiftIdeal.nD → PrngReg), Pre_DiftIdeal_diff_finite m →
    θ_run (Cert.DiftIdeal.defs (F := Ideal)) (onTc (τ := Cert.DiftIdeal.τ) (Cert.DiftIdeal.main (F := Ideal))) ⟨m, fun _ => 0, g⟩ (fun r => (∀ c : Dev Cert.DiftIdeal.nD,
      r.2.mem ((c.tc : Thread Cert.DiftIdeal.nD Cert.DiftIdeal.τ).loc Cert.DiftIdeal.main_arg0) = m ((c.tc : Thread Cert.DiftIdeal.nD Cert.DiftIdeal.τ).loc Cert.DiftIdeal.main_arg0)
      ∧ r.2.mem ((c.tc : Thread Cert.DiftIdeal.nD Cert.DiftIdeal.τ).loc Cert.DiftIdeal.main_arg1) = m ((c.tc : Thread Cert.DiftIdeal.nD Cert.DiftIdeal.τ).loc Cert.DiftIdeal.main_arg1)
      ∧ r.2.mem ((c.tc : Thread Cert.DiftIdeal.nD Cert.DiftIdeal.τ).loc Cert.DiftIdeal.main_arg2) = m ((c.tc : Thread Cert.DiftIdeal.nD Cert.DiftIdeal.τ).loc Cert.DiftIdeal.main_arg2)
      ∧ r.2.mem ((c.tc : Thread Cert.DiftIdeal.nD Cert.DiftIdeal.τ).loc Cert.DiftIdeal.main_arg3) = m ((c.tc : Thread Cert.DiftIdeal.nD Cert.DiftIdeal.τ).loc Cert.DiftIdeal.main_arg3)
      ∧ r.2.mem ((c.tc : Thread Cert.DiftIdeal.nD Cert.DiftIdeal.τ).loc Cert.DiftIdeal.main_arg4) = m ((c.tc : Thread Cert.DiftIdeal.nD Cert.DiftIdeal.τ).loc Cert.DiftIdeal.main_arg4)
      ∧ r.2.mem ((c.tc : Thread Cert.DiftIdeal.nD Cert.DiftIdeal.τ).loc Cert.DiftIdeal.main_arg5) = m ((c.tc : Thread Cert.DiftIdeal.nD Cert.DiftIdeal.τ).loc Cert.DiftIdeal.main_arg5)
      ∧ r.2.mem ((c.tc : Thread Cert.DiftIdeal.nD Cert.DiftIdeal.τ).loc Cert.DiftIdeal.main_arg6) = m ((c.tc : Thread Cert.DiftIdeal.nD Cert.DiftIdeal.τ).loc Cert.DiftIdeal.main_arg6)
      ∧ r.2.mem ((c.tc : Thread Cert.DiftIdeal.nD Cert.DiftIdeal.τ).loc Cert.DiftIdeal.main_arg7) = m ((c.tc : Thread Cert.DiftIdeal.nD Cert.DiftIdeal.τ).loc Cert.DiftIdeal.main_arg7))
      ∧ r.2.sem = fun _ => 0)

def quiescent_DiftRefIdeal [hDiftRefIdeal : Cert.DiftRefIdeal.Facts] : Prop :=
  ∀ (m : (ℓ : Loc Cert.DiftRefIdeal.nD Cert.DiftRefIdeal.τ Cert.DiftRefIdeal.sig) → Buf (Elt Ideal) ℓ) (g : Dev Cert.DiftRefIdeal.nD → PrngReg), Pre_DiftRefIdeal m →
    θ_run (Cert.DiftRefIdeal.defs (F := Ideal)) (onTc (τ := Cert.DiftRefIdeal.τ) (Cert.DiftRefIdeal.main (F := Ideal))) ⟨m, fun _ => 0, g⟩ (fun r => (∀ c : Dev Cert.DiftRefIdeal.nD,
      r.2.mem ((c.tc : Thread Cert.DiftRefIdeal.nD Cert.DiftRefIdeal.τ).loc Cert.DiftRefIdeal.main_arg0) = m ((c.tc : Thread Cert.DiftRefIdeal.nD Cert.DiftRefIdeal.τ).loc Cert.DiftRefIdeal.main_arg0)
      ∧ r.2.mem ((c.tc : Thread Cert.DiftRefIdeal.nD Cert.DiftRefIdeal.τ).loc Cert.DiftRefIdeal.main_arg1) = m ((c.tc : Thread Cert.DiftRefIdeal.nD Cert.DiftRefIdeal.τ).loc Cert.DiftRefIdeal.main_arg1)
      ∧ r.2.mem ((c.tc : Thread Cert.DiftRefIdeal.nD Cert.DiftRefIdeal.τ).loc Cert.DiftRefIdeal.main_arg2) = m ((c.tc : Thread Cert.DiftRefIdeal.nD Cert.DiftRefIdeal.τ).loc Cert.DiftRefIdeal.main_arg2)
      ∧ r.2.mem ((c.tc : Thread Cert.DiftRefIdeal.nD Cert.DiftRefIdeal.τ).loc Cert.DiftRefIdeal.main_arg3) = m ((c.tc : Thread Cert.DiftRefIdeal.nD Cert.DiftRefIdeal.τ).loc Cert.DiftRefIdeal.main_arg3)
      ∧ r.2.mem ((c.tc : Thread Cert.DiftRefIdeal.nD Cert.DiftRefIdeal.τ).loc Cert.DiftRefIdeal.main_arg4) = m ((c.tc : Thread Cert.DiftRefIdeal.nD Cert.DiftRefIdeal.τ).loc Cert.DiftRefIdeal.main_arg4)
      ∧ r.2.mem ((c.tc : Thread Cert.DiftRefIdeal.nD Cert.DiftRefIdeal.τ).loc Cert.DiftRefIdeal.main_arg5) = m ((c.tc : Thread Cert.DiftRefIdeal.nD Cert.DiftRefIdeal.τ).loc Cert.DiftRefIdeal.main_arg5)
      ∧ r.2.mem ((c.tc : Thread Cert.DiftRefIdeal.nD Cert.DiftRefIdeal.τ).loc Cert.DiftRefIdeal.main_arg6) = m ((c.tc : Thread Cert.DiftRefIdeal.nD Cert.DiftRefIdeal.τ).loc Cert.DiftRefIdeal.main_arg6)
      ∧ r.2.mem ((c.tc : Thread Cert.DiftRefIdeal.nD Cert.DiftRefIdeal.τ).loc Cert.DiftRefIdeal.main_arg7) = m ((c.tc : Thread Cert.DiftRefIdeal.nD Cert.DiftRefIdeal.τ).loc Cert.DiftRefIdeal.main_arg7))
      ∧ r.2.sem = fun _ => 0)

def quiescent_DiftRefIdeal_pre_diff_finite [hDiftRefIdeal : Cert.DiftRefIdeal.Facts] [hPre_diff_finite : Cert.Pre_diff_finite.Facts] : Prop :=
  ∀ (m : (ℓ : Loc Cert.DiftRefIdeal.nD Cert.DiftRefIdeal.τ Cert.DiftRefIdeal.sig) → Buf (Elt Ideal) ℓ) (g : Dev Cert.DiftRefIdeal.nD → PrngReg), Pre_DiftRefIdeal_diff_finite m →
    θ_run (Cert.DiftRefIdeal.defs (F := Ideal)) (onTc (τ := Cert.DiftRefIdeal.τ) (Cert.DiftRefIdeal.main (F := Ideal))) ⟨m, fun _ => 0, g⟩ (fun r => (∀ c : Dev Cert.DiftRefIdeal.nD,
      r.2.mem ((c.tc : Thread Cert.DiftRefIdeal.nD Cert.DiftRefIdeal.τ).loc Cert.DiftRefIdeal.main_arg0) = m ((c.tc : Thread Cert.DiftRefIdeal.nD Cert.DiftRefIdeal.τ).loc Cert.DiftRefIdeal.main_arg0)
      ∧ r.2.mem ((c.tc : Thread Cert.DiftRefIdeal.nD Cert.DiftRefIdeal.τ).loc Cert.DiftRefIdeal.main_arg1) = m ((c.tc : Thread Cert.DiftRefIdeal.nD Cert.DiftRefIdeal.τ).loc Cert.DiftRefIdeal.main_arg1)
      ∧ r.2.mem ((c.tc : Thread Cert.DiftRefIdeal.nD Cert.DiftRefIdeal.τ).loc Cert.DiftRefIdeal.main_arg2) = m ((c.tc : Thread Cert.DiftRefIdeal.nD Cert.DiftRefIdeal.τ).loc Cert.DiftRefIdeal.main_arg2)
      ∧ r.2.mem ((c.tc : Thread Cert.DiftRefIdeal.nD Cert.DiftRefIdeal.τ).loc Cert.DiftRefIdeal.main_arg3) = m ((c.tc : Thread Cert.DiftRefIdeal.nD Cert.DiftRefIdeal.τ).loc Cert.DiftRefIdeal.main_arg3)
      ∧ r.2.mem ((c.tc : Thread Cert.DiftRefIdeal.nD Cert.DiftRefIdeal.τ).loc Cert.DiftRefIdeal.main_arg4) = m ((c.tc : Thread Cert.DiftRefIdeal.nD Cert.DiftRefIdeal.τ).loc Cert.DiftRefIdeal.main_arg4)
      ∧ r.2.mem ((c.tc : Thread Cert.DiftRefIdeal.nD Cert.DiftRefIdeal.τ).loc Cert.DiftRefIdeal.main_arg5) = m ((c.tc : Thread Cert.DiftRefIdeal.nD Cert.DiftRefIdeal.τ).loc Cert.DiftRefIdeal.main_arg5)
      ∧ r.2.mem ((c.tc : Thread Cert.DiftRefIdeal.nD Cert.DiftRefIdeal.τ).loc Cert.DiftRefIdeal.main_arg6) = m ((c.tc : Thread Cert.DiftRefIdeal.nD Cert.DiftRefIdeal.τ).loc Cert.DiftRefIdeal.main_arg6)
      ∧ r.2.mem ((c.tc : Thread Cert.DiftRefIdeal.nD Cert.DiftRefIdeal.τ).loc Cert.DiftRefIdeal.main_arg7) = m ((c.tc : Thread Cert.DiftRefIdeal.nD Cert.DiftRefIdeal.τ).loc Cert.DiftRefIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13)
      ∧ r.2.mem ((c.tc : Thread Cert.Prep.nD Cert.Prep.τ).loc Cert.Prep.main_arg14) = m ((c.tc : Thread Cert.Prep.nD Cert.Prep.τ).loc Cert.Prep.main_arg14)
      ∧ r.2.mem ((c.tc : Thread Cert.Prep.nD Cert.Prep.τ).loc Cert.Prep.main_arg15) = m ((c.tc : Thread Cert.Prep.nD Cert.Prep.τ).loc Cert.Prep.main_arg15))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
      ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14)
      ∧ r.2.mem ((c.tc : Thread Cert.PrepRefIdeal.nD Cert.PrepRefIdeal.τ).loc Cert.PrepRefIdeal.main_arg15) = m ((c.tc : Thread Cert.PrepRefIdeal.nD Cert.PrepRefIdeal.τ).loc Cert.PrepRefIdeal.main_arg15))
      ∧ r.2.sem = fun _ => 0)

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v21) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v22) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Diff_DiffIdeal : Prop :=
  True

def algebraic_DiffIdeal_DiffRefIdeal_pre_diff_finite [hDiffIdeal : Cert.DiffIdeal.Facts] [hDiffRefIdeal : Cert.DiffRefIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v56) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Merge_MergeIdeal : Prop :=
  IdealRules.named_const.Statement Cert.MergeIdeal.κ "mem_scale" .f32 0x3DB8AA3B#32 (((1 / 16) * (Real.log 2)⁻¹ : ℝ) : EReal)

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v85) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Dift_DiftIdeal : Prop :=
  True

def algebraic_DiftIdeal_DiftRefIdeal_pre_diff_finite [hDiftIdeal : Cert.DiftIdeal.Facts] [hDiftRefIdeal : Cert.DiftRefIdeal.Facts] [hPre_diff_finite : Cert.Pre_diff_finite.Facts] : Prop :=
  ∀ (m : (ℓ : Loc Cert.DiftIdeal.nD Cert.DiftIdeal.τ Cert.DiftIdeal.sig) → Buf (Elt Ideal) ℓ) (g : Dev Cert.DiftIdeal.nD → PrngReg)
    (m' : (ℓ : Loc Cert.DiftRefIdeal.nD Cert.DiftRefIdeal.τ Cert.DiftRefIdeal.sig) → Buf (Elt Ideal) ℓ) (g' : Dev Cert.DiftRefIdeal.nD → PrngReg), Pre_DiftIdeal_diff_finite m →
    (∀ c : Dev Cert.DiftIdeal.nD,
      m' ((c.tc : Thread Cert.DiftRefIdeal.nD Cert.DiftRefIdeal.τ).loc Cert.DiftRefIdeal.main_arg0) = m ((c.tc : Thread Cert.DiftIdeal.nD Cert.DiftIdeal.τ).loc Cert.DiftIdeal.main_arg0)
      ∧ m' ((c.tc : Thread Cert.DiftRefIdeal.nD Cert.DiftRefIdeal.τ).loc Cert.DiftRefIdeal.main_arg1) = m ((c.tc : Thread Cert.DiftIdeal.nD Cert.DiftIdeal.τ).loc Cert.DiftIdeal.main_arg1)
      ∧ m' ((c.tc : Thread Cert.DiftRefIdeal.nD Cert.DiftRefIdeal.τ).loc Cert.DiftRefIdeal.main_arg2) = m ((c.tc : Thread Cert.DiftIdeal.nD Cert.DiftIdeal.τ).loc Cert.DiftIdeal.main_arg2)
      ∧ m' ((c.tc : Thread Cert.DiftRefIdeal.nD Cert.DiftRefIdeal.τ).loc Cert.DiftRefIdeal.main_arg3) = m ((c.tc : Thread Cert.DiftIdeal.nD Cert.DiftIdeal.τ).loc Cert.DiftIdeal.main_arg3)
      ∧ m' ((c.tc : Thread Cert.DiftRefIdeal.nD Cert.DiftRefIdeal.τ).loc Cert.DiftRefIdeal.main_arg4) = m ((c.tc : Thread Cert.DiftIdeal.nD Cert.DiftIdeal.τ).loc Cert.DiftIdeal.main_arg4)
      ∧ m' ((c.tc : Thread Cert.DiftRefIdeal.nD Cert.DiftRefIdeal.τ).loc Cert.DiftRefIdeal.main_arg5) = m ((c.tc : Thread Cert.DiftIdeal.nD Cert.DiftIdeal.τ).loc Cert.DiftIdeal.main_arg5)
      ∧ m' ((c.tc : Thread Cert.DiftRefIdeal.nD Cert.DiftRefIdeal.τ).loc Cert.DiftRefIdeal.main_arg6) = m ((c.tc : Thread Cert.DiftIdeal.nD Cert.DiftIdeal.τ).loc Cert.DiftIdeal.main_arg6)
      ∧ m' ((c.tc : Thread Cert.DiftRefIdeal.nD Cert.DiftRefIdeal.τ).loc Cert.DiftRefIdeal.main_arg7) = m ((c.tc : Thread Cert.DiftIdeal.nD Cert.DiftIdeal.τ).loc Cert.DiftIdeal.main_arg7)) →
    ∃ (v0 : (c : Dev Cert.DiftIdeal.nD) → Buf (Elt Ideal) ((c.tc : Thread Cert.DiftIdeal.nD Cert.DiftIdeal.τ).loc Cert.DiftIdeal.main_v0)),
      θ_run (Cert.DiftIdeal.defs (F := Ideal)) (onTc (τ := Cert.DiftIdeal.τ) (Cert.DiftIdeal.main (F := Ideal))) ⟨m, fun _ => 0, g⟩ (fun r => ∀ c : Dev Cert.DiftIdeal.nD,
          r.2.mem ((c.tc : Thread Cert.DiftIdeal.nD Cert.DiftIdeal.τ).loc Cert.DiftIdeal.main_v0) = v0 c
          ∧ r.2.mem ((c.tc : Thread Cert.DiftIdeal.nD Cert.DiftIdeal.τ).loc Cert.DiftIdeal.main_arg0) = m ((c.tc : Thread Cert.DiftIdeal.nD Cert.DiftIdeal.τ).loc Cert.DiftIdeal.main_arg0)
          ∧ r.2.mem ((c.tc : Thread Cert.DiftIdeal.nD Cert.DiftIdeal.τ).loc Cert.DiftIdeal.main_arg1) = m ((c.tc : Thread Cert.DiftIdeal.nD Cert.DiftIdeal.τ).loc Cert.DiftIdeal.main_arg1)
          ∧ r.2.mem ((c.tc : Thread Cert.DiftIdeal.nD Cert.DiftIdeal.τ).loc Cert.DiftIdeal.main_arg2) = m ((c.tc : Thread Cert.DiftIdeal.nD Cert.DiftIdeal.τ).loc Cert.DiftIdeal.main_arg2)
          ∧ r.2.mem ((c.tc : Thread Cert.DiftIdeal.nD Cert.DiftIdeal.τ).loc Cert.DiftIdeal.main_arg3) = m ((c.tc : Thread Cert.DiftIdeal.nD Cert.DiftIdeal.τ).loc Cert.DiftIdeal.main_arg3)
          ∧ r.2.mem ((c.tc : Thread Cert.DiftIdeal.nD Cert.DiftIdeal.τ).loc Cert.DiftIdeal.main_arg4) = m ((c.tc : Thread Cert.DiftIdeal.nD Cert.DiftIdeal.τ).loc Cert.DiftIdeal.main_arg4)
          ∧ r.2.mem ((c.tc : Thread Cert.DiftIdeal.nD Cert.DiftIdeal.τ).loc Cert.DiftIdeal.main_arg5) = m ((c.tc : Thread Cert.DiftIdeal.nD Cert.DiftIdeal.τ).loc Cert.DiftIdeal.main_arg5)
          ∧ r.2.mem ((c.tc : Thread Cert.DiftIdeal.nD Cert.DiftIdeal.τ).loc Cert.DiftIdeal.main_arg6) = m ((c.tc : Thread Cert.DiftIdeal.nD Cert.DiftIdeal.τ).loc Cert.DiftIdeal.main_arg6)
          ∧ r.2.mem ((c.tc : Thread Cert.DiftIdeal.nD Cert.DiftIdeal.τ).loc Cert.DiftIdeal.main_arg7) = m ((c.tc : Thread Cert.DiftIdeal.nD Cert.DiftIdeal.τ).loc Cert.DiftIdeal.main_arg7))
      ∧ θ_run (Cert.DiftRefIdeal.defs (F := Ideal)) (onTc (τ := Cert.DiftRefIdeal.τ) (Cert.DiftRefIdeal.main (F := Ideal))) ⟨m', fun _ => 0, g'⟩ (fun r => ∀ c : Dev Cert.DiftRefIdeal.nD,
          r.2.mem ((c.tc : Thread Cert.DiftRefIdeal.nD Cert.DiftRefIdeal.τ).loc Cert.DiftRefIdeal.main_v56) = v0 c
          ∧ r.2.mem ((c.tc : Thread Cert.DiftRefIdeal.nD Cert.DiftRefIdeal.τ).loc Cert.DiftRefIdeal.main_arg0) = m' ((c.tc : Thread Cert.DiftRefIdeal.nD Cert.DiftRefIdeal.τ).loc Cert.DiftRefIdeal.main_arg0)
          ∧ r.2.mem ((c.tc : Thread Cert.DiftRefIdeal.nD Cert.DiftRefIdeal.τ).loc Cert.DiftRefIdeal.main_arg1) = m' ((c.tc : Thread Cert.DiftRefIdeal.nD Cert.DiftRefIdeal.τ).loc Cert.DiftRefIdeal.main_arg1)
          ∧ r.2.mem ((c.tc : Thread Cert.DiftRefIdeal.nD Cert.DiftRefIdeal.τ).loc Cert.DiftRefIdeal.main_arg2) = m' ((c.tc : Thread Cert.DiftRefIdeal.nD Cert.DiftRefIdeal.τ).loc Cert.DiftRefIdeal.main_arg2)
          ∧ r.2.mem ((c.tc : Thread Cert.DiftRefIdeal.nD Cert.DiftRefIdeal.τ).loc Cert.DiftRefIdeal.main_arg3) = m' ((c.tc : Thread Cert.DiftRefIdeal.nD Cert.DiftRefIdeal.τ).loc Cert.DiftRefIdeal.main_arg3)
          ∧ r.2.mem ((c.tc : Thread Cert.DiftRefIdeal.nD Cert.DiftRefIdeal.τ).loc Cert.DiftRefIdeal.main_arg4) = m' ((c.tc : Thread Cert.DiftRefIdeal.nD Cert.DiftRefIdeal.τ).loc Cert.DiftRefIdeal.main_arg4)
          ∧ r.2.mem ((c.tc : Thread Cert.DiftRefIdeal.nD Cert.DiftRefIdeal.τ).loc Cert.DiftRefIdeal.main_arg5) = m' ((c.tc : Thread Cert.DiftRefIdeal.nD Cert.DiftRefIdeal.τ).loc Cert.DiftRefIdeal.main_arg5)
          ∧ r.2.mem ((c.tc : Thread Cert.DiftRefIdeal.nD Cert.DiftRefIdeal.τ).loc Cert.DiftRefIdeal.main_arg6) = m' ((c.tc : Thread Cert.DiftRefIdeal.nD Cert.DiftRefIdeal.τ).loc Cert.DiftRefIdeal.main_arg6)
          ∧ r.2.mem ((c.tc : Thread Cert.DiftRefIdeal.nD Cert.DiftRefIdeal.τ).loc Cert.DiftRefIdeal.main_arg7) = m' ((c.tc : Thread Cert.DiftRefIdeal.nD Cert.DiftRefIdeal.τ).loc Cert.DiftRefIdeal.main_arg7))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)
      ∧ m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13)
      ∧ m' ((c.tc : Thread Cert.PrepRefIdeal.nD Cert.PrepRefIdeal.τ).loc Cert.PrepRefIdeal.main_arg14) = m ((c.tc : Thread Cert.PrepIdeal.nD Cert.PrepIdeal.τ).loc Cert.PrepIdeal.main_arg14)
      ∧ m' ((c.tc : Thread Cert.PrepRefIdeal.nD Cert.PrepRefIdeal.τ).loc Cert.PrepRefIdeal.main_arg15) = m ((c.tc : Thread Cert.PrepIdeal.nD Cert.PrepIdeal.τ).loc Cert.PrepIdeal.main_arg15)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)) (v4 : (c : Dev Cert.PrepIdeal.nD) → Buf (Elt Ideal) ((c.tc : Thread Cert.PrepIdeal.nD Cert.PrepIdeal.τ).loc Cert.PrepIdeal.main_v0_4)) (v5 : (c : Dev Cert.PrepIdeal.nD) → Buf (Elt Ideal) ((c.tc : Thread Cert.PrepIdeal.nD Cert.PrepIdeal.τ).loc Cert.PrepIdeal.main_v0_5)) (v6 : (c : Dev Cert.PrepIdeal.nD) → Buf (Elt Ideal) ((c.tc : Thread Cert.PrepIdeal.nD Cert.PrepIdeal.τ).loc Cert.PrepIdeal.main_v0_6)) (v7 : (c : Dev Cert.PrepIdeal.nD) → Buf (Elt Ideal) ((c.tc : Thread Cert.PrepIdeal.nD Cert.PrepIdeal.τ).loc Cert.PrepIdeal.main_v0_7)) (v8 : (c : Dev Cert.PrepIdeal.nD) → Buf (Elt Ideal) ((c.tc : Thread Cert.PrepIdeal.nD Cert.PrepIdeal.τ).loc Cert.PrepIdeal.main_v0_8)) (v9 : (c : Dev Cert.PrepIdeal.nD) → Buf (Elt Ideal) ((c.tc : Thread Cert.PrepIdeal.nD Cert.PrepIdeal.τ).loc Cert.PrepIdeal.main_v0_9)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_v0_4) = v4 c
          ∧ r.2.mem ((c.tc : Thread Cert.PrepIdeal.nD Cert.PrepIdeal.τ).loc Cert.PrepIdeal.main_v0_5) = v5 c
          ∧ r.2.mem ((c.tc : Thread Cert.PrepIdeal.nD Cert.PrepIdeal.τ).loc Cert.PrepIdeal.main_v0_6) = v6 c
          ∧ r.2.mem ((c.tc : Thread Cert.PrepIdeal.nD Cert.PrepIdeal.τ).loc Cert.PrepIdeal.main_v0_7) = v7 c
          ∧ r.2.mem ((c.tc : Thread Cert.PrepIdeal.nD Cert.PrepIdeal.τ).loc Cert.PrepIdeal.main_v0_8) = v8 c
          ∧ r.2.mem ((c.tc : Thread Cert.PrepIdeal.nD Cert.PrepIdeal.τ).loc Cert.PrepIdeal.main_v0_9) = v9 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
          ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
          ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v305) = v0 c
          ∧ r.2.mem ((c.tc : Thread Cert.PrepRefIdeal.nD Cert.PrepRefIdeal.τ).loc Cert.PrepRefIdeal.main_v306) = v1 c
          ∧ r.2.mem ((c.tc : Thread Cert.PrepRefIdeal.nD Cert.PrepRefIdeal.τ).loc Cert.PrepRefIdeal.main_v307) = v2 c
          ∧ r.2.mem ((c.tc : Thread Cert.PrepRefIdeal.nD Cert.PrepRefIdeal.τ).loc Cert.PrepRefIdeal.main_v308) = v3 c
          ∧ r.2.mem ((c.tc : Thread Cert.PrepRefIdeal.nD Cert.PrepRefIdeal.τ).loc Cert.PrepRefIdeal.main_v309) = v4 c
          ∧ r.2.mem ((c.tc : Thread Cert.PrepRefIdeal.nD Cert.PrepRefIdeal.τ).loc Cert.PrepRefIdeal.main_v310) = v5 c
          ∧ r.2.mem ((c.tc : Thread Cert.PrepRefIdeal.nD Cert.PrepRefIdeal.τ).loc Cert.PrepRefIdeal.main_v311) = v6 c
          ∧ r.2.mem ((c.tc : Thread Cert.PrepRefIdeal.nD Cert.PrepRefIdeal.τ).loc Cert.PrepRefIdeal.main_v312) = v7 c
          ∧ r.2.mem ((c.tc : Thread Cert.PrepRefIdeal.nD Cert.PrepRefIdeal.τ).loc Cert.PrepRefIdeal.main_v313) = v8 c
          ∧ r.2.mem ((c.tc : Thread Cert.PrepRefIdeal.nD Cert.PrepRefIdeal.τ).loc Cert.PrepRefIdeal.main_v314) = v9 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12)
          ∧ r.2.mem ((c.tc : Thread Cert.PrepRefIdeal.nD Cert.PrepRefIdeal.τ).loc Cert.PrepRefIdeal.main_arg13) = m' ((c.tc : Thread Cert.PrepRefIdeal.nD Cert.PrepRefIdeal.τ).loc Cert.PrepRefIdeal.main_arg13)
          ∧ r.2.mem ((c.tc : Thread Cert.PrepRefIdeal.nD Cert.PrepRefIdeal.τ).loc Cert.PrepRefIdeal.main_arg14) = m' ((c.tc : Thread Cert.PrepRefIdeal.nD Cert.PrepRefIdeal.τ).loc Cert.PrepRefIdeal.main_arg14)
          ∧ r.2.mem ((c.tc : Thread Cert.PrepRefIdeal.nD Cert.PrepRefIdeal.τ).loc Cert.PrepRefIdeal.main_arg15) = m' ((c.tc : Thread Cert.PrepRefIdeal.nD Cert.PrepRefIdeal.τ).loc Cert.PrepRefIdeal.main_arg15))

def Claim : Prop :=
  ∃ (hMla : Cert.Mla.Facts) (hMlaIdeal : Cert.MlaIdeal.Facts) (hMlaRefIdeal : Cert.MlaRefIdeal.Facts) (hGqa : Cert.Gqa.Facts) (hGqaIdeal : Cert.GqaIdeal.Facts) (hGqaRefIdeal : Cert.GqaRefIdeal.Facts) (hDiff : Cert.Diff.Facts) (hDiffIdeal : Cert.DiffIdeal.Facts) (hDiffRefIdeal : Cert.DiffRefIdeal.Facts) (hFfn : Cert.Ffn.Facts) (hFfnIdeal : Cert.FfnIdeal.Facts) (hFfnRefIdeal : Cert.FfnRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hDift : Cert.Dift.Facts) (hDiftIdeal : Cert.DiftIdeal.Facts) (hDiftRefIdeal : Cert.DiftRefIdeal.Facts) (hPrep : Cert.Prep.Facts) (hPrepIdeal : Cert.PrepIdeal.Facts) (hPrepRefIdeal : Cert.PrepRefIdeal.Facts) (hPre_mla_finite : Cert.Pre_mla_finite.Facts) (hPre_gqa_finite : Cert.Pre_gqa_finite.Facts) (hPre_diff_finite : Cert.Pre_diff_finite.Facts),
    quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffRefIdeal (hDiffRefIdeal := hDiffRefIdeal)
    ∧ quiescent_DiffRefIdeal_pre_diff_finite (hDiffRefIdeal := hDiffRefIdeal) (hPre_diff_finite := hPre_diff_finite)
    ∧ quiescent_Ffn (hFfn := hFfn)
    ∧ quiescent_FfnIdeal (hFfnIdeal := hFfnIdeal)
    ∧ quiescent_FfnRefIdeal (hFfnRefIdeal := hFfnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Dift (hDift := hDift)
    ∧ quiescent_DiftIdeal (hDiftIdeal := hDiftIdeal)
    ∧ quiescent_DiftIdeal_pre_diff_finite (hDiftIdeal := hDiftIdeal) (hPre_diff_finite := hPre_diff_finite)
    ∧ quiescent_DiftRefIdeal (hDiftRefIdeal := hDiftRefIdeal)
    ∧ quiescent_DiftRefIdeal_pre_diff_finite (hDiftRefIdeal := hDiftRefIdeal) (hPre_diff_finite := hPre_diff_finite)
    ∧ quiescent_Prep (hPrep := hPrep)
    ∧ quiescent_PrepIdeal (hPrepIdeal := hPrepIdeal)
    ∧ quiescent_PrepRefIdeal (hPrepRefIdeal := hPrepRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Diff_DiffIdeal
    ∧ algebraic_DiffIdeal_DiffRefIdeal_pre_diff_finite (hDiffIdeal := hDiffIdeal) (hDiffRefIdeal := hDiffRefIdeal) (hPre_diff_finite := hPre_diff_finite)
    ∧ preserves_Ffn_FfnIdeal
    ∧ algebraic_FfnIdeal_FfnRefIdeal (hFfnIdeal := hFfnIdeal) (hFfnRefIdeal := hFfnRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_Dift_DiftIdeal
    ∧ algebraic_DiftIdeal_DiftRefIdeal_pre_diff_finite (hDiftIdeal := hDiftIdeal) (hDiftRefIdeal := hDiftRefIdeal) (hPre_diff_finite := hPre_diff_finite)
    ∧ preserves_Prep_PrepIdeal
    ∧ algebraic_PrepIdeal_PrepRefIdeal (hPrepIdeal := hPrepIdeal) (hPrepRefIdeal := hPrepRefIdeal)
-- ==== Pre_diff_finite.lean ====
abbrev S4x16x128x8192 : Shape := ⟨4, ![4, 16, 128, 8192]⟩
abbrev S4x8192x512 : Shape := ⟨3, ![4, 8192, 512]⟩
abbrev S4x512x8192 : Shape := ⟨3, ![4, 512, 8192]⟩
abbrev S1x32 : Shape := ⟨2, ![1, 32]⟩
abbrev S64x1 : Shape := ⟨2, ![64, 1]⟩
abbrev S_ : Shape := ⟨0, ![]⟩

class Facts : Prop where
  bitsLt_bf16_f32 : FTy.bits .bf16 < FTy.bits .f32
  bcast_S_S4x16x128x8192 : S_.BroadcastsInDim S4x16x128x8192 (![] : Fin 0 → Fin S4x16x128x8192.rank)
  bcast_S_S4x8192x512 : S_.BroadcastsInDim S4x8192x512 (![] : Fin 0 → Fin S4x8192x512.rank)
  bcast_S_S4x512x8192 : S_.BroadcastsInDim S4x512x8192 (![] : Fin 0 → Fin S4x512x8192.rank)
  bcast_S_S1x32 : S_.BroadcastsInDim S1x32 (![] : Fin 0 → Fin S1x32.rank)

variable [Facts]

def fn_part1 {F : FTy → Type} [FloatOps F] (main_arg6 : FVec F S1x32 .f32) (main_v3 : IVec S4x16x128x8192 1) (main_v7 : IVec S4x8192x512 1) (main_v11 : IVec S4x512x8192 1) (main_v14 : IVec S1x32 1) (main_v17 : IVec S1x32 1) (main_v18 : FVec F S1x32 .f32) : IVec S4x16x128x8192 1 × IVec S4x8192x512 1 × IVec S4x512x8192 1 × IVec S1x32 1 × IVec S1x32 1 × IVec S1x32 1 × IVec S1x32 1 :=
  let main_cst_4 : FVec F S_ .f32 := constant S_ .f32 0x7F800000#32
  let main_v19 : FVec F S1x32 .f32 := broadcastInDim S1x32 ![] bcast_S_S1x32 main_cst_4
  let main_v20 : IVec S1x32 1 := cmpf .olt main_v18 main_v19
  let main_v21 : FVec F S1x32 .f32 := Host.absf main_arg6
  let main_cst_5 : FVec F S_ .f32 := constant S_ .f32 0x7F800000#32
  let main_v22 : FVec F S1x32 .f32 := broadcastInDim S1x32 ![] bcast_S_S1x32 main_cst_5
  let main_v23 : IVec S1x32 1 := cmpf .olt main_v21 main_v22
  (main_v3, main_v7, main_v11, main_v14, main_v17, main_v20, main_v23)

def fn {F : FTy → Type} [FloatOps F] (main_arg0 : FVec F S4x16x128x8192 .bf16) (main_arg1 : FVec F S4x8192x512 .bf16) (main_arg2 : FVec F S4x512x8192 .bf16) (main_arg3 : FVec F S1x32 .f32) (main_arg4 : FVec F S1x32 .f32) (main_arg5 : FVec F S1x32 .f32) (main_arg6 : FVec F S1x32 .f32) (main_arg7 : FVec F S64x1 .f32) : IVec S4x16x128x8192 1 × IVec S4x8192x512 1 × IVec S4x512x8192 1 × IVec S1x32 1 × IVec S1x32 1 × IVec S1x32 1 × IVec S1x32 1 :=
  let main_v0 : FVec F S4x16x128x8192 .f32 := (extf .f32 · bitsLt_bf16_f32) main_arg0
  let main_v1 : FVec F S4x16x128x8192 .f32 := Host.absf main_v0
  let main_cst : FVec F S_ .f32 := constant S_ .f32 0x7F800000#32
  let main_v2 : FVec F S4x16x128x8192 .f32 := broadcastInDim S4x16x128x8192 ![] bcast_S_S4x16x128x8192 main_cst
  let main_v3 : IVec S4x16x128x8192 1 := cmpf .olt main_v1 main_v2
  let main_v4 : FVec F S4x8192x512 .f32 := (extf .f32 · bitsLt_bf16_f32) main_arg1
  let main_v5 : FVec F S4x8192x512 .f32 := Host.absf main_v4
  let main_cst_0 : FVec F S_ .f32 := constant S_ .f32 0x7F800000#32
  let main_v6 : FVec F S4x8192x512 .f32 := broadcastInDim S4x8192x512 ![] bcast_S_S4x8192x512 main_cst_0
  let main_v7 : IVec S4x8192x512 1 := cmpf .olt main_v5 main_v6
  let main_v8 : FVec F S4x512x8192 .f32 := (extf .f32 · bitsLt_bf16_f32) main_arg2
  let main_v9 : FVec F S4x512x8192 .f32 := Host.absf main_v8
  let main_cst_1 : FVec F S_ .f32 := constant S_ .f32 0x7F800000#32
  let main_v10 : FVec F S4x512x8192 .f32 := broadcastInDim S4x512x8192 ![] bcast_S_S4x512x8192 main_cst_1
  let main_v11 : IVec S4x512x8192 1 := cmpf .olt main_v9 main_v10
  let main_v12 : FVec F S1x32 .f32 := Host.absf main_arg3
  let main_cst_2 : FVec F S_ .f32 := constant S_ .f32 0x7F800000#32
  let main_v13 : FVec F S1x32 .f32 := broadcastInDim S1x32 ![] bcast_S_S1x32 main_cst_2
  let main_v14 : IVec S1x32 1 := cmpf .olt main_v12 main_v13
  let main_v15 : FVec F S1x32 .f32 := Host.absf main_arg4
  let main_cst_3 : FVec F S_ .f32 := constant S_ .f32 0x7F800000#32
  let main_v16 : FVec F S1x32 .f32 := broadcastInDim S1x32 ![] bcast_S_S1x32 main_cst_3
  let main_v17 : IVec S1x32 1 := cmpf .olt main_v15 main_v16
  let main_v18 : FVec F S1x32 .f32 := Host.absf main_arg5
  fn_part1 (F := F) main_arg6 main_v3 main_v7 main_v11 main_v14 main_v17 main_v18
-- ==== Pre_gqa_finite.lean ====
abbrev S4x8x128x8192 : Shape := ⟨4, ![4, 8, 128, 8192]⟩
abbrev S4x8192x128 : Shape := ⟨3, ![4, 8192, 128]⟩
abbrev S4x128x8192 : Shape := ⟨3, ![4, 128, 8192]⟩
abbrev S_ : Shape := ⟨0, ![]⟩

class Facts : Prop where
  bitsLt_bf16_f32 : FTy.bits .bf16 < FTy.bits .f32
  bcast_S_S4x8x128x8192 : S_.BroadcastsInDim S4x8x128x8192 (![] : Fin 0 → Fin S4x8x128x8192.rank)
  bcast_S_S4x8192x128 : S_.BroadcastsInDim S4x8192x128 (![] : Fin 0 → Fin S4x8192x128.rank)

variable [Facts]

def fn {F : FTy → Type} [FloatOps F] (main_arg0 : FVec F S4x8x128x8192 .bf16) (main_arg1 : FVec F S4x8192x128 .bf16) (main_arg2 : FVec F S4x128x8192 .bf16) : IVec S4x8x128x8192 1 × IVec S4x8192x128 1 :=
  let main_v0 : FVec F S4x8x128x8192 .f32 := (extf .f32 · bitsLt_bf16_f32) main_arg0
  let main_v1 : FVec F S4x8x128x8192 .f32 := Host.absf main_v0
  let main_cst : FVec F S_ .f32 := constant S_ .f32 0x7F800000#32
  let main_v2 : FVec F S4x8x128x8192 .f32 := broadcastInDim S4x8x128x8192 ![] bcast_S_S4x8x128x8192 main_cst
  let main_v3 : IVec S4x8x128x8192 1 := cmpf .olt main_v1 main_v2
  let main_v4 : FVec F S4x8192x128 .f32 := (extf .f32 · bitsLt_bf16_f32) main_arg1
  let main_v5 : FVec F S4x8192x128 .f32 := Host.absf main_v4
  let main_cst_0 : FVec F S_ .f32 := constant S_ .f32 0x7F800000#32
  let main_v6 : FVec F S4x8192x128 .f32 := broadcastInDim S4x8192x128 ![] bcast_S_S4x8192x128 main_cst_0
  let main_v7 : IVec S4x8192x128 1 := cmpf .olt main_v5 main_v6
  (main_v3, main_v7)
-- ==== Pre_mla_finite.lean ====
abbrev S4x8x128x8192 : Shape := ⟨4, ![4, 8, 128, 8192]⟩
abbrev S4x8192x1024 : Shape := ⟨3, ![4, 8192, 1024]⟩
abbrev S4x512x8192 : Shape := ⟨3, ![4, 512, 8192]⟩
abbrev S_ : Shape := ⟨0, ![]⟩

class Facts : Prop where
  bitsLt_bf16_f32 : FTy.bits .bf16 < FTy.bits .f32
  bcast_S_S4x8x128x8192 : S_.BroadcastsInDim S4x8x128x8192 (![] : Fin 0 → Fin S4x8x128x8192.rank)
  bcast_S_S4x8192x1024 : S_.BroadcastsInDim S4x8192x1024 (![] : Fin 0 → Fin S4x8192x1024.rank)

variable [Facts]

def fn {F : FTy → Type} [FloatOps F] (main_arg0 : FVec F S4x8x128x8192 .bf16) (main_arg1 : FVec F S4x8192x1024 .bf16) (main_arg2 : FVec F S4x512x8192 .bf16) : IVec S4x8x128x8192 1 × IVec S4x8192x1024 1 :=
  let main_v0 : FVec F S4x8x128x8192 .f32 := (extf .f32 · bitsLt_bf16_f32) main_arg0
  let main_v1 : FVec F S4x8x128x8192 .f32 := Host.absf main_v0
  let main_cst : FVec F S_ .f32 := constant S_ .f32 0x7F800000#32
  let main_v2 : FVec F S4x8x128x8192 .f32 := broadcastInDim S4x8x128x8192 ![] bcast_S_S4x8x128x8192 main_cst
  let main_v3 : IVec S4x8x128x8192 1 := cmpf .olt main_v1 main_v2
  let main_v4 : FVec F S4x8192x1024 .f32 := (extf .f32 · bitsLt_bf16_f32) main_arg1
  let main_v5 : FVec F S4x8192x1024 .f32 := Host.absf main_v4
  let main_cst_0 : FVec F S_ .f32 := constant S_ .f32 0x7F800000#32
  let main_v6 : FVec F S4x8192x1024 .f32 := broadcastInDim S4x8192x1024 ![] bcast_S_S4x8192x1024 main_cst_0
  let main_v7 : IVec S4x8192x1024 1 := cmpf .olt main_v5 main_v6
  (main_v3, main_v7)
-- ==== Mla.lean ====
abbrev S4x8x128x8192 : Shape := ⟨4, ![4, 8, 128, 8192]⟩
abbrev S4x8192x1024 : Shape := ⟨3, ![4, 8192, 1024]⟩
abbrev S4x512x8192 : Shape := ⟨3, ![4, 512, 8192]⟩
abbrev S1x1x128x1024 : Shape := ⟨4, ![1, 1, 128, 1024]⟩
abbrev S1x8192x128 : Shape := ⟨3, ![1, 8192, 128]⟩
abbrev S1x64x8192 : Shape := ⟨3, ![1, 64, 8192]⟩
abbrev S1x64x1024 : Shape := ⟨3, ![1, 64, 1024]⟩
abbrev S2x256x1024 : Shape := ⟨3, ![2, 256, 1024]⟩
abbrev S8x1024 : Shape := ⟨2, ![8, 1024]⟩
abbrev S2x128x1024 : Shape := ⟨3, ![2, 128, 1024]⟩
abbrev S128x1024 : Shape := ⟨2, ![128, 1024]⟩
abbrev S16x256 : Shape := ⟨2, ![16, 256]⟩
abbrev S1x128x1024 : Shape := ⟨3, ![1, 128, 1024]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩
abbrev S1024 : Shape := ⟨1, ![1024]⟩
abbrev S1x1024 : Shape := ⟨2, ![1, 1024]⟩
abbrev S80x1024 : Shape := ⟨2, ![80, 1024]⟩
abbrev S1x64x256 : Shape := ⟨3, ![1, 64, 256]⟩
abbrev S64x256 : Shape := ⟨2, ![64, 256]⟩
abbrev S80x256 : Shape := ⟨2, ![80, 256]⟩
abbrev S64x1024 : Shape := ⟨2, ![64, 1024]⟩

abbrev nBuf : Space → Nat
  | .hbm => 4
  | .vmem => 13
  | .smem => 0
  | _ => 0

abbrev bufTy : (tb : Table) → Fin (tcTables nBuf tb) → BufTy
  | .hbm, ⟨0, _⟩ => ⟨S4x8x128x8192, .bf16⟩
  | .hbm, ⟨1, _⟩ => ⟨S4x8192x1024, .bf16⟩
  | .hbm, ⟨2, _⟩ => ⟨S4x512x8192, .bf16⟩
  | .hbm, ⟨3, _⟩ => ⟨S4x512x8192, .f32⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x64x8192, .bf16⟩
  | .local _ .vmem, ⟨7, _⟩ => ⟨S1x64x8192, .bf16⟩
  | .local _ .vmem, ⟨8, _⟩ => ⟨S1x64x1024, .f32⟩
  | .local _ .vmem, ⟨9, _⟩ => ⟨S1x64x1024, .f32⟩
  | .local _ .vmem, ⟨10, _⟩ => ⟨S2x256x1024, .f32⟩
  | .local _ .vmem, ⟨11, _⟩ => ⟨S8x1024, .f32⟩
  | .local _ .vmem, ⟨12, _⟩ => ⟨S2x128x1024, .bf16⟩
  | _, _ => ⟨S4x8x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_12 : BitVec 32 := 0#32
  let v13 : BitVec 1 := Scalar.cmpi .ne v12 c0_i32_12
  v13

def k0_mult1 : BitVec 32 :=
  let c0_i32_475 : BitVec 32 := 0#32
  c0_i32_475
def k0_mult2 : BitVec 32 :=
  let c256_i32 : BitVec 32 := 256#32
  c256_i32
def k0_mult3 : BitVec 32 :=
  let c0_i32_25 : BitVec 32 := 0#32
  c0_i32_25
def k0_mult4 : BitVec 32 :=
  let c512_i32 : BitVec 32 := 512#32
  c512_i32
def k0_mult5 : BitVec 32 :=
  let c256_i32_39 : BitVec 32 := 256#32
  c256_i32_39
def k0_mult6 : BitVec 32 :=
  let c768_i32 : BitVec 32 := 768#32
  c768_i32
def k0_mult7 : BitVec 32 :=
  let c512_i32_53 : BitVec 32 := 512#32
  c512_i32_53
def k0_mult8 : BitVec 32 :=
  let c1024_i32 : BitVec 32 := 1024#32
  c1024_i32
def k0_mult9 : BitVec 32 :=
  let c768_i32_67 : BitVec 32 := 768#32
  c768_i32_67
def k0_mult10 : BitVec 32 :=
  let c1280_i32 : BitVec 32 := 1280#32
  c1280_i32
def k0_mult11 : BitVec 32 :=
  let c1024_i32_81 : BitVec 32 := 1024#32
  c1024_i32_81
def k0_mult12 : BitVec 32 :=
  let c1536_i32 : BitVec 32 := 1536#32
  c1536_i32
def k0_mult13 : BitVec 32 :=
  let c1280_i32_95 : BitVec 32 := 1280#32
  c1280_i32_95
def k0_mult14 : BitVec 32 :=
  let c1792_i32 : BitVec 32 := 1792#32
  c1792_i32
def k0_mult15 : BitVec 32 :=
  let c1536_i32_109 : BitVec 32 := 1536#32
  c1536_i32_109
def k0_mult16 : BitVec 32 :=
  let c2048_i32 : BitVec 32 := 2048#32
  c2048_i32
def k0_mult17 : BitVec 32 :=
  let c1792_i32_123 : BitVec 32 := 1792#32
  c1792_i32_123
def k0_mult18 : BitVec 32 :=
  let c2304_i32 : BitVec 32 := 2304#32
  c2304_i32
def k0_mult19 : BitVec 32 :=
  let c2048_i32_137 : BitVec 32 := 2048#32
  c2048_i32_137
def k0_mult20 : BitVec 32 :=
  let c2560_i32 : BitVec 32 := 2560#32
  c2560_i32
def k0_mult21 : BitVec 32 :=
  let c2304_i32_151 : BitVec 32 := 2304#32
  c2304_i32_151
def k0_mult22 : BitVec 32 :=
  let c2816_i32 : BitVec 32 := 2816#32
  c2816_i32
def k0_mult23 : BitVec 32 :=
  let c2560_i32_165 : BitVec 32 := 2560#32
  c2560_i32_165
def k0_mult24 : BitVec 32 :=
  let c3072_i32 : BitVec 32 := 3072#32
  c3072_i32
def k0_mult25 : BitVec 32 :=
  let c2816_i32_179 : BitVec 32 := 2816#32
  c2816_i32_179
def k0_mult26 : BitVec 32 :=
  let c3328_i32 : BitVec 32 := 3328#32
  c3328_i32
def k0_mult27 : BitVec 32 :=
  let c3072_i32_193 : BitVec 32 := 3072#32
  c3072_i32_193
def k0_mult28 : BitVec 32 :=
  let c3584_i32 : BitVec 32 := 3584#32
  c3584_i32
def k0_mult29 : BitVec 32 :=
  let c3328_i32_207 : BitVec 32 := 3328#32
  c3328_i32_207
def k0_mult30 : BitVec 32 :=
  let c3840_i32 : BitVec 32 := 3840#32
  c3840_i32
def k0_mult31 : BitVec 32 :=
  let c3584_i32_221 : BitVec 32 := 3584#32
  c3584_i32_221
def k0_mult32 : BitVec 32 :=
  let c4096_i32 : BitVec 32 := 4096#32
  c4096_i32
def k0_mult33 : BitVec 32 :=
  let c3840_i32_235 : BitVec 32 := 3840#32
  c3840_i32_235
def k0_mult34 : BitVec 32 :=
  let c4352_i32 : BitVec 32 := 4352#32
  c4352_i32
def k0_mult35 : BitVec 32 :=
  let c4096_i32_249 : BitVec 32 := 4096#32
  c4096_i32_249
def k0_mult36 : BitVec 32 :=
  let c4608_i32 : BitVec 32 := 4608#32
  c4608_i32
def k0_mult37 : BitVec 32 :=
  let c4352_i32_263 : BitVec 32 := 4352#32
  c4352_i32_263
def k0_mult38 : BitVec 32 :=
  let c4864_i32 : BitVec 32 := 4864#32
  c4864_i32
def k0_mult39 : BitVec 32 :=
  let c4608_i32_277 : BitVec 32 := 4608#32
  c4608_i32_277
def k0_mult40 : BitVec 32 :=
  let c5120_i32 : BitVec 32 := 5120#32
  c5120_i32
def k0_mult41 : BitVec 32 :=
  let c4864_i32_291 : BitVec 32 := 4864#32
  c4864_i32_291
def k0_mult42 : BitVec 32 :=
  let c5376_i32 : BitVec 32 := 5376#32
  c5376_i32
def k0_mult43 : BitVec 32 :=
  let c5120_i32_305 : BitVec 32 := 5120#32
  c5120_i32_305
def k0_mult44 : BitVec 32 :=
  let c5632_i32 : BitVec 32 := 5632#32
  c5632_i32
def k0_mult45 : BitVec 32 :=
  let c5376_i32_319 : BitVec 32 := 5376#32
  c5376_i32_319
def k0_mult46 : BitVec 32 :=
  let c5888_i32 : BitVec 32 := 5888#32
  c5888_i32
def k0_mult47 : BitVec 32 :=
  let c5632_i32_333 : BitVec 32 := 5632#32
  c5632_i32_333
def k0_mult48 : BitVec 32 :=
  let c6144_i32 : BitVec 32 := 6144#32
  c6144_i32
def k0_mult49 : BitVec 32 :=
  let c5888_i32_347 : BitVec 32 := 5888#32
  c5888_i32_347
def k0_mult50 : BitVec 32 :=
  let c6400_i32 : BitVec 32 := 6400#32
  c6400_i32
def k0_mult51 : BitVec 32 :=
  let c6144_i32_361 : BitVec 32 := 6144#32
  c6144_i32_361
def k0_mult52 : BitVec 32 :=
  let c6656_i32 : BitVec 32 := 6656#32
  c6656_i32
def k0_mult53 : BitVec 32 :=
  let c6400_i32_375 : BitVec 32 := 6400#32
  c6400_i32_375
def k0_mult54 : BitVec 32 :=
  let c6912_i32 : BitVec 32 := 6912#32
  c6912_i32
def k0_mult55 : BitVec 32 :=
  let c6656_i32_389 : BitVec 32 := 6656#32
  c6656_i32_389
def k0_mult56 : BitVec 32 :=
  let c7168_i32 : BitVec 32 := 7168#32
  c7168_i32
def k0_mult57 : BitVec 32 :=
  let c6912_i32_403 : BitVec 32 := 6912#32
  c6912_i32_403
def k0_mult58 : BitVec 32 :=
  let c7424_i32 : BitVec 32 := 7424#32
  c7424_i32
def k0_mult59 : BitVec 32 :=
  let c7168_i32_417 : BitVec 32 := 7168#32
  c7168_i32_417
def k0_mult60 : BitVec 32 :=
  let c7680_i32 : BitVec 32 := 7680#32
  c7680_i32
def k0_mult61 : BitVec 32 :=
  let c7424_i32_431 : BitVec 32 := 7424#32
  c7424_i32_431
def k0_mult62 : BitVec 32 :=
  let c7936_i32 : BitVec 32 := 7936#32
  c7936_i32
def k0_mult63 : BitVec 32 :=
  let c7680_i32_445 : BitVec 32 := 7680#32
  c7680_i32_445
def k0_mult64 : BitVec 32 :=
  let c0_i32_455 : BitVec 32 := 0#32
  c0_i32_455
def k0_mult65 : BitVec 32 :=
  let c7936_i32_463 : BitVec 32 := 7936#32
  c7936_i32_463
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c7_i32 : BitVec 32 := 7#32
  let v1 : BitVec 32 := Scalar.minsi v0 c7_i32
  let c0_i32 : BitVec 32 := 0#32
  let c0_i32_0 : BitVec 32 := 0#32
  ![arg0.toNat, arg1.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MlaRefIdeal.lean ====
abbrev S4x8x128x8192 : Shape := ⟨4, ![4, 8, 128, 8192]⟩
abbrev S4x8192x1024 : Shape := ⟨3, ![4, 8192, 1024]⟩
abbrev S4x512x8192 : Shape := ⟨3, ![4, 512, 8192]⟩
abbrev S4x8192x8x128 : Shape := ⟨4, ![4, 8192, 8, 128]⟩
abbrev S4x8x64x8192 : Shape := ⟨4, ![4, 8, 64, 8192]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x8x128x8192, .bf16⟩
  | .hbm, ⟨1, _⟩ => ⟨S4x8192x1024, .bf16⟩
  | .hbm, ⟨2, _⟩ => ⟨S4x512x8192, .bf16⟩
  | .hbm, ⟨3, _⟩ => ⟨S4x8192x1024, .f32⟩
  | .hbm, ⟨4, _⟩ => ⟨S4x8192x8x128, .f32⟩
  | .hbm, ⟨5, _⟩ => ⟨S4x512x8192, .f32⟩
  | .hbm, ⟨6, _⟩ => ⟨S4x8x64x8192, .f32⟩
  | .hbm, ⟨7, _⟩ => ⟨S4x8x128x8192, .f32⟩
  | .hbm, ⟨8, _⟩ => ⟨S4x8x8192x8192, .f32⟩
  | .hbm, ⟨9, _⟩ => ⟨S_, .f32⟩
  | .hbm, ⟨10, _⟩ => ⟨S_, .f32⟩
  | .hbm, ⟨11, _⟩ => ⟨S4x8x8192x8192, .f32⟩
  | .hbm, ⟨12, _⟩ => ⟨S4x8x8192x8192, .f32⟩
  | .hbm, ⟨13, _⟩ => ⟨S_, .f32⟩
  | .hbm, ⟨14, _⟩ => ⟨S4x8x8192, .f32⟩
  | .hbm, ⟨15, _⟩ => ⟨S_, .f32⟩
  | .hbm, ⟨16, _⟩ => ⟨S4x8x8192, .f32⟩
  | .hbm, ⟨17, _⟩ => ⟨S4x8x8192, .f32⟩
  | .hbm, ⟨18, _⟩ => ⟨S4x8x8192x1, .f32⟩
  | .hbm, ⟨19, _⟩ => ⟨S4x8x8192x8192, .f32⟩
  | .hbm, ⟨20, _⟩ => ⟨S4x8x8192x8192, .f32⟩
  | .hbm, ⟨21, _⟩ => ⟨S4x8x8192x8192, .f32⟩
  | .hbm, ⟨22, _⟩ => ⟨S_, .f32⟩
  | .hbm, ⟨23, _⟩ => ⟨S4x8x8192, .f32⟩
  | .hbm, ⟨24, _⟩ => ⟨S4x8x8192x1, .f32⟩
  | .hbm, ⟨25, _⟩ => ⟨S4x8x8192x8192, .f32⟩
  | .hbm, ⟨26, _⟩ => ⟨S4x8x8192x8192, .f32⟩
  | .hbm, ⟨27, _⟩ => ⟨S4x8x64x8192, .f32⟩
  | .hbm, ⟨28, _⟩ => ⟨S4x512x8192, .f32⟩
  | _, _ => ⟨S4x8x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Gqa.lean ====
abbrev S4x8x128x8192 : Shape := ⟨4, ![4, 8, 128, 8192]⟩
abbrev S4x8192x128 : Shape := ⟨3, ![4, 8192, 128]⟩
abbrev S4x128x8192 : Shape := ⟨3, ![4, 128, 8192]⟩
abbrev S4x512x8192 : Shape := ⟨3, ![4, 512, 8192]⟩
abbrev S1x1x128x1024 : Shape := ⟨4, ![1, 1, 128, 1024]⟩
abbrev S1x8192x128 : Shape := ⟨3, ![1, 8192, 128]⟩
abbrev S1x64x8192 : Shape := ⟨3, ![1, 64, 8192]⟩
abbrev S1x64x1024 : Shape := ⟨3, ![1, 64, 1024]⟩
abbrev S2x256x1024 : Shape := ⟨3, ![2, 256, 1024]⟩
abbrev S8x1024 : Shape := ⟨2, ![8, 1024]⟩
abbrev S2x128x1024 : Shape := ⟨3, ![2, 128, 1024]⟩
abbrev S128x1024 : Shape := ⟨2, ![128, 1024]⟩
abbrev S16x256 : Shape := ⟨2, ![16, 256]⟩
abbrev S1x128x1024 : Shape := ⟨3, ![1, 128, 1024]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩
abbrev S1024 : Shape := ⟨1, ![1024]⟩
abbrev S1x1024 : Shape := ⟨2, ![1, 1024]⟩
abbrev S80x1024 : Shape := ⟨2, ![80, 1024]⟩
abbrev S1x64x256 : Shape := ⟨3, ![1, 64, 256]⟩
abbrev S64x256 : Shape := ⟨2, ![64, 256]⟩
abbrev S80x256 : Shape := ⟨2, ![80, 256]⟩
abbrev S64x1024 : Shape := ⟨2, ![64, 1024]⟩

abbrev nBuf : Space → Nat
  | .hbm => 4
  | .vmem => 13
  | .smem => 0
  | _ => 0

abbrev bufTy : (tb : Table) → Fin (tcTables nBuf tb) → BufTy
  | .hbm, ⟨0, _⟩ => ⟨S4x8x128x8192, .bf16⟩
  | .hbm, ⟨1, _⟩ => ⟨S4x8192x128, .bf16⟩
  | .hbm, ⟨2, _⟩ => ⟨S4x128x8192, .bf16⟩
  | .hbm, ⟨3, _⟩ => ⟨S4x512x8192, .f32⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x64x8192, .bf16⟩
  | .local _ .vmem, ⟨7, _⟩ => ⟨S1x64x8192, .bf16⟩
  | .local _ .vmem, ⟨8, _⟩ => ⟨S1x64x1024, .f32⟩
  | .local _ .vmem, ⟨9, _⟩ => ⟨S1x64x1024, .f32⟩
  | .local _ .vmem, ⟨10, _⟩ => ⟨S2x256x1024, .f32⟩
  | .local _ .vmem, ⟨11, _⟩ => ⟨S8x1024, .f32⟩
  | .local _ .vmem, ⟨12, _⟩ => ⟨S2x128x1024, .bf16⟩
  | _, _ => ⟨S4x8x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_12 : BitVec 32 := 0#32
  let v13 : BitVec 1 := Scalar.cmpi .ne v12 c0_i32_12
  v13

def k0_mult1 : BitVec 32 :=
  let c0_i32_475 : BitVec 32 := 0#32
  c0_i32_475
def k0_mult2 : BitVec 32 :=
  let c256_i32 : BitVec 32 := 256#32
  c256_i32
def k0_mult3 : BitVec 32 :=
  let c0_i32_25 : BitVec 32 := 0#32
  c0_i32_25
def k0_mult4 : BitVec 32 :=
  let c512_i32 : BitVec 32 := 512#32
  c512_i32
def k0_mult5 : BitVec 32 :=
  let c256_i32_39 : BitVec 32 := 256#32
  c256_i32_39
def k0_mult6 : BitVec 32 :=
  let c768_i32 : BitVec 32 := 768#32
  c768_i32
def k0_mult7 : BitVec 32 :=
  let c512_i32_53 : BitVec 32 := 512#32
  c512_i32_53
def k0_mult8 : BitVec 32 :=
  let c1024_i32 : BitVec 32 := 1024#32
  c1024_i32
def k0_mult9 : BitVec 32 :=
  let c768_i32_67 : BitVec 32 := 768#32
  c768_i32_67
def k0_mult10 : BitVec 32 :=
  let c1280_i32 : BitVec 32 := 1280#32
  c1280_i32
def k0_mult11 : BitVec 32 :=
  let c1024_i32_81 : BitVec 32 := 1024#32
  c1024_i32_81
def k0_mult12 : BitVec 32 :=
  let c1536_i32 : BitVec 32 := 1536#32
  c1536_i32
def k0_mult13 : BitVec 32 :=
  let c1280_i32_95 : BitVec 32 := 1280#32
  c1280_i32_95
def k0_mult14 : BitVec 32 :=
  let c1792_i32 : BitVec 32 := 1792#32
  c1792_i32
def k0_mult15 : BitVec 32 :=
  let c1536_i32_109 : BitVec 32 := 1536#32
  c1536_i32_109
def k0_mult16 : BitVec 32 :=
  let c2048_i32 : BitVec 32 := 2048#32
  c2048_i32
def k0_mult17 : BitVec 32 :=
  let c1792_i32_123 : BitVec 32 := 1792#32
  c1792_i32_123
def k0_mult18 : BitVec 32 :=
  let c2304_i32 : BitVec 32 := 2304#32
  c2304_i32
def k0_mult19 : BitVec 32 :=
  let c2048_i32_137 : BitVec 32 := 2048#32
  c2048_i32_137
def k0_mult20 : BitVec 32 :=
  let c2560_i32 : BitVec 32 := 2560#32
  c2560_i32
def k0_mult21 : BitVec 32 :=
  let c2304_i32_151 : BitVec 32 := 2304#32
  c2304_i32_151
def k0_mult22 : BitVec 32 :=
  let c2816_i32 : BitVec 32 := 2816#32
  c2816_i32
def k0_mult23 : BitVec 32 :=
  let c2560_i32_165 : BitVec 32 := 2560#32
  c2560_i32_165
def k0_mult24 : BitVec 32 :=
  let c3072_i32 : BitVec 32 := 3072#32
  c3072_i32
def k0_mult25 : BitVec 32 :=
  let c2816_i32_179 : BitVec 32 := 2816#32
  c2816_i32_179
def k0_mult26 : BitVec 32 :=
  let c3328_i32 : BitVec 32 := 3328#32
  c3328_i32
def k0_mult27 : BitVec 32 :=
  let c3072_i32_193 : BitVec 32 := 3072#32
  c3072_i32_193
def k0_mult28 : BitVec 32 :=
  let c3584_i32 : BitVec 32 := 3584#32
  c3584_i32
def k0_mult29 : BitVec 32 :=
  let c3328_i32_207 : BitVec 32 := 3328#32
  c3328_i32_207
def k0_mult30 : BitVec 32 :=
  let c3840_i32 : BitVec 32 := 3840#32
  c3840_i32
def k0_mult31 : BitVec 32 :=
  let c3584_i32_221 : BitVec 32 := 3584#32
  c3584_i32_221
def k0_mult32 : BitVec 32 :=
  let c4096_i32 : BitVec 32 := 4096#32
  c4096_i32
def k0_mult33 : BitVec 32 :=
  let c3840_i32_235 : BitVec 32 := 3840#32
  c3840_i32_235
def k0_mult34 : BitVec 32 :=
  let c4352_i32 : BitVec 32 := 4352#32
  c4352_i32
def k0_mult35 : BitVec 32 :=
  let c4096_i32_249 : BitVec 32 := 4096#32
  c4096_i32_249
def k0_mult36 : BitVec 32 :=
  let c4608_i32 : BitVec 32 := 4608#32
  c4608_i32
def k0_mult37 : BitVec 32 :=
  let c4352_i32_263 : BitVec 32 := 4352#32
  c4352_i32_263
def k0_mult38 : BitVec 32 :=
  let c4864_i32 : BitVec 32 := 4864#32
  c4864_i32
def k0_mult39 : BitVec 32 :=
  let c4608_i32_277 : BitVec 32 := 4608#32
  c4608_i32_277
def k0_mult40 : BitVec 32 :=
  let c5120_i32 : BitVec 32 := 5120#32
  c5120_i32
def k0_mult41 : BitVec 32 :=
  let c4864_i32_291 : BitVec 32 := 4864#32
  c4864_i32_291
def k0_mult42 : BitVec 32 :=
  let c5376_i32 : BitVec 32 := 5376#32
  c5376_i32
def k0_mult43 : BitVec 32 :=
  let c5120_i32_305 : BitVec 32 := 5120#32
  c5120_i32_305
def k0_mult44 : BitVec 32 :=
  let c5632_i32 : BitVec 32 := 5632#32
  c5632_i32
def k0_mult45 : BitVec 32 :=
  let c5376_i32_319 : BitVec 32 := 5376#32
  c5376_i32_319
def k0_mult46 : BitVec 32 :=
  let c5888_i32 : BitVec 32 := 5888#32
  c5888_i32
def k0_mult47 : BitVec 32 :=
  let c5632_i32_333 : BitVec 32 := 5632#32
  c5632_i32_333
def k0_mult48 : BitVec 32 :=
  let c6144_i32 : BitVec 32 := 6144#32
  c6144_i32
def k0_mult49 : BitVec 32 :=
  let c5888_i32_347 : BitVec 32 := 5888#32
  c5888_i32_347
def k0_mult50 : BitVec 32 :=
  let c6400_i32 : BitVec 32 := 6400#32
  c6400_i32
def k0_mult51 : BitVec 32 :=
  let c6144_i32_361 : BitVec 32 := 6144#32
  c6144_i32_361
def k0_mult52 : BitVec 32 :=
  let c6656_i32 : BitVec 32 := 6656#32
  c6656_i32
def k0_mult53 : BitVec 32 :=
  let c6400_i32_375 : BitVec 32 := 6400#32
  c6400_i32_375
def k0_mult54 : BitVec 32 :=
  let c6912_i32 : BitVec 32 := 6912#32
  c6912_i32
def k0_mult55 : BitVec 32 :=
  let c6656_i32_389 : BitVec 32 := 6656#32
  c6656_i32_389
def k0_mult56 : BitVec 32 :=
  let c7168_i32 : BitVec 32 := 7168#32
  c7168_i32
def k0_mult57 : BitVec 32 :=
  let c6912_i32_403 : BitVec 32 := 6912#32
  c6912_i32_403
def k0_mult58 : BitVec 32 :=
  let c7424_i32 : BitVec 32 := 7424#32
  c7424_i32
def k0_mult59 : BitVec 32 :=
  let c7168_i32_417 : BitVec 32 := 7168#32
  c7168_i32_417
def k0_mult60 : BitVec 32 :=
  let c7680_i32 : BitVec 32 := 7680#32
  c7680_i32
def k0_mult61 : BitVec 32 :=
  let c7424_i32_431 : BitVec 32 := 7424#32
  c7424_i32_431
def k0_mult62 : BitVec 32 :=
  let c7936_i32 : BitVec 32 := 7936#32
  c7936_i32
def k0_mult63 : BitVec 32 :=
  let c7680_i32_445 : BitVec 32 := 7680#32
  c7680_i32_445
def k0_mult64 : BitVec 32 :=
  let c0_i32_455 : BitVec 32 := 0#32
  c0_i32_455
def k0_mult65 : BitVec 32 :=
  let c7936_i32_463 : BitVec 32 := 7936#32
  c7936_i32_463
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c7_i32 : BitVec 32 := 7#32
  let v1 : BitVec 32 := Scalar.minsi v0 c7_i32
  let c0_i32 : BitVec 32 := 0#32
  let c0_i32_0 : BitVec 32 := 0#32
  ![arg0.toNat, arg1.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== GqaRefIdeal.lean ====
abbrev S4x8x128x8192 : Shape := ⟨4, ![4, 8, 128, 8192]⟩
abbrev S4x8192x128 : Shape := ⟨3, ![4, 8192, 128]⟩
abbrev S4x128x8192 : Shape := ⟨3, ![4, 128, 8192]⟩
abbrev S4x2x64x8192 : Shape := ⟨4, ![4, 2, 64, 8192]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x2x4x8192x8192 : Shape := ⟨5, ![4, 2, 4, 8192, 8192]⟩
abbrev S4x2x4x8192x64 : Shape := ⟨5, ![4, 2, 4, 8192, 64]⟩
abbrev S4x2x4x64x8192 : Shape := ⟨5, ![4, 2, 4, 64, 8192]⟩
abbrev S4x512x8192 : Shape := ⟨3, ![4, 512, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x8x128x8192, .bf16⟩
  | .hbm, ⟨1, _⟩ => ⟨S4x8192x128, .bf16⟩
  | .hbm, ⟨2, _⟩ => ⟨S4x128x8192, .bf16⟩
  | .hbm, ⟨3, _⟩ => ⟨S4x128x8192, .f32⟩
  | .hbm, ⟨4, _⟩ => ⟨S4x2x64x8192, .f32⟩
  | .hbm, ⟨5, _⟩ => ⟨S4x8x128x8192, .f32⟩
  | .hbm, ⟨6, _⟩ => ⟨S4x8192x128, .f32⟩
  | .hbm, ⟨7, _⟩ => ⟨S4x8x8192x8192, .f32⟩
  | .hbm, ⟨8, _⟩ => ⟨S_, .f32⟩
  | .hbm, ⟨9, _⟩ => ⟨S_, .f32⟩
  | .hbm, ⟨10, _⟩ => ⟨S4x8x8192x8192, .f32⟩
  | .hbm, ⟨11, _⟩ => ⟨S4x8x8192x8192, .f32⟩
  | .hbm, ⟨12, _⟩ => ⟨S_, .f32⟩
  | .hbm, ⟨13, _⟩ => ⟨S4x8x8192, .f32⟩
  | .hbm, ⟨14, _⟩ => ⟨S_, .f32⟩
  | .hbm, ⟨15, _⟩ => ⟨S4x8x8192, .f32⟩
  | .hbm, ⟨16, _⟩ => ⟨S4x8x8192, .f32⟩
  | .hbm, ⟨17, _⟩ => ⟨S4x8x8192x1, .f32⟩
  | .hbm, ⟨18, _⟩ => ⟨S4x8x8192x8192, .f32⟩
  | .hbm, ⟨19, _⟩ => ⟨S4x8x8192x8192, .f32⟩
  | .hbm, ⟨20, _⟩ => ⟨S4x8x8192x8192, .f32⟩
  | .hbm, ⟨21, _⟩ => ⟨S_, .f32⟩
  | .hbm, ⟨22, _⟩ => ⟨S4x8x8192, .f32⟩
  | .hbm, ⟨23, _⟩ => ⟨S4x8x8192x1, .f32⟩
  | .hbm, ⟨24, _⟩ => ⟨S4x8x8192x8192, .f32⟩
  | .hbm, ⟨25, _⟩ => ⟨S4x8x8192x8192, .f32⟩
  | .hbm, ⟨26, _⟩ => ⟨S4x2x4x8192x8192, .f32⟩
  | .hbm, ⟨27, _⟩ => ⟨S4x2x4x8192x64, .f32⟩
  | .hbm, ⟨28, _⟩ => ⟨S4x2x4x64x8192, .f32⟩
  | .hbm, ⟨29, _⟩ => ⟨S4x512x8192, .f32⟩
  | _, _ => ⟨S4x8x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Diff.lean ====
abbrev S4x16x128x8192 : Shape := ⟨4, ![4, 16, 128, 8192]⟩
abbrev S4x8192x512 : Shape := ⟨3, ![4, 8192, 512]⟩
abbrev S4x512x8192 : Shape := ⟨3, ![4, 512, 8192]⟩
abbrev S1x32 : Shape := ⟨2, ![1, 32]⟩
abbrev S64x1 : Shape := ⟨2, ![64, 1]⟩
abbrev S1x2x128x512 : Shape := ⟨4, ![1, 2, 128, 512]⟩
abbrev S1x8192x128 : Shape := ⟨3, ![1, 8192, 128]⟩
abbrev S1x64x8192 : Shape := ⟨3, ![1, 64, 8192]⟩
abbrev S1x64x512 : Shape := ⟨3, ![1, 64, 512]⟩
abbrev S2x256x1024 : Shape := ⟨3, ![2, 256, 1024]⟩
abbrev S8x1024 : Shape := ⟨2, ![8, 1024]⟩
abbrev S2x128x1024 : Shape := ⟨3, ![2, 128, 1024]⟩
abbrev S1x1x128x512 : Shape := ⟨4, ![1, 1, 128, 512]⟩
abbrev S128x512 : Shape := ⟨2, ![128, 512]⟩
abbrev S128x1024 : Shape := ⟨2, ![128, 1024]⟩
abbrev S16x256 : Shape := ⟨2, ![16, 256]⟩
abbrev S1x128x1024 : Shape := ⟨3, ![1, 128, 1024]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩
abbrev S1024 : Shape := ⟨1, ![1024]⟩
abbrev S1x1024 : Shape := ⟨2, ![1, 1024]⟩
abbrev S80x1024 : Shape := ⟨2, ![80, 1024]⟩
abbrev S1x64x256 : Shape := ⟨3, ![1, 64, 256]⟩
abbrev S64x256 : Shape := ⟨2, ![64, 256]⟩
abbrev S80x256 : Shape := ⟨2, ![80, 256]⟩
abbrev S64x1024 : Shape := ⟨2, ![64, 1024]⟩
abbrev S1 : Shape := ⟨1, ![1]⟩
abbrev S1x1 : Shape := ⟨2, ![1, 1]⟩
abbrev S64x512 : Shape := ⟨2, ![64, 512]⟩
abbrev S512 : Shape := ⟨1, ![512]⟩
abbrev S1x512 : Shape := ⟨2, ![1, 512]⟩

abbrev nBuf : Space → Nat
  | .hbm => 9
  | .vmem => 18
  | .smem => 0
  | _ => 0

abbrev bufTy : (tb : Table) → Fin (tcTables nBuf tb) → BufTy
  | .hbm, ⟨0, _⟩ => ⟨S4x16x128x8192, .bf16⟩
  | .hbm, ⟨1, _⟩ => ⟨S4x8192x512, .bf16⟩
  | .hbm, ⟨2, _⟩ => ⟨S4x512x8192, .bf16⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S64x1, .f32⟩
  | .hbm, ⟨8, _⟩ => ⟨S4x512x8192, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S64x1, .f32⟩
  | .local _ .vmem, ⟨5, _⟩ => ⟨S1x2x128x512, .bf16⟩
  | .local _ .vmem, ⟨6, _⟩ => ⟨S1x2x128x512, .bf16⟩
  | .local _ .vmem, ⟨7, _⟩ => ⟨S1x2x128x512, .bf16⟩
  | .local _ .vmem, ⟨8, _⟩ => ⟨S1x2x128x512, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x64x8192, .bf16⟩
  | .local _ .vmem, ⟨12, _⟩ => ⟨S1x64x8192, .bf16⟩
  | .local _ .vmem, ⟨13, _⟩ => ⟨S1x64x512, .f32⟩
  | .local _ .vmem, ⟨14, _⟩ => ⟨S1x64x512, .f32⟩
  | .local _ .vmem, ⟨15, _⟩ => ⟨S2x256x1024, .f32⟩
  | .local _ .vmem, ⟨16, _⟩ => ⟨S8x1024, .f32⟩
  | .local _ .vmem, ⟨17, _⟩ => ⟨S2x128x1024, .bf16⟩
  | _, _ => ⟨S4x16x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![4, 8, 16], ![false, false, false]⟩

def k0_cond1 (i : grid0.Coords) : BitVec 1 :=
  let arg2 : BitVec 32 := BitVec.ofNat 32 (i 2).val
  let c0_i32 : BitVec 32 := 0#32
  let v17 : BitVec 1 := Scalar.cmpi .eq arg2 c0_i32
  let v18 : BitVec 32 := Scalar.extui v17
  let c0_i32_20 : BitVec 32 := 0#32
  let v19 : BitVec 1 := Scalar.cmpi .ne v18 c0_i32_20
  v19

def k0_mult1 : BitVec 32 :=
  let c0_i32_500 : BitVec 32 := 0#32
  c0_i32_500
def k0_mult2 : BitVec 32 :=
  let c256_i32 : BitVec 32 := 256#32
  c256_i32
def k0_mult3 : BitVec 32 :=
  let c0_i32_33 : BitVec 32 := 0#32
  c0_i32_33
def k0_mult4 : BitVec 32 :=
  let c512_i32 : BitVec 32 := 512#32
  c512_i32
def k0_mult5 : BitVec 32 :=
  let c256_i32_47 : BitVec 32 := 256#32
  c256_i32_47
def k0_mult6 : BitVec 32 :=
  let c768_i32 : BitVec 32 := 768#32
  c768_i32
def k0_mult7 : BitVec 32 :=
  let c512_i32_61 : BitVec 32 := 512#32
  c512_i32_61
def k0_mult8 : BitVec 32 :=
  let c1024_i32 : BitVec 32 := 1024#32
  c1024_i32
def k0_mult9 : BitVec 32 :=
  let c768_i32_75 : BitVec 32 := 768#32
  c768_i32_75
def k0_mult10 : BitVec 32 :=
  let c1280_i32 : BitVec 32 := 1280#32
  c1280_i32
def k0_mult11 : BitVec 32 :=
  let c1024_i32_89 : BitVec 32 := 1024#32
  c1024_i32_89
def k0_mult12 : BitVec 32 :=
  let c1536_i32 : BitVec 32 := 1536#32
  c1536_i32
def k0_mult13 : BitVec 32 :=
  let c1280_i32_103 : BitVec 32 := 1280#32
  c1280_i32_103
def k0_mult14 : BitVec 32 :=
  let c1792_i32 : BitVec 32 := 1792#32
  c1792_i32
def k0_mult15 : BitVec 32 :=
  let c1536_i32_117 : BitVec 32 := 1536#32
  c1536_i32_117
def k0_mult16 : BitVec 32 :=
  let c2048_i32 : BitVec 32 := 2048#32
  c2048_i32
def k0_mult17 : BitVec 32 :=
  let c1792_i32_131 : BitVec 32 := 1792#32
  c1792_i32_131
def k0_mult18 : BitVec 32 :=
  let c2304_i32 : BitVec 32 := 2304#32
  c2304_i32
def k0_mult19 : BitVec 32 :=
  let c2048_i32_145 : BitVec 32 := 2048#32
  c2048_i32_145
def k0_mult20 : BitVec 32 :=
  let c2560_i32 : BitVec 32 := 2560#32
  c2560_i32
def k0_mult21 : BitVec 32 :=
  let c2304_i32_159 : BitVec 32 := 2304#32
  c2304_i32_159
def k0_mult22 : BitVec 32 :=
  let c2816_i32 : BitVec 32 := 2816#32
  c2816_i32
def k0_mult23 : BitVec 32 :=
  let c2560_i32_173 : BitVec 32 := 2560#32
  c2560_i32_173
def k0_mult24 : BitVec 32 :=
  let c3072_i32 : BitVec 32 := 3072#32
  c3072_i32
def k0_mult25 : BitVec 32 :=
  let c2816_i32_187 : BitVec 32 := 2816#32
  c2816_i32_187
def k0_mult26 : BitVec 32 :=
  let c3328_i32 : BitVec 32 := 3328#32
  c3328_i32
def k0_mult27 : BitVec 32 :=
  let c3072_i32_201 : BitVec 32 := 3072#32
  c3072_i32_201
def k0_mult28 : BitVec 32 :=
  let c3584_i32 : BitVec 32 := 3584#32
  c3584_i32
def k0_mult29 : BitVec 32 :=
  let c3328_i32_215 : BitVec 32 := 3328#32
  c3328_i32_215
def k0_mult30 : BitVec 32 :=
  let c3840_i32 : BitVec 32 := 3840#32
  c3840_i32
def k0_mult31 : BitVec 32 :=
  let c3584_i32_229 : BitVec 32 := 3584#32
  c3584_i32_229
def k0_mult32 : BitVec 32 :=
  let c4096_i32 : BitVec 32 := 4096#32
  c4096_i32
def k0_mult33 : BitVec 32 :=
  let c3840_i32_243 : BitVec 32 := 3840#32
  c3840_i32_243
def k0_mult34 : BitVec 32 :=
  let c4352_i32 : BitVec 32 := 4352#32
  c4352_i32
def k0_mult35 : BitVec 32 :=
  let c4096_i32_257 : BitVec 32 := 4096#32
  c4096_i32_257
def k0_mult36 : BitVec 32 :=
  let c4608_i32 : BitVec 32 := 4608#32
  c4608_i32
def k0_mult37 : BitVec 32 :=
  let c4352_i32_271 : BitVec 32 := 4352#32
  c4352_i32_271
def k0_mult38 : BitVec 32 :=
  let c4864_i32 : BitVec 32 := 4864#32
  c4864_i32
def k0_mult39 : BitVec 32 :=
  let c4608_i32_285 : BitVec 32 := 4608#32
  c4608_i32_285
def k0_mult40 : BitVec 32 :=
  let c5120_i32 : BitVec 32 := 5120#32
  c5120_i32
def k0_mult41 : BitVec 32 :=
  let c4864_i32_299 : BitVec 32 := 4864#32
  c4864_i32_299
def k0_mult42 : BitVec 32 :=
  let c5376_i32 : BitVec 32 := 5376#32
  c5376_i32
def k0_mult43 : BitVec 32 :=
  let c5120_i32_313 : BitVec 32 := 5120#32
  c5120_i32_313
def k0_mult44 : BitVec 32 :=
  let c5632_i32 : BitVec 32 := 5632#32
  c5632_i32
def k0_mult45 : BitVec 32 :=
  let c5376_i32_327 : BitVec 32 := 5376#32
  c5376_i32_327
def k0_mult46 : BitVec 32 :=
  let c5888_i32 : BitVec 32 := 5888#32
  c5888_i32
def k0_mult47 : BitVec 32 :=
  let c5632_i32_341 : BitVec 32 := 5632#32
  c5632_i32_341
def k0_mult48 : BitVec 32 :=
  let c6144_i32 : BitVec 32 := 6144#32
  c6144_i32
def k0_mult49 : BitVec 32 :=
  let c5888_i32_355 : BitVec 32 := 5888#32
  c5888_i32_355
def k0_mult50 : BitVec 32 :=
  let c6400_i32 : BitVec 32 := 6400#32
  c6400_i32
def k0_mult51 : BitVec 32 :=
  let c6144_i32_369 : BitVec 32 := 6144#32
  c6144_i32_369
def k0_mult52 : BitVec 32 :=
  let c6656_i32 : BitVec 32 := 6656#32
  c6656_i32
def k0_mult53 : BitVec 32 :=
  let c6400_i32_383 : BitVec 32 := 6400#32
  c6400_i32_383
def k0_mult54 : BitVec 32 :=
  let c6912_i32 : BitVec 32 := 6912#32
  c6912_i32
def k0_mult55 : BitVec 32 :=
  let c6656_i32_397 : BitVec 32 := 6656#32
  c6656_i32_397
def k0_mult56 : BitVec 32 :=
  let c7168_i32 : BitVec 32 := 7168#32
  c7168_i32
def k0_mult57 : BitVec 32 :=
  let c6912_i32_411 : BitVec 32 := 6912#32
  c6912_i32_411
def k0_mult58 : BitVec 32 :=
  let c7424_i32 : BitVec 32 := 7424#32
  c7424_i32
def k0_mult59 : BitVec 32 :=
  let c7168_i32_425 : BitVec 32 := 7168#32
  c7168_i32_425
def k0_mult60 : BitVec 32 :=
  let c7680_i32 : BitVec 32 := 7680#32
  c7680_i32
def k0_mult61 : BitVec 32 :=
  let c7424_i32_439 : BitVec 32 := 7424#32
  c7424_i32_439
def k0_mult62 : BitVec 32 :=
  let c7936_i32 : BitVec 32 := 7936#32
  c7936_i32
def k0_mult63 : BitVec 32 :=
  let c7680_i32_453 : BitVec 32 := 7680#32
  c7680_i32_453
def k0_mult64 : BitVec 32 :=
  let c0_i32_463 : BitVec 32 := 0#32
  c0_i32_463
def k0_mult65 : BitVec 32 :=
  let c7936_i32_471 : BitVec 32 := 7936#32
  c7936_i32_471
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  ![arg0.toNat, arg1.toNat, c0_i32.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x64x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== DiffRefIdeal.lean ====
abbrev S4x16x128x8192 : Shape := ⟨4, ![4, 16, 128, 8192]⟩
abbrev S4x8192x512 : Shape := ⟨3, ![4, 8192, 512]⟩
abbrev S4x512x8192 : Shape := ⟨3, ![4, 512, 8192]⟩
abbrev S1x32 : Shape := ⟨2, ![1, 32]⟩
abbrev S64x1 : Shape := ⟨2, ![64, 1]⟩
abbrev S4x4x4x128x8192 : Shape := ⟨5, ![4, 4, 4, 128, 8192]⟩
abbrev S4x8192x4x128 : Shape := ⟨4, ![4, 8192, 4, 128]⟩
abbrev S4x8x64x8192 : Shape := ⟨4, ![4, 8, 64, 8192]⟩
abbrev S_ : Shape := ⟨0, ![]⟩
abbrev S4x4x4x8192x8192 : Shape := ⟨5, ![4, 4, 4, 8192, 8192]⟩
abbrev S4x4x4x8192 : Shape := ⟨4, ![4, 4, 4, 8192]⟩
abbrev S4x4x4x8192x1 : Shape := ⟨5, ![4, 4, 4, 8192, 1]⟩
abbrev S4x8x2x8192x8192 : Shape := ⟨5, ![4, 8, 2, 8192, 8192]⟩
abbrev S4x8x1x8192x8192 : Shape := ⟨5, ![4, 8, 1, 8192, 8192]⟩
abbrev S4x8x8192x8192 : Shape := ⟨4, ![4, 8, 8192, 8192]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩

abbrev nBuf : Space → Nat
  | .hbm => 76
  | .vmem => 0
  | .smem => 0
  | _ => 0

abbrev bufTy : (tb : Table) → Fin (tcTables nBuf tb) → BufTy
  | .hbm, ⟨0, _⟩ => ⟨S4x16x128x8192, .bf16⟩
  | .hbm, ⟨1, _⟩ => ⟨S4x8192x512, .bf16⟩
  | .hbm, ⟨2, _⟩ => ⟨S4x512x8192, .bf16⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S64x1, .f32⟩
  | .hbm, ⟨8, _⟩ => ⟨S4x16x128x8192, .f32⟩
  | .hbm, ⟨9, _⟩ => ⟨S4x4x4x128x8192, .f32⟩
  | .hbm, ⟨10, _⟩ => ⟨S4x8192x512, .f32⟩
  | .hbm, ⟨11, _⟩ => ⟨S4x8192x4x128, .f32⟩
  | .hbm, ⟨12, _⟩ => ⟨S4x512x8192, .f32⟩
  | .hbm, ⟨13, _⟩ => ⟨S4x8x64x8192, .f32⟩
  | .hbm, ⟨14, _⟩ => ⟨S1x32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4x4x8192x8192, .f32⟩
  | .hbm, ⟨26, _⟩ => ⟨S_, .f32⟩
  | .hbm, ⟨27, _⟩ => ⟨S_, .f32⟩
  | .hbm, ⟨28, _⟩ => ⟨S4x4x4x8192x8192, .f32⟩
  | .hbm, ⟨29, _⟩ => ⟨S4x4x4x8192x8192, .f32⟩
  | .hbm, ⟨30, _⟩ => ⟨S_, .f32⟩
  | .hbm, ⟨31, _⟩ => ⟨S4x4x4x8192, .f32⟩
  | .hbm, ⟨32, _⟩ => ⟨S_, .f32⟩
  | .hbm, ⟨33, _⟩ => ⟨S4x4x4x8192, .f32⟩
  | .hbm, ⟨34, _⟩ => ⟨S4x4x4x8192, .f32⟩
  | .hbm, ⟨35, _⟩ => ⟨S4x4x4x8192x1, .f32⟩
  | .hbm, ⟨36, _⟩ => ⟨S4x4x4x8192x8192, .f32⟩
  | .hbm, ⟨37, _⟩ => ⟨S4x4x4x8192x8192, .f32⟩
  | .hbm, ⟨38, _⟩ => ⟨S4x4x4x8192x8192, .f32⟩
  | .hbm, ⟨39, _⟩ => ⟨S_, .f32⟩
  | .hbm, ⟨40, _⟩ => ⟨S4x4x4x8192, .f32⟩
  | .hbm, ⟨41, _⟩ => ⟨S4x4x4x8192x1, .f32⟩
  | .hbm, ⟨42, _⟩ => ⟨S4x4x4x8192x8192, .f32⟩
  | .hbm, ⟨43, _⟩ => ⟨S4x4x4x8192x8192, .f32⟩
  | .hbm, ⟨44, _⟩ => ⟨S4x8x2x8192x8192, .f32⟩
  | .hbm, ⟨45, _⟩ => ⟨S4x8x1x8192x8192, .f32⟩
  | .hbm, ⟨46, _⟩ => ⟨S4x8x8192x8192, .f32⟩
  | .hbm, ⟨47, _⟩ => ⟨S4x8x1x8192x8192, .f32⟩
  | .hbm, ⟨48, _⟩ => ⟨S4x8x8192x8192, .f32⟩
  | .hbm, ⟨49, _⟩ => ⟨S4x8x8192x8192, .f32⟩
  | .hbm, ⟨50, _⟩ => ⟨S4x8x8192x8192, .f32⟩
  | .hbm, ⟨51, _⟩ => ⟨S4x8x8192x8192, .f32⟩
  | .hbm, ⟨52, _⟩ => ⟨S4x8x64x8192, .f32⟩
  | .hbm, ⟨53, _⟩ => ⟨S4x8192x8x64, .f32⟩
  | .hbm, ⟨54, _⟩ => ⟨S64, .f32⟩
  | .hbm, ⟨55, _⟩ => ⟨S4x8192x8x64, .f32⟩
  | .hbm, ⟨56, _⟩ => ⟨S_, .f32⟩
  | .hbm, ⟨57, _⟩ => ⟨S4x8192x8, .f32⟩
  | .hbm, ⟨58, _⟩ => ⟨S4x8192x8x1, .f32⟩
  | .hbm, ⟨59, _⟩ => ⟨S_, .f32⟩
  | .hbm, ⟨60, _⟩ => ⟨S4x8192x8x1, .f32⟩
  | .hbm, ⟨61, _⟩ => ⟨S4x8192x8x1, .f32⟩
  | .hbm, ⟨62, _⟩ => ⟨S_, .f32⟩
  | .hbm, ⟨63, _⟩ => ⟨S4x8192x8x1, .f32⟩
  | .hbm, ⟨64, _⟩ => ⟨S4x8192x8x1, .f32⟩
  | .hbm, ⟨65, _⟩ => ⟨S4x8192x8x1, .f32⟩
  | .hbm, ⟨66, _⟩ => ⟨S4x8192x8x64, .f32⟩
  | .hbm, ⟨67, _⟩ => ⟨S4x8192x8x64, .f32⟩
  | .hbm, ⟨68, _⟩ => ⟨S1x1x1x64, .f32⟩
  | .hbm, ⟨69, _⟩ => ⟨S4x8192x8x64, .f32⟩
  | .hbm, ⟨70, _⟩ => ⟨S4x8192x8x64, .f32⟩
  | .hbm, ⟨71, _⟩ => ⟨S_, .f32⟩
  | .hbm, ⟨72, _⟩ => ⟨S4x8192x8x64, .f32⟩
  | .hbm, ⟨73, _⟩ => ⟨S4x8192x8x64, .f32⟩
  | .hbm, ⟨74, _⟩ => ⟨S4x8x64x8192, .f32⟩
  | .hbm, ⟨75, _⟩ => ⟨S4x512x8192, .f32⟩
  | _, _ => ⟨S4x16x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Ffn.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1024x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S1024x2816, .f32⟩
  | .hbm, ⟨33, _⟩ => ⟨S32768x2816, .f32⟩
  | .hbm, ⟨34, _⟩ => ⟨S32768x2816, .f32⟩
  | .hbm, ⟨35, _⟩ => ⟨S2816x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== MemKv.lean ====
abbrev S1024x1024 : Shape := ⟨2, ![1024, 1024]⟩
abbrev S1x1024 : Shape := ⟨2, ![1, 1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x2048, .bf16⟩
  | .hbm, ⟨3, _⟩ => ⟨S1024x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .bf16⟩
  | .local _ .vmem, ⟨5, _⟩ => ⟨S256x2048, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S1024x1024 : Shape := ⟨2, ![1024, 1024]⟩
abbrev S1x1024 : Shape := ⟨2, ![1, 1024]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩

abbrev nBuf : Space → Nat
  | .hbm => 21
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x2048, .bf16⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x2048, .f32⟩
  | .hbm, ⟨19, _⟩ => ⟨S1024x2048, .f32⟩
  | .hbm, ⟨20, _⟩ => ⟨S1024x2048, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S4x8192x1024 : Shape := ⟨3, ![4, 8192, 1024]⟩
abbrev S4x512x8192 : Shape := ⟨3, ![4, 512, 8192]⟩
abbrev S4x8192x3072 : Shape := ⟨3, ![4, 8192, 3072]⟩
abbrev S3x512x1024 : Shape := ⟨3, ![3, 512, 1024]⟩
abbrev S1024x1024 : Shape := ⟨2, ![1024, 1024]⟩
abbrev S1x1024 : Shape := ⟨2, ![1, 1024]⟩
abbrev S4x256x2048 : Shape := ⟨3, ![4, 256, 2048]⟩
abbrev S1x512x1024 : Shape := ⟨3, ![1, 512, 1024]⟩
abbrev S1x512x512 : Shape := ⟨3, ![1, 512, 512]⟩
abbrev S1x512x3072 : Shape := ⟨3, ![1, 512, 3072]⟩
abbrev S1x256x2048 : Shape := ⟨3, ![1, 256, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S512x256 : Shape := ⟨2, ![512, 256]⟩

abbrev nBuf : Space → Nat
  | .hbm => 14
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x512x8192, .f32⟩
  | .hbm, ⟨2, _⟩ => ⟨S4x512x8192, .f32⟩
  | .hbm, ⟨3, _⟩ => ⟨S4x512x8192, .f32⟩
  | .hbm, ⟨4, _⟩ => ⟨S4x8192x3072, .bf16⟩
  | .hbm, ⟨5, _⟩ => ⟨S3x512x1024, .bf16⟩
  | .hbm, ⟨6, _⟩ => ⟨S1024x1024, .bf16⟩
  | .hbm, ⟨7, _⟩ => ⟨S1x1024, .f32⟩
  | .hbm, ⟨8, _⟩ => ⟨S4x256x2048, .bf16⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x3072, .bf16⟩
  | .local _ .vmem, ⟨9, _⟩ => ⟨S1x512x3072, .bf16⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x256x2048, .bf16⟩
  | .local _ .vmem, ⟨14, _⟩ => ⟨S1x256x2048, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeIdeal.lean ====
variable {F : FTy → Type} [FloatOps F] [Named F]
def κ : String → Option EReal := fun
  | "mem_scale" => some (((1 / 16) * (Real.log 2)⁻¹ : ℝ) : EReal)
  | _ => none
-- ==== MergeRefIdeal.lean ====
abbrev S4x8192x1024 : Shape := ⟨3, ![4, 8192, 1024]⟩
abbrev S4x512x8192 : Shape := ⟨3, ![4, 512, 8192]⟩
abbrev S4x8192x3072 : Shape := ⟨3, ![4, 8192, 3072]⟩
abbrev S3x512x1024 : Shape := ⟨3, ![3, 512, 1024]⟩
abbrev S1024x1024 : Shape := ⟨2, ![1024, 1024]⟩
abbrev S1x1024 : Shape := ⟨2, ![1, 1024]⟩
abbrev S4x256x2048 : Shape := ⟨3, ![4, 256, 2048]⟩
abbrev S4x1x512x8192 : Shape := ⟨4, ![4, 1, 512, 8192]⟩
abbrev S4x3x512x8192 : Shape := ⟨4, ![4, 3, 512, 8192]⟩
abbrev S4x8192x3x512 : Shape := ⟨4, ![4, 8192, 3, 512]⟩
abbrev S3x1024x4x8192 : Shape := ⟨4, ![3, 1024, 4, 8192]⟩
abbrev S4x8192x3x1024 : Shape := ⟨4, ![4, 8192, 3, 1024]⟩
abbrev S_ : Shape := ⟨0, ![]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4x256 : Shape := ⟨4, ![4, 8192, 4, 256]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩

abbrev nBuf : Space → Nat
  | .hbm => 113
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x512x8192, .f32⟩
  | .hbm, ⟨2, _⟩ => ⟨S4x512x8192, .f32⟩
  | .hbm, ⟨3, _⟩ => ⟨S4x512x8192, .f32⟩
  | .hbm, ⟨4, _⟩ => ⟨S4x8192x3072, .bf16⟩
  | .hbm, ⟨5, _⟩ => ⟨S3x512x1024, .bf16⟩
  | .hbm, ⟨6, _⟩ => ⟨S1024x1024, .bf16⟩
  | .hbm, ⟨7, _⟩ => ⟨S1x1024, .f32⟩
  | .hbm, ⟨8, _⟩ => ⟨S4x256x2048, .bf16⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S4x1x512x8192, .f32⟩
  | .hbm, ⟨14, _⟩ => ⟨S4x1x512x8192, .f32⟩
  | .hbm, ⟨15, _⟩ => ⟨S4x1x512x8192, .f32⟩
  | .hbm, ⟨16, _⟩ => ⟨S4x3x512x8192, .f32⟩
  | .hbm, ⟨17, _⟩ => ⟨S4x8192x3x512, .f32⟩
  | .hbm, ⟨18, _⟩ => ⟨S3x512x1024, .f32⟩
  | .hbm, ⟨19, _⟩ => ⟨S3x1024x4x8192, .f32⟩
  | .hbm, ⟨20, _⟩ => ⟨S4x8192x3x1024, .f32⟩
  | .hbm, ⟨21, _⟩ => ⟨S4x8192x3072, .f32⟩
  | .hbm, ⟨22, _⟩ => ⟨S4x8192x3x1024, .f32⟩
  | .hbm, ⟨23, _⟩ => ⟨S4x8192x3x1024, .f32⟩
  | .hbm, ⟨24, _⟩ => ⟨S_, .f32⟩
  | .hbm, ⟨25, _⟩ => ⟨S4x8192x1024, .f32⟩
  | .hbm, ⟨26, _⟩ => ⟨S1024x1024, .f32⟩
  | .hbm, ⟨27, _⟩ => ⟨S4x8192x1024, .f32⟩
  | .hbm, ⟨28, _⟩ => ⟨S1024, .f32⟩
  | .hbm, ⟨29, _⟩ => ⟨S4x8192x1024, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x1024, .f32⟩
  | .hbm, ⟨59, _⟩ => ⟨S4x8192x1024, .f32⟩
  | .hbm, ⟨60, _⟩ => ⟨S1x1x1024, .f32⟩
  | .hbm, ⟨61, _⟩ => ⟨S4x8192x1024, .f32⟩
  | .hbm, ⟨62, _⟩ => ⟨S4x8192x1024, .f32⟩
  | .hbm, ⟨63, _⟩ => ⟨S1024x1024, .f32⟩
  | .hbm, ⟨64, _⟩ => ⟨S4x8192x1024, .f32⟩
  | .hbm, ⟨65, _⟩ => ⟨S4x8192x4x256, .f32⟩
  | .hbm, ⟨66, _⟩ => ⟨S4x256x2048, .f32⟩
  | .hbm, ⟨67, _⟩ => ⟨S4x256x2x4x256, .f32⟩
  | .hbm, ⟨68, _⟩ => ⟨S4x256x1x4x256, .f32⟩
  | .hbm, ⟨69, _⟩ => ⟨S4x256x4x256, .f32⟩
  | .hbm, ⟨70, _⟩ => ⟨S4x4x8192x256, .f32⟩
  | .hbm, ⟨71, _⟩ => ⟨S_, .f32⟩
  | .hbm, ⟨72, _⟩ => ⟨S4x4x8192x256, .f32⟩
  | .hbm, ⟨73, _⟩ => ⟨S4x4x8192x256, .f32⟩
  | .hbm, ⟨74, _⟩ => ⟨S_, .f32⟩
  | .hbm, ⟨75, _⟩ => ⟨S4x4x8192, .f32⟩
  | .hbm, ⟨76, _⟩ => ⟨S_, .f32⟩
  | .hbm, ⟨77, _⟩ => ⟨S4x4x8192, .f32⟩
  | .hbm, ⟨78, _⟩ => ⟨S4x4x8192, .f32⟩
  | .hbm, ⟨79, _⟩ => ⟨S4x4x8192x1, .f32⟩
  | .hbm, ⟨80, _⟩ => ⟨S4x4x8192x256, .f32⟩
  | .hbm, ⟨81, _⟩ => ⟨S4x4x8192x256, .f32⟩
  | .hbm, ⟨82, _⟩ => ⟨S4x4x8192x256, .f32⟩
  | .hbm, ⟨83, _⟩ => ⟨S_, .f32⟩
  | .hbm, ⟨84, _⟩ => ⟨S4x4x8192, .f32⟩
  | .hbm, ⟨85, _⟩ => ⟨S4x4x8192x1, .f32⟩
  | .hbm, ⟨86, _⟩ => ⟨S4x4x8192x256, .f32⟩
  | .hbm, ⟨87, _⟩ => ⟨S4x4x8192x256, .f32⟩
  | .hbm, ⟨88, _⟩ => ⟨S4x256x1x4x256, .f32⟩
  | .hbm, ⟨89, _⟩ => ⟨S4x256x4x256, .f32⟩
  | .hbm, ⟨90, _⟩ => ⟨S4x4x256x8192, .f32⟩
  | .hbm, ⟨91, _⟩ => ⟨S4x8192x4x256, .f32⟩
  | .hbm, ⟨92, _⟩ => ⟨S4x8192x1024, .f32⟩
  | .hbm, ⟨93, _⟩ => ⟨S1024x1024, .f32⟩
  | .hbm, ⟨94, _⟩ => ⟨S4x8192x1024, .f32⟩
  | .hbm, ⟨95, _⟩ => ⟨S1024, .f32⟩
  | .hbm, ⟨96, _⟩ => ⟨S4x8192x1024, .f32⟩
  | .hbm, ⟨97, _⟩ => ⟨S_, .f32⟩
  | .hbm, ⟨98, _⟩ => ⟨S4x8192, .f32⟩
  | .hbm, ⟨99, _⟩ => ⟨S4x8192x1, .f32⟩
  | .hbm, ⟨100, _⟩ => ⟨S_, .f32⟩
  | .hbm, ⟨101, _⟩ => ⟨S4x8192x1, .f32⟩
  | .hbm, ⟨102, _⟩ => ⟨S4x8192x1, .f32⟩
  | .hbm, ⟨103, _⟩ => ⟨S_, .f32⟩
  | .hbm, ⟨104, _⟩ => ⟨S4x8192x1, .f32⟩
  | .hbm, ⟨105, _⟩ => ⟨S4x8192x1, .f32⟩
  | .hbm, ⟨106, _⟩ => ⟨S4x8192x1, .f32⟩
  | .hbm, ⟨107, _⟩ => ⟨S4x8192x1024, .f32⟩
  | .hbm, ⟨108, _⟩ => ⟨S4x8192x1024, .f32⟩
  | .hbm, ⟨109, _⟩ => ⟨S1x1x1024, .f32⟩
  | .hbm, ⟨110, _⟩ => ⟨S4x8192x1024, .f32⟩
  | .hbm, ⟨111, _⟩ => ⟨S4x8192x1024, .f32⟩
  | .hbm, ⟨112, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Dift.lean ====
abbrev S4x16x128x8192 : Shape := ⟨4, ![4, 16, 128, 8192]⟩
abbrev S4x8192x512 : Shape := ⟨3, ![4, 8192, 512]⟩
abbrev S4x512x8192 : Shape := ⟨3, ![4, 512, 8192]⟩
abbrev S1x32 : Shape := ⟨2, ![1, 32]⟩
abbrev S64x1 : Shape := ⟨2, ![64, 1]⟩
abbrev S1x2x128x512 : Shape := ⟨4, ![1, 2, 128, 512]⟩
abbrev S1x8192x128 : Shape := ⟨3, ![1, 8192, 128]⟩
abbrev S1x64x8192 : Shape := ⟨3, ![1, 64, 8192]⟩
abbrev S1x64x512 : Shape := ⟨3, ![1, 64, 512]⟩
abbrev S2x256x1024 : Shape := ⟨3, ![2, 256, 1024]⟩
abbrev S8x1024 : Shape := ⟨2, ![8, 1024]⟩
abbrev S2x128x1024 : Shape := ⟨3, ![2, 128, 1024]⟩
abbrev S1x1x128x512 : Shape := ⟨4, ![1, 1, 128, 512]⟩
abbrev S128x512 : Shape := ⟨2, ![128, 512]⟩
abbrev S128x1024 : Shape := ⟨2, ![128, 1024]⟩
abbrev S16x256 : Shape := ⟨2, ![16, 256]⟩
abbrev S1x128x1024 : Shape := ⟨3, ![1, 128, 1024]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩
abbrev S1024 : Shape := ⟨1, ![1024]⟩
abbrev S1x1024 : Shape := ⟨2, ![1, 1024]⟩
abbrev S80x1024 : Shape := ⟨2, ![80, 1024]⟩
abbrev S1x64x256 : Shape := ⟨3, ![1, 64, 256]⟩
abbrev S64x256 : Shape := ⟨2, ![64, 256]⟩
abbrev S80x256 : Shape := ⟨2, ![80, 256]⟩
abbrev S64x1024 : Shape := ⟨2, ![64, 1024]⟩
abbrev S1 : Shape := ⟨1, ![1]⟩
abbrev S1x1 : Shape := ⟨2, ![1, 1]⟩
abbrev S64x512 : Shape := ⟨2, ![64, 512]⟩
abbrev S512 : Shape := ⟨1, ![512]⟩
abbrev S1x512 : Shape := ⟨2, ![1, 512]⟩

abbrev nBuf : Space → Nat
  | .hbm => 9
  | .vmem => 18
  | .smem => 0
  | _ => 0

abbrev bufTy : (tb : Table) → Fin (tcTables nBuf tb) → BufTy
  | .hbm, ⟨0, _⟩ => ⟨S4x16x128x8192, .bf16⟩
  | .hbm, ⟨1, _⟩ => ⟨S4x8192x512, .bf16⟩
  | .hbm, ⟨2, _⟩ => ⟨S4x512x8192, .bf16⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S64x1, .f32⟩
  | .hbm, ⟨8, _⟩ => ⟨S4x512x8192, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S64x1, .f32⟩
  | .local _ .vmem, ⟨5, _⟩ => ⟨S1x2x128x512, .bf16⟩
  | .local _ .vmem, ⟨6, _⟩ => ⟨S1x2x128x512, .bf16⟩
  | .local _ .vmem, ⟨7, _⟩ => ⟨S1x2x128x512, .bf16⟩
  | .local _ .vmem, ⟨8, _⟩ => ⟨S1x2x128x512, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x64x8192, .bf16⟩
  | .local _ .vmem, ⟨12, _⟩ => ⟨S1x64x8192, .bf16⟩
  | .local _ .vmem, ⟨13, _⟩ => ⟨S1x64x512, .f32⟩
  | .local _ .vmem, ⟨14, _⟩ => ⟨S1x64x512, .f32⟩
  | .local _ .vmem, ⟨15, _⟩ => ⟨S2x256x1024, .f32⟩
  | .local _ .vmem, ⟨16, _⟩ => ⟨S8x1024, .f32⟩
  | .local _ .vmem, ⟨17, _⟩ => ⟨S2x128x1024, .bf16⟩
  | _, _ => ⟨S4x16x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![4, 8, 16], ![false, false, false]⟩

def k0_cond1 (i : grid0.Coords) : BitVec 1 :=
  let arg2 : BitVec 32 := BitVec.ofNat 32 (i 2).val
  let c0_i32 : BitVec 32 := 0#32
  let v17 : BitVec 1 := Scalar.cmpi .eq arg2 c0_i32
  let v18 : BitVec 32 := Scalar.extui v17
  let c0_i32_20 : BitVec 32 := 0#32
  let v19 : BitVec 1 := Scalar.cmpi .ne v18 c0_i32_20
  v19

def k0_mult1 : BitVec 32 :=
  let c0_i32_500 : BitVec 32 := 0#32
  c0_i32_500
def k0_mult2 : BitVec 32 :=
  let c256_i32 : BitVec 32 := 256#32
  c256_i32
def k0_mult3 : BitVec 32 :=
  let c0_i32_33 : BitVec 32 := 0#32
  c0_i32_33
def k0_mult4 : BitVec 32 :=
  let c512_i32 : BitVec 32 := 512#32
  c512_i32
def k0_mult5 : BitVec 32 :=
  let c256_i32_47 : BitVec 32 := 256#32
  c256_i32_47
def k0_mult6 : BitVec 32 :=
  let c768_i32 : BitVec 32 := 768#32
  c768_i32
def k0_mult7 : BitVec 32 :=
  let c512_i32_61 : BitVec 32 := 512#32
  c512_i32_61
def k0_mult8 : BitVec 32 :=
  let c1024_i32 : BitVec 32 := 1024#32
  c1024_i32
def k0_mult9 : BitVec 32 :=
  let c768_i32_75 : BitVec 32 := 768#32
  c768_i32_75
def k0_mult10 : BitVec 32 :=
  let c1280_i32 : BitVec 32 := 1280#32
  c1280_i32
def k0_mult11 : BitVec 32 :=
  let c1024_i32_89 : BitVec 32 := 1024#32
  c1024_i32_89
def k0_mult12 : BitVec 32 :=
  let c1536_i32 : BitVec 32 := 1536#32
  c1536_i32
def k0_mult13 : BitVec 32 :=
  let c1280_i32_103 : BitVec 32 := 1280#32
  c1280_i32_103
def k0_mult14 : BitVec 32 :=
  let c1792_i32 : BitVec 32 := 1792#32
  c1792_i32
def k0_mult15 : BitVec 32 :=
  let c1536_i32_117 : BitVec 32 := 1536#32
  c1536_i32_117
def k0_mult16 : BitVec 32 :=
  let c2048_i32 : BitVec 32 := 2048#32
  c2048_i32
def k0_mult17 : BitVec 32 :=
  let c1792_i32_131 : BitVec 32 := 1792#32
  c1792_i32_131
def k0_mult18 : BitVec 32 :=
  let c2304_i32 : BitVec 32 := 2304#32
  c2304_i32
def k0_mult19 : BitVec 32 :=
  let c2048_i32_145 : BitVec 32 := 2048#32
  c2048_i32_145
def k0_mult20 : BitVec 32 :=
  let c2560_i32 : BitVec 32 := 2560#32
  c2560_i32
def k0_mult21 : BitVec 32 :=
  let c2304_i32_159 : BitVec 32 := 2304#32
  c2304_i32_159
def k0_mult22 : BitVec 32 :=
  let c2816_i32 : BitVec 32 := 2816#32
  c2816_i32
def k0_mult23 : BitVec 32 :=
  let c2560_i32_173 : BitVec 32 := 2560#32
  c2560_i32_173
def k0_mult24 : BitVec 32 :=
  let c3072_i32 : BitVec 32 := 3072#32
  c3072_i32
def k0_mult25 : BitVec 32 :=
  let c2816_i32_187 : BitVec 32 := 2816#32
  c2816_i32_187
def k0_mult26 : BitVec 32 :=
  let c3328_i32 : BitVec 32 := 3328#32
  c3328_i32
def k0_mult27 : BitVec 32 :=
  let c3072_i32_201 : BitVec 32 := 3072#32
  c3072_i32_201
def k0_mult28 : BitVec 32 :=
  let c3584_i32 : BitVec 32 := 3584#32
  c3584_i32
def k0_mult29 : BitVec 32 :=
  let c3328_i32_215 : BitVec 32 := 3328#32
  c3328_i32_215
def k0_mult30 : BitVec 32 :=
  let c3840_i32 : BitVec 32 := 3840#32
  c3840_i32
def k0_mult31 : BitVec 32 :=
  let c3584_i32_229 : BitVec 32 := 3584#32
  c3584_i32_229
def k0_mult32 : BitVec 32 :=
  let c4096_i32 : BitVec 32 := 4096#32
  c4096_i32
def k0_mult33 : BitVec 32 :=
  let c3840_i32_243 : BitVec 32 := 3840#32
  c3840_i32_243
def k0_mult34 : BitVec 32 :=
  let c4352_i32 : BitVec 32 := 4352#32
  c4352_i32
def k0_mult35 : BitVec 32 :=
  let c4096_i32_257 : BitVec 32 := 4096#32
  c4096_i32_257
def k0_mult36 : BitVec 32 :=
  let c4608_i32 : BitVec 32 := 4608#32
  c4608_i32
def k0_mult37 : BitVec 32 :=
  let c4352_i32_271 : BitVec 32 := 4352#32
  c4352_i32_271
def k0_mult38 : BitVec 32 :=
  let c4864_i32 : BitVec 32 := 4864#32
  c4864_i32
def k0_mult39 : BitVec 32 :=
  let c4608_i32_285 : BitVec 32 := 4608#32
  c4608_i32_285
def k0_mult40 : BitVec 32 :=
  let c5120_i32 : BitVec 32 := 5120#32
  c5120_i32
def k0_mult41 : BitVec 32 :=
  let c4864_i32_299 : BitVec 32 := 4864#32
  c4864_i32_299
def k0_mult42 : BitVec 32 :=
  let c5376_i32 : BitVec 32 := 5376#32
  c5376_i32
def k0_mult43 : BitVec 32 :=
  let c5120_i32_313 : BitVec 32 := 5120#32
  c5120_i32_313
def k0_mult44 : BitVec 32 :=
  let c5632_i32 : BitVec 32 := 5632#32
  c5632_i32
def k0_mult45 : BitVec 32 :=
  let c5376_i32_327 : BitVec 32 := 5376#32
  c5376_i32_327
def k0_mult46 : BitVec 32 :=
  let c5888_i32 : BitVec 32 := 5888#32
  c5888_i32
def k0_mult47 : BitVec 32 :=
  let c5632_i32_341 : BitVec 32 := 5632#32
  c5632_i32_341
def k0_mult48 : BitVec 32 :=
  let c6144_i32 : BitVec 32 := 6144#32
  c6144_i32
def k0_mult49 : BitVec 32 :=
  let c5888_i32_355 : BitVec 32 := 5888#32
  c5888_i32_355
def k0_mult50 : BitVec 32 :=
  let c6400_i32 : BitVec 32 := 6400#32
  c6400_i32
def k0_mult51 : BitVec 32 :=
  let c6144_i32_369 : BitVec 32 := 6144#32
  c6144_i32_369
def k0_mult52 : BitVec 32 :=
  let c6656_i32 : BitVec 32 := 6656#32
  c6656_i32
def k0_mult53 : BitVec 32 :=
  let c6400_i32_383 : BitVec 32 := 6400#32
  c6400_i32_383
def k0_mult54 : BitVec 32 :=
  let c6912_i32 : BitVec 32 := 6912#32
  c6912_i32
def k0_mult55 : BitVec 32 :=
  let c6656_i32_397 : BitVec 32 := 6656#32
  c6656_i32_397
def k0_mult56 : BitVec 32 :=
  let c7168_i32 : BitVec 32 := 7168#32
  c7168_i32
def k0_mult57 : BitVec 32 :=
  let c6912_i32_411 : BitVec 32 := 6912#32
  c6912_i32_411
def k0_mult58 : BitVec 32 :=
  let c7424_i32 : BitVec 32 := 7424#32
  c7424_i32
def k0_mult59 : BitVec 32 :=
  let c7168_i32_425 : BitVec 32 := 7168#32
  c7168_i32_425
def k0_mult60 : BitVec 32 :=
  let c7680_i32 : BitVec 32 := 7680#32
  c7680_i32
def k0_mult61 : BitVec 32 :=
  let c7424_i32_439 : BitVec 32 := 7424#32
  c7424_i32_439
def k0_mult62 : BitVec 32 :=
  let c7936_i32 : BitVec 32 := 7936#32
  c7936_i32
def k0_mult63 : BitVec 32 :=
  let c7680_i32_453 : BitVec 32 := 7680#32
  c7680_i32_453
def k0_mult64 : BitVec 32 :=
  let c0_i32_463 : BitVec 32 := 0#32
  c0_i32_463
def k0_mult65 : BitVec 32 :=
  let c7936_i32_471 : BitVec 32 := 7936#32
  c7936_i32_471
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  ![arg0.toNat, arg1.toNat, c0_i32.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x64x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== DiftRefIdeal.lean ====
abbrev S4x16x128x8192 : Shape := ⟨4, ![4, 16, 128, 8192]⟩
abbrev S4x8192x512 : Shape := ⟨3, ![4, 8192, 512]⟩
abbrev S4x512x8192 : Shape := ⟨3, ![4, 512, 8192]⟩
abbrev S1x32 : Shape := ⟨2, ![1, 32]⟩
abbrev S64x1 : Shape := ⟨2, ![64, 1]⟩
abbrev S4x4x4x128x8192 : Shape := ⟨5, ![4, 4, 4, 128, 8192]⟩
abbrev S4x8192x4x128 : Shape := ⟨4, ![4, 8192, 4, 128]⟩
abbrev S4x8x64x8192 : Shape := ⟨4, ![4, 8, 64, 8192]⟩
abbrev S_ : Shape := ⟨0, ![]⟩
abbrev S4x4x4x8192x8192 : Shape := ⟨5, ![4, 4, 4, 8192, 8192]⟩
abbrev S4x4x4x8192 : Shape := ⟨4, ![4, 4, 4, 8192]⟩
abbrev S4x4x4x8192x1 : Shape := ⟨5, ![4, 4, 4, 8192, 1]⟩
abbrev S4x8x2x8192x8192 : Shape := ⟨5, ![4, 8, 2, 8192, 8192]⟩
abbrev S4x8x1x8192x8192 : Shape := ⟨5, ![4, 8, 1, 8192, 8192]⟩
abbrev S4x8x8192x8192 : Shape := ⟨4, ![4, 8, 8192, 8192]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩

abbrev nBuf : Space → Nat
  | .hbm => 76
  | .vmem => 0
  | .smem => 0
  | _ => 0

abbrev bufTy : (tb : Table) → Fin (tcTables nBuf tb) → BufTy
  | .hbm, ⟨0, _⟩ => ⟨S4x16x128x8192, .bf16⟩
  | .hbm, ⟨1, _⟩ => ⟨S4x8192x512, .bf16⟩
  | .hbm, ⟨2, _⟩ => ⟨S4x512x8192, .bf16⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S64x1, .f32⟩
  | .hbm, ⟨8, _⟩ => ⟨S4x16x128x8192, .f32⟩
  | .hbm, ⟨9, _⟩ => ⟨S4x4x4x128x8192, .f32⟩
  | .hbm, ⟨10, _⟩ => ⟨S4x8192x512, .f32⟩
  | .hbm, ⟨11, _⟩ => ⟨S4x8192x4x128, .f32⟩
  | .hbm, ⟨12, _⟩ => ⟨S4x512x8192, .f32⟩
  | .hbm, ⟨13, _⟩ => ⟨S4x8x64x8192, .f32⟩
  | .hbm, ⟨14, _⟩ => ⟨S1x32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4x4x8192x8192, .f32⟩
  | .hbm, ⟨26, _⟩ => ⟨S_, .f32⟩
  | .hbm, ⟨27, _⟩ => ⟨S_, .f32⟩
  | .hbm, ⟨28, _⟩ => ⟨S4x4x4x8192x8192, .f32⟩
  | .hbm, ⟨29, _⟩ => ⟨S4x4x4x8192x8192, .f32⟩
  | .hbm, ⟨30, _⟩ => ⟨S_, .f32⟩
  | .hbm, ⟨31, _⟩ => ⟨S4x4x4x8192, .f32⟩
  | .hbm, ⟨32, _⟩ => ⟨S_, .f32⟩
  | .hbm, ⟨33, _⟩ => ⟨S4x4x4x8192, .f32⟩
  | .hbm, ⟨34, _⟩ => ⟨S4x4x4x8192, .f32⟩
  | .hbm, ⟨35, _⟩ => ⟨S4x4x4x8192x1, .f32⟩
  | .hbm, ⟨36, _⟩ => ⟨S4x4x4x8192x8192, .f32⟩
  | .hbm, ⟨37, _⟩ => ⟨S4x4x4x8192x8192, .f32⟩
  | .hbm, ⟨38, _⟩ => ⟨S4x4x4x8192x8192, .f32⟩
  | .hbm, ⟨39, _⟩ => ⟨S_, .f32⟩
  | .hbm, ⟨40, _⟩ => ⟨S4x4x4x8192, .f32⟩
  | .hbm, ⟨41, _⟩ => ⟨S4x4x4x8192x1, .f32⟩
  | .hbm, ⟨42, _⟩ => ⟨S4x4x4x8192x8192, .f32⟩
  | .hbm, ⟨43, _⟩ => ⟨S4x4x4x8192x8192, .f32⟩
  | .hbm, ⟨44, _⟩ => ⟨S4x8x2x8192x8192, .f32⟩
  | .hbm, ⟨45, _⟩ => ⟨S4x8x1x8192x8192, .f32⟩
  | .hbm, ⟨46, _⟩ => ⟨S4x8x8192x8192, .f32⟩
  | .hbm, ⟨47, _⟩ => ⟨S4x8x1x8192x8192, .f32⟩
  | .hbm, ⟨48, _⟩ => ⟨S4x8x8192x8192, .f32⟩
  | .hbm, ⟨49, _⟩ => ⟨S4x8x8192x8192, .f32⟩
  | .hbm, ⟨50, _⟩ => ⟨S4x8x8192x8192, .f32⟩
  | .hbm, ⟨51, _⟩ => ⟨S4x8x8192x8192, .f32⟩
  | .hbm, ⟨52, _⟩ => ⟨S4x8x64x8192, .f32⟩
  | .hbm, ⟨53, _⟩ => ⟨S4x8192x8x64, .f32⟩
  | .hbm, ⟨54, _⟩ => ⟨S64, .f32⟩
  | .hbm, ⟨55, _⟩ => ⟨S4x8192x8x64, .f32⟩
  | .hbm, ⟨56, _⟩ => ⟨S_, .f32⟩
  | .hbm, ⟨57, _⟩ => ⟨S4x8192x8, .f32⟩
  | .hbm, ⟨58, _⟩ => ⟨S4x8192x8x1, .f32⟩
  | .hbm, ⟨59, _⟩ => ⟨S_, .f32⟩
  | .hbm, ⟨60, _⟩ => ⟨S4x8192x8x1, .f32⟩
  | .hbm, ⟨61, _⟩ => ⟨S4x8192x8x1, .f32⟩
  | .hbm, ⟨62, _⟩ => ⟨S_, .f32⟩
  | .hbm, ⟨63, _⟩ => ⟨S4x8192x8x1, .f32⟩
  | .hbm, ⟨64, _⟩ => ⟨S4x8192x8x1, .f32⟩
  | .hbm, ⟨65, _⟩ => ⟨S4x8192x8x1, .f32⟩
  | .hbm, ⟨66, _⟩ => ⟨S4x8192x8x64, .f32⟩
  | .hbm, ⟨67, _⟩ => ⟨S4x8192x8x64, .f32⟩
  | .hbm, ⟨68, _⟩ => ⟨S1x1x1x64, .f32⟩
  | .hbm, ⟨69, _⟩ => ⟨S4x8192x8x64, .f32⟩
  | .hbm, ⟨70, _⟩ => ⟨S4x8192x8x64, .f32⟩
  | .hbm, ⟨71, _⟩ => ⟨S_, .f32⟩
  | .hbm, ⟨72, _⟩ => ⟨S4x8192x8x64, .f32⟩
  | .hbm, ⟨73, _⟩ => ⟨S4x8192x8x64, .f32⟩
  | .hbm, ⟨74, _⟩ => ⟨S4x8x64x8192, .f32⟩
  | .hbm, ⟨75, _⟩ => ⟨S4x512x8192, .f32⟩
  | _, _ => ⟨S4x16x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Prep.lean ====
abbrev S4x8192x1024 : Shape := ⟨3, ![4, 8192, 1024]⟩
abbrev S1x1024 : Shape := ⟨2, ![1, 1024]⟩
abbrev S2976x1024 : Shape := ⟨2, ![2976, 1024]⟩
abbrev S1024x3072 : Shape := ⟨2, ![1024, 3072]⟩
abbrev S768x384 : Shape := ⟨2, ![768, 384]⟩
abbrev S1024x256 : Shape := ⟨2, ![1024, 256]⟩
abbrev S384x1 : Shape := ⟨2, ![384, 1]⟩
abbrev S256x1 : Shape := ⟨2, ![256, 1]⟩
abbrev S64x1 : Shape := ⟨2, ![64, 1]⟩
abbrev S128x8192 : Shape := ⟨2, ![128, 8192]⟩
abbrev S32x8192 : Shape := ⟨2, ![32, 8192]⟩
abbrev S64x8192 : Shape := ⟨2, ![64, 8192]⟩
abbrev S4x8x128x8192 : Shape := ⟨4, ![4, 8, 128, 8192]⟩
abbrev S4x512x8192 : Shape := ⟨3, ![4, 512, 8192]⟩
abbrev S4x8192x128 : Shape := ⟨3, ![4, 8192, 128]⟩
abbrev S4x128x8192 : Shape := ⟨3, ![4, 128, 8192]⟩
abbrev S4x16x128x8192 : Shape := ⟨4, ![4, 16, 128, 8192]⟩
abbrev S4x8192x512 : Shape := ⟨3, ![4, 8192, 512]⟩
abbrev S4x8192x3072 : Shape := ⟨3, ![4, 8192, 3072]⟩
abbrev S1x512x1024 : Shape := ⟨3, ![1, 512, 1024]⟩
abbrev S128x512 : Shape := ⟨2, ![128, 512]⟩
abbrev S32x512 : Shape := ⟨2, ![32, 512]⟩
abbrev S64x512 : Shape := ⟨2, ![64, 512]⟩
abbrev S1x8x128x512 : Shape := ⟨4, ![1, 8, 128, 512]⟩
abbrev S1x512x512 : Shape := ⟨3, ![1, 512, 512]⟩
abbrev S1x512x128 : Shape := ⟨3, ![1, 512, 128]⟩
abbrev S1x128x512 : Shape := ⟨3, ![1, 128, 512]⟩
abbrev S1x16x128x512 : Shape := ⟨4, ![1, 16, 128, 512]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S2976x512 : Shape := ⟨2, ![2976, 512]⟩
abbrev S512x3072 : Shape := ⟨2, ![512, 3072]⟩
abbrev S384x512 : Shape := ⟨2, ![384, 512]⟩
abbrev S1x512 : Shape := ⟨2, ![1, 512]⟩
abbrev S768x512 : Shape := ⟨2, ![768, 512]⟩
abbrev S512x512 : Shape := ⟨2, ![512, 512]⟩
abbrev S16x512 : Shape := ⟨2, ![16, 512]⟩
abbrev S1x1x128x512 : Shape := ⟨4, ![1, 1, 128, 512]⟩
abbrev S256x512 : Shape := ⟨2, ![256, 512]⟩
abbrev S1024x512 : Shape := ⟨2, ![1024, 512]⟩
abbrev S512x128 : Shape := ⟨2, ![512, 128]⟩
abbrev S8x512 : Shape := ⟨2, ![8, 512]⟩
abbrev S48x512 : Shape := ⟨2, ![48, 512]⟩

abbrev nBuf : Space → Nat
  | .hbm => 26
  | .vmem => 43
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S2976x1024, .bf16⟩
  | .hbm, ⟨3, _⟩ => ⟨S1024x3072, .bf16⟩
  | .hbm, ⟨4, _⟩ => ⟨S768x384, .bf16⟩
  | .hbm, ⟨5, _⟩ => ⟨S1024x256, .bf16⟩
  | .hbm, ⟨6, _⟩ => ⟨S384x1, .f32⟩
  | .hbm, ⟨7, _⟩ => ⟨S256x1, .f32⟩
  | .hbm, ⟨8, _⟩ => ⟨S64x1, .f32⟩
  | .hbm, ⟨9, _⟩ => ⟨S64x1, .f32⟩
  | .hbm, ⟨10, _⟩ => ⟨S128x8192, .f32⟩
  | .hbm, ⟨11, _⟩ => ⟨S128x8192, .f32⟩
  | .hbm, ⟨12, _⟩ => ⟨S32x8192, .f32⟩
  | .hbm, ⟨13, _⟩ => ⟨S32x8192, .f32⟩
  | .hbm, ⟨14, _⟩ => ⟨S64x8192, .f32⟩
  | .hbm, ⟨15, _⟩ => ⟨S64x8192, .f32⟩
  | .hbm, ⟨16, _⟩ => ⟨S4x8x128x8192, .bf16⟩
  | .hbm, ⟨17, _⟩ => ⟨S4x8192x1024, .bf16⟩
  | .hbm, ⟨18, _⟩ => ⟨S4x512x8192, .bf16⟩
  | .hbm, ⟨19, _⟩ => ⟨S4x8x128x8192, .bf16⟩
  | .hbm, ⟨20, _⟩ => ⟨S4x8192x128, .bf16⟩
  | .hbm, ⟨21, _⟩ => ⟨S4x128x8192, .bf16⟩
  | .hbm, ⟨22, _⟩ => ⟨S4x16x128x8192, .bf16⟩
  | .hbm, ⟨23, _⟩ => ⟨S4x8192x512, .bf16⟩
  | .hbm, ⟨24, _⟩ => ⟨S4x512x8192, .bf16⟩
  | .hbm, ⟨25, _⟩ => ⟨S4x8192x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S2976x1024, .bf16⟩
  | .local _ .vmem, ⟨4, _⟩ => ⟨S1024x3072, .bf16⟩
  | .local _ .vmem, ⟨5, _⟩ => ⟨S768x384, .bf16⟩
  | .local _ .vmem, ⟨6, _⟩ => ⟨S1024x256, .bf16⟩
  | .local _ .vmem, ⟨7, _⟩ => ⟨S384x1, .f32⟩
  | .local _ .vmem, ⟨8, _⟩ => ⟨S256x1, .f32⟩
  | .local _ .vmem, ⟨9, _⟩ => ⟨S64x1, .f32⟩
  | .local _ .vmem, ⟨10, _⟩ => ⟨S64x1, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S1x8x128x512, .bf16⟩
  | .local _ .vmem, ⟨24, _⟩ => ⟨S1x8x128x512, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x512, .bf16⟩
  | .local _ .vmem, ⟨28, _⟩ => ⟨S1x512x512, .bf16⟩
  | .local _ .vmem, ⟨29, _⟩ => ⟨S1x8x128x512, .bf16⟩
  | .local _ .vmem, ⟨30, _⟩ => ⟨S1x8x128x512, .bf16⟩
  | .local _ .vmem, ⟨31, _⟩ => ⟨S1x512x128, .bf16⟩
  | .local _ .vmem, ⟨32, _⟩ => ⟨S1x512x128, .bf16⟩
  | .local _ .vmem, ⟨33, _⟩ => ⟨S1x128x512, .bf16⟩
  | .local _ .vmem, ⟨34, _⟩ => ⟨S1x128x512, .bf16⟩
  | .local _ .vmem, ⟨35, _⟩ => ⟨S1x16x128x512, .bf16⟩
  | .local _ .vmem, ⟨36, _⟩ => ⟨S1x16x128x512, .bf16⟩
  | .local _ .vmem, ⟨37, _⟩ => ⟨S1x512x512, .bf16⟩
  | .local _ .vmem, ⟨38, _⟩ => ⟨S1x512x512, .bf16⟩
  | .local _ .vmem, ⟨39, _⟩ => ⟨S1x512x512, .bf16⟩
  | .local _ .vmem, ⟨40, _⟩ => ⟨S1x512x512, .bf16⟩
  | .local _ .vmem, ⟨41, _⟩ => ⟨S1x512x3072, .bf16⟩
  | .local _ .vmem, ⟨42, _⟩ => ⟨S1x512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2976x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x8x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x128x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x16x128x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x3072 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== PrepRefIdeal.lean ====
abbrev S4x8192x1024 : Shape := ⟨3, ![4, 8192, 1024]⟩
abbrev S1x1024 : Shape := ⟨2, ![1, 1024]⟩
abbrev S2976x1024 : Shape := ⟨2, ![2976, 1024]⟩
abbrev S1024x3072 : Shape := ⟨2, ![1024, 3072]⟩
abbrev S768x384 : Shape := ⟨2, ![768, 384]⟩
abbrev S1024x256 : Shape := ⟨2, ![1024, 256]⟩
abbrev S384x1 : Shape := ⟨2, ![384, 1]⟩
abbrev S256x1 : Shape := ⟨2, ![256, 1]⟩
abbrev S64x1 : Shape := ⟨2, ![64, 1]⟩
abbrev S128x8192 : Shape := ⟨2, ![128, 8192]⟩
abbrev S32x8192 : Shape := ⟨2, ![32, 8192]⟩
abbrev S64x8192 : Shape := ⟨2, ![64, 8192]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2976 : Shape := ⟨2, ![1024, 2976]⟩
abbrev S4x8192x2976 : Shape := ⟨3, ![4, 8192, 2976]⟩
abbrev S4x8192x3072 : Shape := ⟨3, ![4, 8192, 3072]⟩
abbrev S4x8192x384 : Shape := ⟨3, ![4, 8192, 384]⟩
abbrev S384 : Shape := ⟨1, ![384]⟩
abbrev S1x1x384 : Shape := ⟨3, ![1, 1, 384]⟩
abbrev S384x768 : Shape := ⟨2, ![384, 768]⟩
abbrev S4x8192x768 : Shape := ⟨3, ![4, 8192, 768]⟩
abbrev S4x8192x128 : Shape := ⟨3, ![4, 8192, 128]⟩
abbrev S4x8192x8x16 : Shape := ⟨4, ![4, 8192, 8, 16]⟩
abbrev S8192x128 : Shape := ⟨2, ![8192, 128]⟩
abbrev S8192x8x16 : Shape := ⟨3, ![8192, 8, 16]⟩
abbrev S1x8192x8x16 : Shape := ⟨4, ![1, 8192, 8, 16]⟩
abbrev S4x8192x8x32 : Shape := ⟨4, ![4, 8192, 8, 32]⟩
abbrev S4x8192x512 : Shape := ⟨3, ![4, 8192, 512]⟩
abbrev S4x8192x8x64 : Shape := ⟨4, ![4, 8192, 8, 64]⟩
abbrev S4x8192x8x96 : Shape := ⟨4, ![4, 8192, 8, 96]⟩
abbrev S4x8192x8x128 : Shape := ⟨4, ![4, 8192, 8, 128]⟩
abbrev S4x8x128x8192 : Shape := ⟨4, ![4, 8, 128, 8192]⟩
abbrev S4x8192x256 : Shape := ⟨3, ![4, 8192, 256]⟩
abbrev S256 : Shape := ⟨1, ![256]⟩
abbrev S1x1x256 : Shape := ⟨3, ![1, 1, 256]⟩
abbrev S256x1024 : Shape := ⟨2, ![256, 1024]⟩
abbrev S4x8192x16 : Shape := ⟨3, ![4, 8192, 16]⟩
abbrev S16x8192 : Shape := ⟨2, ![16, 8192]⟩
abbrev S8192x16 : Shape := ⟨2, ![8192, 16]⟩
abbrev S1x8192x16 : Shape := ⟨3, ![1, 8192, 16]⟩
abbrev S4x8192x32 : Shape := ⟨3, ![4, 8192, 32]⟩
abbrev S4x8192x1x32 : Shape := ⟨4, ![4, 8192, 1, 32]⟩
abbrev S4x512x8192 : Shape := ⟨3, ![4, 512, 8192]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S8192x32 : Shape := ⟨2, ![8192, 32]⟩
abbrev S8192x1x32 : Shape := ⟨3, ![8192, 1, 32]⟩
abbrev S1x8192x1x32 : Shape := ⟨4, ![1, 8192, 1, 32]⟩
abbrev S4x8192x4x64 : Shape := ⟨4, ![4, 8192, 4, 64]⟩
abbrev S4x8192x4x128 : Shape := ⟨4, ![4, 8192, 4, 128]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S4x128x8192 : Shape := ⟨3, ![4, 128, 8192]⟩
abbrev S4x8192x64 : Shape := ⟨3, ![4, 8192, 64]⟩
abbrev S8192x64 : Shape := ⟨2, ![8192, 64]⟩
abbrev S1x8192x64 : Shape := ⟨3, ![1, 8192, 64]⟩
abbrev S4x8192x8x2x4 : Shape := ⟨5, ![4, 8192, 8, 2, 4]⟩
abbrev S4x8192x8x2x24 : Shape := ⟨5, ![4, 8192, 8, 2, 24]⟩
abbrev S4x8192x8x1x4 : Shape := ⟨5, ![4, 8192, 8, 1, 4]⟩
abbrev S4x8192x8x4 : Shape := ⟨4, ![4, 8192, 8, 4]⟩
abbrev S4x8192x8x1x24 : Shape := ⟨5, ![4, 8192, 8, 1, 24]⟩
abbrev S4x8192x8x24 : Shape := ⟨4, ![4, 8192, 8, 24]⟩
abbrev S4x8192x8x1x64 : Shape := ⟨5, ![4, 8192, 8, 1, 64]⟩
abbrev S4x8192x8x2x64 : Shape := ⟨5, ![4, 8192, 8, 2, 64]⟩
abbrev S4x8192x4x2x2x64 : Shape := ⟨6, ![4, 8192, 4, 2, 2, 64]⟩
abbrev S4x8192x4x1x2x64 : Shape := ⟨6, ![4, 8192, 4, 1, 2, 64]⟩
abbrev S4x8192x4x1x2x128 : Shape := ⟨6, ![4, 8192, 4, 1, 2, 128]⟩
abbrev S4x8192x4x2x2x128 : Shape := ⟨6, ![4, 8192, 4, 2, 2, 128]⟩
abbrev S4x8192x16x128 : Shape := ⟨4, ![4, 8192, 16, 128]⟩
abbrev S4x16x128x8192 : Shape := ⟨4, ![4, 16, 128, 8192]⟩
abbrev S4x8192x8x8 : Shape := ⟨4, ![4, 8192, 8, 8]⟩
abbrev S4x8192x8x48 : Shape := ⟨4, ![4, 8192, 8, 48]⟩

abbrev nBuf : Space → Nat
  | .hbm => 365
  | .vmem => 0
  | .smem => 0
  | _ => 0

abbrev hbmTy0_0 (i : Nat) : BufTy := match i % 128 with
  | 0 => ⟨S4x8192x1024, .f32⟩
  | 1 => ⟨S1x1024, .f32⟩
  | 2 => ⟨S2976x1024, .bf16⟩
  | 3 => ⟨S1024x3072, .bf16⟩
  | 4 => ⟨S768x384, .bf16⟩
  | 5 => ⟨S1024x256, .bf16⟩
  | 6 => ⟨S384x1, .f32⟩
  | 7 => ⟨S256x1, .f32⟩
  | 8 => ⟨S64x1, .f32⟩
  | 9 => ⟨S64x1, .f32⟩
  | 10 => ⟨S128x8192, .f32⟩
  | 11 => ⟨S128x8192, .f32⟩
  | 12 => ⟨S32x8192, .f32⟩
  | 13 => ⟨S32x8192, .f32⟩
  | 14 => ⟨S64x8192, .f32⟩
  | 15 => ⟨S64x8192, .f32⟩
  | 16 => ⟨S1024, .f32⟩
  | 17 => ⟨S4x8192x1024, .f32⟩
  | 18 => ⟨S_, .f32⟩
  | 19 => ⟨S4x8192, .f32⟩
  | 20 => ⟨S4x8192x1, .f32⟩
  | 21 => ⟨S_, .f32⟩
  | 22 => ⟨S4x8192x1, .f32⟩
  | 23 => ⟨S4x8192x1, .f32⟩
  | 24 => ⟨S_, .f32⟩
  | 25 => ⟨S4x8192x1, .f32⟩
  | 26 => ⟨S4x8192x1, .f32⟩
  | 27 => ⟨S4x8192x1, .f32⟩
  | 28 => ⟨S4x8192x1024, .f32⟩
  | 29 => ⟨S4x8192x1024, .f32⟩
  | 30 => ⟨S1x1x1024, .f32⟩
  | 31 => ⟨S4x8192x1024, .f32⟩
  | 32 => ⟨S4x8192x1024, .f32⟩
  | 33 => ⟨S2976x1024, .f32⟩
  | 34 => ⟨S1024x2976, .f32⟩
  | 35 => ⟨S4x8192x2976, .f32⟩
  | 36 => ⟨S1024x3072, .f32⟩
  | 37 => ⟨S4x8192x3072, .f32⟩
  | 38 => ⟨S4x8192x3072, .f32⟩
  | 39 => ⟨S4x8192x3072, .f32⟩
  | 40 => ⟨S_, .f32⟩
  | 41 => ⟨S4x8192x3072, .f32⟩
  | 42 => ⟨S4x8192x3072, .f32⟩
  | 43 => ⟨S_, .f32⟩
  | 44 => ⟨S4x8192x3072, .f32⟩
  | 45 => ⟨S4x8192x3072, .f32⟩
  | 46 => ⟨S4x8192x384, .f32⟩
  | 47 => ⟨S384, .f32⟩
  | 48 => ⟨S4x8192x384, .f32⟩
  | 49 => ⟨S_, .f32⟩
  | 50 => ⟨S4x8192, .f32⟩
  | 51 => ⟨S4x8192x1, .f32⟩
  | 52 => ⟨S_, .f32⟩
  | 53 => ⟨S4x8192x1, .f32⟩
  | 54 => ⟨S4x8192x1, .f32⟩
  | 55 => ⟨S_, .f32⟩
  | 56 => ⟨S4x8192x1, .f32⟩
  | 57 => ⟨S4x8192x1, .f32⟩
  | 58 => ⟨S4x8192x1, .f32⟩
  | 59 => ⟨S4x8192x384, .f32⟩
  | 60 => ⟨S4x8192x384, .f32⟩
  | 61 => ⟨S1x1x384, .f32⟩
  | 62 => ⟨S4x8192x384, .f32⟩
  | 63 => ⟨S4x8192x384, .f32⟩
  | 64 => ⟨S768x384, .f32⟩
  | 65 => ⟨S384x768, .f32⟩
  | 66 => ⟨S4x8192x768, .f32⟩
  | 67 => ⟨S4x8192x128, .f32⟩
  | 68 => ⟨S4x8192x8x16, .f32⟩
  | 69 => ⟨S4x8192x128, .f32⟩
  | 70 => ⟨S4x8192x8x16, .f32⟩
  | 71 => ⟨S8192x128, .f32⟩
  | 72 => ⟨S8192x8x16, .f32⟩
  | 73 => ⟨S8192x128, .f32⟩
  | 74 => ⟨S8192x8x16, .f32⟩
  | 75 => ⟨S1x8192x8x16, .f32⟩
  | 76 => ⟨S4x8192x8x16, .f32⟩
  | 77 => ⟨S4x8192x8x16, .f32⟩
  | 78 => ⟨S1x8192x8x16, .f32⟩
  | 79 => ⟨S4x8192x8x16, .f32⟩
  | 80 => ⟨S4x8192x8x16, .f32⟩
  | 81 => ⟨S4x8192x8x16, .f32⟩
  | 82 => ⟨S1x8192x8x16, .f32⟩
  | 83 => ⟨S4x8192x8x16, .f32⟩
  | 84 => ⟨S4x8192x8x16, .f32⟩
  | 85 => ⟨S1x8192x8x16, .f32⟩
  | 86 => ⟨S4x8192x8x16, .f32⟩
  | 87 => ⟨S4x8192x8x16, .f32⟩
  | 88 => ⟨S4x8192x8x16, .f32⟩
  | 89 => ⟨S4x8192x8x32, .f32⟩
  | 90 => ⟨S4x8192x512, .f32⟩
  | 91 => ⟨S4x8192x8x64, .f32⟩
  | 92 => ⟨S4x8192x8x96, .f32⟩
  | 93 => ⟨S_, .f32⟩
  | 94 => ⟨S4x8192x8x96, .f32⟩
  | 95 => ⟨S4x8192x8x96, .f32⟩
  | 96 => ⟨S_, .f32⟩
  | 97 => ⟨S4x8192x8x32, .f32⟩
  | 98 => ⟨S4x8192x8x128, .f32⟩
  | 99 => ⟨S4x8x128x8192, .f32⟩
  | 100 => ⟨S4x8192x256, .f32⟩
  | 101 => ⟨S256, .f32⟩
  | 102 => ⟨S4x8192x256, .f32⟩
  | 103 => ⟨S_, .f32⟩
  | 104 => ⟨S4x8192, .f32⟩
  | 105 => ⟨S4x8192x1, .f32⟩
  | 106 => ⟨S_, .f32⟩
  | 107 => ⟨S4x8192x1, .f32⟩
  | 108 => ⟨S4x8192x1, .f32⟩
  | 109 => ⟨S_, .f32⟩
  | 110 => ⟨S4x8192x1, .f32⟩
  | 111 => ⟨S4x8192x1, .f32⟩
  | 112 => ⟨S4x8192x1, .f32⟩
  | 113 => ⟨S4x8192x256, .f32⟩
  | 114 => ⟨S4x8192x256, .f32⟩
  | 115 => ⟨S1x1x256, .f32⟩
  | 116 => ⟨S4x8192x256, .f32⟩
  | 117 => ⟨S4x8192x256, .f32⟩
  | 118 => ⟨S1024x256, .f32⟩
  | 119 => ⟨S256x1024, .f32⟩
  | 120 => ⟨S4x8192x1024, .f32⟩
  | 121 => ⟨S4x8192x16, .f32⟩
  | 122 => ⟨S4x8192x16, .f32⟩
  | 123 => ⟨S16x8192, .f32⟩
  | 124 => ⟨S8192x16, .f32⟩
  | 125 => ⟨S16x8192, .f32⟩
  | 126 => ⟨S8192x16, .f32⟩
  | 127 => ⟨S1x8192x16, .f32⟩
  | _ => ⟨S4x8192x1024, .f32⟩

abbrev hbmTy0_1 (i : Nat) : BufTy := match i % 128 with
  | 0 => ⟨S4x8192x16, .f32⟩
  | 1 => ⟨S4x8192x16, .f32⟩
  | 2 => ⟨S1x8192x16, .f32⟩
  | 3 => ⟨S4x8192x16, .f32⟩
  | 4 => ⟨S4x8192x16, .f32⟩
  | 5 => ⟨S4x8192x16, .f32⟩
  | 6 => ⟨S1x8192x16, .f32⟩
  | 7 => ⟨S4x8192x16, .f32⟩
  | 8 => ⟨S4x8192x16, .f32⟩
  | 9 => ⟨S1x8192x16, .f32⟩
  | 10 => ⟨S4x8192x16, .f32⟩
  | 11 => ⟨S4x8192x16, .f32⟩
  | 12 => ⟨S4x8192x16, .f32⟩
  | 13 => ⟨S4x8192x32, .f32⟩
  | 14 => ⟨S4x8192x1x32, .f32⟩
  | 15 => ⟨S4x8192x8x32, .f32⟩
  | 16 => ⟨S4x8192x512, .f32⟩
  | 17 => ⟨S4x8192x8x64, .f32⟩
  | 18 => ⟨S_, .f32⟩
  | 19 => ⟨S4x8192x8x32, .f32⟩
  | 20 => ⟨S4x8192x8x128, .f32⟩
  | 21 => ⟨S4x8192x1024, .f32⟩
  | 22 => ⟨S4x8192x512, .f32⟩
  | 23 => ⟨S4x512x8192, .f32⟩
  | 24 => ⟨S4x8192x512, .f32⟩
  | 25 => ⟨S4x8192x8x64, .f32⟩
  | 26 => ⟨S64, .f32⟩
  | 27 => ⟨S4x8192x8x64, .f32⟩
  | 28 => ⟨S_, .f32⟩
  | 29 => ⟨S4x8192x8, .f32⟩
  | 30 => ⟨S4x8192x8x1, .f32⟩
  | 31 => ⟨S_, .f32⟩
  | 32 => ⟨S4x8192x8x1, .f32⟩
  | 33 => ⟨S4x8192x8x1, .f32⟩
  | 34 => ⟨S_, .f32⟩
  | 35 => ⟨S4x8192x8x1, .f32⟩
  | 36 => ⟨S4x8192x8x1, .f32⟩
  | 37 => ⟨S4x8192x8x1, .f32⟩
  | 38 => ⟨S4x8192x8x64, .f32⟩
  | 39 => ⟨S4x8192x8x64, .f32⟩
  | 40 => ⟨S1x1x1x64, .f32⟩
  | 41 => ⟨S4x8192x8x64, .f32⟩
  | 42 => ⟨S4x8192x8x64, .f32⟩
  | 43 => ⟨S4x8192x8x32, .f32⟩
  | 44 => ⟨S4x8192x8x32, .f32⟩
  | 45 => ⟨S8192x32, .f32⟩
  | 46 => ⟨S8192x1x32, .f32⟩
  | 47 => ⟨S8192x32, .f32⟩
  | 48 => ⟨S8192x1x32, .f32⟩
  | 49 => ⟨S1x8192x1x32, .f32⟩
  | 50 => ⟨S4x8192x8x32, .f32⟩
  | 51 => ⟨S4x8192x8x32, .f32⟩
  | 52 => ⟨S1x8192x1x32, .f32⟩
  | 53 => ⟨S4x8192x8x32, .f32⟩
  | 54 => ⟨S4x8192x8x32, .f32⟩
  | 55 => ⟨S4x8192x8x32, .f32⟩
  | 56 => ⟨S1x8192x1x32, .f32⟩
  | 57 => ⟨S4x8192x8x32, .f32⟩
  | 58 => ⟨S4x8192x8x32, .f32⟩
  | 59 => ⟨S1x8192x1x32, .f32⟩
  | 60 => ⟨S4x8192x8x32, .f32⟩
  | 61 => ⟨S4x8192x8x32, .f32⟩
  | 62 => ⟨S4x8192x8x32, .f32⟩
  | 63 => ⟨S4x8192x8x64, .f32⟩
  | 64 => ⟨S_, .f32⟩
  | 65 => ⟨S4x8192x8x64, .f32⟩
  | 66 => ⟨S4x8192x8x64, .f32⟩
  | 67 => ⟨S4x8192x4x64, .f32⟩
  | 68 => ⟨S_, .f32⟩
  | 69 => ⟨S4x8192x4x64, .f32⟩
  | 70 => ⟨S4x8192x4x128, .f32⟩
  | 71 => ⟨S_, .f32⟩
  | 72 => ⟨S4x8192x4x64, .f32⟩
  | 73 => ⟨S4x8192x4x64, .f32⟩
  | 74 => ⟨S4x8192x4x128, .f32⟩
  | 75 => ⟨S4x8192x8x128, .f32⟩
  | 76 => ⟨S4x8x128x8192, .f32⟩
  | 77 => ⟨S4x8192x128, .f32⟩
  | 78 => ⟨S4x8192x2x64, .f32⟩
  | 79 => ⟨S64, .f32⟩
  | 80 => ⟨S4x8192x2x64, .f32⟩
  | 81 => ⟨S_, .f32⟩
  | 82 => ⟨S4x8192x2, .f32⟩
  | 83 => ⟨S4x8192x2x1, .f32⟩
  | 84 => ⟨S_, .f32⟩
  | 85 => ⟨S4x8192x2x1, .f32⟩
  | 86 => ⟨S4x8192x2x1, .f32⟩
  | 87 => ⟨S_, .f32⟩
  | 88 => ⟨S4x8192x2x1, .f32⟩
  | 89 => ⟨S4x8192x2x1, .f32⟩
  | 90 => ⟨S4x8192x2x1, .f32⟩
  | 91 => ⟨S4x8192x2x64, .f32⟩
  | 92 => ⟨S4x8192x2x64, .f32⟩
  | 93 => ⟨S1x1x1x64, .f32⟩
  | 94 => ⟨S4x8192x2x64, .f32⟩
  | 95 => ⟨S4x8192x2x64, .f32⟩
  | 96 => ⟨S4x8192x2x32, .f32⟩
  | 97 => ⟨S4x8192x2x32, .f32⟩
  | 98 => ⟨S8192x32, .f32⟩
  | 99 => ⟨S8192x1x32, .f32⟩
  | 100 => ⟨S8192x32, .f32⟩
  | 101 => ⟨S8192x1x32, .f32⟩
  | 102 => ⟨S1x8192x1x32, .f32⟩
  | 103 => ⟨S4x8192x2x32, .f32⟩
  | 104 => ⟨S4x8192x2x32, .f32⟩
  | 105 => ⟨S1x8192x1x32, .f32⟩
  | 106 => ⟨S4x8192x2x32, .f32⟩
  | 107 => ⟨S4x8192x2x32, .f32⟩
  | 108 => ⟨S4x8192x2x32, .f32⟩
  | 109 => ⟨S1x8192x1x32, .f32⟩
  | 110 => ⟨S4x8192x2x32, .f32⟩
  | 111 => ⟨S4x8192x2x32, .f32⟩
  | 112 => ⟨S1x8192x1x32, .f32⟩
  | 113 => ⟨S4x8192x2x32, .f32⟩
  | 114 => ⟨S4x8192x2x32, .f32⟩
  | 115 => ⟨S4x8192x2x32, .f32⟩
  | 116 => ⟨S4x8192x2x64, .f32⟩
  | 117 => ⟨S4x8192x128, .f32⟩
  | 118 => ⟨S4x8192x128, .f32⟩
  | 119 => ⟨S4x128x8192, .f32⟩
  | 120 => ⟨S4x8192x512, .f32⟩
  | 121 => ⟨S4x8192x64, .f32⟩
  | 122 => ⟨S4x8192x64, .f32⟩
  | 123 => ⟨S8192x64, .f32⟩
  | 124 => ⟨S1x8192x64, .f32⟩
  | 125 => ⟨S4x8192x64, .f32⟩
  | 126 => ⟨S4x8192x64, .f32⟩
  | 127 => ⟨S8192x64, .f32⟩
  | _ => ⟨S4x8192x1024, .f32⟩

abbrev hbmTy0_2 (i : Nat) : BufTy := match i % 128 with
  | 0 => ⟨S1x8192x64, .f32⟩
  | 1 => ⟨S4x8192x64, .f32⟩
  | 2 => ⟨S4x8192x64, .f32⟩
  | 3 => ⟨S4x8192x64, .f32⟩
  | 4 => ⟨S4x8192x8x2x4, .f32⟩
  | 5 => ⟨S8192x64, .f32⟩
  | 6 => ⟨S1x8192x64, .f32⟩
  | 7 => ⟨S4x8192x64, .f32⟩
  | 8 => ⟨S4x8192x64, .f32⟩
  | 9 => ⟨S8192x64, .f32⟩
  | 10 => ⟨S1x8192x64, .f32⟩
  | 11 => ⟨S4x8192x64, .f32⟩
  | 12 => ⟨S4x8192x64, .f32⟩
  | 13 => ⟨S4x8192x64, .f32⟩
  | 14 => ⟨S4x8192x8x2x4, .f32⟩
  | 15 => ⟨S4x8192x384, .f32⟩
  | 16 => ⟨S4x8192x8x2x24, .f32⟩
  | 17 => ⟨S_, .f32⟩
  | 18 => ⟨S4x8192x8x2x4, .f32⟩
  | 19 => ⟨S4x8192x8x2x4, .f32⟩
  | 20 => ⟨S_, .f32⟩
  | 21 => ⟨S4x8192x8x2x4, .f32⟩
  | 22 => ⟨S4x8192x8x2x4, .f32⟩
  | 23 => ⟨S_, .f32⟩
  | 24 => ⟨S4x8192x8x2x24, .f32⟩
  | 25 => ⟨S4x8192x8x2x24, .f32⟩
  | 26 => ⟨S4x8192x8x1x4, .f32⟩
  | 27 => ⟨S4x8192x8x4, .f32⟩
  | 28 => ⟨S_, .f32⟩
  | 29 => ⟨S4x8192x8x4, .f32⟩
  | 30 => ⟨S4x8192x8x1x4, .f32⟩
  | 31 => ⟨S4x8192x8x4, .f32⟩
  | 32 => ⟨S_, .f32⟩
  | 33 => ⟨S4x8192x8x4, .f32⟩
  | 34 => ⟨S4x8192x8x1x24, .f32⟩
  | 35 => ⟨S4x8192x8x24, .f32⟩
  | 36 => ⟨S_, .f32⟩
  | 37 => ⟨S4x8192x8x24, .f32⟩
  | 38 => ⟨S4x8192x8x64, .f32⟩
  | 39 => ⟨S_, .f32⟩
  | 40 => ⟨S4x8192x8x4, .f32⟩
  | 41 => ⟨S4x8192x8x1x4, .f32⟩
  | 42 => ⟨S4x8192x8x4, .f32⟩
  | 43 => ⟨S_, .f32⟩
  | 44 => ⟨S4x8192x8x4, .f32⟩
  | 45 => ⟨S4x8192x8x1x4, .f32⟩
  | 46 => ⟨S4x8192x8x4, .f32⟩
  | 47 => ⟨S_, .f32⟩
  | 48 => ⟨S4x8192x8x24, .f32⟩
  | 49 => ⟨S4x8192x8x1x24, .f32⟩
  | 50 => ⟨S4x8192x8x24, .f32⟩
  | 51 => ⟨S4x8192x8x64, .f32⟩
  | 52 => ⟨S4x8192x8x1x64, .f32⟩
  | 53 => ⟨S4x8192x8x1x64, .f32⟩
  | 54 => ⟨S4x8192x8x2x64, .f32⟩
  | 55 => ⟨S4x8192x4x2x2x64, .f32⟩
  | 56 => ⟨S4x8192x4x1x2x64, .f32⟩
  | 57 => ⟨S_, .f32⟩
  | 58 => ⟨S4x8192x4x1x2x64, .f32⟩
  | 59 => ⟨S4x8192x4x1x2x128, .f32⟩
  | 60 => ⟨S_, .f32⟩
  | 61 => ⟨S4x8192x4x1x2x64, .f32⟩
  | 62 => ⟨S4x8192x4x1x2x64, .f32⟩
  | 63 => ⟨S4x8192x4x1x2x128, .f32⟩
  | 64 => ⟨S4x8192x4x2x2x128, .f32⟩
  | 65 => ⟨S4x8192x16x128, .f32⟩
  | 66 => ⟨S4x16x128x8192, .f32⟩
  | 67 => ⟨S4x8192x512, .f32⟩
  | 68 => ⟨S4x8192x64, .f32⟩
  | 69 => ⟨S4x8192x64, .f32⟩
  | 70 => ⟨S8192x64, .f32⟩
  | 71 => ⟨S1x8192x64, .f32⟩
  | 72 => ⟨S4x8192x64, .f32⟩
  | 73 => ⟨S4x8192x64, .f32⟩
  | 74 => ⟨S8192x64, .f32⟩
  | 75 => ⟨S1x8192x64, .f32⟩
  | 76 => ⟨S4x8192x64, .f32⟩
  | 77 => ⟨S4x8192x64, .f32⟩
  | 78 => ⟨S4x8192x64, .f32⟩
  | 79 => ⟨S4x8192x8x2x4, .f32⟩
  | 80 => ⟨S8192x64, .f32⟩
  | 81 => ⟨S1x8192x64, .f32⟩
  | 82 => ⟨S4x8192x64, .f32⟩
  | 83 => ⟨S4x8192x64, .f32⟩
  | 84 => ⟨S8192x64, .f32⟩
  | 85 => ⟨S1x8192x64, .f32⟩
  | 86 => ⟨S4x8192x64, .f32⟩
  | 87 => ⟨S4x8192x64, .f32⟩
  | 88 => ⟨S4x8192x64, .f32⟩
  | 89 => ⟨S4x8192x8x2x4, .f32⟩
  | 90 => ⟨S4x8192x384, .f32⟩
  | 91 => ⟨S4x8192x8x2x24, .f32⟩
  | 92 => ⟨S4x8192x8x8, .f32⟩
  | 93 => ⟨S4x8192x8x8, .f32⟩
  | 94 => ⟨S4x8192x8x48, .f32⟩
  | 95 => ⟨S4x8192x8x64, .f32⟩
  | 96 => ⟨S4x8192x512, .f32⟩
  | 97 => ⟨S4x8192x512, .f32⟩
  | 98 => ⟨S4x512x8192, .f32⟩
  | 99 => ⟨S4x8x128x8192, .bf16⟩
  | 100 => ⟨S4x8192x1024, .bf16⟩
  | 101 => ⟨S4x512x8192, .bf16⟩
  | 102 => ⟨S4x8x128x8192, .bf16⟩
  | 103 => ⟨S4x8192x128, .bf16⟩
  | 104 => ⟨S4x128x8192, .bf16⟩
  | 105 => ⟨S4x16x128x8192, .bf16⟩
  | 106 => ⟨S4x8192x512, .bf16⟩
  | 107 => ⟨S4x512x8192, .bf16⟩
  | 108 => ⟨S4x8192x3072, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_v70 : Ref sig .tc := ⟨.hbm, 95, rfl⟩
abbrev main_cst_8 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_9 : Ref sig .tc := ⟨.hbm, 103, rfl⟩
abbrev main_v77 : Ref sig .tc := ⟨.hbm, 104, rfl⟩
abbrev main_v78 : Ref sig .tc := ⟨.hbm, 105, rfl⟩
abbrev main_cst_10 : Ref sig .tc := ⟨.hbm, 106, rfl⟩
abbrev main_v79 : Ref sig .tc := ⟨.hbm, 107, rfl⟩
abbrev main_v80 : Ref sig .tc := ⟨.hbm, 108, rfl⟩
abbrev main_cst_11 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_12 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_13 : Ref sig .tc := ⟨.hbm, 156, rfl⟩
abbrev main_v126 : Ref sig .tc := ⟨.hbm, 157, rfl⟩
abbrev main_v127 : Ref sig .tc := ⟨.hbm, 158, rfl⟩
abbrev main_cst_14 : Ref sig .tc := ⟨.hbm, 159, rfl⟩
abbrev main_v128 : Ref sig .tc := ⟨.hbm, 160, rfl⟩
abbrev main_v129 : Ref sig .tc := ⟨.hbm, 161, rfl⟩
abbrev main_cst_15 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_cst_16 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_17 : Ref sig .tc := ⟨.hbm, 196, rfl⟩
abbrev main_v162 : Ref sig .tc := ⟨.hbm, 197, rfl⟩
abbrev main_v163 : Ref sig .tc := ⟨.hbm, 198, rfl⟩
abbrev main_cst_18 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_cst_19 : Ref sig .tc := ⟨.hbm, 209, rfl⟩
abbrev main_v173 : Ref sig .tc := ⟨.hbm, 210, rfl⟩
abbrev main_v174 : Ref sig .tc := ⟨.hbm, 211, rfl⟩
abbrev main_cst_20 : Ref sig .tc := ⟨.hbm, 212, rfl⟩
abbrev main_v175 : Ref sig .tc := ⟨.hbm, 213, rfl⟩
abbrev main_v176 : Ref sig .tc := ⟨.hbm, 214, rfl⟩
abbrev main_cst_21 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_cst_22 : Ref sig .tc := ⟨.hbm, 273, rfl⟩
abbrev main_v234 : Ref sig .tc := ⟨.hbm, 274, rfl⟩
abbrev main_v235 : Ref sig .tc := ⟨.hbm, 275, rfl⟩
abbrev main_cst_23 : Ref sig .tc := ⟨.hbm, 276, rfl⟩
abbrev main_v236 : Ref sig .tc := ⟨.hbm, 277, rfl⟩
abbrev main_v237 : Ref sig .tc := ⟨.hbm, 278, rfl⟩
abbrev main_cst_24 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_cst_25 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_cst_26 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_cst_27 : Ref sig .tc := ⟨.hbm, 292, rfl⟩
abbrev main_v248 : Ref sig .tc := ⟨.hbm, 293, rfl⟩
abbrev main_v249 : Ref sig .tc := ⟨.hbm, 294, rfl⟩
abbrev main_cst_28 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_cst_29 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_cst_30 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_cst_31 : Ref sig .tc := ⟨.hbm, 313, rfl⟩
abbrev main_v265 : Ref sig .tc := ⟨.hbm, 314, rfl⟩
abbrev main_v266 : Ref sig .tc := ⟨.hbm, 315, rfl⟩
abbrev main_cst_32 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩

abbrev nD : Nat := 1
abbrev τ : Topo := Topo.v7x

variable {F : FTy → Type} [FloatOps F]
-- ==== Proof.MlaChain.lean ====
module

public import proofs.«01_k».proof.Proof.Gen.MlaIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlaIdeal.Value
open Idealize.ShloMosaic Idealize.ShloMosaic.TcCoe Idealize.SL.Sem
open Idealize.ShloMosaic.Pipeline (Dat)
open Cert.MlaIdeal Cert.MlaIdeal.Gen

variable {F : FTy → Type} [FloatOps F]

/-- The scores of a chunk of keys against a tile of queries. -/
def scr (q : Vec F S1x1x128x1024 .bf16) (k : Vec F S1x256x128 .bf16) : FVec F S256x1024 .f32 :=
  matmul dot_S256x128_S128x1024_S256x1024_1_0_0_1_n_n none (shapeCast S256x128 k shapeCasts_S1x256x128_S256x128)
    (shapeCast S128x1024 q shapeCasts_S1x1x128x1024_S128x1024) (constant S256x1024 .f32 0x00000000#32)

/-- The largest score of each query of a tile, over a chunk. -/
def cmx (s : FVec F S256x1024 .f32) : FVec F S1x1024 .f32 :=
  shapeCast S1x1024 (multiReduction .maximumf [0] S1024 s 0xFF800000#32 reduces_S256x1024_S1024 (.inl rfl) rfl) shapeCasts_S1024_S1x1024

/-- Chunk `n` of the keys. -/
def kch (x2 : Vec F S1x8192x128 .bf16) (n : ℕ) : Vec F S1x256x128 .bf16 :=
  View.ld x2 (Rect.unit (s := S1x8192x128) ![0, 256 * (n % 32), 0] S1x256x128.size
    (fun a => by match a with
      | ⟨0, _⟩ => exact Nat.le_refl 1
      | ⟨1, _⟩ => show 256 * (n % 32) + 256 ≤ 8192; omega
      | ⟨2, _⟩ => exact Nat.le_refl 128))

/-- Chunk `n` of the values. -/
def vch (x3 : Vec F S1x64x8192 .bf16) (n : ℕ) : Vec F S1x64x256 .bf16 :=
  View.ld x3 (Rect.unit (s := S1x64x8192) ![0, 0, 256 * (n % 32)] S1x64x256.size
    (fun a => by match a with
      | ⟨0, _⟩ => exact Nat.le_refl 1
      | ⟨1, _⟩ => exact Nat.le_refl 64
      | ⟨2, _⟩ => show 256 * (n % 32) + 256 ≤ 8192; omega))

/-- One step of the running weighted sums: the old sums rescaled to the new maximum, plus the chunk's. -/
def stp (mo mn : FVec F S1x1024 .f32) (s : Vec F S1x256x1024 .f32) (v : Vec F S1x64x256 .bf16) (a : FVec F S80x1024 .f32) : FVec F S80x1024 .f32 :=
  addf (mulf a (broadcastTo S80x1024 (exp2 (subf mo mn)) broadcasts_S1x1024_S80x1024))
    (matmul dot_S80x256_S256x1024_S80x1024_1_0_0_1_n_n none
      (concatenate S80x256 0 [⟨S64x256, shapeCast S64x256 v shapeCasts_S1x64x256_S64x256⟩, ⟨S16x256, broadcast S16x256 (Scalar.ofBits .bf16 0x3F80#16)⟩] concatenates_S64x256_S16x256_S80x256_d0)
      (truncf .bf16 (exp2 (subf (shapeCast S256x1024 s shapeCasts_S1x256x1024_S256x1024) (broadcastTo S256x1024 mn broadcasts_S1x1024_S256x1024))) bitsLt_bf16_f32)
      (constant S80x1024 .f32 0x00000000#32))

/-- The running maximum after `n` chunks, from the first chunk's `m0`. -/
def mxs (m0 : FVec F S1x1024 .f32) (q : Vec F S1x1x128x1024 .bf16) (x2 : Vec F S1x8192x128 .bf16) : ℕ → FVec F S1x1024 .f32
  | 0 => broadcast S1x1024 (Scalar.ofBits .f32 0xFF800000#32)
  | 1 => maximumf (broadcast S1x1024 (Scalar.ofBits .f32 0xFF800000#32)) m0
  | n + 2 => maximumf (mxs m0 q x2 (n + 1)) (cmx (scr q (kch x2 (n + 1))))

/-- The scores of chunk `n`; the first chunk's are `s0`. -/
def scs (s0 : Vec F S1x256x1024 .f32) (q : Vec F S1x1x128x1024 .bf16) (x2 : Vec F S1x8192x128 .bf16) : ℕ → Vec F S1x256x1024 .f32
  | 0 => s0
  | n + 1 => shapeCast S1x256x1024 (scr q (kch x2 (n + 1))) shapeCasts_S256x1024_S1x256x1024

/-- The running weighted sums after `n` chunks. -/
def acc (m0 : FVec F S1x1024 .f32) (s0 : Vec F S1x256x1024 .f32) (q : Vec F S1x1x128x1024 .bf16) (x2 : Vec F S1x8192x128 .bf16) (x3 : Vec F S1x64x8192 .bf16) :
    ℕ → FVec F S80x1024 .f32
  | 0 => broadcast S80x1024 (Scalar.ofBits .f32 0x00000000#32)
  | n + 1 => stp (mxs m0 q x2 n) (mxs m0 q x2 (n + 1)) (scs s0 q x2 n) (vch x3 n) (acc m0 s0 q x2 x3 n)

/-- The tile's result: the weighted sums of the values over the sum of the weights. -/
def fin (a : FVec F S80x1024 .f32) : FVec F S1x64x1024 .f32 :=
  shapeCast S1x64x1024 (divf (extractStridedSlice S64x1024 ![0, 0] a slices_S80x1024_o0_0_S64x1024)
    (broadcastTo S64x1024 (extractStridedSlice S1x1024 ![64, 0] a slices_S80x1024_o64_0_S1x1024) broadcasts_S1x1024_S64x1024)) shapeCasts_S64x1024_S1x64x1024

set_option maxHeartbeats 4000000 in
/-- A later point's tile, from the scratch `xs0`, `xs1` the point before left. -/
theorem out_B (c : Dev nD) (i : grid0.Coords) (a3 h3 a4 h4 a5 h5 a6 h6 a7 h7 hc x0 x1 x2 x3 xs0 xs1) :
   out0_B_4 (F := F) c i a3 h3 a4 h4 a5 h5 a6 h6 a7 h7 scM0_0 (Memref.isWhole_whole _) scM0_1 (Memref.isWhole_whole _) scM0_2 (Memref.isWhole_whole _) hc x0 x1 x2 x3 xs0 xs1
     = fin (acc (k0_pay9 xs1) (View.ld xs0 (Rect.unit (s := S2x256x1024) ![0, 0, 0] S1x256x1024.size inb_S2x256x1024_S1x256x1024_0_0_0)) x0 x2 x3 32) := by
  frame_open
  simp (disch := decide) only [↓ View.readCov_skip, ↓ View.readCov_cons_toLoadRect, ↓ View.readCov_fill]
  frame_out
  try simp only [read_unread_whole]
  rfl

set_option maxHeartbeats 4000000 in
/-- A first point's tile. -/
theorem out_A (c : Dev nD) (i : grid0.Coords) (a3 h3 a4 h4 a5 h5 a6 h6 a7 h7 hc x0 x1 x2 x3) :
   out0_A_4 (F := F) c i a3 h3 a4 h4 a5 h5 a6 h6 a7 h7 scM0_0 (Memref.isWhole_whole _) scM0_1 (Memref.isWhole_whole _) scM0_2 (Memref.isWhole_whole _) hc x0 x1 x2 x3
     = fin (acc (k0_pay9 (k0_pay8 x0 (kch x2 0))) (k0_pay7 x0 (kch x2 0)) x0 x2 x3 32) := by
  frame_open
  simp (disch := decide) only [↓ View.readCov_skip, ↓ View.readCov_cons_toLoadRect, ↓ View.readCov_fill]
  frame_out
  try simp only [read_unread_whole]
  rfl

set_option maxHeartbeats 4000000 in
/-- A first point leaves the maximum of the next tile's first chunk, -/
theorem mx_A (c : Dev nD) (i : grid0.Coords) (a3 h3 a4 h4 a5 h5 a6 h6 a7 h7 hc x0 x1 x2 x3) :
   sout0_A_1 (F := F) c i a3 h3 a4 h4 a5 h5 a6 h6 a7 h7 scM0_0 (Memref.isWhole_whole _) scM0_1 (Memref.isWhole_whole _) scM0_2 (Memref.isWhole_whole _) hc x0 x1 x2 x3
     = k0_pay172 (k0_pay171 (k0_pay5 x1) (kch x2 0)) := by
  frame_open
  simp (disch := decide) only [↓ View.readCov_skip, ↓ View.readCov_cons_toLoadRect, ↓ View.readCov_fill]
  frame_out
  try simp only [read_unread_whole]
  rfl

set_option maxHeartbeats 4000000 in
/-- and so does a later one. -/
theorem mx_B (c : Dev nD) (i : grid0.Coords) (a3 h3 a4 h4 a5 h5 a6 h6 a7 h7 hc x0 x1 x2 x3 xs0 xs1) :
   sout0_B_1 (F := F) c i a3 h3 a4 h4 a5 h5 a6 h6 a7 h7 scM0_0 (Memref.isWhole_whole _) scM0_1 (Memref.isWhole_whole _) scM0_2 (Memref.isWhole_whole _) hc x0 x1 x2 x3 xs0 xs1
     = k0_pay172 (k0_pay171 (k0_pay5 x1) (kch x2 0)) := by
  frame_open
  simp (disch := decide) only [↓ View.readCov_skip, ↓ View.readCov_cons_toLoadRect, ↓ View.readCov_fill]
  frame_out
  try simp only [read_unread_whole]
  rfl

set_option maxHeartbeats 4000000 in
/-- A first point leaves the scores of the next tile's first chunk, -/
theorem sc_A (c : Dev nD) (i : grid0.Coords) (a3 h3 a4 h4 a5 h5 a6 h6 a7 h7 hc x0 x1 x2 x3) :
   View.ld (sout0_A_0 (F := F) c i a3 h3 a4 h4 a5 h5 a6 h6 a7 h7 scM0_0 (Memref.isWhole_whole _) scM0_1 (Memref.isWhole_whole _) scM0_2 (Memref.isWhole_whole _) hc x0 x1 x2 x3)
      (Rect.unit (s := S2x256x1024) ![0, 0, 0] S1x256x1024.size inb_S2x256x1024_S1x256x1024_0_0_0)
     = k0_pay170 (k0_pay5 x1) (kch x2 0) := by
  frame_open
  simp (disch := decide) only [↓ View.readCov_skip, ↓ View.readCov_cons_toLoadRect, ↓ View.readCov_fill]
  frame_out
  try simp only [read_unread_whole]
  exact funext fun y => View.canon_cons_emb _ _ _ y

set_option maxHeartbeats 4000000 in
/-- and so does a later one. -/
theorem sc_B (c : Dev nD) (i : grid0.Coords) (a3 h3 a4 h4 a5 h5 a6 h6 a7 h7 hc x0 x1 x2 x3 xs0 xs1) :
   View.ld (sout0_B_0 (F := F) c i a3 h3 a4 h4 a5 h5 a6 h6 a7 h7 scM0_0 (Memref.isWhole_whole _) scM0_1 (Memref.isWhole_whole _) scM0_2 (Memref.isWhole_whole _) hc x0 x1 x2 x3 xs0 xs1)
      (Rect.unit (s := S2x256x1024) ![0, 0, 0] S1x256x1024.size inb_S2x256x1024_S1x256x1024_0_0_0)
     = k0_pay170 (k0_pay5 x1) (kch x2 0) := by
  frame_open
  simp (disch := decide) only [↓ View.readCov_skip, ↓ View.readCov_cons_toLoadRect, ↓ View.readCov_fill]
  frame_out
  try simp only [read_unread_whole]
  exact funext fun y => View.canon_cons_emb _ _ _ y

end Cert.MlaIdeal.Value
-- ==== Proof.Softmax.lean ====
module

public import Idealize.ShloMosaic.PureOps.Ideal
public import Idealize.ShloMosaic.Lib.Pipeline.ValueKit
public import Mathlib.Analysis.SpecialFunctions.Pow.Real

@[expose] public section

noncomputable section

namespace Cert.Attn
open Idealize.ShloMosaic

/-- A sum of extended reals times a nonnegative real is the sum of the products. -/
theorem sum_mul_coe {ι : Type*} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- A sum of reals, read as an extended real. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The power of two of a difference of reals is a real. -/
theorem exp2_sub (a b : ℝ) : Ideal.exp2 ((a : EReal) - (b : EReal)) = (((2 : ℝ) ^ (a - b) : ℝ) : EReal) := by
  rw [← EReal.coe_sub]; rfl

/-- The exponential of a difference of reals is a real. -/
theorem exp_sub (a b : ℝ) : Ideal.exp ((a : EReal) - (b : EReal)) = ((Real.exp (a - b) : ℝ) : EReal) := by
  rw [← EReal.coe_sub]; rfl

/-- The largest of finitely many reals, taken from minus infinity, is a real. -/
theorem fold_max_real {ι : Type*} [Fintype ι] [Nonempty ι] (f : ι → EReal) (g : ι → ℝ) (h : ∀ k, f k = g k) :
    ∃ r : ℝ, Finset.univ.fold max (⊥ : EReal) f = r := by
  obtain ⟨i, _, hi⟩ := Finset.exists_mem_eq_sup Finset.univ Finset.univ_nonempty f
  exact ⟨g i, (show Finset.univ.sup f = g i from hi.trans (h i))⟩

/-- A running maximum of reals, started from minus infinity, is a real after each step. -/
theorem max_real (M : ℕ → EReal) (mx : ℕ → ℝ) (h0 : M 1 = max ⊥ (mx 0 : EReal))
    (h : ∀ n, M (n + 2) = max (M (n + 1)) (mx (n + 1) : EReal)) : ∀ n, ∃ μ : ℝ, M (n + 1) = μ
  | 0 => ⟨mx 0, by rw [h0]; exact max_eq_right bot_le⟩
  | n + 1 => by
    obtain ⟨μ, hμ⟩ := max_real M mx h0 h n
    exact ⟨max μ (mx (n + 1)), by rw [h, hμ]; exact (EReal.coe_strictMono.monotone.map_max).symm⟩

/-- The pattern of minus infinity denotes it. -/
theorem ofBits_neg_inf : Ideal.ofBits .f32 0xFF800000#32 = (⊥ : EReal) := by simp [Ideal.ofBits, Ideal.ieee]

/-- The pattern of plus infinity denotes it. -/
theorem ofBits_inf : Ideal.ofBits .f32 0x7F800000#32 = (⊤ : EReal) := by simp [Ideal.ofBits, Ideal.ieee]

/-- The pattern of two denotes it. -/
theorem ofBits_two : Ideal.ofBits .f32 0x40000000#32 = ((2 : ℝ) : EReal) := by
  simp [Ideal.ofBits, Ideal.ieee, -EReal.coe_mul]; norm_num

/-- A sum of products of reals is a real. -/
theorem sum_mul_real {ι : Type*} [Fintype ι] (f g : ι → EReal) (hf : ∀ i, ∃ r : ℝ, f i = r) (hg : ∀ i, ∃ r : ℝ, g i = r) :
    ∃ r : ℝ, ∑ i, f i * g i = r := by
  choose a ha using hf
  choose b hb using hg
  exact ⟨∑ i, a i * b i, by rw [coe_sum]; exact Finset.sum_congr rfl fun i _ => by rw [ha, hb, EReal.coe_mul]⟩

/-- An extended real whose magnitude is below infinity is a real. -/
theorem real_of_abs_lt {x : EReal} (h : max x (-x) < ⊤) : ∃ r : ℝ, x = r := by
  induction x using EReal.rec with
  | bot => simp at h
  | coe r => exact ⟨r, rfl⟩
  | top => simp at h

/-- The same from the comparison's bit. -/
theorem real_of_bit {x : EReal} [Decidable (max x (-x) < ⊤)] (h : BitVec.ofBool (decide (max x (-x) < ⊤)) = 1#1) : ∃ r : ℝ, x = r := by
  apply real_of_abs_lt
  by_contra hn
  rw [decide_eq_false hn] at h
  exact absurd h (by decide)

/-- A host maximum over one axis, taken from minus infinity, of reals is a real. -/
theorem hostMax_real {s t u : Shape} {a : Fin s.rank} (x : FVec Ideal s .f32) (h' : s.ReducesTo [a] t) (h : s.Reduces [a] t) (hu : 0 < u.numel)
    (hn : 0 < s.size a) (hx : ∀ i, ∃ r : ℝ, (x i : EReal) = r) (j : t.Idx) :
    ∃ r : ℝ, (Host.reduce (α := Ideal .f32) FloatOps.maximumf x (constant u .f32 0xFF800000#32) h' hu j : Ideal .f32) = (r : EReal) := by
  rw [Host.reduce_eq_fold_single _ _ _ h' h]
  choose g hg using hx
  haveI : Nonempty (Fin (s.size a)) := ⟨⟨0, hn⟩⟩
  obtain ⟨r, hr⟩ := fold_max_real (fun k => x (h.lift j k)) (fun k => g (h.lift j k)) fun k => hg _
  exact ⟨r, by rw [← hr, ← ofBits_neg_inf]; rfl⟩

/-- The same after one more maximum with minus infinity. -/
theorem hostMax_real_of {s t u : Shape} {a : Fin s.rank} (x : FVec Ideal s .f32) (c : FVec Ideal t .f32) (h' : s.ReducesTo [a] t) (h : s.Reduces [a] t)
    (hu : 0 < u.numel) (hn : 0 < s.size a) (hx : ∀ i, ∃ r : ℝ, (x i : EReal) = r) (hc : ∀ j, c j = Ideal.ofBits .f32 0xFF800000#32) (j : t.Idx) :
    ∃ r : ℝ, (maximumf c (Host.reduce (α := Ideal .f32) FloatOps.maximumf x (constant u .f32 0xFF800000#32) h' hu) j : Ideal .f32) = (r : EReal) := by
  obtain ⟨r, hr⟩ := hostMax_real x h' h hu hn hx j
  refine ⟨r, ?_⟩
  show max (c j : EReal) (Host.reduce (α := Ideal .f32) FloatOps.maximumf x (constant u .f32 0xFF800000#32) h' hu j : Ideal .f32) = r
  rw [hr, hc, ofBits_neg_inf, bot_sup_eq]

variable {K : ℕ}

/-- The running weighted sum after `n + 1` chunks is the sum over these chunks of the values weighted by the powers of two of
    the scores less the running maximum. -/
theorem online (M A : ℕ → EReal) (μ : ℕ → ℝ) (s : ℕ → Fin K → ℝ) (v : ℕ → Fin K → EReal)
    (hM0 : M 0 = ⊥) (hμ : ∀ n, M (n + 1) = μ n) (hA0 : A 0 = 0)
    (hA : ∀ n, A (n + 1) = A n * Ideal.exp2 (M n - M (n + 1)) + ∑ j, v n j * Ideal.exp2 ((s n j : EReal) - M (n + 1))) :
    ∀ n, A (n + 1) = ∑ i ∈ Finset.range (n + 1), ∑ j, v i j * (((2 : ℝ) ^ (s i j - μ n) : ℝ) : EReal)
  | 0 => by
    rw [hA, hA0, zero_mul, zero_add, Finset.sum_range_one, hμ]
    exact Finset.sum_congr rfl fun j _ => by rw [exp2_sub]
  | n + 1 => by
    rw [hA, online M A μ s v hM0 hμ hA0 hA n, Finset.sum_range_succ _ (n + 1), hμ, hμ, exp2_sub]
    congr 1
    · rw [sum_mul_coe _ _ _ (Real.rpow_nonneg (by norm_num) _)]
      refine Finset.sum_congr rfl fun i _ => ?_
      rw [sum_mul_coe _ _ _ (Real.rpow_nonneg (by norm_num) _)]
      refine Finset.sum_congr rfl fun j _ => ?_
      rw [mul_assoc, ← EReal.coe_mul, ← Real.rpow_add (by norm_num), sub_add_sub_cancel]

/-- The share of score `k` among the scores `S`: its power of two over the sum of all the powers of two. -/
def share {N : ℕ} (S : Fin N → ℝ) (k : Fin N) : ℝ := (2 : ℝ) ^ S k / ∑ l, (2 : ℝ) ^ S l

/-- A sum of powers of two is positive. -/
theorem sum_pow_pos {N : ℕ} [NeZero N] (S : Fin N → ℝ) : 0 < ∑ l, (2 : ℝ) ^ S l :=
  Finset.sum_pos (fun _ _ => Real.rpow_pos_of_pos (by norm_num) _) Finset.univ_nonempty

/-- Shifted scores have the same shares, whatever the shift. -/
theorem share_shift {N : ℕ} [NeZero N] (S : Fin N → ℝ) (m : ℝ) (k : Fin N) :
    (2 : ℝ) ^ (S k - m) / ∑ l, (2 : ℝ) ^ (S l - m) = share S k := by
  have h2 : (0 : ℝ) < 2 := by norm_num
  have hm : (0 : ℝ) < (2 : ℝ) ^ m := Real.rpow_pos_of_pos h2 m
  simp only [Real.rpow_sub h2, ← Finset.sum_div]
  rw [share, div_div_div_cancel_right₀ hm.ne']

/-- A weighted sum over the sum of its weights is the sum by shares. -/
theorem div_shares {N : ℕ} [NeZero N] (S : Fin N → ℝ) (V : Fin N → EReal) (m : ℝ) :
    Ideal.div (∑ k, V k * (((2 : ℝ) ^ (S k - m) : ℝ) : EReal)) (∑ k, 1 * (((2 : ℝ) ^ (S k - m) : ℝ) : EReal))
      = ∑ k, V k * (share S k : EReal) := by
  have hpos : 0 < ∑ l, (2 : ℝ) ^ (S l - m) := sum_pow_pos fun l => S l - m
  simp only [one_mul]
  rw [← coe_sum, Ideal.div_coe hpos.ne', sum_mul_coe _ _ _ (by positivity)]
  refine Finset.sum_congr rfl fun k _ => ?_
  rw [mul_assoc, ← EReal.coe_mul, mul_one_div, share_shift]

/-- The softmax of the scores times the logarithm of two, taken about any real, is the shares. -/
theorem softmax_shares {N : ℕ} [NeZero N] (S : Fin N → ℝ) (m : ℝ) (k : Fin N) :
    Ideal.div (Ideal.exp (((S k * Real.log 2 : ℝ) : EReal) - (m : EReal)))
      (∑ l, Ideal.exp (((S l * Real.log 2 : ℝ) : EReal) - (m : EReal))) = (share S k : EReal) := by
  have h2 : (0 : ℝ) < 2 := by norm_num
  have hl : Real.log 2 ≠ 0 := (Real.log_pos (by norm_num)).ne'
  have key : ∀ l, Real.exp (S l * Real.log 2 - m) = (2 : ℝ) ^ (S l - m / Real.log 2) := fun l => by
    rw [Real.rpow_def_of_pos h2]; congr 1; field_simp
  simp only [exp_sub, key]
  have hpos : 0 < ∑ l, (2 : ℝ) ^ (S l - m / Real.log 2) := sum_pow_pos fun l => S l - m / Real.log 2
  rw [← coe_sum, Ideal.div_coe hpos.ne', ← EReal.coe_mul, mul_one_div, share_shift]

/-- The whole pass over the chunks: the running weighted sum of the values over the running sum of the weights is the sum of the
    values by shares. The chunks are `C` of `K` each, taken in order from the `N` scores and values. -/
theorem attend {N C : ℕ} [NeZero N] (hN : N = (C + 1) * K) (S : Fin N → ℝ) (V : Fin N → EReal)
    (M A L : ℕ → EReal) (mx : ℕ → ℝ) (s : ℕ → Fin K → ℝ) (v : ℕ → Fin K → EReal)
    (hs : ∀ n (j : Fin K) (h : n * K + j.val < N), n ≤ C → s n j = S ⟨n * K + j.val, h⟩)
    (hv : ∀ n (j : Fin K) (h : n * K + j.val < N), n ≤ C → v n j = V ⟨n * K + j.val, h⟩)
    (hM0 : M 0 = ⊥) (hM1 : M 1 = max ⊥ (mx 0 : EReal)) (hM : ∀ n, M (n + 2) = max (M (n + 1)) (mx (n + 1) : EReal))
    (hA0 : A 0 = 0)
    (hA : ∀ n, A (n + 1) = A n * Ideal.exp2 (M n - M (n + 1)) + ∑ j, v n j * Ideal.exp2 ((s n j : EReal) - M (n + 1)))
    (hL0 : L 0 = 0)
    (hL : ∀ n, L (n + 1) = L n * Ideal.exp2 (M n - M (n + 1)) + ∑ j, 1 * Ideal.exp2 ((s n j : EReal) - M (n + 1))) :
    Ideal.div (A (C + 1)) (L (C + 1)) = ∑ k, V k * (share S k : EReal) := by
  choose μ hμ using max_real M mx hM1 hM
  rw [online M A μ s v hM0 hμ hA0 hA C, online M L μ s (fun _ _ => 1) hM0 hμ hL0 hL C, ← div_shares S V (μ C)]
  have flat : ∀ (g : Fin N → EReal) (f : ℕ → Fin K → EReal),
      (∀ n (j : Fin K) (h : n * K + j.val < N), n ≤ C → f n j = g ⟨n * K + j.val, h⟩) →
      ∑ i ∈ Finset.range (C + 1), ∑ j, f i j = ∑ k, g k := fun g f hfg => by
    have hlt : ∀ (n : ℕ) (j : Fin K), n ≤ C → n * K + j.val < N := fun n j hn => by
      rw [hN]
      calc n * K + j.val < n * K + K := by omega
        _ = (n + 1) * K := by ring
        _ ≤ (C + 1) * K := Nat.mul_le_mul_right K (by omega)
    let G : ℕ → EReal := fun l => if h : l < N then g ⟨l, h⟩ else 0
    have e1 : ∑ k, g k = ∑ l ∈ Finset.range ((C + 1) * K), G l := by
      rw [← hN, ← Fin.sum_univ_eq_sum_range]
      exact Finset.sum_congr rfl fun k _ => by simp only [G, dif_pos k.isLt]
    rw [e1, Finset.sum_range_mul_split]
    refine Finset.sum_congr rfl fun i hi => ?_
    have hi' : i ≤ C := by have := Finset.mem_range.mp hi; omega
    rw [← Fin.sum_univ_eq_sum_range (fun b => G (i * K + b))]
    exact Finset.sum_congr rfl fun j _ => by
      rw [hfg i j (hlt i j hi') hi']; simp only [G, dif_pos (hlt i j hi')]
  congr 1
  · exact flat _ _ fun n j h hn => by rw [hs n j h hn, hv n j h hn]
  · exact flat _ _ fun n j h hn => by rw [hs n j h hn]

end Cert.Attn
-- ==== Proof.MlaTile.lean ====
module

public import proofs.«01_k».proof.Proof.MlaChain
public import proofs.«01_k».proof.Proof.Softmax

@[expose] public section

set_option maxRecDepth 16384

noncomputable section

namespace Cert.MlaIdeal.Value
open Idealize.ShloMosaic Idealize.ShloMosaic.TcCoe Idealize.SL.Sem
open Cert.MlaIdeal Cert.MlaIdeal.Gen

/-! ## The chunk operations at an index -/

/-- A score is the product of its key and its query. -/
theorem scr_apply (q : Vec Ideal S1x1x128x1024 .bf16) (k : Vec Ideal S1x256x128 .bf16) (j : Fin 256) (r : Fin 1024) :
    (scr (F := Ideal) q k (ix2 j r) : EReal) = ∑ d : Fin 128, k (ix3 0 j d) * q (ix4 0 0 d r) := by
  pointwise [scr]

/-- The largest score of a chunk. -/
theorem cmx_apply (s : FVec Ideal S256x1024 .f32) (r : Fin 1024) :
    (cmx (F := Ideal) s (ix2 0 r) : EReal) = Finset.univ.fold max (⊥ : EReal) fun j : Fin 256 => s (ix2 j r) := by
  pointwise [cmx, Cert.Attn.ofBits_neg_inf]

/-- One step at a value's row. -/
theorem stp_apply (mo mn : FVec Ideal S1x1024 .f32) (s : Vec Ideal S1x256x1024 .f32) (v : Vec Ideal S1x64x256 .bf16)
    (a : FVec Ideal S80x1024 .f32) (x : Fin 64) (r : Fin 1024) :
    (stp (F := Ideal) mo mn s v a (ix2 ⟨x.val, by omega⟩ r) : EReal)
      = a (ix2 ⟨x.val, by omega⟩ r) * Ideal.exp2 (mo (ix2 0 r) - mn (ix2 0 r))
        + ∑ j : Fin 256, v (ix3 0 x j) * Ideal.exp2 (s (ix3 0 j r) - mn (ix2 0 r)) := by
  pointwise [stp]
  rfl

/-- One step at the row of ones. -/
theorem stp_one (mo mn : FVec Ideal S1x1024 .f32) (s : Vec Ideal S1x256x1024 .f32) (v : Vec Ideal S1x64x256 .bf16)
    (a : FVec Ideal S80x1024 .f32) (r : Fin 1024) :
    (stp (F := Ideal) mo mn s v a (ix2 64 r) : EReal)
      = a (ix2 64 r) * Ideal.exp2 (mo (ix2 0 r) - mn (ix2 0 r))
        + ∑ j : Fin 256, 1 * Ideal.exp2 (s (ix3 0 j r) - mn (ix2 0 r)) := by
  pointwise [stp]
  rfl

/-- A tile's result at an index. -/
theorem fin_apply (a : FVec Ideal S80x1024 .f32) (x : Fin 64) (r : Fin 1024) :
    (fin (F := Ideal) a (ix3 0 x r) : EReal) = Ideal.div (a (ix2 ⟨x.val, by omega⟩ r)) (a (ix2 64 r)) := by
  pointwise [fin]

/-- A chunk's key is a key of the head. -/
theorem kch_apply (x2 : Vec Ideal S1x8192x128 .bf16) (n : ℕ) (j : Fin 256) (d : Fin 128) :
    kch (F := Ideal) x2 n (ix3 0 j d) = x2 (ix3 0 ⟨256 * (n % 32) + j.val, by omega⟩ d) := by
  pointwise [kch]

/-- A chunk's value is a value of the head. -/
theorem vch_apply (x3 : Vec Ideal S1x64x8192 .bf16) (n : ℕ) (x : Fin 64) (j : Fin 256) :
    vch (F := Ideal) x3 n (ix3 0 x j) = x3 (ix3 0 x ⟨256 * (n % 32) + j.val, by omega⟩) := by
  pointwise [vch]

/-! ## A tile of queries -/

/-- A tile's result: its values weighted by the shares of its scores. The first chunk's scores `s0` are handed over, with any real
    `ρ` no matter which as its maximum. -/
theorem tile (m0 : FVec Ideal S1x1024 .f32) (s0 : Vec Ideal S1x256x1024 .f32) (q : Vec Ideal S1x1x128x1024 .bf16)
    (x2 : Vec Ideal S1x8192x128 .bf16) (x3 : Vec Ideal S1x64x8192 .bf16) (x : Fin 64) (r : Fin 1024)
    (S : Fin 8192 → ℝ) (hS : ∀ k : Fin 8192, (∑ d : Fin 128, x2 (ix3 0 k d) * q (ix4 0 0 d r) : EReal) = S k)
    (ρ : ℝ) (hm : (m0 (ix2 0 r) : EReal) = ρ)
    (hs0 : ∀ j : Fin 256, (s0 (ix3 0 j r) : EReal) = S ⟨j.val, by omega⟩) :
    (fin (acc m0 s0 q x2 x3 32) (ix3 0 x r) : EReal) = ∑ k : Fin 8192, x3 (ix3 0 x k) * (Cert.Attn.share S k : EReal) := by
  have hscr : ∀ n (j : Fin 256), (scr (F := Ideal) q (kch x2 n) (ix2 j r) : EReal) = S ⟨256 * (n % 32) + j.val, by omega⟩ := fun n j => by
    rw [scr_apply, ← hS]
    exact Finset.sum_congr rfl fun d _ => by rw [kch_apply]
  have hcmx : ∀ n, ∃ ρ : ℝ, (cmx (F := Ideal) (scr q (kch x2 n)) (ix2 0 r) : EReal) = ρ := fun n => by
    rw [cmx_apply]
    exact Cert.Attn.fold_max_real _ _ (hscr n)
  choose ν hν using hcmx
  have hscs : ∀ n (j : Fin 256), (scs s0 q x2 n (ix3 0 j r) : EReal) = S ⟨256 * (n % 32) + j.val, by omega⟩ := fun n j => by
    match n with
    | 0 => exact (hs0 j).trans (by congr 2; apply Fin.ext; show j.val = 256 * (0 % 32) + j.val; omega)
    | n + 1 => rw [← hscr]; pointwise [scs]
  rw [fin_apply]
  refine Cert.Attn.attend (K := 256) (C := 31) rfl S (fun k => x3 (ix3 0 x k))
    (fun n => mxs m0 q x2 n (ix2 0 r)) (fun n => acc m0 s0 q x2 x3 n (ix2 ⟨x.val, by omega⟩ r)) (fun n => acc m0 s0 q x2 x3 n (ix2 64 r))
    (fun n => if n = 0 then ρ else ν n) (fun n j => S ⟨256 * (n % 32) + j.val, by omega⟩)
    (fun n j => x3 (ix3 0 x ⟨256 * (n % 32) + j.val, by omega⟩)) ?_ ?_ ?_ ?_ ?_ ?_ ?_ ?_ ?_
  · intro n j h hn
    congr 1; apply Fin.ext; show 256 * (n % 32) + j.val = n * 256 + j.val; omega
  · intro n j h hn
    congr 2; apply Fin.ext; show 256 * (n % 32) + j.val = n * 256 + j.val; omega
  · exact Cert.Attn.ofBits_neg_inf
  · rw [if_pos rfl, ← hm, ← Cert.Attn.ofBits_neg_inf]; rfl
  · intro n
    rw [if_neg (Nat.succ_ne_zero n), ← hν]; rfl
  · exact Ideal.ofBits_zero_f32
  · intro n
    refine (stp_apply _ _ _ _ _ x r).trans ?_
    congr 1
    exact Finset.sum_congr rfl fun j _ => by rw [vch_apply, hscs]
  · exact Ideal.ofBits_zero_f32
  · intro n
    refine (stp_one _ _ _ _ _ r).trans ?_
    congr 1
    exact Finset.sum_congr rfl fun j _ => by rw [hscs]

/-! ## What a point hands on: the first chunk's scores of the next tile -/

/-- The first chunk's scores when the point makes them itself, -/
theorem pay7_apply (x1 : Vec Ideal S1x1x128x1024 .bf16) (k : Vec Ideal S1x256x128 .bf16) (j : Fin 256) (r : Fin 1024) :
    (k0_pay7 (F := Ideal) x1 k (ix3 0 j r) : EReal) = ∑ d : Fin 128, k (ix3 0 j d) * x1 (ix4 0 0 d r) := by
  pointwise [k0_pay7, k0_pay6, k0_pay2]

/-- and those made for the next tile. -/
theorem pay170_apply (x1 : Vec Ideal S1x1x128x1024 .bf16) (k : Vec Ideal S1x256x128 .bf16) (j : Fin 256) (r : Fin 1024) :
    (k0_pay170 (F := Ideal) (k0_pay5 (F := Ideal) x1) k (ix3 0 j r) : EReal) = ∑ d : Fin 128, k (ix3 0 j d) * x1 (ix4 0 0 d r) := by
  pointwise [k0_pay170, k0_pay169, k0_pay5]

/-- The largest of the first chunk's scores is real when the point makes them itself, -/
theorem pay8_real (x1 : Vec Ideal S1x1x128x1024 .bf16) (k : Vec Ideal S1x256x128 .bf16) (r : Fin 1024) (S : Fin 256 → ℝ)
    (h : ∀ j, (∑ d : Fin 128, k (ix3 0 j d) * x1 (ix4 0 0 d r) : EReal) = S j) :
    ∃ ρ : ℝ, (k0_pay9 (F := Ideal) (k0_pay8 (F := Ideal) x1 k) (ix2 0 r) : EReal) = ρ := by
  obtain ⟨ρ, hρ⟩ := Cert.Attn.fold_max_real _ S h
  refine Exists.imp (fun ρ' h' => ?_) (Cert.Attn.fold_max_real (ι := Fin 8) _ (fun _ => ρ) fun _ => hρ)
  rw [← h']
  pointwise [k0_pay9, k0_pay8, k0_pay6, k0_pay2, Cert.Attn.ofBits_neg_inf]

/-- and when the point before made them. -/
theorem pay172_real (x1 : Vec Ideal S1x1x128x1024 .bf16) (k : Vec Ideal S1x256x128 .bf16) (r : Fin 1024) (S : Fin 256 → ℝ)
    (h : ∀ j, (∑ d : Fin 128, k (ix3 0 j d) * x1 (ix4 0 0 d r) : EReal) = S j) :
    ∃ ρ : ℝ, (k0_pay9 (F := Ideal) (k0_pay172 (F := Ideal) (k0_pay171 (F := Ideal) (k0_pay5 (F := Ideal) x1) k)) (ix2 0 r) : EReal) = ρ := by
  obtain ⟨ρ, hρ⟩ := Cert.Attn.fold_max_real _ S h
  refine Exists.imp (fun ρ' h' => ?_) (Cert.Attn.fold_max_real (ι := Fin 8) _ (fun _ => ρ) fun _ => hρ)
  rw [← h']
  pointwise [k0_pay9, k0_pay172, k0_pay171, k0_pay169, k0_pay5, Cert.Attn.ofBits_neg_inf]

end Cert.MlaIdeal.Value
-- ==== Proof.MlaPoint.lean ====
module

public import proofs.«01_k».proof.Proof.MlaTile

@[expose] public section

set_option maxRecDepth 16384

noncomputable section

namespace Cert.MlaIdeal.Value
open Idealize.ShloMosaic Idealize.ShloMosaic.TcCoe Idealize.SL.Sem
open Cert.MlaIdeal Cert.MlaIdeal.Gen

/-! ## The blocks of a point -/

/-- Point `64 b + 8 h + i` reads the queries' tile `i` of head `h`, the next tile too, the head's keys and its values. -/
theorem idx : ∀ t : Fin grid0.N, win0_0.index t = ![t.val / 64, t.val / 8 % 8, 0, t.val % 8]
    ∧ win0_1.index t = ![t.val / 64, t.val / 8 % 8, 0, min (t.val % 8 + 1) 7]
    ∧ win0_2.index t = ![t.val / 64, 0, t.val / 8 % 8] ∧ win0_3.index t = ![t.val / 64, t.val / 8 % 8, 0] := by
  decide +kernel

/-- There are 256 points. -/
theorem lt_N (t : Fin grid0.N) : t.val < 256 := lt_of_lt_of_eq t.isLt N_0

section Blocks

variable {F : FTy → Type} [FloatOps F] (m : (ℓ : Loc nD τ sig) → Buf (Elt F) ℓ) (c : Dev nD)

/-- The four blocks a point reads. -/
def b0 (t : Fin cfg0.N) : Vec F S1x1x128x1024 .bf16 := iblk m c 0 t
def b1 (t : Fin cfg0.N) : Vec F S1x1x128x1024 .bf16 := iblk m c 1 t
def b2 (t : Fin cfg0.N) : Vec F S1x8192x128 .bf16 := iblk m c 2 t
def b3 (t : Fin cfg0.N) : Vec F S1x64x8192 .bf16 := iblk m c 3 t

/-! ## What a point leaves -/

set_option maxHeartbeats 2000000 in
/-- The scores a point hands on are those of its next tile with its head's first chunk of keys, -/
theorem left_scores (t : Fin cfg0.N) : View.ld (outsAt0 m c t.val t.isLt).2.1
      (Rect.unit (s := S2x256x1024) ![0, 0, 0] S1x256x1024.size inb_S2x256x1024_S1x256x1024_0_0_0)
    = k0_pay170 (k0_pay5 (b1 m c t)) (kch (b2 m c t) 0) := by
  by_cases h0 : t.val % 8 = 0
  · rw [outsAt0_A m c t h0]; dsimp only; rw [sc_A]; rfl
  · rw [outsAt0_B m c t h0]; dsimp only; rw [sc_B]; rfl

set_option maxHeartbeats 2000000 in
/-- and the maximum is theirs. -/
theorem left_max (t : Fin cfg0.N) : (outsAt0 m c t.val t.isLt).2.2
    = k0_pay172 (k0_pay171 (k0_pay5 (b1 m c t)) (kch (b2 m c t) 0)) := by
  by_cases h0 : t.val % 8 = 0
  · rw [outsAt0_A m c t h0]; dsimp only; rw [mx_A]; rfl
  · rw [outsAt0_B m c t h0]; dsimp only; rw [mx_B]; rfl

set_option maxHeartbeats 2000000 in
/-- The tile of a point that starts a row of tiles: it makes the first chunk's scores itself. -/
theorem out_first (t : Fin cfg0.N) (h0 : t.val % 8 = 0) : (outsAt0 m c t.val t.isLt).1
    = fin (acc (k0_pay9 (k0_pay8 (b0 m c t) (kch (b2 m c t) 0))) (k0_pay7 (b0 m c t) (kch (b2 m c t) 0)) (b0 m c t) (b2 m c t) (b3 m c t) 32) := by
  rw [outsAt0_A m c t h0]; dsimp only; rw [out_A]; rfl

set_option maxHeartbeats 2000000 in
/-- The tile of any other point: the point before made them. -/
theorem out_next (n : ℕ) (hn : n + 1 < cfg0.N) (h0 : ¬(n + 1) % 8 = 0) : (outsAt0 m c (n + 1) hn).1
    = fin (acc (k0_pay9 (k0_pay172 (k0_pay171 (k0_pay5 (b1 m c ⟨n, Nat.lt_of_succ_lt hn⟩)) (kch (b2 m c ⟨n, Nat.lt_of_succ_lt hn⟩) 0))))
        (k0_pay170 (k0_pay5 (b1 m c ⟨n, Nat.lt_of_succ_lt hn⟩)) (kch (b2 m c ⟨n, Nat.lt_of_succ_lt hn⟩) 0))
        (b0 m c ⟨n + 1, hn⟩) (b2 m c ⟨n + 1, hn⟩) (b3 m c ⟨n + 1, hn⟩) 32) := by
  rw [← left_scores m c ⟨n, Nat.lt_of_succ_lt hn⟩, ← left_max m c ⟨n, Nat.lt_of_succ_lt hn⟩]
  have h := outsAt0_B m c ⟨n + 1, hn⟩ h0
  dsimp only at h
  rw [h]; dsimp only; rw [out_B]; rfl

end Blocks

variable (m : (ℓ : Loc nD τ sig) → Buf (Elt Ideal) ℓ) (c : Dev nD)

/-- The queries, the keys and the values. -/
abbrev qs (b : Fin 4) (h : Fin 8) (d : Fin 128) (p : Fin 8192) : EReal := m ((c : Thread nD τ).loc main_arg0) (ix4 b h d p)
abbrev ks (b : Fin 4) (k : Fin 8192) (d : Fin 1024) : EReal := m ((c : Thread nD τ).loc main_arg1) (ix3 b k d)
abbrev vs (b : Fin 4) (d : Fin 512) (k : Fin 8192) : EReal := m ((c : Thread nD τ).loc main_arg2) (ix3 b d k)

/-- The blocks at an index: the tile's queries, -/
theorem blk0 (t : Fin cfg0.N) (d : Fin 128) (r : Fin 1024) (b : Fin 4) (h : Fin 8) (p : Fin 8192) (hb : b.val = t.val / 64)
    (hh : h.val = t.val / 8 % 8) (hp : p.val = 1024 * (t.val % 8) + r.val) : (b0 m c t (ix4 0 0 d r) : EReal) = qs m c b h d p := by
  have e := (idx t).1
  blk_ext [b0, iblk, V, e]

/-- the next tile's, -/
theorem blk1 (t : Fin cfg0.N) (d : Fin 128) (r : Fin 1024) (b : Fin 4) (h : Fin 8) (p : Fin 8192) (hb : b.val = t.val / 64)
    (hh : h.val = t.val / 8 % 8) (hp : p.val = 1024 * min (t.val % 8 + 1) 7 + r.val) : (b1 m c t (ix4 0 0 d r) : EReal) = qs m c b h d p := by
  have e := (idx t).2.1
  blk_ext [b1, iblk, V, e]

/-- the head's keys -/
theorem blk2 (t : Fin cfg0.N) (k : Fin 8192) (d : Fin 128) (b : Fin 4) (e : Fin 1024) (hb : b.val = t.val / 64)
    (he : e.val = 128 * (t.val / 8 % 8) + d.val) : (b2 m c t (ix3 0 k d) : EReal) = ks m c b k e := by
  have e := (idx t).2.2.1
  blk_ext [b2, iblk, V, e]

/-- and its values. -/
theorem blk3 (t : Fin cfg0.N) (x : Fin 64) (k : Fin 8192) (b : Fin 4) (e : Fin 512) (hb : b.val = t.val / 64)
    (he : e.val = 64 * (t.val / 8 % 8) + x.val) : (b3 m c t (ix3 0 x k) : EReal) = vs m c b e k := by
  have e := (idx t).2.2.2
  blk_ext [b3, iblk, V, e]

/-- Every score is real. -/
abbrev Scored (S : Fin 4 → Fin 8 → Fin 8192 → Fin 8192 → ℝ) : Prop := ∀ (b : Fin 4) (h : Fin 8) (p k : Fin 8192),
  ∑ d : Fin 128, ks m c b k ⟨128 * h.val + d.val, by omega⟩ * qs m c b h d p = S b h p k

variable {m c} in
/-- The first chunk's keys against the block of queries that lies at column `p`. -/
theorem chunk0 {S : Fin 4 → Fin 8 → Fin 8192 → Fin 8192 → ℝ} (hS : Scored m c S) (t : Fin cfg0.N) (q : Vec Ideal S1x1x128x1024 .bf16)
    (r : Fin 1024) (b : Fin 4) (h : Fin 8) (p : Fin 8192) (hb : b.val = t.val / 64) (hh : h.val = t.val / 8 % 8)
    (hq : ∀ d : Fin 128, (q (ix4 0 0 d r) : EReal) = qs m c b h d p) (j : Fin 256) :
    (∑ d : Fin 128, kch (F := Ideal) (b2 m c t) 0 (ix3 0 j d) * q (ix4 0 0 d r) : EReal) = S b h p ⟨j.val, by omega⟩ := by
  rw [← hS]
  refine Finset.sum_congr rfl fun d _ => ?_
  rw [kch_apply, blk2 m c t _ d b ⟨128 * h.val + d.val, by omega⟩ hb (by dsimp only; omega), hq]
  congr 3
  omega

variable {m c} in
/-- The tile a point computes. -/
theorem point {S : Fin 4 → Fin 8 → Fin 8192 → Fin 8192 → ℝ} (hS : Scored m c S) (t : Fin cfg0.N) (x : Fin 64) (r : Fin 1024)
    (b : Fin 4) (h : Fin 8) (p : Fin 8192) (hb : b.val = t.val / 64) (hh : h.val = t.val / 8 % 8) (hp : p.val = 1024 * (t.val % 8) + r.val)
    (v : Fin 512) (hv : v.val = 64 * h.val + x.val) :
    ((outsAt0 m c t.val t.isLt).1 (ix3 0 x r) : EReal) = ∑ k : Fin 8192, vs m c b v k * (Cert.Attn.share (S b h p) k : EReal) := by
  have hv : ∀ k, (b3 m c t (ix3 0 x k) : EReal) = vs m c b v k := fun k => blk3 m c t x k b v hb (by omega)
  have h0 : ∀ d : Fin 128, (b0 m c t (ix4 0 0 d r) : EReal) = qs m c b h d p := fun d => blk0 m c t d r b h p hb hh hp
  have hk : ∀ k : Fin 8192, (∑ d : Fin 128, b2 m c t (ix3 0 k d) * b0 m c t (ix4 0 0 d r) : EReal) = S b h p k := fun k => by
    rw [← hS]
    exact Finset.sum_congr rfl fun d _ => by rw [h0, blk2 m c t k d b ⟨128 * h.val + d.val, by omega⟩ hb (by dsimp only; omega)]
  by_cases hA : t.val % 8 = 0
  · rw [out_first m c t hA]
    have hc := chunk0 hS t (b0 m c t) r b h p hb hh h0
    obtain ⟨ρ, hρ⟩ := pay8_real _ _ r _ hc
    rw [tile _ _ _ _ _ x r (S b h p) hk ρ hρ fun j => (pay7_apply _ _ j r).trans (hc j)]
    exact Finset.sum_congr rfl fun k _ => by rw [hv]
  · obtain ⟨n, hn⟩ : ∃ n, t.val = n + 1 := ⟨t.val - 1, by omega⟩
    obtain ⟨t, ht⟩ := t
    dsimp only at hn
    subst hn
    dsimp only at hA hb hh hp
    rw [out_next m c n ht hA]
    have hc := chunk0 hS ⟨n, Nat.lt_of_succ_lt ht⟩ (b1 m c ⟨n, Nat.lt_of_succ_lt ht⟩) r b h p (by dsimp only; omega) (by dsimp only; omega)
      fun d => blk1 m c _ d r b h p (by dsimp only; omega) (by dsimp only; omega) (by dsimp only; omega)
    obtain ⟨ρ, hρ⟩ := pay172_real _ _ r _ hc
    rw [tile _ _ _ _ _ x r (S b h p) hk ρ hρ fun j => (pay170_apply _ _ j r).trans (hc j)]
    exact Finset.sum_congr rfl fun k _ => by rw [hv]

variable {m c} in
/-- The result array. -/
theorem result {S : Fin 4 → Fin 8 → Fin 8192 → Fin 8192 → ℝ} (hS : Scored m c S) (b : Fin 4) (v : Fin 512) (p : Fin 8192) :
    (G4 m c (ix3 b v p) : EReal)
      = ∑ k : Fin 8192, vs m c b v k * (Cert.Attn.share (S b ⟨v.val / 64, by omega⟩ p) k : EReal) := by
  have e : pt4Of (ix3 b v p) = 64 * b.val + 8 * (v.val / 64) + p.val / 1024 := by
    show 64 * (b.val / 1 - 0) + 8 * (v.val / 64 - 0) + 1 * (p.val / 1024 - 0) = _
    omega
  have hlt : pt4Of (ix3 b v p) < cfg0.N := by rw [e, show cfg0.N = 256 from N_0]; omega
  unfold G4
  rw [dif_pos hlt, ← outsAt0_sweep m c _ hlt]
  refine Eq.trans (congrArg _ ?_) (point hS ⟨_, hlt⟩ ⟨v.val % 64, by omega⟩ ⟨p.val % 1024, by omega⟩ b ⟨v.val / 64, by omega⟩ p ?_ ?_ ?_ v ?_)
  · funext a; fin_cases a
    · apply Fin.ext; show b.val % 1 = 0; omega
    · rfl
    · rfl
  all_goals dsimp only; omega

end Cert.MlaIdeal.Value
-- ==== Proof.MlaValue.lean ====
module

public import proofs.«01_k».proof.Defs
public import proofs.«01_k».proof.Proof.MlaPoint
public import proofs.«01_k».proof.Proof.Gen.MlaRefIdeal.Run
public import proofs.«01_k».proof.Proof.Gen.Pre_mla_finite
public import Idealize.ShloMosaic.Lib.Quiescent

@[expose] public section

set_option maxRecDepth 16384

noncomputable section

namespace Cert.Mla.Tie
open Idealize.ShloMosaic Idealize.ShloMosaic.TcCoe Idealize.SL.Sem

section Reference
open Cert.MlaRefIdeal Cert.MlaRefIdeal.Gen

variable (q : FVec Ideal S4x8x128x8192 .bf16) (k : FVec Ideal S4x8192x1024 .bf16) (v : FVec Ideal S4x512x8192 .bf16)

/-- The reference's scores in the exponential's base. -/
def rscores : FVec Ideal S4x8x8192x8192 .f32 :=
  mulf (Host.dotGeneral dot_S4x8x128x8192_S4x8192x8x128_S4x8x8192x8192_2_3_3_1_01_02 none (extf .f32 q bitsLt_bf16_f32)
      (shapeCast _ (extf .f32 k bitsLt_bf16_f32) shapeCasts_S4x8192x1024_S4x8192x8x128))
    (broadcastInDim S4x8x8192x8192 ![] bcast_S_S4x8x8192x8192 (Host.log (constant S_ .f32 0x40000000#32)))

/-- A score at its place. -/
theorem rscores_apply (b : Fin 4) (h : Fin 8) (p l : Fin 8192) : (rscores q k (ix4 b h p l) : EReal)
    = (∑ d : Fin 128, q (ix4 b h d p) * k (ix3 b l ⟨128 * h.val + d.val, by omega⟩)) * Ideal.log (2 : ℝ) := by
  pointwise [rscores, Cert.Attn.ofBits_two]
  simp only [Nat.mul_comm]

/-- Its largest score of a query, -/
def rmax : FVec Ideal S4x8x8192 .f32 :=
  maximumf (broadcastInDim S4x8x8192 ![] bcast_S_S4x8x8192 (constant S_ .f32 0xFF800000#32))
    (Host.reduce FloatOps.maximumf (rscores q k) (constant S_ .f32 0xFF800000#32) reducesTo_S4x8x8192x8192_S4x8x8192_d3 h_S_)

/-- its exponentials, -/
def rexp : FVec Ideal S4x8x8192x8192 .f32 :=
  Host.exp (subf (rscores q k) (broadcastInDim S4x8x8192x8192 ![0, 1, 2, 3] bcast_S4x8x8192x1_S4x8x8192x8192_0_1_2_3
    (broadcastInDim S4x8x8192x1 ![0, 1, 2] bcast_S4x8x8192_S4x8x8192x1_0_1_2 (rmax q k))))

/-- and its result. -/
def rout : FVec Ideal S4x512x8192 .f32 :=
  shapeCast _ (Host.dotGeneral dot_S4x8x64x8192_S4x8x8192x8192_S4x8x64x8192_3_3_2_2_01_01 none
    (shapeCast _ (extf .f32 v bitsLt_bf16_f32) shapeCasts_S4x512x8192_S4x8x64x8192)
    (Host.divf (rexp q k) (broadcastInDim S4x8x8192x8192 ![0, 1, 2, 3] bcast_S4x8x8192x1_S4x8x8192x8192_0_1_2_3
      (broadcastInDim S4x8x8192x1 ![0, 1, 2] bcast_S4x8x8192_S4x8x8192x1_0_1_2
        (Host.reduceAdd (rexp q k) (constant S_ .f32 0x00000000#32) reducesTo_S4x8x8192x8192_S4x8x8192_d3 h_S_)))))
    shapeCasts_S4x8x64x8192_S4x512x8192

/-- The largest of real scores is real. -/
theorem rmax_real (hs : ∀ i, ∃ ρ : ℝ, (rscores q k i : EReal) = ρ) (j : S4x8x8192.Idx) : ∃ ρ : ℝ, (rmax q k j : EReal) = ρ :=
  Cert.Attn.hostMax_real_of (rscores q k) _ reducesTo_S4x8x8192x8192_S4x8x8192_d3 ⟨rfl, Nat.succ_pos 2, reducesTo_S4x8x8192x8192_S4x8x8192_d3.2⟩ h_S_
    (Nat.succ_pos 8191) hs (fun _ => rfl) j

/-- An exponential at its place. -/
theorem rexp_apply (b : Fin 4) (h : Fin 8) (p l : Fin 8192) : (rexp q k (ix4 b h p l) : EReal)
    = Ideal.exp (rscores q k (ix4 b h p l) - rmax q k (ix3 b h p)) := by
  pointwise [rexp]

/-- The result at its place. -/
theorem rout_apply (b : Fin 4) (e : Fin 512) (p : Fin 8192) : (rout q k v (ix3 b e p) : EReal)
    = ∑ l : Fin 8192, v (ix3 b e l) * Ideal.div (rexp q k (ix4 b ⟨e.val / 64, by omega⟩ p l))
        (∑ l : Fin 8192, rexp q k (ix4 b ⟨e.val / 64, by omega⟩ p l)) := by
  pointwise [rout]

/-- With real scores the reference weighs the values by their shares. -/
theorem rresult {S : Fin 4 → Fin 8 → Fin 8192 → Fin 8192 → ℝ}
    (hS : ∀ (b : Fin 4) (h : Fin 8) (p l : Fin 8192), (∑ d : Fin 128, k (ix3 b l ⟨128 * h.val + d.val, by omega⟩) * q (ix4 b h d p) : EReal) = S b h p l)
    (b : Fin 4) (e : Fin 512) (p : Fin 8192) : (rout q k v (ix3 b e p) : EReal)
    = ∑ l : Fin 8192, v (ix3 b e l) * (Cert.Attn.share (S b ⟨e.val / 64, by omega⟩ p) l : EReal) := by
  have hs : ∀ b h p l, (rscores q k (ix4 b h p l) : EReal) = ((S b h p l * Real.log 2 : ℝ) : EReal) := fun b h p l => by
    rw [rscores_apply, EReal.coe_mul, ← hS]
    congr 1
    · exact Finset.sum_congr rfl fun d _ => mul_comm _ _
    · exact (Ideal.log_coe _).trans (if_neg (by norm_num))
  have hr : ∀ i, ∃ ρ : ℝ, (rscores q k i : EReal) = ρ := fun i => by
    obtain ⟨b, h, p, l, rfl⟩ : ∃ b h p l, i = ix4 b h p l := ⟨i 0, i 1, i 2, i 3, by funext a; fin_cases a <;> rfl⟩
    exact ⟨_, hs b h p l⟩
  rw [rout_apply]
  refine Finset.sum_congr rfl fun l _ => ?_
  congr 1
  obtain ⟨ρ, hρ⟩ := rmax_real q k hr (ix3 b ⟨e.val / 64, by omega⟩ p)
  simp only [rexp_apply, hs, hρ]
  exact Cert.Attn.softmax_shares _ _ _

end Reference

section Finite
open Cert.Pre_mla_finite

variable (q : FVec Ideal S4x8x128x8192 .bf16) (k : FVec Ideal S4x8192x1024 .bf16) (v : FVec Ideal S4x512x8192 .bf16)

/-- The precondition makes every query real, -/
theorem finite_q (h : (fn (F := Ideal) q k v).1 = fun _ => 1#1) (i : S4x8x128x8192.Idx) : ∃ r : ℝ, (q i : EReal) = r := by
  have h := congrFun h i
  dsimp only [fn] at h
  pointwise [Cert.Attn.ofBits_inf] at h
  exact Cert.Attn.real_of_bit h

/-- and every key. -/
theorem finite_k (h : (fn (F := Ideal) q k v).2 = fun _ => 1#1) (i : S4x8192x1024.Idx) : ∃ r : ℝ, (k i : EReal) = r := by
  have h := congrFun h i
  dsimp only [fn] at h
  pointwise [Cert.Attn.ofBits_inf] at h
  exact Cert.Attn.real_of_bit h

end Finite
section Runs

/-- The reference's run, its result named. -/
theorem ref_run (m : (ℓ : Loc Cert.MlaRefIdeal.nD Cert.MlaRefIdeal.τ Cert.MlaRefIdeal.sig) → Buf (Elt Ideal) ℓ) (ρ : Dev Cert.MlaRefIdeal.nD → PrngReg) :
    θ_run (Cert.MlaRefIdeal.defs (F := Ideal)) (onTc (τ := Cert.MlaRefIdeal.τ) (Cert.MlaRefIdeal.main (F := Ideal))) ⟨m, fun _ => 0, ρ⟩ fun r => ∀ c : Dev Cert.MlaRefIdeal.nD,
      r.2.mem ((c.tc : Thread Cert.MlaRefIdeal.nD Cert.MlaRefIdeal.τ).loc Cert.MlaRefIdeal.main_v21)
        = rout (m ((c.tc : Thread Cert.MlaRefIdeal.nD Cert.MlaRefIdeal.τ).loc Cert.MlaRefIdeal.main_arg0))
            (m ((c.tc : Thread Cert.MlaRefIdeal.nD Cert.MlaRefIdeal.τ).loc Cert.MlaRefIdeal.main_arg1))
            (m ((c.tc : Thread Cert.MlaRefIdeal.nD Cert.MlaRefIdeal.τ).loc Cert.MlaRefIdeal.main_arg2))
      ∧ r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2) :=
  Cert.MlaRefIdeal.Value.run m ρ

/-- The reference keeps its arguments and ends with its counters at zero. -/
theorem ref_frame (m : (ℓ : Loc Cert.MlaRefIdeal.nD Cert.MlaRefIdeal.τ Cert.MlaRefIdeal.sig) → Buf (Elt Ideal) ℓ) (ρ : Dev Cert.MlaRefIdeal.nD → PrngReg) :
    θ_run (Cert.MlaRefIdeal.defs (F := Ideal)) (onTc (τ := Cert.MlaRefIdeal.τ) (Cert.MlaRefIdeal.main (F := Ideal))) ⟨m, fun _ => 0, ρ⟩ fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0 :=
  (θ_run _ _ _).mono (fun r h => ⟨fun c => (h c).2, sem_eq_zero_of_no_sems (by decide) r.2⟩) (Cert.MlaRefIdeal.Value.run m ρ)

/-- The call and its reference leave the same array. -/
theorem tie (m : (ℓ : Loc Cert.MlaIdeal.nD Cert.MlaIdeal.τ Cert.MlaIdeal.sig) → Buf (Elt Ideal) ℓ) (hm : Cert.Pre_MlaIdeal_mla_finite m) (c : Dev Cert.MlaIdeal.nD) :
    rout (m ((c.tc : Thread Cert.MlaIdeal.nD Cert.MlaIdeal.τ).loc Cert.MlaIdeal.main_arg0))
        (m ((c.tc : Thread Cert.MlaIdeal.nD Cert.MlaIdeal.τ).loc Cert.MlaIdeal.main_arg1))
        (m ((c.tc : Thread Cert.MlaIdeal.nD Cert.MlaIdeal.τ).loc Cert.MlaIdeal.main_arg2)) = Cert.MlaIdeal.Value.G4 m c := by
  have hq := finite_q _ _ _ (hm c).1
  have hk := finite_k _ _ _ (hm c).2
  have hS : ∃ S, Cert.MlaIdeal.Value.Scored m c S := by
    choose S hS using fun (b : Fin 4) (h : Fin 8) (p l : Fin 8192) => Cert.Attn.sum_mul_real
      (fun d : Fin 128 => Cert.MlaIdeal.Value.ks m c b l ⟨128 * h.val + d.val, by omega⟩) (fun d => Cert.MlaIdeal.Value.qs m c b h d p)
      (fun d => hk _) (fun d => hq _)
    exact ⟨S, hS⟩
  obtain ⟨S, hS⟩ := hS
  funext i
  obtain ⟨b, e, p, rfl⟩ : ∃ (b : Fin 4) (e : Fin 512) (p : Fin 8192), i = ix3 b e p := ⟨i 0, i 1, i 2, by funext a; fin_cases a <;> rfl⟩
  exact (rresult _ _ _ hS b e p).trans (Cert.MlaIdeal.Value.result hS b e p).symm

/-- The value claim. -/
theorem algebraic : Cert.algebraic_MlaIdeal_MlaRefIdeal_pre_mla_finite := fun m g m' g' hm hagree =>
  ⟨fun c => Cert.MlaIdeal.Value.G4 m c, Cert.MlaIdeal.Value.run m g,
    (θ_run _ _ _).mono (fun r h c => by
      refine ⟨?_, (h c).2⟩
      rw [(h c).1, (hagree c).1, (hagree c).2.1, (hagree c).2.2]
      exact tie m hm c) (ref_run m' g')⟩

end Runs
end Cert.Mla.Tie
-- ==== Proof.GqaChain.lean ====
module

public import proofs.«01_k».proof.Proof.Gen.GqaIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GqaIdeal.Value
open Idealize.ShloMosaic Idealize.ShloMosaic.TcCoe Idealize.SL.Sem
open Idealize.ShloMosaic.Pipeline (Dat)
open Cert.GqaIdeal Cert.GqaIdeal.Gen

variable {F : FTy → Type} [FloatOps F]

/-- The scores of a chunk of keys against a tile of queries. -/
def scr (q : Vec F S1x1x128x1024 .bf16) (k : Vec F S1x256x128 .bf16) : FVec F S256x1024 .f32 :=
  matmul dot_S256x128_S128x1024_S256x1024_1_0_0_1_n_n none (shapeCast S256x128 k shapeCasts_S1x256x128_S256x128)
    (shapeCast S128x1024 q shapeCasts_S1x1x128x1024_S128x1024) (constant S256x1024 .f32 0x00000000#32)

/-- The largest score of each query of a tile, over a chunk. -/
def cmx (s : FVec F S256x1024 .f32) : FVec F S1x1024 .f32 :=
  shapeCast S1x1024 (multiReduction .maximumf [0] S1024 s 0xFF800000#32 reduces_S256x1024_S1024 (.inl rfl) rfl) shapeCasts_S1024_S1x1024

/-- Chunk `n` of the keys. -/
def kch (x2 : Vec F S1x8192x128 .bf16) (n : ℕ) : Vec F S1x256x128 .bf16 :=
  View.ld x2 (Rect.unit (s := S1x8192x128) ![0, 256 * (n % 32), 0] S1x256x128.size
    (fun a => by match a with
      | ⟨0, _⟩ => exact Nat.le_refl 1
      | ⟨1, _⟩ => show 256 * (n % 32) + 256 ≤ 8192; omega
      | ⟨2, _⟩ => exact Nat.le_refl 128))

/-- Chunk `n` of the values. -/
def vch (x3 : Vec F S1x64x8192 .bf16) (n : ℕ) : Vec F S1x64x256 .bf16 :=
  View.ld x3 (Rect.unit (s := S1x64x8192) ![0, 0, 256 * (n % 32)] S1x64x256.size
    (fun a => by match a with
      | ⟨0, _⟩ => exact Nat.le_refl 1
      | ⟨1, _⟩ => exact Nat.le_refl 64
      | ⟨2, _⟩ => show 256 * (n % 32) + 256 ≤ 8192; omega))

/-- One step of the running weighted sums: the old sums rescaled to the new maximum, plus the chunk's. -/
def stp (mo mn : FVec F S1x1024 .f32) (s : Vec F S1x256x1024 .f32) (v : Vec F S1x64x256 .bf16) (a : FVec F S80x1024 .f32) : FVec F S80x1024 .f32 :=
  addf (mulf a (broadcastTo S80x1024 (exp2 (subf mo mn)) broadcasts_S1x1024_S80x1024))
    (matmul dot_S80x256_S256x1024_S80x1024_1_0_0_1_n_n none
      (concatenate S80x256 0 [⟨S64x256, shapeCast S64x256 v shapeCasts_S1x64x256_S64x256⟩, ⟨S16x256, broadcast S16x256 (Scalar.ofBits .bf16 0x3F80#16)⟩] concatenates_S64x256_S16x256_S80x256_d0)
      (truncf .bf16 (exp2 (subf (shapeCast S256x1024 s shapeCasts_S1x256x1024_S256x1024) (broadcastTo S256x1024 mn broadcasts_S1x1024_S256x1024))) bitsLt_bf16_f32)
      (constant S80x1024 .f32 0x00000000#32))

/-- The running maximum after `n` chunks, from the first chunk's `m0`. -/
def mxs (m0 : FVec F S1x1024 .f32) (q : Vec F S1x1x128x1024 .bf16) (x2 : Vec F S1x8192x128 .bf16) : ℕ → FVec F S1x1024 .f32
  | 0 => broadcast S1x1024 (Scalar.ofBits .f32 0xFF800000#32)
  | 1 => maximumf (broadcast S1x1024 (Scalar.ofBits .f32 0xFF800000#32)) m0
  | n + 2 => maximumf (mxs m0 q x2 (n + 1)) (cmx (scr q (kch x2 (n + 1))))

/-- The scores of chunk `n`; the first chunk's are `s0`. -/
def scs (s0 : Vec F S1x256x1024 .f32) (q : Vec F S1x1x128x1024 .bf16) (x2 : Vec F S1x8192x128 .bf16) : ℕ → Vec F S1x256x1024 .f32
  | 0 => s0
  | n + 1 => shapeCast S1x256x1024 (scr q (kch x2 (n + 1))) shapeCasts_S256x1024_S1x256x1024

/-- The running weighted sums after `n` chunks. -/
def acc (m0 : FVec F S1x1024 .f32) (s0 : Vec F S1x256x1024 .f32) (q : Vec F S1x1x128x1024 .bf16) (x2 : Vec F S1x8192x128 .bf16) (x3 : Vec F S1x64x8192 .bf16) :
    ℕ → FVec F S80x1024 .f32
  | 0 => broadcast S80x1024 (Scalar.ofBits .f32 0x00000000#32)
  | n + 1 => stp (mxs m0 q x2 n) (mxs m0 q x2 (n + 1)) (scs s0 q x2 n) (vch x3 n) (acc m0 s0 q x2 x3 n)

/-- The tile's result: the weighted sums of the values over the sum of the weights. -/
def fin (a : FVec F S80x1024 .f32) : FVec F S1x64x1024 .f32 :=
  shapeCast S1x64x1024 (divf (extractStridedSlice S64x1024 ![0, 0] a slices_S80x1024_o0_0_S64x1024)
    (broadcastTo S64x1024 (extractStridedSlice S1x1024 ![64, 0] a slices_S80x1024_o64_0_S1x1024) broadcasts_S1x1024_S64x1024)) shapeCasts_S64x1024_S1x64x1024

set_option maxHeartbeats 4000000 in
/-- A later point's tile, from the scratch `xs0`, `xs1` the point before left. -/
theorem out_B (c : Dev nD) (i : grid0.Coords) (a3 h3 a4 h4 a5 h5 a6 h6 a7 h7 hc x0 x1 x2 x3 xs0 xs1) :
   out0_B_4 (F := F) c i a3 h3 a4 h4 a5 h5 a6 h6 a7 h7 scM0_0 (Memref.isWhole_whole _) scM0_1 (Memref.isWhole_whole _) scM0_2 (Memref.isWhole_whole _) hc x0 x1 x2 x3 xs0 xs1
     = fin (acc (k0_pay9 xs1) (View.ld xs0 (Rect.unit (s := S2x256x1024) ![0, 0, 0] S1x256x1024.size inb_S2x256x1024_S1x256x1024_0_0_0)) x0 x2 x3 32) := by
  frame_open
  simp (disch := decide) only [↓ View.readCov_skip, ↓ View.readCov_cons_toLoadRect, ↓ View.readCov_fill]
  frame_out
  try simp only [read_unread_whole]
  rfl

set_option maxHeartbeats 4000000 in
/-- A first point's tile. -/
theorem out_A (c : Dev nD) (i : grid0.Coords) (a3 h3 a4 h4 a5 h5 a6 h6 a7 h7 hc x0 x1 x2 x3) :
   out0_A_4 (F := F) c i a3 h3 a4 h4 a5 h5 a6 h6 a7 h7 scM0_0 (Memref.isWhole_whole _) scM0_1 (Memref.isWhole_whole _) scM0_2 (Memref.isWhole_whole _) hc x0 x1 x2 x3
     = fin (acc (k0_pay9 (k0_pay8 x0 (kch x2 0))) (k0_pay7 x0 (kch x2 0)) x0 x2 x3 32) := by
  frame_open
  simp (disch := decide) only [↓ View.readCov_skip, ↓ View.readCov_cons_toLoadRect, ↓ View.readCov_fill]
  frame_out
  try simp only [read_unread_whole]
  rfl

set_option maxHeartbeats 4000000 in
/-- A first point leaves the maximum of the next tile's first chunk, -/
theorem mx_A (c : Dev nD) (i : grid0.Coords) (a3 h3 a4 h4 a5 h5 a6 h6 a7 h7 hc x0 x1 x2 x3) :
   sout0_A_1 (F := F) c i a3 h3 a4 h4 a5 h5 a6 h6 a7 h7 scM0_0 (Memref.isWhole_whole _) scM0_1 (Memref.isWhole_whole _) scM0_2 (Memref.isWhole_whole _) hc x0 x1 x2 x3
     = k0_pay172 (k0_pay171 (k0_pay5 x1) (kch x2 0)) := by
  frame_open
  simp (disch := decide) only [↓ View.readCov_skip, ↓ View.readCov_cons_toLoadRect, ↓ View.readCov_fill]
  frame_out
  try simp only [read_unread_whole]
  rfl

set_option maxHeartbeats 4000000 in
/-- and so does a later one. -/
theorem mx_B (c : Dev nD) (i : grid0.Coords) (a3 h3 a4 h4 a5 h5 a6 h6 a7 h7 hc x0 x1 x2 x3 xs0 xs1) :
   sout0_B_1 (F := F) c i a3 h3 a4 h4 a5 h5 a6 h6 a7 h7 scM0_0 (Memref.isWhole_whole _) scM0_1 (Memref.isWhole_whole _) scM0_2 (Memref.isWhole_whole _) hc x0 x1 x2 x3 xs0 xs1
     = k0_pay172 (k0_pay171 (k0_pay5 x1) (kch x2 0)) := by
  frame_open
  simp (disch := decide) only [↓ View.readCov_skip, ↓ View.readCov_cons_toLoadRect, ↓ View.readCov_fill]
  frame_out
  try simp only [read_unread_whole]
  rfl

set_option maxHeartbeats 4000000 in
/-- A first point leaves the scores of the next tile's first chunk, -/
theorem sc_A (c : Dev nD) (i : grid0.Coords) (a3 h3 a4 h4 a5 h5 a6 h6 a7 h7 hc x0 x1 x2 x3) :
   View.ld (sout0_A_0 (F := F) c i a3 h3 a4 h4 a5 h5 a6 h6 a7 h7 scM0_0 (Memref.isWhole_whole _) scM0_1 (Memref.isWhole_whole _) scM0_2 (Memref.isWhole_whole _) hc x0 x1 x2 x3)
      (Rect.unit (s := S2x256x1024) ![0, 0, 0] S1x256x1024.size inb_S2x256x1024_S1x256x1024_0_0_0)
     = k0_pay170 (k0_pay5 x1) (kch x2 0) := by
  frame_open
  simp (disch := decide) only [↓ View.readCov_skip, ↓ View.readCov_cons_toLoadRect, ↓ View.readCov_fill]
  frame_out
  try simp only [read_unread_whole]
  exact funext fun y => View.canon_cons_emb _ _ _ y

set_option maxHeartbeats 4000000 in
/-- and so does a later one. -/
theorem sc_B (c : Dev nD) (i : grid0.Coords) (a3 h3 a4 h4 a5 h5 a6 h6 a7 h7 hc x0 x1 x2 x3 xs0 xs1) :
   View.ld (sout0_B_0 (F := F) c i a3 h3 a4 h4 a5 h5 a6 h6 a7 h7 scM0_0 (Memref.isWhole_whole _) scM0_1 (Memref.isWhole_whole _) scM0_2 (Memref.isWhole_whole _) hc x0 x1 x2 x3 xs0 xs1)
      (Rect.unit (s := S2x256x1024) ![0, 0, 0] S1x256x1024.size inb_S2x256x1024_S1x256x1024_0_0_0)
     = k0_pay170 (k0_pay5 x1) (kch x2 0) := by
  frame_open
  simp (disch := decide) only [↓ View.readCov_skip, ↓ View.readCov_cons_toLoadRect, ↓ View.readCov_fill]
  frame_out
  try simp only [read_unread_whole]
  exact funext fun y => View.canon_cons_emb _ _ _ y

end Cert.GqaIdeal.Value
-- ==== Proof.GqaTile.lean ====
module

public import proofs.«01_k».proof.Proof.GqaChain
public import proofs.«01_k».proof.Proof.Softmax

@[expose] public section

set_option maxRecDepth 16384

noncomputable section

namespace Cert.GqaIdeal.Value
open Idealize.ShloMosaic Idealize.ShloMosaic.TcCoe Idealize.SL.Sem
open Cert.GqaIdeal Cert.GqaIdeal.Gen

/-! ## The chunk operations at an index -/

/-- A score is the product of its key and its query. -/
theorem scr_apply (q : Vec Ideal S1x1x128x1024 .bf16) (k : Vec Ideal S1x256x128 .bf16) (j : Fin 256) (r : Fin 1024) :
    (scr (F := Ideal) q k (ix2 j r) : EReal) = ∑ d : Fin 128, k (ix3 0 j d) * q (ix4 0 0 d r) := by
  pointwise [scr]

/-- The largest score of a chunk. -/
theorem cmx_apply (s : FVec Ideal S256x1024 .f32) (r : Fin 1024) :
    (cmx (F := Ideal) s (ix2 0 r) : EReal) = Finset.univ.fold max (⊥ : EReal) fun j : Fin 256 => s (ix2 j r) := by
  pointwise [cmx, Cert.Attn.ofBits_neg_inf]

/-- One step at a value's row. -/
theorem stp_apply (mo mn : FVec Ideal S1x1024 .f32) (s : Vec Ideal S1x256x1024 .f32) (v : Vec Ideal S1x64x256 .bf16)
    (a : FVec Ideal S80x1024 .f32) (x : Fin 64) (r : Fin 1024) :
    (stp (F := Ideal) mo mn s v a (ix2 ⟨x.val, by omega⟩ r) : EReal)
      = a (ix2 ⟨x.val, by omega⟩ r) * Ideal.exp2 (mo (ix2 0 r) - mn (ix2 0 r))
        + ∑ j : Fin 256, v (ix3 0 x j) * Ideal.exp2 (s (ix3 0 j r) - mn (ix2 0 r)) := by
  pointwise [stp]
  rfl

/-- One step at the row of ones. -/
theorem stp_one (mo mn : FVec Ideal S1x1024 .f32) (s : Vec Ideal S1x256x1024 .f32) (v : Vec Ideal S1x64x256 .bf16)
    (a : FVec Ideal S80x1024 .f32) (r : Fin 1024) :
    (stp (F := Ideal) mo mn s v a (ix2 64 r) : EReal)
      = a (ix2 64 r) * Ideal.exp2 (mo (ix2 0 r) - mn (ix2 0 r))
        + ∑ j : Fin 256, 1 * Ideal.exp2 (s (ix3 0 j r) - mn (ix2 0 r)) := by
  pointwise [stp]
  rfl

/-- A tile's result at an index. -/
theorem fin_apply (a : FVec Ideal S80x1024 .f32) (x : Fin 64) (r : Fin 1024) :
    (fin (F := Ideal) a (ix3 0 x r) : EReal) = Ideal.div (a (ix2 ⟨x.val, by omega⟩ r)) (a (ix2 64 r)) := by
  pointwise [fin]

/-- A chunk's key is a key of the head. -/
theorem kch_apply (x2 : Vec Ideal S1x8192x128 .bf16) (n : ℕ) (j : Fin 256) (d : Fin 128) :
    kch (F := Ideal) x2 n (ix3 0 j d) = x2 (ix3 0 ⟨256 * (n % 32) + j.val, by omega⟩ d) := by
  pointwise [kch]

/-- A chunk's value is a value of the head. -/
theorem vch_apply (x3 : Vec Ideal S1x64x8192 .bf16) (n : ℕ) (x : Fin 64) (j : Fin 256) :
    vch (F := Ideal) x3 n (ix3 0 x j) = x3 (ix3 0 x ⟨256 * (n % 32) + j.val, by omega⟩) := by
  pointwise [vch]

/-! ## A tile of queries -/

/-- A tile's result: its values weighted by the shares of its scores. The first chunk's scores `s0` are handed over, with any real
    `ρ` no matter which as its maximum. -/
theorem tile (m0 : FVec Ideal S1x1024 .f32) (s0 : Vec Ideal S1x256x1024 .f32) (q : Vec Ideal S1x1x128x1024 .bf16)
    (x2 : Vec Ideal S1x8192x128 .bf16) (x3 : Vec Ideal S1x64x8192 .bf16) (x : Fin 64) (r : Fin 1024)
    (S : Fin 8192 → ℝ) (hS : ∀ k : Fin 8192, (∑ d : Fin 128, x2 (ix3 0 k d) * q (ix4 0 0 d r) : EReal) = S k)
    (ρ : ℝ) (hm : (m0 (ix2 0 r) : EReal) = ρ)
    (hs0 : ∀ j : Fin 256, (s0 (ix3 0 j r) : EReal) = S ⟨j.val, by omega⟩) :
    (fin (acc m0 s0 q x2 x3 32) (ix3 0 x r) : EReal) = ∑ k : Fin 8192, x3 (ix3 0 x k) * (Cert.Attn.share S k : EReal) := by
  have hscr : ∀ n (j : Fin 256), (scr (F := Ideal) q (kch x2 n) (ix2 j r) : EReal) = S ⟨256 * (n % 32) + j.val, by omega⟩ := fun n j => by
    rw [scr_apply, ← hS]
    exact Finset.sum_congr rfl fun d _ => by rw [kch_apply]
  have hcmx : ∀ n, ∃ ρ : ℝ, (cmx (F := Ideal) (scr q (kch x2 n)) (ix2 0 r) : EReal) = ρ := fun n => by
    rw [cmx_apply]
    exact Cert.Attn.fold_max_real _ _ (hscr n)
  choose ν hν using hcmx
  have hscs : ∀ n (j : Fin 256), (scs s0 q x2 n (ix3 0 j r) : EReal) = S ⟨256 * (n % 32) + j.val, by omega⟩ := fun n j => by
    match n with
    | 0 => exact (hs0 j).trans (by congr 2; apply Fin.ext; show j.val = 256 * (0 % 32) + j.val; omega)
    | n + 1 => rw [← hscr]; pointwise [scs]
  rw [fin_apply]
  refine Cert.Attn.attend (K := 256) (C := 31) rfl S (fun k => x3 (ix3 0 x k))
    (fun n => mxs m0 q x2 n (ix2 0 r)) (fun n => acc m0 s0 q x2 x3 n (ix2 ⟨x.val, by omega⟩ r)) (fun n => acc m0 s0 q x2 x3 n (ix2 64 r))
    (fun n => if n = 0 then ρ else ν n) (fun n j => S ⟨256 * (n % 32) + j.val, by omega⟩)
    (fun n j => x3 (ix3 0 x ⟨256 * (n % 32) + j.val, by omega⟩)) ?_ ?_ ?_ ?_ ?_ ?_ ?_ ?_ ?_
  · intro n j h hn
    congr 1; apply Fin.ext; show 256 * (n % 32) + j.val = n * 256 + j.val; omega
  · intro n j h hn
    congr 2; apply Fin.ext; show 256 * (n % 32) + j.val = n * 256 + j.val; omega
  · exact Cert.Attn.ofBits_neg_inf
  · rw [if_pos rfl, ← hm, ← Cert.Attn.ofBits_neg_inf]; rfl
  · intro n
    rw [if_neg (Nat.succ_ne_zero n), ← hν]; rfl
  · exact Ideal.ofBits_zero_f32
  · intro n
    refine (stp_apply _ _ _ _ _ x r).trans ?_
    congr 1
    exact Finset.sum_congr rfl fun j _ => by rw [vch_apply, hscs]
  · exact Ideal.ofBits_zero_f32
  · intro n
    refine (stp_one _ _ _ _ _ r).trans ?_
    congr 1
    exact Finset.sum_congr rfl fun j _ => by rw [hscs]

/-! ## What a point hands on: the first chunk's scores of the next tile -/

/-- The first chunk's scores when the point makes them itself, -/
theorem pay7_apply (x1 : Vec Ideal S1x1x128x1024 .bf16) (k : Vec Ideal S1x256x128 .bf16) (j : Fin 256) (r : Fin 1024) :
    (k0_pay7 (F := Ideal) x1 k (ix3 0 j r) : EReal) = ∑ d : Fin 128, k (ix3 0 j d) * x1 (ix4 0 0 d r) := by
  pointwise [k0_pay7, k0_pay6, k0_pay2]

/-- and those made for the next tile. -/
theorem pay170_apply (x1 : Vec Ideal S1x1x128x1024 .bf16) (k : Vec Ideal S1x256x128 .bf16) (j : Fin 256) (r : Fin 1024) :
    (k0_pay170 (F := Ideal) (k0_pay5 (F := Ideal) x1) k (ix3 0 j r) : EReal) = ∑ d : Fin 128, k (ix3 0 j d) * x1 (ix4 0 0 d r) := by
  pointwise [k0_pay170, k0_pay169, k0_pay5]

/-- The largest of the first chunk's scores is real when the point makes them itself, -/
theorem pay8_real (x1 : Vec Ideal S1x1x128x1024 .bf16) (k : Vec Ideal S1x256x128 .bf16) (r : Fin 1024) (S : Fin 256 → ℝ)
    (h : ∀ j, (∑ d : Fin 128, k (ix3 0 j d) * x1 (ix4 0 0 d r) : EReal) = S j) :
    ∃ ρ : ℝ, (k0_pay9 (F := Ideal) (k0_pay8 (F := Ideal) x1 k) (ix2 0 r) : EReal) = ρ := by
  obtain ⟨ρ, hρ⟩ := Cert.Attn.fold_max_real _ S h
  refine Exists.imp (fun ρ' h' => ?_) (Cert.Attn.fold_max_real (ι := Fin 8) _ (fun _ => ρ) fun _ => hρ)
  rw [← h']
  pointwise [k0_pay9, k0_pay8, k0_pay6, k0_pay2, Cert.Attn.ofBits_neg_inf]

/-- and when the point before made them. -/
theorem pay172_real (x1 : Vec Ideal S1x1x128x1024 .bf16) (k : Vec Ideal S1x256x128 .bf16) (r : Fin 1024) (S : Fin 256 → ℝ)
    (h : ∀ j, (∑ d : Fin 128, k (ix3 0 j d) * x1 (ix4 0 0 d r) : EReal) = S j) :
    ∃ ρ : ℝ, (k0_pay9 (F := Ideal) (k0_pay172 (F := Ideal) (k0_pay171 (F := Ideal) (k0_pay5 (F := Ideal) x1) k)) (ix2 0 r) : EReal) = ρ := by
  obtain ⟨ρ, hρ⟩ := Cert.Attn.fold_max_real _ S h
  refine Exists.imp (fun ρ' h' => ?_) (Cert.Attn.fold_max_real (ι := Fin 8) _ (fun _ => ρ) fun _ => hρ)
  rw [← h']
  pointwise [k0_pay9, k0_pay172, k0_pay171, k0_pay169, k0_pay5, Cert.Attn.ofBits_neg_inf]

end Cert.GqaIdeal.Value
-- ==== Proof.GqaPoint.lean ====
module

public import proofs.«01_k».proof.Proof.GqaTile

@[expose] public section

set_option maxRecDepth 16384

noncomputable section

namespace Cert.GqaIdeal.Value
open Idealize.ShloMosaic Idealize.ShloMosaic.TcCoe Idealize.SL.Sem
open Cert.GqaIdeal Cert.GqaIdeal.Gen

/-! ## The blocks of a point -/

/-- Point `64 b + 8 h + i` reads the queries' tile `i` of head `h`, the next tile too, the keys and the values of the head's group. -/
theorem idx : ∀ t : Fin grid0.N, win0_0.index t = ![t.val / 64, t.val / 8 % 8, 0, t.val % 8]
    ∧ win0_1.index t = ![t.val / 64, t.val / 8 % 8, 0, min (t.val % 8 + 1) 7]
    ∧ win0_2.index t = ![t.val / 64, 0, 0] ∧ win0_3.index t = ![t.val / 64, t.val / 8 % 8 / 4, 0] := by
  decide +kernel

/-- There are 256 points. -/
theorem lt_N (t : Fin grid0.N) : t.val < 256 := lt_of_lt_of_eq t.isLt N_0

section Blocks

variable {F : FTy → Type} [FloatOps F] (m : (ℓ : Loc nD τ sig) → Buf (Elt F) ℓ) (c : Dev nD)

/-- The four blocks a point reads. -/
def b0 (t : Fin cfg0.N) : Vec F S1x1x128x1024 .bf16 := iblk m c 0 t
def b1 (t : Fin cfg0.N) : Vec F S1x1x128x1024 .bf16 := iblk m c 1 t
def b2 (t : Fin cfg0.N) : Vec F S1x8192x128 .bf16 := iblk m c 2 t
def b3 (t : Fin cfg0.N) : Vec F S1x64x8192 .bf16 := iblk m c 3 t

/-! ## What a point leaves -/

set_option maxHeartbeats 2000000 in
/-- The scores a point hands on are those of its next tile with its head's first chunk of keys, -/
theorem left_scores (t : Fin cfg0.N) : View.ld (outsAt0 m c t.val t.isLt).2.1
      (Rect.unit (s := S2x256x1024) ![0, 0, 0] S1x256x1024.size inb_S2x256x1024_S1x256x1024_0_0_0)
    = k0_pay170 (k0_pay5 (b1 m c t)) (kch (b2 m c t) 0) := by
  by_cases h0 : t.val % 8 = 0
  · rw [outsAt0_A m c t h0]; dsimp only; rw [sc_A]; rfl
  · rw [outsAt0_B m c t h0]; dsimp only; rw [sc_B]; rfl

set_option maxHeartbeats 2000000 in
/-- and the maximum is theirs. -/
theorem left_max (t : Fin cfg0.N) : (outsAt0 m c t.val t.isLt).2.2
    = k0_pay172 (k0_pay171 (k0_pay5 (b1 m c t)) (kch (b2 m c t) 0)) := by
  by_cases h0 : t.val % 8 = 0
  · rw [outsAt0_A m c t h0]; dsimp only; rw [mx_A]; rfl
  · rw [outsAt0_B m c t h0]; dsimp only; rw [mx_B]; rfl

set_option maxHeartbeats 2000000 in
/-- The tile of a point that starts a row of tiles: it makes the first chunk's scores itself. -/
theorem out_first (t : Fin cfg0.N) (h0 : t.val % 8 = 0) : (outsAt0 m c t.val t.isLt).1
    = fin (acc (k0_pay9 (k0_pay8 (b0 m c t) (kch (b2 m c t) 0))) (k0_pay7 (b0 m c t) (kch (b2 m c t) 0)) (b0 m c t) (b2 m c t) (b3 m c t) 32) := by
  rw [outsAt0_A m c t h0]; dsimp only; rw [out_A]; rfl

set_option maxHeartbeats 2000000 in
/-- The tile of any other point: the point before made them. -/
theorem out_next (n : ℕ) (hn : n + 1 < cfg0.N) (h0 : ¬(n + 1) % 8 = 0) : (outsAt0 m c (n + 1) hn).1
    = fin (acc (k0_pay9 (k0_pay172 (k0_pay171 (k0_pay5 (b1 m c ⟨n, Nat.lt_of_succ_lt hn⟩)) (kch (b2 m c ⟨n, Nat.lt_of_succ_lt hn⟩) 0))))
        (k0_pay170 (k0_pay5 (b1 m c ⟨n, Nat.lt_of_succ_lt hn⟩)) (kch (b2 m c ⟨n, Nat.lt_of_succ_lt hn⟩) 0))
        (b0 m c ⟨n + 1, hn⟩) (b2 m c ⟨n + 1, hn⟩) (b3 m c ⟨n + 1, hn⟩) 32) := by
  rw [← left_scores m c ⟨n, Nat.lt_of_succ_lt hn⟩, ← left_max m c ⟨n, Nat.lt_of_succ_lt hn⟩]
  have h := outsAt0_B m c ⟨n + 1, hn⟩ h0
  dsimp only at h
  rw [h]; dsimp only; rw [out_B]; rfl

end Blocks

variable (m : (ℓ : Loc nD τ sig) → Buf (Elt Ideal) ℓ) (c : Dev nD)

/-- The queries, the keys and the values. -/
abbrev qs (b : Fin 4) (h : Fin 8) (d : Fin 128) (p : Fin 8192) : EReal := m ((c : Thread nD τ).loc main_arg0) (ix4 b h d p)
abbrev ks (b : Fin 4) (k : Fin 8192) (d : Fin 128) : EReal := m ((c : Thread nD τ).loc main_arg1) (ix3 b k d)
abbrev vs (b : Fin 4) (d : Fin 128) (k : Fin 8192) : EReal := m ((c : Thread nD τ).loc main_arg2) (ix3 b d k)

/-- The blocks at an index: the tile's queries, -/
theorem blk0 (t : Fin cfg0.N) (d : Fin 128) (r : Fin 1024) (b : Fin 4) (h : Fin 8) (p : Fin 8192) (hb : b.val = t.val / 64)
    (hh : h.val = t.val / 8 % 8) (hp : p.val = 1024 * (t.val % 8) + r.val) : (b0 m c t (ix4 0 0 d r) : EReal) = qs m c b h d p := by
  have e := (idx t).1
  blk_ext [b0, iblk, V, e]

/-- the next tile's, -/
theorem blk1 (t : Fin cfg0.N) (d : Fin 128) (r : Fin 1024) (b : Fin 4) (h : Fin 8) (p : Fin 8192) (hb : b.val = t.val / 64)
    (hh : h.val = t.val / 8 % 8) (hp : p.val = 1024 * min (t.val % 8 + 1) 7 + r.val) : (b1 m c t (ix4 0 0 d r) : EReal) = qs m c b h d p := by
  have e := (idx t).2.1
  blk_ext [b1, iblk, V, e]

/-- the head's keys -/
theorem blk2 (t : Fin cfg0.N) (k : Fin 8192) (d : Fin 128) (b : Fin 4) (hb : b.val = t.val / 64) :
    (b2 m c t (ix3 0 k d) : EReal) = ks m c b k d := by
  have e := (idx t).2.2.1
  blk_ext [b2, iblk, V, e]

/-- and its values. -/
theorem blk3 (t : Fin cfg0.N) (x : Fin 64) (k : Fin 8192) (b : Fin 4) (e : Fin 128) (hb : b.val = t.val / 64)
    (he : e.val = 64 * (t.val / 8 % 8 / 4) + x.val) : (b3 m c t (ix3 0 x k) : EReal) = vs m c b e k := by
  have e := (idx t).2.2.2
  blk_ext [b3, iblk, V, e]

/-- Every score is real. -/
abbrev Scored (S : Fin 4 → Fin 8 → Fin 8192 → Fin 8192 → ℝ) : Prop := ∀ (b : Fin 4) (h : Fin 8) (p k : Fin 8192),
  ∑ d : Fin 128, ks m c b k d * qs m c b h d p = S b h p k

variable {m c} in
/-- The first chunk's keys against the block of queries that lies at column `p`. -/
theorem chunk0 {S : Fin 4 → Fin 8 → Fin 8192 → Fin 8192 → ℝ} (hS : Scored m c S) (t : Fin cfg0.N) (q : Vec Ideal S1x1x128x1024 .bf16)
    (r : Fin 1024) (b : Fin 4) (h : Fin 8) (p : Fin 8192) (hb : b.val = t.val / 64) (hh : h.val = t.val / 8 % 8)
    (hq : ∀ d : Fin 128, (q (ix4 0 0 d r) : EReal) = qs m c b h d p) (j : Fin 256) :
    (∑ d : Fin 128, kch (F := Ideal) (b2 m c t) 0 (ix3 0 j d) * q (ix4 0 0 d r) : EReal) = S b h p ⟨j.val, by omega⟩ := by
  rw [← hS]
  refine Finset.sum_congr rfl fun d _ => ?_
  rw [kch_apply, blk2 m c t _ d b hb, hq]
  congr 3
  omega

variable {m c} in
/-- The tile a point computes. -/
theorem point {S : Fin 4 → Fin 8 → Fin 8192 → Fin 8192 → ℝ} (hS : Scored m c S) (t : Fin cfg0.N) (x : Fin 64) (r : Fin 1024)
    (b : Fin 4) (h : Fin 8) (p : Fin 8192) (hb : b.val = t.val / 64) (hh : h.val = t.val / 8 % 8) (hp : p.val = 1024 * (t.val % 8) + r.val)
    (v : Fin 128) (hv : v.val = 64 * (h.val / 4) + x.val) :
    ((outsAt0 m c t.val t.isLt).1 (ix3 0 x r) : EReal) = ∑ k : Fin 8192, vs m c b v k * (Cert.Attn.share (S b h p) k : EReal) := by
  have hv : ∀ k, (b3 m c t (ix3 0 x k) : EReal) = vs m c b v k := fun k => blk3 m c t x k b v hb (by omega)
  have h0 : ∀ d : Fin 128, (b0 m c t (ix4 0 0 d r) : EReal) = qs m c b h d p := fun d => blk0 m c t d r b h p hb hh hp
  have hk : ∀ k : Fin 8192, (∑ d : Fin 128, b2 m c t (ix3 0 k d) * b0 m c t (ix4 0 0 d r) : EReal) = S b h p k := fun k => by
    rw [← hS]
    exact Finset.sum_congr rfl fun d _ => by rw [h0, blk2 m c t k d b hb]
  by_cases hA : t.val % 8 = 0
  · rw [out_first m c t hA]
    have hc := chunk0 hS t (b0 m c t) r b h p hb hh h0
    obtain ⟨ρ, hρ⟩ := pay8_real _ _ r _ hc
    rw [tile _ _ _ _ _ x r (S b h p) hk ρ hρ fun j => (pay7_apply _ _ j r).trans (hc j)]
    exact Finset.sum_congr rfl fun k _ => by rw [hv]
  · obtain ⟨n, hn⟩ : ∃ n, t.val = n + 1 := ⟨t.val - 1, by omega⟩
    obtain ⟨t, ht⟩ := t
    dsimp only at hn
    subst hn
    dsimp only at hA hb hh hp
    rw [out_next m c n ht hA]
    have hc := chunk0 hS ⟨n, Nat.lt_of_succ_lt ht⟩ (b1 m c ⟨n, Nat.lt_of_succ_lt ht⟩) r b h p (by dsimp only; omega) (by dsimp only; omega)
      fun d => blk1 m c _ d r b h p (by dsimp only; omega) (by dsimp only; omega) (by dsimp only; omega)
    obtain ⟨ρ, hρ⟩ := pay172_real _ _ r _ hc
    rw [tile _ _ _ _ _ x r (S b h p) hk ρ hρ fun j => (pay170_apply _ _ j r).trans (hc j)]
    exact Finset.sum_congr rfl fun k _ => by rw [hv]

variable {m c} in
/-- The result array. -/
theorem result {S : Fin 4 → Fin 8 → Fin 8192 → Fin 8192 → ℝ} (hS : Scored m c S) (b : Fin 4) (v : Fin 512) (p : Fin 8192) :
    (G4 m c (ix3 b v p) : EReal)
      = ∑ k : Fin 8192, vs m c b ⟨64 * (v.val / 256) + v.val % 64, by omega⟩ k * (Cert.Attn.share (S b ⟨v.val / 64, by omega⟩ p) k : EReal) := by
  have e : pt4Of (ix3 b v p) = 64 * b.val + 8 * (v.val / 64) + p.val / 1024 := by
    show 64 * (b.val / 1 - 0) + 8 * (v.val / 64 - 0) + 1 * (p.val / 1024 - 0) = _
    omega
  have hlt : pt4Of (ix3 b v p) < cfg0.N := by rw [e, show cfg0.N = 256 from N_0]; omega
  unfold G4
  rw [dif_pos hlt, ← outsAt0_sweep m c _ hlt]
  refine Eq.trans (congrArg _ ?_) (point hS ⟨_, hlt⟩ ⟨v.val % 64, by omega⟩ ⟨p.val % 1024, by omega⟩ b ⟨v.val / 64, by omega⟩ p ?_ ?_ ?_ ⟨64 * (v.val / 256) + v.val % 64, by omega⟩ ?_)
  · funext a; fin_cases a
    · apply Fin.ext; show b.val % 1 = 0; omega
    · rfl
    · rfl
  all_goals dsimp only; omega

end Cert.GqaIdeal.Value
-- ==== Proof.GqaValue.lean ====
module

public import proofs.«01_k».proof.Defs
public import proofs.«01_k».proof.Proof.GqaPoint
public import proofs.«01_k».proof.Proof.Gen.GqaRefIdeal.Run
public import proofs.«01_k».proof.Proof.Gen.Pre_gqa_finite
public import Idealize.ShloMosaic.Lib.Quiescent

@[expose] public section

set_option maxRecDepth 16384

noncomputable section

namespace Cert.Gqa.Tie
open Idealize.ShloMosaic Idealize.ShloMosaic.TcCoe Idealize.SL.Sem

section Reference
open Cert.GqaRefIdeal Cert.GqaRefIdeal.Gen

variable (q : FVec Ideal S4x8x128x8192 .bf16) (k : FVec Ideal S4x8192x128 .bf16) (v : FVec Ideal S4x128x8192 .bf16)

/-- The reference's scores in the exponential's base. -/
def rscores : FVec Ideal S4x8x8192x8192 .f32 :=
  mulf (Host.dotGeneral dot_S4x8x128x8192_S4x8192x128_S4x8x8192x8192_2_2_13_1_0_0 none (extf .f32 q bitsLt_bf16_f32) (extf .f32 k bitsLt_bf16_f32))
    (broadcastInDim S4x8x8192x8192 ![] bcast_S_S4x8x8192x8192 (Host.log (constant S_ .f32 0x40000000#32)))

/-- A score at its place. -/
theorem rscores_apply (b : Fin 4) (h : Fin 8) (p l : Fin 8192) : (rscores q k (ix4 b h p l) : EReal)
    = (∑ d : Fin 128, q (ix4 b h d p) * k (ix3 b l d)) * Ideal.log (2 : ℝ) := by
  pointwise [rscores, Cert.Attn.ofBits_two]

/-- Its largest score of a query, -/
def rmax : FVec Ideal S4x8x8192 .f32 :=
  maximumf (broadcastInDim S4x8x8192 ![] bcast_S_S4x8x8192 (constant S_ .f32 0xFF800000#32))
    (Host.reduce FloatOps.maximumf (rscores q k) (constant S_ .f32 0xFF800000#32) reducesTo_S4x8x8192x8192_S4x8x8192_d3 h_S_)

/-- its exponentials, -/
def rexp : FVec Ideal S4x8x8192x8192 .f32 :=
  Host.exp (subf (rscores q k) (broadcastInDim S4x8x8192x8192 ![0, 1, 2, 3] bcast_S4x8x8192x1_S4x8x8192x8192_0_1_2_3
    (broadcastInDim S4x8x8192x1 ![0, 1, 2] bcast_S4x8x8192_S4x8x8192x1_0_1_2 (rmax q k))))

/-- and its result. -/
def rout : FVec Ideal S4x512x8192 .f32 :=
  shapeCast _ (transpose S4x2x4x64x8192 [0, 1, 2, 4, 3] (Host.dotGeneral dot_S4x2x4x8192x8192_S4x2x64x8192_S4x2x4x8192x64_4_3_23_2_01_01 none
    (shapeCast _ (Host.divf (rexp q k) (broadcastInDim S4x8x8192x8192 ![0, 1, 2, 3] bcast_S4x8x8192x1_S4x8x8192x8192_0_1_2_3
      (broadcastInDim S4x8x8192x1 ![0, 1, 2] bcast_S4x8x8192_S4x8x8192x1_0_1_2
        (Host.reduceAdd (rexp q k) (constant S_ .f32 0x00000000#32) reducesTo_S4x8x8192x8192_S4x8x8192_d3 h_S_)))) shapeCasts_S4x8x8192x8192_S4x2x4x8192x8192)
    (shapeCast _ (extf .f32 v bitsLt_bf16_f32) shapeCasts_S4x128x8192_S4x2x64x8192)) transposes_S4x2x4x8192x64_S4x2x4x64x8192_0_1_2_4_3)
    shapeCasts_S4x2x4x64x8192_S4x512x8192

/-- The largest of real scores is real. -/
theorem rmax_real (hs : ∀ i, ∃ ρ : ℝ, (rscores q k i : EReal) = ρ) (j : S4x8x8192.Idx) : ∃ ρ : ℝ, (rmax q k j : EReal) = ρ :=
  Cert.Attn.hostMax_real_of (rscores q k) _ reducesTo_S4x8x8192x8192_S4x8x8192_d3 ⟨rfl, Nat.succ_pos 2, reducesTo_S4x8x8192x8192_S4x8x8192_d3.2⟩ h_S_
    (Nat.succ_pos 8191) hs (fun _ => rfl) j

/-- An exponential at its place. -/
theorem rexp_apply (b : Fin 4) (h : Fin 8) (p l : Fin 8192) : (rexp q k (ix4 b h p l) : EReal)
    = Ideal.exp (rscores q k (ix4 b h p l) - rmax q k (ix3 b h p)) := by
  pointwise [rexp]

/-- The result at its place. -/
theorem rout_apply (b : Fin 4) (e : Fin 512) (p : Fin 8192) : (rout q k v (ix3 b e p) : EReal)
    = ∑ l : Fin 8192, Ideal.div (rexp q k (ix4 b ⟨e.val / 64, by omega⟩ p l))
        (∑ l : Fin 8192, rexp q k (ix4 b ⟨e.val / 64, by omega⟩ p l)) * v (ix3 b ⟨64 * (e.val / 256) + e.val % 64, by omega⟩ l) := by
  pointwise [rout]
  simp only [show e.val / 256 * 4 + e.val / 64 % 4 = e.val / 64 by omega, Nat.mul_comm 64]

/-- With real scores the reference weighs the values by their shares. -/
theorem rresult {S : Fin 4 → Fin 8 → Fin 8192 → Fin 8192 → ℝ}
    (hS : ∀ (b : Fin 4) (h : Fin 8) (p l : Fin 8192), (∑ d : Fin 128, k (ix3 b l d) * q (ix4 b h d p) : EReal) = S b h p l)
    (b : Fin 4) (e : Fin 512) (p : Fin 8192) : (rout q k v (ix3 b e p) : EReal)
    = ∑ l : Fin 8192, v (ix3 b ⟨64 * (e.val / 256) + e.val % 64, by omega⟩ l) * (Cert.Attn.share (S b ⟨e.val / 64, by omega⟩ p) l : EReal) := by
  have hs : ∀ b h p l, (rscores q k (ix4 b h p l) : EReal) = ((S b h p l * Real.log 2 : ℝ) : EReal) := fun b h p l => by
    rw [rscores_apply, EReal.coe_mul, ← hS]
    congr 1
    · exact Finset.sum_congr rfl fun d _ => mul_comm _ _
    · exact (Ideal.log_coe _).trans (if_neg (by norm_num))
  have hr : ∀ i, ∃ ρ : ℝ, (rscores q k i : EReal) = ρ := fun i => by
    obtain ⟨b, h, p, l, rfl⟩ : ∃ b h p l, i = ix4 b h p l := ⟨i 0, i 1, i 2, i 3, by funext a; fin_cases a <;> rfl⟩
    exact ⟨_, hs b h p l⟩
  rw [rout_apply]
  refine Finset.sum_congr rfl fun l _ => (mul_comm _ _).trans ?_
  congr 1
  obtain ⟨ρ, hρ⟩ := rmax_real q k hr (ix3 b ⟨e.val / 64, by omega⟩ p)
  simp only [rexp_apply, hs, hρ]
  exact Cert.Attn.softmax_shares _ _ _

end Reference

section Finite
open Cert.Pre_gqa_finite

variable (q : FVec Ideal S4x8x128x8192 .bf16) (k : FVec Ideal S4x8192x128 .bf16) (v : FVec Ideal S4x128x8192 .bf16)

/-- The precondition makes every query real, -/
theorem finite_q (h : (fn (F := Ideal) q k v).1 = fun _ => 1#1) (i : S4x8x128x8192.Idx) : ∃ r : ℝ, (q i : EReal) = r := by
  have h := congrFun h i
  dsimp only [fn] at h
  pointwise [Cert.Attn.ofBits_inf] at h
  exact Cert.Attn.real_of_bit h

/-- and every key. -/
theorem finite_k (h : (fn (F := Ideal) q k v).2 = fun _ => 1#1) (i : S4x8192x128.Idx) : ∃ r : ℝ, (k i : EReal) = r := by
  have h := congrFun h i
  dsimp only [fn] at h
  pointwise [Cert.Attn.ofBits_inf] at h
  exact Cert.Attn.real_of_bit h

end Finite
section Runs

/-- The reference's run, its result named. -/
theorem ref_run (m : (ℓ : Loc Cert.GqaRefIdeal.nD Cert.GqaRefIdeal.τ Cert.GqaRefIdeal.sig) → Buf (Elt Ideal) ℓ) (ρ : Dev Cert.GqaRefIdeal.nD → PrngReg) :
    θ_run (Cert.GqaRefIdeal.defs (F := Ideal)) (onTc (τ := Cert.GqaRefIdeal.τ) (Cert.GqaRefIdeal.main (F := Ideal))) ⟨m, fun _ => 0, ρ⟩ fun r => ∀ c : Dev Cert.GqaRefIdeal.nD,
      r.2.mem ((c.tc : Thread Cert.GqaRefIdeal.nD Cert.GqaRefIdeal.τ).loc Cert.GqaRefIdeal.main_v22)
        = rout (m ((c.tc : Thread Cert.GqaRefIdeal.nD Cert.GqaRefIdeal.τ).loc Cert.GqaRefIdeal.main_arg0))
            (m ((c.tc : Thread Cert.GqaRefIdeal.nD Cert.GqaRefIdeal.τ).loc Cert.GqaRefIdeal.main_arg1))
            (m ((c.tc : Thread Cert.GqaRefIdeal.nD Cert.GqaRefIdeal.τ).loc Cert.GqaRefIdeal.main_arg2))
      ∧ r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2) :=
  Cert.GqaRefIdeal.Value.run m ρ

/-- The reference keeps its arguments and ends with its counters at zero. -/
theorem ref_frame (m : (ℓ : Loc Cert.GqaRefIdeal.nD Cert.GqaRefIdeal.τ Cert.GqaRefIdeal.sig) → Buf (Elt Ideal) ℓ) (ρ : Dev Cert.GqaRefIdeal.nD → PrngReg) :
    θ_run (Cert.GqaRefIdeal.defs (F := Ideal)) (onTc (τ := Cert.GqaRefIdeal.τ) (Cert.GqaRefIdeal.main (F := Ideal))) ⟨m, fun _ => 0, ρ⟩ fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0 :=
  (θ_run _ _ _).mono (fun r h => ⟨fun c => (h c).2, sem_eq_zero_of_no_sems (by decide) r.2⟩) (Cert.GqaRefIdeal.Value.run m ρ)

/-- The call and its reference leave the same array. -/
theorem tie (m : (ℓ : Loc Cert.GqaIdeal.nD Cert.GqaIdeal.τ Cert.GqaIdeal.sig) → Buf (Elt Ideal) ℓ) (hm : Cert.Pre_GqaIdeal_gqa_finite m) (c : Dev Cert.GqaIdeal.nD) :
    rout (m ((c.tc : Thread Cert.GqaIdeal.nD Cert.GqaIdeal.τ).loc Cert.GqaIdeal.main_arg0))
        (m ((c.tc : Thread Cert.GqaIdeal.nD Cert.GqaIdeal.τ).loc Cert.GqaIdeal.main_arg1))
        (m ((c.tc : Thread Cert.GqaIdeal.nD Cert.GqaIdeal.τ).loc Cert.GqaIdeal.main_arg2)) = Cert.GqaIdeal.Value.G4 m c := by
  have hq := finite_q _ _ _ (hm c).1
  have hk := finite_k _ _ _ (hm c).2
  have hS : ∃ S, Cert.GqaIdeal.Value.Scored m c S := by
    choose S hS using fun (b : Fin 4) (h : Fin 8) (p l : Fin 8192) => Cert.Attn.sum_mul_real
      (fun d : Fin 128 => Cert.GqaIdeal.Value.ks m c b l d) (fun d => Cert.GqaIdeal.Value.qs m c b h d p)
      (fun d => hk _) (fun d => hq _)
    exact ⟨S, hS⟩
  obtain ⟨S, hS⟩ := hS
  funext i
  obtain ⟨b, e, p, rfl⟩ : ∃ (b : Fin 4) (e : Fin 512) (p : Fin 8192), i = ix3 b e p := ⟨i 0, i 1, i 2, by funext a; fin_cases a <;> rfl⟩
  exact (rresult _ _ _ hS b e p).trans (Cert.GqaIdeal.Value.result hS b e p).symm

/-- The value claim. -/
theorem algebraic : Cert.algebraic_GqaIdeal_GqaRefIdeal_pre_gqa_finite := fun m g m' g' hm hagree =>
  ⟨fun c => Cert.GqaIdeal.Value.G4 m c, Cert.GqaIdeal.Value.run m g,
    (θ_run _ _ _).mono (fun r h c => by
      refine ⟨?_, (h c).2⟩
      rw [(h c).1, (hagree c).1, (hagree c).2.1, (hagree c).2.2]
      exact tie m hm c) (ref_run m' g')⟩

end Runs
end Cert.Gqa.Tie
-- ==== Proof.DiffChain.lean ====
module

public import proofs.«01_k».proof.Proof.Gen.DiffIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DiffIdeal.Value
open Idealize.ShloMosaic Idealize.ShloMosaic.TcCoe Idealize.SL.Sem
open Idealize.ShloMosaic.Pipeline (Dat)
open Cert.DiffIdeal Cert.DiffIdeal.Gen

variable {F : FTy → Type} [FloatOps F]

/-- The queries of the two maps of a block, side by side. -/
def qcat (x : Vec F S1x2x128x512 .bf16) : FVec F S128x1024 .bf16 :=
  k0_pay2 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0))

/-- The scores of a chunk of keys against a tile of queries. -/
def scr (q : FVec F S128x1024 .bf16) (k : Vec F S1x256x128 .bf16) : FVec F S256x1024 .f32 :=
  matmul dot_S256x128_S128x1024_S256x1024_1_0_0_1_n_n none (shapeCast S256x128 k shapeCasts_S1x256x128_S256x128) q (constant S256x1024 .f32 0x00000000#32)

/-- The scores a point keeps for its next tile: the first chunk's, -/
def kept (x : Vec F S1x2x128x512 .bf16) (k : Vec F S1x256x128 .bf16) : FVec F S1x256x1024 .f32 :=
  k0_pay175 (k0_pay174 (k0_pay5 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0))) k)

/-- and their largest. -/
def keptMax (x : Vec F S1x2x128x512 .bf16) (k : Vec F S1x256x128 .bf16) : FVec F S8x1024 .f32 :=
  k0_pay176 (k0_pay174 (k0_pay5 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0))) k)

/-- The same for its own tile. -/
def made (x : Vec F S1x2x128x512 .bf16) (k : Vec F S1x256x128 .bf16) : FVec F S1x256x1024 .f32 :=
  k0_pay7 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0)) k

/-- and their largest. -/
def madeMax (x : Vec F S1x2x128x512 .bf16) (k : Vec F S1x256x128 .bf16) : FVec F S8x1024 .f32 :=
  k0_pay8 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0)) k

/-- The largest score of each query of a tile, over a chunk. -/
def cmx (s : FVec F S256x1024 .f32) : FVec F S1x1024 .f32 :=
  shapeCast S1x1024 (multiReduction .maximumf [0] S1024 s 0xFF800000#32 reduces_S256x1024_S1024 (.inl rfl) rfl) shapeCasts_S1024_S1x1024

/-- Chunk `n` of the keys. -/
def kch (x2 : Vec F S1x8192x128 .bf16) (n : ℕ) : Vec F S1x256x128 .bf16 :=
  View.ld x2 (Rect.unit (s := S1x8192x128) ![0, 256 * (n % 32), 0] S1x256x128.size
    (fun a => by match a with
      | ⟨0, _⟩ => exact Nat.le_refl 1
      | ⟨1, _⟩ => show 256 * (n % 32) + 256 ≤ 8192; omega
      | ⟨2, _⟩ => exact Nat.le_refl 128))

/-- Chunk `n` of the values. -/
def vch (x3 : Vec F S1x64x8192 .bf16) (n : ℕ) : Vec F S1x64x256 .bf16 :=
  View.ld x3 (Rect.unit (s := S1x64x8192) ![0, 0, 256 * (n % 32)] S1x64x256.size
    (fun a => by match a with
      | ⟨0, _⟩ => exact Nat.le_refl 1
      | ⟨1, _⟩ => exact Nat.le_refl 64
      | ⟨2, _⟩ => show 256 * (n % 32) + 256 ≤ 8192; omega))

/-- One step of the running weighted sums: the old sums rescaled to the new maximum, plus the chunk's. -/
def stp (mo mn : FVec F S1x1024 .f32) (s : Vec F S1x256x1024 .f32) (v : Vec F S1x64x256 .bf16) (a : FVec F S80x1024 .f32) : FVec F S80x1024 .f32 :=
  addf (mulf a (broadcastTo S80x1024 (exp2 (subf mo mn)) broadcasts_S1x1024_S80x1024))
    (matmul dot_S80x256_S256x1024_S80x1024_1_0_0_1_n_n none
      (concatenate S80x256 0 [⟨S64x256, shapeCast S64x256 v shapeCasts_S1x64x256_S64x256⟩, ⟨S16x256, broadcast S16x256 (Scalar.ofBits .bf16 0x3F80#16)⟩] concatenates_S64x256_S16x256_S80x256_d0)
      (truncf .bf16 (exp2 (subf (shapeCast S256x1024 s shapeCasts_S1x256x1024_S256x1024) (broadcastTo S256x1024 mn broadcasts_S1x1024_S256x1024))) bitsLt_bf16_f32)
      (constant S80x1024 .f32 0x00000000#32))

/-- The running maximum after `n` chunks, from the first chunk's `m0`. -/
def mxs (m0 : FVec F S1x1024 .f32) (q : FVec F S128x1024 .bf16) (x2 : Vec F S1x8192x128 .bf16) : ℕ → FVec F S1x1024 .f32
  | 0 => broadcast S1x1024 (Scalar.ofBits .f32 0xFF800000#32)
  | 1 => maximumf (broadcast S1x1024 (Scalar.ofBits .f32 0xFF800000#32)) m0
  | n + 2 => maximumf (mxs m0 q x2 (n + 1)) (cmx (scr q (kch x2 (n + 1))))

/-- The scores of chunk `n`; the first chunk's are `s0`. -/
def scs (s0 : Vec F S1x256x1024 .f32) (q : FVec F S128x1024 .bf16) (x2 : Vec F S1x8192x128 .bf16) : ℕ → Vec F S1x256x1024 .f32
  | 0 => s0
  | n + 1 => shapeCast S1x256x1024 (scr q (kch x2 (n + 1))) shapeCasts_S256x1024_S1x256x1024

/-- The running weighted sums after `n` chunks. -/
def acc (m0 : FVec F S1x1024 .f32) (s0 : Vec F S1x256x1024 .f32) (q : FVec F S128x1024 .bf16) (x2 : Vec F S1x8192x128 .bf16) (x3 : Vec F S1x64x8192 .bf16) :
    ℕ → FVec F S80x1024 .f32
  | 0 => broadcast S80x1024 (Scalar.ofBits .f32 0x00000000#32)
  | n + 1 => stp (mxs m0 q x2 n) (mxs m0 q x2 (n + 1)) (scs s0 q x2 n) (vch x3 n) (acc m0 s0 q x2 x3 n)

/-- The weighted sums of the values over the sum of the weights, for both maps. -/
def quo (a : FVec F S80x1024 .f32) : FVec F S64x1024 .f32 :=
  divf (extractStridedSlice S64x1024 ![0, 0] a slices_S80x1024_o0_0_S64x1024)
    (broadcastTo S64x1024 (extractStridedSlice S1x1024 ![64, 0] a slices_S80x1024_o64_0_S1x1024) broadcasts_S1x1024_S64x1024)

/-- The tile's result: the difference of the two maps, normalised. -/
def fin (a : FVec F S80x1024 .f32) (x0 x1 x2 x3 : Vec F S1x32 .f32) (x4 : Vec F S64x1 .f32) : FVec F S1x64x512 .f32 :=
  k0_pay1 (k0_pay179 (quo a) (k0_pay178 x0 x1) x2 x3 x4)

set_option maxHeartbeats 4000000 in
/-- A later point's tile, from the scratch `xs0`, `xs1` the point before left. -/
theorem out_B (c : Dev nD) (i : grid0.Coords) (a3 h3 a4 h4 a5 h5 a6 h6 a7 h7 a8 h8 a9 h9 a10 h10 a11 h11 a12 h12 hc x0 x1 x2 x3 x4 x5 x6 x7 x8 xs0 xs1) :
   out0_B_9 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8 xs0 xs1
     = fin (acc (k0_pay9 xs1) (View.ld xs0 (Rect.unit (s := S2x256x1024) ![0, 0, 0] S1x256x1024.size inb_S2x256x1024_S1x256x1024_0_0_0)) (qcat x5) x7 x8 32) x0 x1 x2 x3 x4 := by
  frame_open
  simp (disch := decide) only [↓ View.readCov_skip, ↓ View.readCov_cons_toLoadRect, ↓ View.readCov_fill]
  frame_out
  try simp only [read_unread_whole]
  rfl

set_option maxHeartbeats 4000000 in
/-- A first point's tile. -/
theorem out_A (c : Dev nD) (i : grid0.Coords) (a3 h3 a4 h4 a5 h5 a6 h6 a7 h7 a8 h8 a9 h9 a10 h10 a11 h11 a12 h12 hc x0 x1 x2 x3 x4 x5 x6 x7 x8) :
   out0_A_9 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8
     = fin (acc (k0_pay9 (madeMax x5 (kch x7 0))) (made x5 (kch x7 0)) (qcat x5) x7 x8 32) x0 x1 x2 x3 x4 := by
  frame_open
  simp (disch := decide) only [↓ View.readCov_skip, ↓ View.readCov_cons_toLoadRect, ↓ View.readCov_fill]
  frame_out
  try simp only [read_unread_whole]
  rfl

set_option maxHeartbeats 4000000 in
/-- A first point leaves the maximum of the next tile's first chunk, -/
theorem mx_A (c : Dev nD) (i : grid0.Coords) (a3 h3 a4 h4 a5 h5 a6 h6 a7 h7 a8 h8 a9 h9 a10 h10 a11 h11 a12 h12 hc x0 x1 x2 x3 x4 x5 x6 x7 x8) :
   sout0_A_1 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8
     = keptMax x6 (kch x7 0) := by
  frame_open
  simp (disch := decide) only [↓ View.readCov_skip, ↓ View.readCov_cons_toLoadRect, ↓ View.readCov_fill]
  frame_out
  try simp only [read_unread_whole]
  rfl

set_option maxHeartbeats 4000000 in
/-- and so does a later one. -/
theorem mx_B (c : Dev nD) (i : grid0.Coords) (a3 h3 a4 h4 a5 h5 a6 h6 a7 h7 a8 h8 a9 h9 a10 h10 a11 h11 a12 h12 hc x0 x1 x2 x3 x4 x5 x6 x7 x8 xs0 xs1) :
   sout0_B_1 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8 xs0 xs1
     = keptMax x6 (kch x7 0) := by
  frame_open
  simp (disch := decide) only [↓ View.readCov_skip, ↓ View.readCov_cons_toLoadRect, ↓ View.readCov_fill]
  frame_out
  try simp only [read_unread_whole]
  rfl

set_option maxHeartbeats 4000000 in
/-- A first point leaves the scores of the next tile's first chunk, -/
theorem sc_A (c : Dev nD) (i : grid0.Coords) (a3 h3 a4 h4 a5 h5 a6 h6 a7 h7 a8 h8 a9 h9 a10 h10 a11 h11 a12 h12 hc x0 x1 x2 x3 x4 x5 x6 x7 x8) :
   View.ld (sout0_A_0 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8)
      (Rect.unit (s := S2x256x1024) ![0, 0, 0] S1x256x1024.size inb_S2x256x1024_S1x256x1024_0_0_0)
     = kept x6 (kch x7 0) := by
  frame_open
  simp (disch := decide) only [↓ View.readCov_skip, ↓ View.readCov_cons_toLoadRect, ↓ View.readCov_fill]
  frame_out
  try simp only [read_unread_whole]
  exact funext fun y => View.canon_cons_emb _ _ _ y

set_option maxHeartbeats 4000000 in
/-- and so does a later one. -/
theorem sc_B (c : Dev nD) (i : grid0.Coords) (a3 h3 a4 h4 a5 h5 a6 h6 a7 h7 a8 h8 a9 h9 a10 h10 a11 h11 a12 h12 hc x0 x1 x2 x3 x4 x5 x6 x7 x8 xs0 xs1) :
   View.ld (sout0_B_0 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8 xs0 xs1)
      (Rect.unit (s := S2x256x1024) ![0, 0, 0] S1x256x1024.size inb_S2x256x1024_S1x256x1024_0_0_0)
     = kept x6 (kch x7 0) := by
  frame_open
  simp (disch := decide) only [↓ View.readCov_skip, ↓ View.readCov_cons_toLoadRect, ↓ View.readCov_fill]
  frame_out
  try simp only [read_unread_whole]
  exact funext fun y => View.canon_cons_emb _ _ _ y

end Cert.DiffIdeal.Value
-- ==== Proof.Norm.lean ====
module

public import Idealize.ShloMosaic.PureOps.Ideal
public import Idealize.ShloMosaic.Lib.Pipeline.ValueKit
public import Mathlib.Analysis.SpecialFunctions.Pow.Real

@[expose] public section

noncomputable section

namespace Cert.Norm
open Idealize.ShloMosaic

/-- The entries `x`, divided by the root of their mean square (over `N` of them) and weighted by `g`. -/
def rms {n : ℕ} (N : EReal) (x g : Fin n → EReal) (i : Fin n) : EReal :=
  x i * Ideal.rsqrt (Ideal.div (∑ k, x k * x k) N + Ideal.ofBits .f32 0x358637BD#32) * g i

/-- The pattern of a half denotes it. -/
theorem ofBits_half : Ideal.ofBits .f32 0x3F000000#32 = ((1 / 2 : ℝ) : EReal) := by
  simp [Ideal.ofBits, Ideal.ieee, -EReal.coe_mul]; norm_num

/-- The logistic function by the hyperbolic tangent of half its argument, over the reals, -/
theorem tanh_half (r : ℝ) : 1 / 2 * Real.tanh (1 / 2 * r) + 1 / 2 = 1 / (1 + Real.exp (-r)) := by
  have h := Real.exp_pos (1 / 2 * r)
  have h' := Real.exp_pos (-(1 / 2 * r))
  have e : Real.exp (-r) = Real.exp (-(1 / 2 * r)) * Real.exp (-(1 / 2 * r)) := by rw [← Real.exp_add]; congr 1; ring
  have e' : Real.exp (1 / 2 * r) * Real.exp (-(1 / 2 * r)) = 1 := by rw [← Real.exp_add]; simp
  rw [Real.tanh_eq_sinh_div_cosh, Real.sinh_eq, Real.cosh_eq, e]
  generalize Real.exp (1 / 2 * r) = u at *
  generalize Real.exp (-(1 / 2 * r)) = w at *
  have hw : w = 1 / u := by field_simp; linarith
  subst hw
  field_simp
  ring

/-- and over the extended reals. -/
theorem sigmoid (x : EReal) : Ideal.ofBits .f32 0x3F000000#32 * Ideal.tanh (Ideal.ofBits .f32 0x3F000000#32 * x) + Ideal.ofBits .f32 0x3F000000#32
    = Ideal.div 1 (1 + Ideal.exp (-x)) := by
  rw [ofBits_half, show (1 : EReal) = ((1 : ℝ) : EReal) from rfl]
  have hp : (0 : ℝ) < 1 / 2 := by norm_num
  induction x using EReal.rec with
  | bot =>
    rw [EReal.coe_mul_bot_of_pos hp, Ideal.tanh_bot, EReal.neg_bot, show Ideal.exp ⊤ = ⊤ from rfl, EReal.coe_add_top, Ideal.div,
      if_neg EReal.top_ne_zero, EReal.inv_top, mul_zero, show (-1 : EReal) = ((-1 : ℝ) : EReal) by norm_num, ← EReal.coe_mul, ← EReal.coe_add]
    norm_num
  | coe r =>
    have h : (1 + Real.exp (-r)) ≠ 0 := by positivity
    rw [← EReal.coe_mul, Ideal.tanh_coe, ← EReal.coe_mul, ← EReal.coe_add, tanh_half, ← EReal.coe_neg, show Ideal.exp ((-r : ℝ) : EReal) = ((Real.exp (-r) : ℝ) : EReal) from rfl,
      ← EReal.coe_add, Ideal.div_coe h, ← EReal.coe_mul, one_mul]
  | top =>
    rw [EReal.coe_mul_top_of_pos hp, Ideal.tanh_top, EReal.neg_top, show Ideal.exp ⊥ = 0 from rfl, add_zero, Ideal.div_coe one_ne_zero, mul_one,
      ← EReal.coe_add]
    norm_num

end Cert.Norm
-- ==== Proof.DiffTile.lean ====
module

public import proofs.«01_k».proof.Proof.DiffChain
public import proofs.«01_k».proof.Proof.Softmax
public import proofs.«01_k».proof.Proof.Norm

@[expose] public section

set_option maxRecDepth 16384

noncomputable section

namespace Cert.DiffIdeal.Value
open Idealize.ShloMosaic Idealize.ShloMosaic.TcCoe Idealize.SL.Sem
open Cert.DiffIdeal Cert.DiffIdeal.Gen

/-! ## The chunk operations at an index -/

/-- A score is the product of its key and its query. -/
theorem scr_apply (q : FVec Ideal S128x1024 .bf16) (k : Vec Ideal S1x256x128 .bf16) (j : Fin 256) (r : Fin 1024) :
    (scr (F := Ideal) q k (ix2 j r) : EReal) = ∑ d : Fin 128, k (ix3 0 j d) * q (ix2 d r) := by
  pointwise [scr]

/-- The largest score of a chunk. -/
theorem cmx_apply (s : FVec Ideal S256x1024 .f32) (r : Fin 1024) :
    (cmx (F := Ideal) s (ix2 0 r) : EReal) = Finset.univ.fold max (⊥ : EReal) fun j : Fin 256 => s (ix2 j r) := by
  pointwise [cmx, Cert.Attn.ofBits_neg_inf]

/-- One step at a value's row. -/
theorem stp_apply (mo mn : FVec Ideal S1x1024 .f32) (s : Vec Ideal S1x256x1024 .f32) (v : Vec Ideal S1x64x256 .bf16)
    (a : FVec Ideal S80x1024 .f32) (x : Fin 64) (r : Fin 1024) :
    (stp (F := Ideal) mo mn s v a (ix2 ⟨x.val, by omega⟩ r) : EReal)
      = a (ix2 ⟨x.val, by omega⟩ r) * Ideal.exp2 (mo (ix2 0 r) - mn (ix2 0 r))
        + ∑ j : Fin 256, v (ix3 0 x j) * Ideal.exp2 (s (ix3 0 j r) - mn (ix2 0 r)) := by
  pointwise [stp]
  rfl

/-- One step at the row of ones. -/
theorem stp_one (mo mn : FVec Ideal S1x1024 .f32) (s : Vec Ideal S1x256x1024 .f32) (v : Vec Ideal S1x64x256 .bf16)
    (a : FVec Ideal S80x1024 .f32) (r : Fin 1024) :
    (stp (F := Ideal) mo mn s v a (ix2 64 r) : EReal)
      = a (ix2 64 r) * Ideal.exp2 (mo (ix2 0 r) - mn (ix2 0 r))
        + ∑ j : Fin 256, 1 * Ideal.exp2 (s (ix3 0 j r) - mn (ix2 0 r)) := by
  pointwise [stp]
  rfl

/-- The two maps' results at an index. -/
theorem quo_apply (a : FVec Ideal S80x1024 .f32) (x : Fin 64) (r : Fin 1024) :
    (quo (F := Ideal) a (ix2 x r) : EReal) = Ideal.div (a (ix2 ⟨x.val, by omega⟩ r)) (a (ix2 64 r)) := by
  pointwise [quo]

/-- The column of map `u`'s query `r` in a tile. -/
abbrev col (u : Fin 2) (r : Fin 512) : Fin 1024 := ⟨512 * u.val + r.val, by omega⟩

/-- The weight of the second map, from the sums of four rows of numbers. -/
def lam (x0 x1 x2 x3 : Fin 32 → EReal) : EReal :=
  Ideal.exp (∑ i, x0 i * x1 i) - Ideal.exp (∑ i, x2 i * x3 i) + Ideal.ofBits .f32 0x3E4CCCCD#32

/-- The result from the two maps' columns: their difference normalised, and scaled. -/
def out (o1 o2 : Fin 64 → EReal) (l : EReal) (g : Fin 64 → EReal) (x : Fin 64) : EReal :=
  Cert.Norm.rms (Ideal.ofBits .f32 0x42800000#32) (fun x => o1 x - l * o2 x) g x * Ideal.ofBits .f32 0x3F4CCCCD#32

/-- A tile's result at an index. -/
theorem fin_apply (a : FVec Ideal S80x1024 .f32) (x0 x1 x2 x3 : Vec Ideal S1x32 .f32) (x4 : Vec Ideal S64x1 .f32) (x : Fin 64) (r : Fin 512) :
    (fin (F := Ideal) a x0 x1 x2 x3 x4 (ix3 0 x r) : EReal)
      = out (fun x => quo (F := Ideal) a (ix2 x (col 0 r))) (fun x => quo (F := Ideal) a (ix2 x (col 1 r)))
          (lam (fun i => x0 (ix2 0 i)) (fun i => x1 (ix2 0 i)) (fun i => x2 (ix2 0 i)) fun i => x3 (ix2 0 i)) (fun x => x4 (ix2 x 0)) x := by
  unfold fin
  generalize quo (F := Ideal) a = o
  pointwise [k0_pay1, k0_pay179, k0_pay178]
  rw [show col 0 r = ⟨r.val, by omega⟩ from Fin.ext (by show 512 * 0 + r.val = r.val; omega)]
  rfl

/-- The queries of a map lie in its columns. -/
theorem qcat_apply (q : Vec Ideal S1x2x128x512 .bf16) (u : Fin 2) (d : Fin 128) (r : Fin 512) :
    (qcat (F := Ideal) q (ix2 d (col u r)) : EReal) = q (ix4 0 u d r) := by
  fin_cases u
  · pointwise [qcat, k0_pay2]
  · pointwise [qcat, k0_pay2]

/-- A chunk's key is a key of the head. -/
theorem kch_apply (x2 : Vec Ideal S1x8192x128 .bf16) (n : ℕ) (j : Fin 256) (d : Fin 128) :
    kch (F := Ideal) x2 n (ix3 0 j d) = x2 (ix3 0 ⟨256 * (n % 32) + j.val, by omega⟩ d) := by
  pointwise [kch]

/-- A chunk's value is a value of the head. -/
theorem vch_apply (x3 : Vec Ideal S1x64x8192 .bf16) (n : ℕ) (x : Fin 64) (j : Fin 256) :
    vch (F := Ideal) x3 n (ix3 0 x j) = x3 (ix3 0 x ⟨256 * (n % 32) + j.val, by omega⟩) := by
  pointwise [vch]

/-! ## A tile of queries -/

/-- A column of a map: its values weighted by the shares of its scores. The first chunk's scores `s0` are handed over, with any real
    `ρ` no matter which as its maximum. -/
theorem tile (m0 : FVec Ideal S1x1024 .f32) (s0 : Vec Ideal S1x256x1024 .f32) (q : FVec Ideal S128x1024 .bf16)
    (x2 : Vec Ideal S1x8192x128 .bf16) (x3 : Vec Ideal S1x64x8192 .bf16) (x : Fin 64) (r : Fin 1024)
    (S : Fin 8192 → ℝ) (hS : ∀ k : Fin 8192, (∑ d : Fin 128, x2 (ix3 0 k d) * q (ix2 d r) : EReal) = S k)
    (ρ : ℝ) (hm : (m0 (ix2 0 r) : EReal) = ρ)
    (hs0 : ∀ j : Fin 256, (s0 (ix3 0 j r) : EReal) = S ⟨j.val, by omega⟩) :
    (quo (acc m0 s0 q x2 x3 32) (ix2 x r) : EReal) = ∑ k : Fin 8192, x3 (ix3 0 x k) * (Cert.Attn.share S k : EReal) := by
  have hscr : ∀ n (j : Fin 256), (scr (F := Ideal) q (kch x2 n) (ix2 j r) : EReal) = S ⟨256 * (n % 32) + j.val, by omega⟩ := fun n j => by
    rw [scr_apply, ← hS]
    exact Finset.sum_congr rfl fun d _ => by rw [kch_apply]
  have hcmx : ∀ n, ∃ ρ : ℝ, (cmx (F := Ideal) (scr q (kch x2 n)) (ix2 0 r) : EReal) = ρ := fun n => by
    rw [cmx_apply]
    exact Cert.Attn.fold_max_real _ _ (hscr n)
  choose ν hν using hcmx
  have hscs : ∀ n (j : Fin 256), (scs s0 q x2 n (ix3 0 j r) : EReal) = S ⟨256 * (n % 32) + j.val, by omega⟩ := fun n j => by
    match n with
    | 0 => exact (hs0 j).trans (by congr 2; apply Fin.ext; show j.val = 256 * (0 % 32) + j.val; omega)
    | n + 1 => rw [← hscr]; pointwise [scs]
  rw [quo_apply]
  refine Cert.Attn.attend (K := 256) (C := 31) rfl S (fun k => x3 (ix3 0 x k))
    (fun n => mxs m0 q x2 n (ix2 0 r)) (fun n => acc m0 s0 q x2 x3 n (ix2 ⟨x.val, by omega⟩ r)) (fun n => acc m0 s0 q x2 x3 n (ix2 64 r))
    (fun n => if n = 0 then ρ else ν n) (fun n j => S ⟨256 * (n % 32) + j.val, by omega⟩)
    (fun n j => x3 (ix3 0 x ⟨256 * (n % 32) + j.val, by omega⟩)) ?_ ?_ ?_ ?_ ?_ ?_ ?_ ?_ ?_
  · intro n j h hn
    congr 1; apply Fin.ext; show 256 * (n % 32) + j.val = n * 256 + j.val; omega
  · intro n j h hn
    congr 2; apply Fin.ext; show 256 * (n % 32) + j.val = n * 256 + j.val; omega
  · exact Cert.Attn.ofBits_neg_inf
  · rw [if_pos rfl, ← hm, ← Cert.Attn.ofBits_neg_inf]; rfl
  · intro n
    rw [if_neg (Nat.succ_ne_zero n), ← hν]; rfl
  · exact Ideal.ofBits_zero_f32
  · intro n
    refine (stp_apply _ _ _ _ _ x r).trans ?_
    congr 1
    exact Finset.sum_congr rfl fun j _ => by rw [vch_apply, hscs]
  · exact Ideal.ofBits_zero_f32
  · intro n
    refine (stp_one _ _ _ _ _ r).trans ?_
    congr 1
    exact Finset.sum_congr rfl fun j _ => by rw [hscs]

/-! ## What a point hands on: the first chunk's scores of the next tile -/

/-- The first chunk's scores when the point makes them itself, -/
theorem made_apply (q : Vec Ideal S1x2x128x512 .bf16) (k : Vec Ideal S1x256x128 .bf16) (j : Fin 256) (r : Fin 1024) :
    (made (F := Ideal) q k (ix3 0 j r) : EReal) = ∑ d : Fin 128, k (ix3 0 j d) * qcat (F := Ideal) q (ix2 d r) := by
  unfold made k0_pay7 k0_pay6
  change shapeCast S1x256x1024 (scr (qcat q) k) _ _ = _
  rw [← scr_apply]
  generalize scr (qcat q) k = s
  pointwise []

/-- and those made for the next tile. -/
theorem kept_apply (q : Vec Ideal S1x2x128x512 .bf16) (k : Vec Ideal S1x256x128 .bf16) (j : Fin 256) (r : Fin 1024) :
    (kept (F := Ideal) q k (ix3 0 j r) : EReal) = ∑ d : Fin 128, k (ix3 0 j d) * qcat (F := Ideal) q (ix2 d r) := by
  unfold kept k0_pay175 k0_pay174 k0_pay5
  change shapeCast S1x256x1024 (matmul _ none _ (shapeCast S128x1024 (shapeCast S1x128x1024 (qcat q) _) _) _) _ _ = _
  generalize qcat q = q
  pointwise []

/-- The largest of the first chunk's scores is real when the point makes them itself, -/
theorem madeMax_real (q : Vec Ideal S1x2x128x512 .bf16) (k : Vec Ideal S1x256x128 .bf16) (r : Fin 1024) (S : Fin 256 → ℝ)
    (h : ∀ j, (∑ d : Fin 128, k (ix3 0 j d) * qcat (F := Ideal) q (ix2 d r) : EReal) = S j) :
    ∃ ρ : ℝ, (k0_pay9 (F := Ideal) (madeMax (F := Ideal) q k) (ix2 0 r) : EReal) = ρ := by
  obtain ⟨ρ, hρ⟩ := Cert.Attn.fold_max_real _ S h
  refine Exists.imp (fun ρ' h' => ?_) (Cert.Attn.fold_max_real (ι := Fin 8) _ (fun _ => ρ) fun _ => hρ)
  rw [← h']
  unfold madeMax k0_pay8 k0_pay6
  change k0_pay9 (shapeCast S8x1024 (broadcastTo S8x1024 (shapeCast S1x1024 (cmx (scr (qcat q) k)) _) _) _) _ = _
  generalize qcat q = q
  pointwise [k0_pay9, cmx, scr, Cert.Attn.ofBits_neg_inf]

/-- and when the point before made them. -/
theorem keptMax_real (q : Vec Ideal S1x2x128x512 .bf16) (k : Vec Ideal S1x256x128 .bf16) (r : Fin 1024) (S : Fin 256 → ℝ)
    (h : ∀ j, (∑ d : Fin 128, k (ix3 0 j d) * qcat (F := Ideal) q (ix2 d r) : EReal) = S j) :
    ∃ ρ : ℝ, (k0_pay9 (F := Ideal) (keptMax (F := Ideal) q k) (ix2 0 r) : EReal) = ρ := by
  obtain ⟨ρ, hρ⟩ := Cert.Attn.fold_max_real _ S h
  refine Exists.imp (fun ρ' h' => ?_) (Cert.Attn.fold_max_real (ι := Fin 8) _ (fun _ => ρ) fun _ => hρ)
  rw [← h']
  unfold keptMax k0_pay176 k0_pay174 k0_pay5
  change k0_pay9 (shapeCast S8x1024 (broadcastTo S8x1024 (shapeCast S1x1024 (shapeCast S1x1024 (multiReduction .maximumf [0] S1024
    (matmul _ none _ (shapeCast S128x1024 (shapeCast S1x128x1024 (qcat q) _) _) _) _ _ _ _) _) _) _) _) _ = _
  generalize qcat q = q
  pointwise [k0_pay9, Cert.Attn.ofBits_neg_inf]

end Cert.DiffIdeal.Value
-- ==== Proof.DiffPoint.lean ====
module

public import proofs.«01_k».proof.Proof.DiffTile

@[expose] public section

set_option maxRecDepth 16384

noncomputable section

namespace Cert.DiffIdeal.Value
open Idealize.ShloMosaic Idealize.ShloMosaic.TcCoe Idealize.SL.Sem
open Cert.DiffIdeal Cert.DiffIdeal.Gen

/-! ## The blocks of a point -/

/-- Point `128 b + 16 h + i` reads the whole of the five small arrays, -/
theorem idx_small : ∀ t : Fin grid0.N, win0_0.index t = ![0, 0] ∧ win0_1.index t = ![0, 0] ∧ win0_2.index t = ![0, 0] ∧ win0_3.index t = ![0, 0]
    ∧ win0_4.index t = ![0, 0] := by
  decide +kernel

/-- the queries' tile `i` of the two maps of head `h`, the next tile too, the keys of the head's pair and its values. -/
theorem idx : ∀ t : Fin grid0.N, win0_5.index t = ![t.val / 128, t.val / 16 % 8, 0, t.val % 16]
    ∧ win0_6.index t = ![t.val / 128, t.val / 16 % 8, 0, min (t.val % 16 + 1) 15]
    ∧ win0_7.index t = ![t.val / 128, 0, t.val / 16 % 8 / 2] ∧ win0_8.index t = ![t.val / 128, t.val / 16 % 8, 0] := by
  decide +kernel

/-- There are 512 points. -/
theorem lt_N (t : Fin grid0.N) : t.val < 512 := lt_of_lt_of_eq t.isLt N_0

section Blocks

variable {F : FTy → Type} [FloatOps F] (m : (ℓ : Loc nD τ sig) → Buf (Elt F) ℓ) (c : Dev nD)

/-- The nine blocks a point reads. -/
def b0 (t : Fin cfg0.N) : Vec F S1x32 .f32 := iblk m c 0 t
def b1 (t : Fin cfg0.N) : Vec F S1x32 .f32 := iblk m c 1 t
def b2 (t : Fin cfg0.N) : Vec F S1x32 .f32 := iblk m c 2 t
def b3 (t : Fin cfg0.N) : Vec F S1x32 .f32 := iblk m c 3 t
def b4 (t : Fin cfg0.N) : Vec F S64x1 .f32 := iblk m c 4 t
def b5 (t : Fin cfg0.N) : Vec F S1x2x128x512 .bf16 := iblk m c 5 t
def b6 (t : Fin cfg0.N) : Vec F S1x2x128x512 .bf16 := iblk m c 6 t
def b7 (t : Fin cfg0.N) : Vec F S1x8192x128 .bf16 := iblk m c 7 t
def b8 (t : Fin cfg0.N) : Vec F S1x64x8192 .bf16 := iblk m c 8 t

/-! ## What a point leaves -/

set_option maxHeartbeats 2000000 in
/-- The scores a point hands on are those of its next tile with its head's first chunk of keys, -/
theorem left_scores (t : Fin cfg0.N) : View.ld (outsAt0 m c t.val t.isLt).2.1
      (Rect.unit (s := S2x256x1024) ![0, 0, 0] S1x256x1024.size inb_S2x256x1024_S1x256x1024_0_0_0)
    = kept (b6 m c t) (kch (b7 m c t) 0) := by
  by_cases h0 : t.val % 16 = 0
  · rw [outsAt0_A m c t h0]; dsimp only; rw [sc_A]; rfl
  · rw [outsAt0_B m c t h0]; dsimp only; rw [sc_B]; rfl

set_option maxHeartbeats 2000000 in
/-- and the maximum is theirs. -/
theorem left_max (t : Fin cfg0.N) : (outsAt0 m c t.val t.isLt).2.2 = keptMax (b6 m c t) (kch (b7 m c t) 0) := by
  by_cases h0 : t.val % 16 = 0
  · rw [outsAt0_A m c t h0]; dsimp only; rw [mx_A]; rfl
  · rw [outsAt0_B m c t h0]; dsimp only; rw [mx_B]; rfl

/-- A point's tile from the first chunk's maximum and scores. -/
def tileOf (m0 : FVec F S1x1024 .f32) (s0 : Vec F S1x256x1024 .f32) (t : Fin cfg0.N) : FVec F S1x64x512 .f32 :=
  fin (acc m0 s0 (qcat (b5 m c t)) (b7 m c t) (b8 m c t) 32) (b0 m c t) (b1 m c t) (b2 m c t) (b3 m c t) (b4 m c t)

set_option maxHeartbeats 2000000 in
/-- The tile of a point that starts a row of tiles: it makes the first chunk's scores itself. -/
theorem out_first (t : Fin cfg0.N) (h0 : t.val % 16 = 0) : (outsAt0 m c t.val t.isLt).1
    = tileOf m c (k0_pay9 (madeMax (b5 m c t) (kch (b7 m c t) 0))) (made (b5 m c t) (kch (b7 m c t) 0)) t := by
  rw [outsAt0_A m c t h0]; dsimp only; rw [out_A]; rfl

set_option maxHeartbeats 2000000 in
/-- The tile of any other point: the point before made them. -/
theorem out_next (n : ℕ) (hn : n + 1 < cfg0.N) (h0 : ¬(n + 1) % 16 = 0) : (outsAt0 m c (n + 1) hn).1
    = tileOf m c (k0_pay9 (keptMax (b6 m c ⟨n, Nat.lt_of_succ_lt hn⟩) (kch (b7 m c ⟨n, Nat.lt_of_succ_lt hn⟩) 0)))
        (kept (b6 m c ⟨n, Nat.lt_of_succ_lt hn⟩) (kch (b7 m c ⟨n, Nat.lt_of_succ_lt hn⟩) 0)) ⟨n + 1, hn⟩ := by
  rw [← left_scores m c ⟨n, Nat.lt_of_succ_lt hn⟩, ← left_max m c ⟨n, Nat.lt_of_succ_lt hn⟩]
  have h := outsAt0_B m c ⟨n + 1, hn⟩ h0
  dsimp only at h
  rw [h]; dsimp only; rw [out_B]; rfl

end Blocks

variable (m : (ℓ : Loc nD τ sig) → Buf (Elt Ideal) ℓ) (c : Dev nD)

/-- The queries, the keys, the values, the four rows and the norm's weights. -/
abbrev qs (b : Fin 4) (h : Fin 16) (d : Fin 128) (p : Fin 8192) : EReal := m ((c : Thread nD τ).loc main_arg0) (ix4 b h d p)
abbrev ks (b : Fin 4) (k : Fin 8192) (d : Fin 512) : EReal := m ((c : Thread nD τ).loc main_arg1) (ix3 b k d)
abbrev vs (b : Fin 4) (d : Fin 512) (k : Fin 8192) : EReal := m ((c : Thread nD τ).loc main_arg2) (ix3 b d k)
abbrev l1 (i : Fin 32) : EReal := m ((c : Thread nD τ).loc main_arg3) (ix2 0 i)
abbrev l2 (i : Fin 32) : EReal := m ((c : Thread nD τ).loc main_arg4) (ix2 0 i)
abbrev l3 (i : Fin 32) : EReal := m ((c : Thread nD τ).loc main_arg5) (ix2 0 i)
abbrev l4 (i : Fin 32) : EReal := m ((c : Thread nD τ).loc main_arg6) (ix2 0 i)
abbrev gs (x : Fin 64) : EReal := m ((c : Thread nD τ).loc main_arg7) (ix2 x 0)

/-- The blocks at an index: the first of the four rows, -/
theorem blk0 (t : Fin cfg0.N) (i : Fin 32) : (b0 m c t (ix2 0 i) : EReal) = l1 m c i := by
  have e := (idx_small t).1
  blk_ext [b0, iblk, V, e]
/-- the second, -/
theorem blk1 (t : Fin cfg0.N) (i : Fin 32) : (b1 m c t (ix2 0 i) : EReal) = l2 m c i := by
  have e := (idx_small t).2.1
  blk_ext [b1, iblk, V, e]
/-- the third, -/
theorem blk2 (t : Fin cfg0.N) (i : Fin 32) : (b2 m c t (ix2 0 i) : EReal) = l3 m c i := by
  have e := (idx_small t).2.2.1
  blk_ext [b2, iblk, V, e]
/-- the last, -/
theorem blk3 (t : Fin cfg0.N) (i : Fin 32) : (b3 m c t (ix2 0 i) : EReal) = l4 m c i := by
  have e := (idx_small t).2.2.2.1
  blk_ext [b3, iblk, V, e]

/-- the norm's weights, -/
theorem blk4 (t : Fin cfg0.N) (x : Fin 64) : (b4 m c t (ix2 x 0) : EReal) = gs m c x := by
  have e := (idx_small t).2.2.2.2
  blk_ext [b4, iblk, V, e]

/-- the tile's queries, -/
theorem blk5 (t : Fin cfg0.N) (u : Fin 2) (d : Fin 128) (r : Fin 512) (b : Fin 4) (h : Fin 16) (p : Fin 8192) (hb : b.val = t.val / 128)
    (hh : h.val = 2 * (t.val / 16 % 8) + u.val) (hp : p.val = 512 * (t.val % 16) + r.val) : (b5 m c t (ix4 0 u d r) : EReal) = qs m c b h d p := by
  have e := (idx t).1
  blk_ext [b5, iblk, V, e]

/-- the next tile's, -/
theorem blk6 (t : Fin cfg0.N) (u : Fin 2) (d : Fin 128) (r : Fin 512) (b : Fin 4) (h : Fin 16) (p : Fin 8192) (hb : b.val = t.val / 128)
    (hh : h.val = 2 * (t.val / 16 % 8) + u.val) (hp : p.val = 512 * min (t.val % 16 + 1) 15 + r.val) : (b6 m c t (ix4 0 u d r) : EReal) = qs m c b h d p := by
  have e := (idx t).2.1
  blk_ext [b6, iblk, V, e]

/-- the keys of the pair -/
theorem blk7 (t : Fin cfg0.N) (k : Fin 8192) (d : Fin 128) (b : Fin 4) (f : Fin 512) (hb : b.val = t.val / 128)
    (hf : f.val = 128 * (t.val / 16 % 8 / 2) + d.val) : (b7 m c t (ix3 0 k d) : EReal) = ks m c b k f := by
  have e := (idx t).2.2.1
  blk_ext [b7, iblk, V, e]

/-- and the head's values. -/
theorem blk8 (t : Fin cfg0.N) (x : Fin 64) (k : Fin 8192) (b : Fin 4) (f : Fin 512) (hb : b.val = t.val / 128)
    (hf : f.val = 64 * (t.val / 16 % 8) + x.val) : (b8 m c t (ix3 0 x k) : EReal) = vs m c b f k := by
  have e := (idx t).2.2.2
  blk_ext [b8, iblk, V, e]

/-- Every score is real. -/
abbrev Scored (S : Fin 4 → Fin 16 → Fin 8192 → Fin 8192 → ℝ) : Prop := ∀ (b : Fin 4) (h : Fin 16) (p k : Fin 8192),
  ∑ d : Fin 128, ks m c b k ⟨128 * (h.val / 4) + d.val, by omega⟩ * qs m c b h d p = S b h p k

variable {m c} in
/-- A map's column of the first chunk's keys against the block of queries that lies at column `p`. -/
theorem chunk0 {S : Fin 4 → Fin 16 → Fin 8192 → Fin 8192 → ℝ} (hS : Scored m c S) (t : Fin cfg0.N) (q : Vec Ideal S1x2x128x512 .bf16)
    (u : Fin 2) (r : Fin 512) (b : Fin 4) (h : Fin 16) (p : Fin 8192) (hb : b.val = t.val / 128) (hh : h.val = 2 * (t.val / 16 % 8) + u.val)
    (hq : ∀ d : Fin 128, (q (ix4 0 u d r) : EReal) = qs m c b h d p) (j : Fin 256) :
    (∑ d : Fin 128, kch (F := Ideal) (b7 m c t) 0 (ix3 0 j d) * qcat (F := Ideal) q (ix2 d (col u r)) : EReal) = S b h p ⟨j.val, by omega⟩ := by
  rw [← hS]
  refine Finset.sum_congr rfl fun d _ => ?_
  rw [kch_apply, blk7 m c t _ d b ⟨128 * (h.val / 4) + d.val, by omega⟩ hb (by dsimp only; omega), qcat_apply, hq]
  congr 3
  omega

/-- Map `u`'s column of head `h` over the values: the values weighted by the shares of its scores. -/
def head (S : Fin 4 → Fin 16 → Fin 8192 → Fin 8192 → ℝ) (b : Fin 4) (h : Fin 8) (u : Fin 2) (p : Fin 8192) (x : Fin 64) : EReal :=
  ∑ k : Fin 8192, vs m c b ⟨64 * h.val + x.val, by omega⟩ k * (Cert.Attn.share (S b ⟨2 * h.val + u.val, by omega⟩ p) k : EReal)

variable {m c} in
/-- The tile a point computes, from its first chunk's. -/
theorem point_of {S : Fin 4 → Fin 16 → Fin 8192 → Fin 8192 → ℝ} (hS : Scored m c S) (t : Fin cfg0.N) (x : Fin 64) (r : Fin 512)
    (b : Fin 4) (h : Fin 8) (p : Fin 8192) (hb : b.val = t.val / 128) (hh : h.val = t.val / 16 % 8) (hp : p.val = 512 * (t.val % 16) + r.val)
    (m0 : FVec Ideal S1x1024 .f32) (s0 : Vec Ideal S1x256x1024 .f32) (hm : ∀ u : Fin 2, ∃ ρ : ℝ, (m0 (ix2 0 (col u r)) : EReal) = ρ)
    (hs : ∀ (u : Fin 2) (j : Fin 256), (s0 (ix3 0 j (col u r)) : EReal) = S b ⟨2 * h.val + u.val, by omega⟩ p ⟨j.val, by omega⟩) :
    (tileOf m c m0 s0 t (ix3 0 x r) : EReal) = out (head m c S b h 0 p) (head m c S b h 1 p) (lam (l1 m c) (l2 m c) (l3 m c) (l4 m c)) (gs m c) x := by
  have ht := lt_N t
  have hcol : ∀ (u : Fin 2) (x : Fin 64), (quo (F := Ideal) (acc m0 s0 (qcat (b5 m c t)) (b7 m c t) (b8 m c t) 32) (ix2 x (col u r)) : EReal) = head m c S b h u p x := fun u x => by
    have hk : ∀ k : Fin 8192, (∑ d : Fin 128, b7 m c t (ix3 0 k d) * qcat (F := Ideal) (b5 m c t) (ix2 d (col u r)) : EReal) = S b ⟨2 * h.val + u.val, by omega⟩ p k := fun k => by
      rw [← hS]
      refine Finset.sum_congr rfl fun d _ => ?_
      rw [qcat_apply, blk5 m c t u d r b ⟨2 * h.val + u.val, by omega⟩ p hb (by dsimp only; omega) hp,
        blk7 m c t k d b ⟨128 * ((2 * h.val + u.val) / 4) + d.val, by omega⟩ hb (by dsimp only; omega)]
    obtain ⟨ρ, hρ⟩ := hm u
    rw [tile _ _ _ _ _ x (col u r) _ hk ρ hρ (hs u)]
    refine Finset.sum_congr rfl fun k _ => ?_
    rw [blk8 m c t x k b ⟨64 * h.val + x.val, by omega⟩ hb (by dsimp only; omega)]
  refine (fin_apply _ _ _ _ _ _ x r).trans ?_
  simp only [hcol, blk0, blk1, blk2, blk3, blk4]

variable {m c} in
/-- The tile a point computes. -/
theorem point {S : Fin 4 → Fin 16 → Fin 8192 → Fin 8192 → ℝ} (hS : Scored m c S) (t : Fin cfg0.N) (x : Fin 64) (r : Fin 512)
    (b : Fin 4) (h : Fin 8) (p : Fin 8192) (hb : b.val = t.val / 128) (hh : h.val = t.val / 16 % 8) (hp : p.val = 512 * (t.val % 16) + r.val) :
    ((outsAt0 m c t.val t.isLt).1 (ix3 0 x r) : EReal) = out (head m c S b h 0 p) (head m c S b h 1 p) (lam (l1 m c) (l2 m c) (l3 m c) (l4 m c)) (gs m c) x := by
  have ht' := lt_N t
  by_cases hA : t.val % 16 = 0
  · rw [out_first m c t hA]
    have hc := fun u => chunk0 hS t (b5 m c t) u r b ⟨2 * h.val + u.val, by omega⟩ p hb (by dsimp only; omega)
      fun d => blk5 m c t u d r b ⟨2 * h.val + u.val, by omega⟩ p hb (by dsimp only; omega) hp
    exact point_of hS t x r b h p hb hh hp _ _ (fun u => madeMax_real _ _ _ _ (hc u)) fun u j => (made_apply _ _ j _).trans (hc u j)
  · obtain ⟨n, hn⟩ : ∃ n, t.val = n + 1 := ⟨t.val - 1, by omega⟩
    obtain ⟨t, ht⟩ := t
    dsimp only at hn
    subst hn
    dsimp only at hA hb hh hp
    rw [out_next m c n ht hA]
    have hc := fun u => chunk0 hS ⟨n, Nat.lt_of_succ_lt ht⟩ (b6 m c ⟨n, Nat.lt_of_succ_lt ht⟩) u r b ⟨2 * h.val + u.val, by omega⟩ p (by dsimp only; omega)
      (by dsimp only; omega)
      fun d => blk6 m c _ u d r b ⟨2 * h.val + u.val, by omega⟩ p (by dsimp only; omega) (by dsimp only; omega) (by dsimp only; omega)
    exact point_of hS _ x r b h p hb hh hp _ _ (fun u => keptMax_real _ _ _ _ (hc u)) fun u j => (kept_apply _ _ j _).trans (hc u j)

variable {m c} in
/-- The result array. -/
theorem result {S : Fin 4 → Fin 16 → Fin 8192 → Fin 8192 → ℝ} (hS : Scored m c S) (b : Fin 4) (v : Fin 512) (p : Fin 8192) :
    (G9 m c (ix3 b v p) : EReal) = out (head m c S b ⟨v.val / 64, by omega⟩ 0 p) (head m c S b ⟨v.val / 64, by omega⟩ 1 p)
      (lam (l1 m c) (l2 m c) (l3 m c) (l4 m c)) (gs m c) ⟨v.val % 64, by omega⟩ := by
  have e : pt9Of (ix3 b v p) = 128 * b.val + 16 * (v.val / 64) + p.val / 512 := by
    show 128 * (b.val / 1 - 0) + 16 * (v.val / 64 - 0) + 1 * (p.val / 512 - 0) = _
    omega
  have hlt : pt9Of (ix3 b v p) < cfg0.N := by rw [e, show cfg0.N = 512 from N_0]; omega
  unfold G9
  rw [dif_pos hlt, ← outsAt0_sweep m c _ hlt]
  refine Eq.trans (congrArg _ ?_) (point hS ⟨_, hlt⟩ ⟨v.val % 64, by omega⟩ ⟨p.val % 512, by omega⟩ b ⟨v.val / 64, by omega⟩ p ?_ ?_ ?_)
  · funext a; fin_cases a
    · apply Fin.ext; show b.val % 1 = 0; omega
    · rfl
    · rfl
  all_goals dsimp only; omega

end Cert.DiffIdeal.Value
-- ==== Proof.DiffValue.lean ====
module

public import proofs.«01_k».proof.Defs
public import proofs.«01_k».proof.Proof.DiffPoint
public import proofs.«01_k».proof.Proof.Gen.DiffRefIdeal.Run
public import proofs.«01_k».proof.Proof.Gen.Pre_diff_finite
public import Idealize.ShloMosaic.Lib.Quiescent

@[expose] public section

set_option maxRecDepth 16384

noncomputable section

namespace Cert.DiffTie
open Idealize.ShloMosaic Idealize.ShloMosaic.TcCoe Idealize.SL.Sem

/-- Over real numbers the difference of two weighted sums is the sum weighted by the differences. -/
theorem diff_sum {ι : Type*} [Fintype ι] (w s t : ι → ℝ) (l : ℝ) :
    (∑ k, (w k : EReal) * (s k : EReal)) - (l : EReal) * ∑ k, (w k : EReal) * (t k : EReal) = ∑ k, (w k : EReal) * ((s k : EReal) - (l : EReal) * (t k : EReal)) := by
  simp only [← EReal.coe_mul, ← EReal.coe_sub, ← Cert.Attn.coe_sum]
  congr 1
  rw [Finset.mul_sum, ← Finset.sum_sub_distrib]
  exact Finset.sum_congr rfl fun k _ => by ring

section Reference
open Cert.DiffRefIdeal Cert.DiffRefIdeal.Gen

variable (q : FVec Ideal S4x16x128x8192 .bf16) (k : FVec Ideal S4x8192x512 .bf16) (v : FVec Ideal S4x512x8192 .bf16)
  (x0 x1 x2 x3 : FVec Ideal S1x32 .f32) (g : FVec Ideal S64x1 .f32)

/-- The reference's scores in the exponential's base. -/
def rscores : FVec Ideal S4x4x4x8192x8192 .f32 :=
  mulf (Host.dotGeneral dot_S4x4x4x128x8192_S4x8192x4x128_S4x4x4x8192x8192_3_3_24_1_01_02 none
      (shapeCast _ (extf .f32 q bitsLt_bf16_f32) shapeCasts_S4x16x128x8192_S4x4x4x128x8192)
      (shapeCast _ (extf .f32 k bitsLt_bf16_f32) shapeCasts_S4x8192x512_S4x8192x4x128))
    (broadcastInDim S4x4x4x8192x8192 ![] bcast_S_S4x4x4x8192x8192 (Host.log (constant S_ .f32 0x40000000#32)))

/-- A score at its place. -/
theorem rscores_apply (b : Fin 4) (e : Fin 4) (h : Fin 4) (p l : Fin 8192) : (rscores q k (ix5 b e h p l) : EReal)
    = (∑ d : Fin 128, q (ix4 b ⟨4 * e.val + h.val, by omega⟩ d p) * k (ix3 b l ⟨128 * e.val + d.val, by omega⟩)) * Ideal.log (2 : ℝ) := by
  pointwise [rscores, Cert.Attn.ofBits_two]
  simp only [Nat.mul_comm 4, Nat.mul_comm 128]

/-- Its largest score of a query, -/
def rmax : FVec Ideal S4x4x4x8192 .f32 :=
  maximumf (broadcastInDim S4x4x4x8192 ![] bcast_S_S4x4x4x8192 (constant S_ .f32 0xFF800000#32))
    (Host.reduce FloatOps.maximumf (rscores q k) (constant S_ .f32 0xFF800000#32) reducesTo_S4x4x4x8192x8192_S4x4x4x8192_d4 h_S_)

/-- its exponentials, -/
def rexp : FVec Ideal S4x4x4x8192x8192 .f32 :=
  Host.exp (subf (rscores q k) (broadcastInDim S4x4x4x8192x8192 ![0, 1, 2, 3, 4] bcast_S4x4x4x8192x1_S4x4x4x8192x8192_0_1_2_3_4
    (broadcastInDim S4x4x4x8192x1 ![0, 1, 2, 3] bcast_S4x4x4x8192_S4x4x4x8192x1_0_1_2_3 (rmax q k))))

/-- its shares, by head and map, -/
def rshare : FVec Ideal S4x8x2x8192x8192 .f32 :=
  shapeCast _ (Host.divf (rexp q k) (broadcastInDim S4x4x4x8192x8192 ![0, 1, 2, 3, 4] bcast_S4x4x4x8192x1_S4x4x4x8192x8192_0_1_2_3_4
    (broadcastInDim S4x4x4x8192x1 ![0, 1, 2, 3] bcast_S4x4x4x8192_S4x4x4x8192x1_0_1_2_3
      (Host.reduceAdd (rexp q k) (constant S_ .f32 0x00000000#32) reducesTo_S4x4x4x8192x8192_S4x4x4x8192_d4 h_S_)))) shapeCasts_S4x4x4x8192x8192_S4x8x2x8192x8192

/-- the weight of the second map, -/
def rlam : FVec Ideal S_ .f32 :=
  addf (subf (Host.exp (Host.reduceAdd (mulf x0 x1) (constant S_ .f32 0x00000000#32) reducesTo_S1x32_S_d0_1 h_S_))
    (Host.exp (Host.reduceAdd (mulf x2 x3) (constant S_ .f32 0x00000000#32) reducesTo_S1x32_S_d0_1 h_S_))) (constant S_ .f32 0x3E4CCCCD#32)

/-- the two maps of any shares weighed against each other, -/
def rdiff (s : FVec Ideal S4x8x2x8192x8192 .f32) (l : FVec Ideal S_ .f32) : FVec Ideal S4x8x8192x8192 .f32 :=
  subf (shapeCast _ (extractStridedSlice S4x8x1x8192x8192 ![0, 0, 0, 0, 0] s slices_S4x8x2x8192x8192_S4x8x1x8192x8192_0_0_0_0_0) shapeCasts_S4x8x1x8192x8192_S4x8x8192x8192)
    (mulf (broadcastInDim S4x8x8192x8192 ![] bcast_S_S4x8x8192x8192 l)
      (shapeCast _ (extractStridedSlice S4x8x1x8192x8192 ![0, 0, 1, 0, 0] s slices_S4x8x2x8192x8192_S4x8x1x8192x8192_0_0_1_0_0) shapeCasts_S4x8x1x8192x8192_S4x8x8192x8192))

/-- the values under any weights, -/
def rheads (a : FVec Ideal S4x8x8192x8192 .f32) : FVec Ideal S4x8192x8x64 .f32 :=
  transpose S4x8192x8x64 [0, 3, 1, 2] (Host.dotGeneral dot_S4x8x64x8192_S4x8x8192x8192_S4x8x64x8192_3_3_2_2_01_01 none
    (shapeCast _ (extf .f32 v bitsLt_bf16_f32) shapeCasts_S4x512x8192_S4x8x64x8192) a) transposes_S4x8x64x8192_S4x8192x8x64_0_3_1_2

/-- and any heads normalised, scaled and laid out as the result. -/
def rnorm (o : FVec Ideal S4x8192x8x64 .f32) : FVec Ideal S4x512x8192 .f32 :=
  shapeCast _ (transpose S4x8x64x8192 [0, 2, 3, 1] (mulf (mulf (mulf o (broadcastInDim S4x8192x8x64 ![0, 1, 2, 3] bcast_S4x8192x8x1_S4x8192x8x64_0_1_2_3
    (Host.rsqrt (addf (Host.divf (broadcastInDim S4x8192x8x1 ![0, 1, 2] bcast_S4x8192x8_S4x8192x8x1_0_1_2
        (Host.reduceAdd (mulf o o) (constant S_ .f32 0x00000000#32) reducesTo_S4x8192x8x64_S4x8192x8_d3 h_S_))
      (broadcastInDim S4x8192x8x1 ![] bcast_S_S4x8192x8x1 (constant S_ .f32 0x42800000#32)))
      (broadcastInDim S4x8192x8x1 ![] bcast_S_S4x8192x8x1 (constant S_ .f32 0x358637BD#32))))))
    (broadcastInDim S4x8192x8x64 ![0, 1, 2, 3] bcast_S1x1x1x64_S4x8192x8x64_0_1_2_3 (broadcastInDim S1x1x1x64 ![3] bcast_S64_S1x1x1x64_3
      (shapeCast _ g shapeCasts_S64x1_S64))))
    (broadcastInDim S4x8192x8x64 ![] bcast_S_S4x8192x8x64 (constant S_ .f32 0x3F4CCCCD#32))) transposes_S4x8192x8x64_S4x8x64x8192_0_2_3_1)
    shapeCasts_S4x8x64x8192_S4x512x8192

/-- The reference's result. -/
def rout : FVec Ideal S4x512x8192 .f32 := rnorm g (rheads v (rdiff (rshare q k) (rlam x0 x1 x2 x3)))

/-- The largest of real scores is real. -/
theorem rmax_real (hs : ∀ i, ∃ ρ : ℝ, (rscores q k i : EReal) = ρ) (j : S4x4x4x8192.Idx) : ∃ ρ : ℝ, (rmax q k j : EReal) = ρ :=
  Cert.Attn.hostMax_real_of (rscores q k) _ reducesTo_S4x4x4x8192x8192_S4x4x4x8192_d4 ⟨rfl, Nat.succ_pos 3, reducesTo_S4x4x4x8192x8192_S4x4x4x8192_d4.2⟩ h_S_
    (Nat.succ_pos 8191) hs (fun _ => rfl) j

/-- An exponential at its place. -/
theorem rexp_apply (b e h : Fin 4) (p l : Fin 8192) : (rexp q k (ix5 b e h p l) : EReal)
    = Ideal.exp (rscores q k (ix5 b e h p l) - rmax q k (ix4 b e h p)) := by
  pointwise [rexp]

/-- A share at its place. -/
theorem rshare_apply (b : Fin 4) (h : Fin 8) (u : Fin 2) (p l : Fin 8192) : (rshare q k (ix5 b h u p l) : EReal)
    = Ideal.div (rexp q k (ix5 b ⟨(2 * h.val + u.val) / 4, by omega⟩ ⟨(2 * h.val + u.val) % 4, by omega⟩ p l))
        (∑ l : Fin 8192, rexp q k (ix5 b ⟨(2 * h.val + u.val) / 4, by omega⟩ ⟨(2 * h.val + u.val) % 4, by omega⟩ p l)) := by
  pointwise [rshare]
  rw [show (⟨h.val / 2, by omega⟩ : Fin 4) = ⟨(2 * h.val + u.val) / 4, by omega⟩ from Fin.ext (by show h.val / 2 = (2 * h.val + u.val) / 4; omega),
    show (⟨h.val % 2 * 2 + u.val, by omega⟩ : Fin 4) = ⟨(2 * h.val + u.val) % 4, by omega⟩ from Fin.ext (by show h.val % 2 * 2 + u.val = (2 * h.val + u.val) % 4; omega)]

/-- The weight of the second map. -/
theorem rlam_apply : (rlam x0 x1 x2 x3 ix0 : EReal)
    = Cert.DiffIdeal.Value.lam (fun i => x0 (ix2 0 i)) (fun i => x1 (ix2 0 i)) (fun i => x2 (ix2 0 i)) fun i => x3 (ix2 0 i) := by
  pointwise [rlam]
  simp only [Fin.sum_univ_one]
  rfl

/-- The difference at its place. -/
theorem rdiff_apply (s : FVec Ideal S4x8x2x8192x8192 .f32) (w : FVec Ideal S_ .f32) (b : Fin 4) (h : Fin 8) (p l : Fin 8192) :
    (rdiff s w (ix4 b h p l) : EReal) = s (ix5 b h 0 p l) - w ix0 * s (ix5 b h 1 p l) := by
  pointwise [rdiff]

/-- The heads at their place. -/
theorem rheads_apply (a : FVec Ideal S4x8x8192x8192 .f32) (b : Fin 4) (p : Fin 8192) (h : Fin 8) (x : Fin 64) :
    (rheads v a (ix4 b p h x) : EReal) = ∑ l : Fin 8192, v (ix3 b ⟨64 * h.val + x.val, by omega⟩ l) * a (ix4 b h p l) := by
  pointwise [rheads]
  simp only [Nat.mul_comm 64]

/-- The norm at its place. -/
theorem rnorm_apply (o : FVec Ideal S4x8192x8x64 .f32) (b : Fin 4) (e : Fin 512) (p : Fin 8192) : (rnorm g o (ix3 b e p) : EReal)
    = Cert.Norm.rms (Ideal.ofBits .f32 0x42800000#32) (fun x => o (ix4 b p ⟨e.val / 64, by omega⟩ x)) (fun x => g (ix2 x 0)) ⟨e.val % 64, by omega⟩
      * Ideal.ofBits .f32 0x3F4CCCCD#32 := by
  pointwise [rnorm]
  rfl

/-- With real scores, real values and a real weight the reference weighs the values by their shares. -/
theorem rresult {S : Fin 4 → Fin 16 → Fin 8192 → Fin 8192 → ℝ}
    (hS : ∀ (b : Fin 4) (h : Fin 16) (p l : Fin 8192), (∑ d : Fin 128, k (ix3 b l ⟨128 * (h.val / 4) + d.val, by omega⟩) * q (ix4 b h d p) : EReal) = S b h p l)
    (hv : ∀ i, ∃ r : ℝ, (v i : EReal) = r) (w : EReal) (hw : (rlam x0 x1 x2 x3 ix0 : EReal) = w) (hr : ∃ r : ℝ, w = r)
    (b : Fin 4) (e : Fin 512) (p : Fin 8192) : (rout q k v x0 x1 x2 x3 g (ix3 b e p) : EReal)
    = Cert.DiffIdeal.Value.out
        (fun x => ∑ l : Fin 8192, v (ix3 b ⟨64 * (e.val / 64) + x.val, by omega⟩ l) * (Cert.Attn.share (S b ⟨2 * (e.val / 64) + 0, by omega⟩ p) l : EReal))
        (fun x => ∑ l : Fin 8192, v (ix3 b ⟨64 * (e.val / 64) + x.val, by omega⟩ l) * (Cert.Attn.share (S b ⟨2 * (e.val / 64) + 1, by omega⟩ p) l : EReal))
        w (fun x => g (ix2 x 0)) ⟨e.val % 64, by omega⟩ := by
  have hs : ∀ b (e h : Fin 4) p l, (rscores q k (ix5 b e h p l) : EReal) = ((S b ⟨4 * e.val + h.val, by omega⟩ p l * Real.log 2 : ℝ) : EReal) := fun b e h p l => by
    rw [rscores_apply, EReal.coe_mul, ← hS]
    congr 1
    · refine Finset.sum_congr rfl fun d _ => (mul_comm _ _).trans ?_
      congr 3
      apply Fin.ext
      show 128 * e.val + d.val = 128 * ((4 * e.val + h.val) / 4) + d.val
      omega
    · exact (Ideal.log_coe _).trans (if_neg (by norm_num))
  have hr' : ∀ i, ∃ ρ : ℝ, (rscores q k i : EReal) = ρ := fun i => by
    obtain ⟨b, e, h, p, l, rfl⟩ : ∃ b e h p l, i = ix5 b e h p l := ⟨i 0, i 1, i 2, i 3, i 4, by funext a; fin_cases a <;> rfl⟩
    exact ⟨_, hs b e h p l⟩
  have hsh : ∀ (h : Fin 8) (u : Fin 2) (l : Fin 8192), (rshare q k (ix5 b h u p l) : EReal) = (Cert.Attn.share (S b ⟨2 * h.val + u.val, by omega⟩ p) l : EReal) := fun h u l => by
    obtain ⟨ρ, hρ⟩ := rmax_real q k hr' (ix4 b ⟨(2 * h.val + u.val) / 4, by omega⟩ ⟨(2 * h.val + u.val) % 4, by omega⟩ p)
    rw [rshare_apply]
    simp only [rexp_apply, hs, hρ, Nat.div_add_mod]
    exact Cert.Attn.softmax_shares _ _ _
  obtain ⟨r, rfl⟩ := hr
  choose y hy using hv
  refine (rnorm_apply g _ b e p).trans ?_
  unfold Cert.DiffIdeal.Value.out
  congr 2
  funext x
  refine (rheads_apply v _ b p ⟨e.val / 64, by omega⟩ x).trans ?_
  simp only [rdiff_apply, hsh, hw, hy]
  exact (diff_sum _ _ _ _).symm

end Reference

section Finite
open Cert.Pre_diff_finite

variable (q : FVec Ideal S4x16x128x8192 .bf16) (k : FVec Ideal S4x8192x512 .bf16) (v : FVec Ideal S4x512x8192 .bf16)
  (x0 x1 x2 x3 : FVec Ideal S1x32 .f32) (g : FVec Ideal S64x1 .f32)

/-- The precondition makes every query real, -/
theorem finite_q (h : (fn (F := Ideal) q k v x0 x1 x2 x3 g).1 = fun _ => 1#1) (i : S4x16x128x8192.Idx) : ∃ r : ℝ, (q i : EReal) = r := by
  have h := congrFun h i
  dsimp only [fn, fn_part1] at h
  pointwise [Cert.Attn.ofBits_inf] at h
  exact Cert.Attn.real_of_bit h

/-- every key, -/
theorem finite_k (h : (fn (F := Ideal) q k v x0 x1 x2 x3 g).2.1 = fun _ => 1#1) (i : S4x8192x512.Idx) : ∃ r : ℝ, (k i : EReal) = r := by
  have h := congrFun h i
  dsimp only [fn, fn_part1] at h
  pointwise [Cert.Attn.ofBits_inf] at h
  exact Cert.Attn.real_of_bit h

/-- every value -/
theorem finite_v (h : (fn (F := Ideal) q k v x0 x1 x2 x3 g).2.2.1 = fun _ => 1#1) (i : S4x512x8192.Idx) : ∃ r : ℝ, (v i : EReal) = r := by
  have h := congrFun h i
  dsimp only [fn, fn_part1] at h
  pointwise [Cert.Attn.ofBits_inf] at h
  exact Cert.Attn.real_of_bit h

/-- and the four rows: the first, -/
theorem finite_x0 (h : (fn (F := Ideal) q k v x0 x1 x2 x3 g).2.2.2.1 = fun _ => 1#1) (i : S1x32.Idx) : ∃ r : ℝ, (x0 i : EReal) = r := by
  have h := congrFun h i
  dsimp only [fn, fn_part1] at h
  pointwise [Cert.Attn.ofBits_inf] at h
  exact Cert.Attn.real_of_bit h

/-- the second, -/
theorem finite_x1 (h : (fn (F := Ideal) q k v x0 x1 x2 x3 g).2.2.2.2.1 = fun _ => 1#1) (i : S1x32.Idx) : ∃ r : ℝ, (x1 i : EReal) = r := by
  have h := congrFun h i
  dsimp only [fn, fn_part1] at h
  pointwise [Cert.Attn.ofBits_inf] at h
  exact Cert.Attn.real_of_bit h

/-- the third -/
theorem finite_x2 (h : (fn (F := Ideal) q k v x0 x1 x2 x3 g).2.2.2.2.2.1 = fun _ => 1#1) (i : S1x32.Idx) : ∃ r : ℝ, (x2 i : EReal) = r := by
  have h := congrFun h i
  dsimp only [fn, fn_part1] at h
  pointwise [Cert.Attn.ofBits_inf] at h
  exact Cert.Attn.real_of_bit h

/-- and the last. -/
theorem finite_x3 (h : (fn (F := Ideal) q k v x0 x1 x2 x3 g).2.2.2.2.2.2 = fun _ => 1#1) (i : S1x32.Idx) : ∃ r : ℝ, (x3 i : EReal) = r := by
  have h := congrFun h i
  dsimp only [fn, fn_part1] at h
  pointwise [Cert.Attn.ofBits_inf] at h
  exact Cert.Attn.real_of_bit h

end Finite

section Runs

open Cert.DiffRefIdeal in
/-- The reference's run, its result named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56)
        = rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run m ρ

/-- The reference keeps its arguments and ends with its counters at zero. -/
theorem ref_frame : Cert.quiescent_DiffRefIdeal (hDiffRefIdeal := Cert.DiffRefIdeal.Gen.facts) := fun m ρ _ =>
  (θ_run _ _ _).mono (fun r h => ⟨fun c => (h c).2, sem_eq_zero_of_no_sems (by decide) r.2⟩) (Cert.DiffRefIdeal.Value.run m ρ)

open Cert.DiffIdeal in
/-- The call and its reference leave the same array. -/
theorem tie (m : (ℓ : Loc nD τ sig) → Buf (Elt Ideal) ℓ) (hm : Cert.Pre_DiffIdeal_diff_finite m) (c : Dev nD) :
    rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = Cert.DiffIdeal.Value.G9 m c := by
  have hq := finite_q _ _ _ _ _ _ _ _ (hm c).1
  have hk := finite_k _ _ _ _ _ _ _ _ (hm c).2.1
  have hv := finite_v _ _ _ _ _ _ _ _ (hm c).2.2.1
  have hx0 := finite_x0 _ _ _ _ _ _ _ _ (hm c).2.2.2.1
  have hx1 := finite_x1 _ _ _ _ _ _ _ _ (hm c).2.2.2.2.1
  have hx2 := finite_x2 _ _ _ _ _ _ _ _ (hm c).2.2.2.2.2.1
  have hx3 := finite_x3 _ _ _ _ _ _ _ _ (hm c).2.2.2.2.2.2
  have hS : ∃ S, Cert.DiffIdeal.Value.Scored m c S := by
    choose S hS using fun (b : Fin 4) (h : Fin 16) (p l : Fin 8192) => Cert.Attn.sum_mul_real
      (fun d : Fin 128 => Cert.DiffIdeal.Value.ks m c b l ⟨128 * (h.val / 4) + d.val, by omega⟩) (fun d => Cert.DiffIdeal.Value.qs m c b h d p)
      (fun d => hk _) (fun d => hq _)
    exact ⟨S, hS⟩
  obtain ⟨S, hS⟩ := hS
  have hl : ∃ r : ℝ, Cert.DiffIdeal.Value.lam (Cert.DiffIdeal.Value.l1 m c) (Cert.DiffIdeal.Value.l2 m c) (Cert.DiffIdeal.Value.l3 m c) (Cert.DiffIdeal.Value.l4 m c) = r := by
    obtain ⟨a, ha⟩ := Cert.Attn.sum_mul_real (Cert.DiffIdeal.Value.l1 m c) (Cert.DiffIdeal.Value.l2 m c) (fun _ => hx0 _) fun _ => hx1 _
    obtain ⟨b, hb⟩ := Cert.Attn.sum_mul_real (Cert.DiffIdeal.Value.l3 m c) (Cert.DiffIdeal.Value.l4 m c) (fun _ => hx2 _) fun _ => hx3 _
    obtain ⟨d, hd⟩ : ∃ d : ℝ, Ideal.ofBits .f32 0x3E4CCCCD#32 = (d : EReal) := ⟨_, by simp [Ideal.ofBits, Ideal.ieee, -EReal.coe_mul]; rfl⟩
    refine ⟨Real.exp a - Real.exp b + d, ?_⟩
    unfold Cert.DiffIdeal.Value.lam
    rw [ha, hb, hd, EReal.coe_add, EReal.coe_sub]
    rfl
  funext i
  obtain ⟨b, e, p, rfl⟩ : ∃ (b : Fin 4) (e : Fin 512) (p : Fin 8192), i = ix3 b e p := ⟨i 0, i 1, i 2, by funext a; fin_cases a <;> rfl⟩
  exact (rresult _ _ _ _ _ _ _ _ hS hv _ (rlam_apply _ _ _ _) hl b e p).trans (Cert.DiffIdeal.Value.result hS b e p).symm

/-- The value claim. -/
theorem algebraic : Cert.algebraic_DiffIdeal_DiffRefIdeal_pre_diff_finite := fun m g m' g' hm hagree =>
  ⟨fun c => Cert.DiffIdeal.Value.G9 m c, Cert.DiffIdeal.Value.run m g,
    (θ_run _ _ _).mono (fun r h c => by
      refine ⟨?_, (h c).2⟩
      rw [(h c).1, (hagree c).1, (hagree c).2.1, (hagree c).2.2.1, (hagree c).2.2.2.1, (hagree c).2.2.2.2.1, (hagree c).2.2.2.2.2.1,
        (hagree c).2.2.2.2.2.2.1, (hagree c).2.2.2.2.2.2.2]
      exact tie m hm c) (ref_run m' g')⟩

end Runs
end Cert.DiffTie
-- ==== Proof.FfnValue.lean ====
module

public import proofs.«01_k».proof.Defs
public import proofs.«01_k».proof.Proof.Norm
public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.FfnTie
open Idealize.ShloMosaic Idealize.ShloMosaic.TcCoe Idealize.SL.Sem

/-- The pattern of 1024, the width of a row. -/
abbrev width : EReal := Ideal.ofBits .f32 0x44800000#32

/-- The logistic function. -/
def logistic (x : EReal) : EReal := Ideal.div 1 (1 + Ideal.exp (-x))

/-- A normalised row against a column. -/
def proj (x g w : Fin 1024 → EReal) : EReal := ∑ d, Cert.Norm.rms width x g d * w d

/-- A hidden unit: the gate through `x ↦ x · logistic x`, times the other branch. -/
def hidden (x g wg wu : Fin 1024 → EReal) : EReal := proj x g wg * logistic (proj x g wg) * proj x g wu

/-- An entry of the projected hidden row. -/
def down (x g : Fin 1024 → EReal) (wg wu : Fin 2816 → Fin 1024 → EReal) (wd : Fin 1024 → Fin 2816 → EReal) (j : Fin 1024) : EReal :=
  ∑ k, hidden x g (wg k) (wu k) * wd j k

/-- An entry of the result: the row plus the normalised projection. -/
def entry (x g : Fin 1024 → EReal) (wg wu : Fin 2816 → Fin 1024 → EReal) (wd : Fin 1024 → Fin 2816 → EReal) (gp : Fin 1024 → EReal) (j : Fin 1024) : EReal :=
  x j + Cert.Norm.rms width (down x g wg wu wd) gp j

section Reference
open Cert.FfnRefIdeal Cert.FfnRefIdeal.Gen

variable (x : FVec Ideal S32768x1024 .f32) (g : FVec Ideal S1x1024 .f32) (wg wu : FVec Ideal S1024x2816 .bf16) (wd : FVec Ideal S2816x1024 .bf16)
  (gp : FVec Ideal S1x1024 .f32)

/-- The reference's normalisation, -/
def rnorm : FVec Ideal S32768x1024 .f32 :=
  mulf (mulf x (broadcastInDim S32768x1024 ![0, 1] bcast_S32768x1_S32768x1024_0_1
    (Host.rsqrt (addf (Host.divf (broadcastInDim S32768x1 ![0] bcast_S32768_S32768x1_0
        (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 g)

/-- at its place. -/
theorem rnorm_apply (i : Fin 32768) (j : Fin 1024) : (rnorm x g (ix2 i j) : EReal)
    = Cert.Norm.rms width (fun d => x (ix2 i d)) (fun d => g (ix2 0 d)) j := by
  pointwise [rnorm]
  rfl

/-- A branch of the reference, -/
def rproj : FVec Ideal S32768x2816 .f32 :=
  Host.dotGeneral dot_S32768x1024_S1024x2816_S32768x2816_1_0_0_1_n_n none (rnorm x g) (extf .f32 wg bitsLt_bf16_f32)

/-- at its place. -/
theorem rproj_apply (i : Fin 32768) (k : Fin 2816) : (rproj x g wg (ix2 i k) : EReal)
    = proj (fun d => x (ix2 i d)) (fun d => g (ix2 0 d)) fun d => wg (ix2 d k) := by
  pointwise [rproj, rnorm_apply]
  rfl

/-- The reference's hidden units, -/
def rhidden : FVec Ideal S32768x2816 .f32 :=
  mulf (mulf (rproj x g wg) (Host.divf (broadcastInDim S32768x2816 ![] bcast_S_S32768x2816 (constant S_ .f32 0x3F800000#32))
    (addf (broadcastInDim S32768x2816 ![] bcast_S_S32768x2816 (constant S_ .f32 0x3F800000#32)) (Host.exp (Host.negf (rproj x g wg)))))) (rproj x g wu)

/-- at their place. -/
theorem rhidden_apply (i : Fin 32768) (k : Fin 2816) : (rhidden x g wg wu (ix2 i k) : EReal)
    = hidden (fun d => x (ix2 i d)) (fun d => g (ix2 0 d)) (fun d => wg (ix2 d k)) fun d => wu (ix2 d k) := by
  pointwise [rhidden, rproj_apply]
  rfl

/-- Their projection, -/
def rdown : FVec Ideal S32768x1024 .f32 :=
  Host.dotGeneral dot_S32768x2816_S2816x1024_S32768x1024_1_0_0_1_n_n none (rhidden x g wg wu) (extf .f32 wd bitsLt_bf16_f32)

/-- at its place. -/
theorem rdown_apply (i : Fin 32768) (j : Fin 1024) : (rdown x g wg wu wd (ix2 i j) : EReal)
    = down (fun d => x (ix2 i d)) (fun d => g (ix2 0 d)) (fun k d => wg (ix2 d k)) (fun k d => wu (ix2 d k)) (fun j k => wd (ix2 k j)) j := by
  pointwise [rdown, rhidden_apply]
  rfl

/-- The reference's result, -/
def rout : FVec Ideal S32768x1024 .f32 := addf x (rnorm (rdown x g wg wu wd) gp)

/-- at its place. -/
theorem rout_apply (i : Fin 32768) (j : Fin 1024) : (rout x g wg wu wd gp (ix2 i j) : EReal)
    = entry (fun d => x (ix2 i d)) (fun d => g (ix2 0 d)) (fun k d => wg (ix2 d k)) (fun k d => wu (ix2 d k)) (fun j k => wd (ix2 k j)) (fun d => gp (ix2 0 d)) j := by
  pointwise [rout, rnorm_apply]
  simp only [rdown_apply]
  rfl

end Reference

section Call
open Cert.FfnIdeal Cert.FfnIdeal.Gen

variable (x : Vec Ideal S512x1024 .f32) (g : Vec Ideal S1x1024 .f32) (wg wu : Vec Ideal S1024x2816 .bf16) (wd : Vec Ideal S2816x1024 .bf16) (gp : Vec Ideal S1x1024 .f32)

/-- A point's projected hidden rows, at their place. -/
theorem down_apply (i : Fin 512) (j : Fin 1024) : (k0_pay2 (F := Ideal) x g wg wu wd (ix2 i j) : EReal)
    = down (fun d => x (ix2 i d)) (fun d => g (ix2 0 d)) (fun k d => wg (ix2 d k)) (fun k d => wu (ix2 d k)) (fun j k => wd (ix2 k j)) j := by
  pointwise [k0_pay2]
  simp only [Cert.Norm.sigmoid]
  rfl

/-- What a point writes, its second sum from its projection. -/
def written : Vec Ideal S512x1024 .f32 := k0_pay1 (F := Ideal) x (k0_pay2 x g wg wu wd) gp (k0_pay3 x g wg wu wd) k0_pay4

/-- The second norm, of any rows, at its place. -/
theorem norm_apply (y : FVec Ideal S512x1024 .f32) (q : FVec Ideal S512x1 .f32) (i : Fin 512) (j : Fin 1024)
    (hq : (q (ix2 i 0) : EReal) = ∑ d, (y (ix2 i d) : EReal) * y (ix2 i d)) : (k0_pay1 (F := Ideal) x y gp q k0_pay4 (ix2 i j) : EReal)
      = x (ix2 i j) + Cert.Norm.rms width (fun d => y (ix2 i d)) (fun d => gp (ix2 0 d)) j := by
  pointwise [k0_pay1, k0_pay4, hq]
  rfl

/-- The sums of squares at their place. -/
theorem sum_apply (i : Fin 512) : (k0_pay3 (F := Ideal) x g wg wu wd (ix2 i 0) : EReal)
    = ∑ d, (k0_pay2 (F := Ideal) x g wg wu wd (ix2 i d) : EReal) * k0_pay2 (F := Ideal) x g wg wu wd (ix2 i d) := by
  unfold k0_pay3
  generalize k0_pay2 (F := Ideal) x g wg wu wd = y
  pointwise []

/-- What a point writes, at its place. -/
theorem written_apply (i : Fin 512) (j : Fin 1024) : (written x g wg wu wd gp (ix2 i j) : EReal)
    = entry (fun d => x (ix2 i d)) (fun d => g (ix2 0 d)) (fun k d => wg (ix2 d k)) (fun k d => wu (ix2 d k)) (fun j k => wd (ix2 k j)) (fun d => gp (ix2 0 d)) j := by
  refine (norm_apply x gp _ _ i j (sum_apply x g wg wu wd i)).trans ?_
  simp only [down_apply]
  rfl

/-- Point `t` reads rows `512 t` on, and the whole of the others. -/
theorem idx : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] := by
  decide +kernel

/-- There are 64 points. -/
theorem lt_N (t : Fin grid0.N) : t.val < 64 := lt_of_lt_of_eq t.isLt N_0

section Blocks
variable {F : FTy → Type} [FloatOps F] (m : (ℓ : Loc nD τ sig) → Buf (Elt F) ℓ) (c : Dev nD)

/-- The blocks a point reads. -/
def b0 (t : Fin cfg0.N) : Vec F S512x1024 .f32 := iblk m c 0 t
def b1 (t : Fin cfg0.N) : Vec F S1x1024 .f32 := iblk m c 1 t
def b2 (t : Fin cfg0.N) : Vec F S1024x2816 .bf16 := iblk m c 2 t
def b3 (t : Fin cfg0.N) : Vec F S1024x2816 .bf16 := iblk m c 3 t
def b4 (t : Fin cfg0.N) : Vec F S2816x1024 .bf16 := iblk m c 4 t
def b5 (t : Fin cfg0.N) : Vec F S1x1024 .f32 := iblk m c 5 t

/-- What a point writes is the payload of its blocks. -/
theorem left (t : Fin cfg0.N) : (dats m 0 c).after 6 t
    = k0_pay1 (b0 m c t) (k0_pay2 (b0 m c t) (b1 m c t) (b2 m c t) (b3 m c t) (b4 m c t)) (b5 m c t)
        (k0_pay3 (b0 m c t) (b1 m c t) (b2 m c t) (b3 m c t) (b4 m c t)) k0_pay4 := by
  rw [after0_6]; frame_out; rfl

end Blocks

variable (m : (ℓ : Loc nD τ sig) → Buf (Elt Ideal) ℓ) (c : Dev nD)

/-- The blocks at an index: the rows, -/
theorem blk0 (t : Fin cfg0.N) (r : Fin 512) (d : Fin 1024) (i : Fin 32768) (hi : i.val = 512 * t.val + r.val) :
    (b0 m c t (ix2 r d) : EReal) = m ((c : Thread nD τ).loc main_arg0) (ix2 i d) := by
  have e := (idx t).1
  blk_ext [b0, iblk, V, e]

/-- the first norm's weights, -/
theorem blk1 (t : Fin cfg0.N) (d : Fin 1024) : (b1 m c t (ix2 0 d) : EReal) = m ((c : Thread nD τ).loc main_arg1) (ix2 0 d) := by
  have e := (idx t).2.1
  blk_ext [b1, iblk, V, e]

/-- the gate's, -/
theorem blk2 (t : Fin cfg0.N) (d : Fin 1024) (j : Fin 2816) : (b2 m c t (ix2 d j) : EReal) = m ((c : Thread nD τ).loc main_arg2) (ix2 d j) := by
  have e := (idx t).2.2.1
  blk_ext [b2, iblk, V, e]

/-- the other branch's, -/
theorem blk3 (t : Fin cfg0.N) (d : Fin 1024) (j : Fin 2816) : (b3 m c t (ix2 d j) : EReal) = m ((c : Thread nD τ).loc main_arg3) (ix2 d j) := by
  have e := (idx t).2.2.2.1
  blk_ext [b3, iblk, V, e]

/-- the projection's, -/
theorem blk4 (t : Fin cfg0.N) (d : Fin 2816) (j : Fin 1024) : (b4 m c t (ix2 d j) : EReal) = m ((c : Thread nD τ).loc main_arg4) (ix2 d j) := by
  have e := (idx t).2.2.2.2.1
  blk_ext [b4, iblk, V, e]

/-- and the second norm's. -/
theorem blk5 (t : Fin cfg0.N) (d : Fin 1024) : (b5 m c t (ix2 0 d) : EReal) = m ((c : Thread nD τ).loc main_arg5) (ix2 0 d) := by
  have e := (idx t).2.2.2.2.2.1
  blk_ext [b5, iblk, V, e]

/-- The array after the run is the reference's. -/
theorem final : (dats m 0 c).arrAt 6 cfg0.N
    = rout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [left]
  obtain ⟨r, j, rfl⟩ : ∃ (r : Fin 512) (j : Fin 1024), y = ix2 r j := ⟨y 0, y 1, by funext a; fin_cases a <;> rfl⟩
  have ht := lt_N t
  refine (written_apply _ _ _ _ _ _ r j).trans (Eq.trans ?_ ((rout_apply _ _ _ _ _ _ ⟨512 * t.val + r.val, by omega⟩ j).symm.trans (congrArg _ ?_)))
  · simp only [blk0 m c t r _ ⟨512 * t.val + r.val, by omega⟩ rfl, blk1, blk2, blk3, blk4, blk5]
  · have e := (idx t).2.2.2.2.2.2
    blk_ext [e]

end Call

section Runs

open Cert.FfnRefIdeal in
/-- The reference's run, its result named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
        = rout (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-- The reference keeps its arguments and ends with its counters at zero. -/
theorem ref_frame : Cert.quiescent_FfnRefIdeal (hFfnRefIdeal := Cert.FfnRefIdeal.Gen.facts) := fun m ρ _ =>
  (θ_run _ _ _).mono (fun r h => ⟨fun c => (h c).2, sem_eq_zero_of_no_sems (by decide) r.2⟩) (Cert.FfnRefIdeal.Value.run m ρ)

/-- The value claim. -/
theorem algebraic : Cert.algebraic_FfnIdeal_FfnRefIdeal := fun m g m' g' _ hagree =>
  ⟨fun c => (Cert.FfnIdeal.Gen.dats m 0 c).arrAt 6 Cert.FfnIdeal.cfg0.N, Cert.FfnIdeal.Value.run_blocks m g,
    (θ_run _ _ _).mono (fun r h c => by
      refine ⟨?_, (h c).2⟩
      rw [(h c).1, (hagree c).1, (hagree c).2.1, (hagree c).2.2.1, (hagree c).2.2.2.1, (hagree c).2.2.2.2.1, (hagree c).2.2.2.2.2]
      exact (final m c).symm) (ref_run m' g')⟩

end Runs
end Cert.FfnTie
-- ==== Proof.MemKvValue.lean ====
module

public import proofs.«01_k».proof.Defs
public import proofs.«01_k».proof.Proof.Norm
public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.MemKvTie
open Idealize.ShloMosaic Idealize.ShloMosaic.TcCoe Idealize.SL.Sem

/-- An entry of the projected row: the normalised row against a column of the weights. -/
def entry (x g w : Fin 1024 → EReal) : EReal := ∑ d, Cert.Norm.rms (Ideal.ofBits .f32 0x44800000#32) x g d * w d

section Reference
open Cert.MemKvRefIdeal Cert.MemKvRefIdeal.Gen

variable (x : FVec Ideal S1024x1024 .f32) (g : FVec Ideal S1x1024 .f32) (w : FVec Ideal S1024x2048 .bf16)

/-- The reference's result. -/
def rout : FVec Ideal S1024x2048 .bf16 :=
  truncf .bf16 (Host.dotGeneral dot_S1024x1024_S1024x2048_S1024x2048_1_0_0_1_n_n none
    (mulf (mulf x (broadcastInDim S1024x1024 ![0, 1] bcast_S1024x1_S1024x1024_0_1
      (Host.rsqrt (addf (Host.divf (broadcastInDim S1024x1 ![0] bcast_S1024_S1024x1_0
          (Host.reduceAdd (mulf x x) (constant S_ .f32 0x00000000#32) reducesTo_S1024x1024_S1024_d1 h_S_))
        (broadcastInDim S1024x1 ![] bcast_S_S1024x1 (constant S_ .f32 0x44800000#32)))
        (broadcastInDim S1024x1 ![] bcast_S_S1024x1 (constant S_ .f32 0x358637BD#32))))))
      (broadcastInDim S1024x1024 ![0, 1] bcast_S1x1024_S1024x1024_0_1 g)) (extf .f32 w bitsLt_bf16_f32)) bitsLt_bf16_f32

/-- The reference's result at its place. -/
theorem rout_apply (i : Fin 1024) (j : Fin 2048) : (rout x g w (ix2 i j) : EReal)
    = entry (fun d => x (ix2 i d)) (fun d => g (ix2 0 d)) fun d => w (ix2 d j) := by
  pointwise [rout]
  rfl

end Reference

section Call
open Cert.MemKvIdeal Cert.MemKvIdeal.Gen

/-- What a point writes, at its place. -/
theorem pay_apply (x : Vec Ideal S256x1024 .f32) (g : Vec Ideal S1x1024 .f32) (w : Vec Ideal S1024x2048 .bf16) (i : Fin 256) (j : Fin 2048) :
    (k0_pay1 (F := Ideal) x g w (ix2 i j) : EReal) = entry (fun d => x (ix2 i d)) (fun d => g (ix2 0 d)) fun d => w (ix2 d j) := by
  pointwise [k0_pay1]
  rfl

/-- Point `t` reads rows `256 t` on, and the whole of the others. -/
theorem idx : ∀ t : Fin grid0.N, win0_0.index t = ![t.val, 0] ∧ win0_1.index t = ![0, 0] ∧ win0_2.index t = ![0, 0] ∧ win0_3.index t = ![t.val, 0] := by
  decide +kernel

/-- There are four points. -/
theorem lt_N (t : Fin grid0.N) : t.val < 4 := lt_of_lt_of_eq t.isLt N_0

section Blocks
variable {F : FTy → Type} [FloatOps F] (m : (ℓ : Loc nD τ sig) → Buf (Elt F) ℓ) (c : Dev nD)

/-- The blocks a point reads. -/
def b0 (t : Fin cfg0.N) : Vec F S256x1024 .f32 := iblk m c 0 t
def b1 (t : Fin cfg0.N) : Vec F S1x1024 .f32 := iblk m c 1 t
def b2 (t : Fin cfg0.N) : Vec F S1024x2048 .bf16 := iblk m c 2 t

/-- What a point writes is the payload of its blocks. -/
theorem left (t : Fin cfg0.N) : (dats m 0 c).after 3 t = k0_pay1 (b0 m c t) (b1 m c t) (b2 m c t) := by
  rw [after0_3]; frame_out; rfl

end Blocks

variable (m : (ℓ : Loc nD τ sig) → Buf (Elt Ideal) ℓ) (c : Dev nD)

/-- The blocks at an index: the rows, -/
theorem blk0 (t : Fin cfg0.N) (r : Fin 256) (d : Fin 1024) (i : Fin 1024) (hi : i.val = 256 * t.val + r.val) :
    (b0 m c t (ix2 r d) : EReal) = m ((c : Thread nD τ).loc main_arg0) (ix2 i d) := by
  have e := (idx t).1
  blk_ext [b0, iblk, V, e]

/-- the norm's weights -/
theorem blk1 (t : Fin cfg0.N) (d : Fin 1024) : (b1 m c t (ix2 0 d) : EReal) = m ((c : Thread nD τ).loc main_arg1) (ix2 0 d) := by
  have e := (idx t).2.1
  blk_ext [b1, iblk, V, e]

/-- and the projection's. -/
theorem blk2 (t : Fin cfg0.N) (d : Fin 1024) (j : Fin 2048) : (b2 m c t (ix2 d j) : EReal) = m ((c : Thread nD τ).loc main_arg2) (ix2 d j) := by
  have e := (idx t).2.2.1
  blk_ext [b2, iblk, V, e]

/-- The array after the run is the reference's. -/
theorem final : (dats m 0 c).arrAt 3 cfg0.N
    = rout (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [left]
  obtain ⟨r, j, rfl⟩ : ∃ (r : Fin 256) (j : Fin 2048), y = ix2 r j := ⟨y 0, y 1, by funext a; fin_cases a <;> rfl⟩
  have ht := lt_N t
  refine (pay_apply _ _ _ r j).trans (Eq.trans ?_ ((rout_apply _ _ _ ⟨256 * t.val + r.val, by omega⟩ j).symm.trans (congrArg _ ?_)))
  · simp only [blk0 m c t r _ ⟨256 * t.val + r.val, by omega⟩ rfl, blk1, blk2]
  · have e := (idx t).2.2.2
    blk_ext [e]

end Call

section Runs

/-- The reference's run, its result named. -/
theorem ref_run (m : (ℓ : Loc Cert.MemKvRefIdeal.nD Cert.MemKvRefIdeal.τ Cert.MemKvRefIdeal.sig) → Buf (Elt Ideal) ℓ) (ρ : Dev Cert.MemKvRefIdeal.nD → PrngReg) :
    θ_run (Cert.MemKvRefIdeal.defs (F := Ideal)) (onTc (τ := Cert.MemKvRefIdeal.τ) (Cert.MemKvRefIdeal.main (F := Ideal))) ⟨m, fun _ => 0, ρ⟩ fun r => ∀ c : Dev Cert.MemKvRefIdeal.nD,
      r.2.mem ((c.tc : Thread Cert.MemKvRefIdeal.nD Cert.MemKvRefIdeal.τ).loc Cert.MemKvRefIdeal.main_v14)
        = rout (m ((c.tc : Thread Cert.MemKvRefIdeal.nD Cert.MemKvRefIdeal.τ).loc Cert.MemKvRefIdeal.main_arg0))
            (m ((c.tc : Thread Cert.MemKvRefIdeal.nD Cert.MemKvRefIdeal.τ).loc Cert.MemKvRefIdeal.main_arg1))
            (m ((c.tc : Thread Cert.MemKvRefIdeal.nD Cert.MemKvRefIdeal.τ).loc Cert.MemKvRefIdeal.main_arg2))
      ∧ r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2) :=
  Cert.MemKvRefIdeal.Value.run m ρ

/-- The reference keeps its arguments and ends with its counters at zero. -/
theorem ref_frame : Cert.quiescent_MemKvRefIdeal (hMemKvRefIdeal := Cert.MemKvRefIdeal.Gen.facts) := fun m ρ _ =>
  (θ_run _ _ _).mono (fun r h => ⟨fun c => (h c).2, sem_eq_zero_of_no_sems (by decide) r.2⟩) (Cert.MemKvRefIdeal.Value.run m ρ)

/-- The value claim. -/
theorem algebraic : Cert.algebraic_MemKvIdeal_MemKvRefIdeal := fun m g m' g' _ hagree =>
  ⟨fun c => (Cert.MemKvIdeal.Gen.dats m 0 c).arrAt 3 Cert.MemKvIdeal.cfg0.N, Cert.MemKvIdeal.Value.run_blocks m g,
    (θ_run _ _ _).mono (fun r h c => by
      refine ⟨?_, (h c).2⟩
      rw [(h c).1, (hagree c).1, (hagree c).2.1, (hagree c).2.2]
      exact (final m c).symm) (ref_run m' g')⟩

end Runs
end Cert.MemKvTie
-- ==== Proof.MergeRow.lean ====
module

public import proofs.«01_k».proof.Proof.Softmax
public import proofs.«01_k».proof.Proof.Norm

@[expose] public section

noncomputable section

namespace Cert.MergeRow
open Idealize.ShloMosaic

/-- The pattern of 1024, the width of a row. -/
abbrev width : EReal := Ideal.ofBits .f32 0x44800000#32

/-- A row against a matrix. -/
def times {n k : ℕ} (x : Fin n → EReal) (w : Fin n → Fin k → EReal) (j : Fin k) : EReal := ∑ d, x d * w d j

/-- The three branches, projected, gated and summed. -/
def merged (a b c : Fin 512 → EReal) (gate : Fin 3 → Fin 1024 → EReal) (w : Fin 3 → Fin 512 → Fin 1024 → EReal) (d : Fin 1024) : EReal :=
  gate 0 d * times a (w 0) d + gate 1 d * times b (w 1) d + gate 2 d * times c (w 2) d

/-- A row beside the normalised projection of another. -/
def beside (x y : Fin 1024 → EReal) (w : Fin 1024 → Fin 1024 → EReal) (g : Fin 1024 → EReal) (j : Fin 1024) : EReal :=
  x j + Cert.Norm.rms width (times y w) g j

/-- The shares of scores in a base whose power is `p`. -/
def shares (p : EReal → EReal) {n : ℕ} (s : Fin n → EReal) (k : Fin n) : EReal :=
  Ideal.div (p (s k - Finset.univ.sup s)) (∑ l, p (s l - Finset.univ.sup s))

/-- A score of head `h`: the head's columns of the query against those of a key. -/
def score (q : Fin 1024 → EReal) (key : Fin 256 → Fin 1024 → EReal) (h : Fin 4) (l : Fin 256) : EReal :=
  ∑ d : Fin 256, q ⟨256 * h.val + d.val, by omega⟩ * key l ⟨256 * h.val + d.val, by omega⟩

/-- The attention's row: column `j` belongs to head `j / 256`. -/
def attended (q : Fin 1024 → EReal) (key val : Fin 256 → Fin 1024 → EReal) (j : Fin 1024) : EReal :=
  ∑ l, shares Ideal.exp (fun l => score q key ⟨j.val / 256, by omega⟩ l * Ideal.ofBits .f32 0x3D800000#32) l * val l j

/-- The mixer's row: the branches projected back beside the residual. -/
def mid (x : Fin 1024 → EReal) (a b c : Fin 512 → EReal) (gate : Fin 3 → Fin 1024 → EReal) (wb : Fin 3 → Fin 512 → Fin 1024 → EReal)
    (wo : Fin 1024 → Fin 1024 → EReal) (g : Fin 1024 → EReal) : Fin 1024 → EReal :=
  beside x (merged a b c gate wb) wo g

/-- The row after the memory: the attention of a row projected beside it. -/
def entry (r gpre : Fin 1024 → EReal) (wq : Fin 1024 → Fin 1024 → EReal) (key val : Fin 256 → Fin 1024 → EReal)
    (mwo : Fin 1024 → Fin 1024 → EReal) (gpost : Fin 1024 → EReal) : Fin 1024 → EReal :=
  beside r (attended (times (Cert.Norm.rms width r gpre) wq) key val) mwo gpost

/-- The pattern of a sixteenth denotes it. -/
theorem ofBits_sixteenth : Ideal.ofBits .f32 0x3D800000#32 = ((1 / 16 : ℝ) : EReal) := by
  simp [Ideal.ofBits, Ideal.ieee, -EReal.coe_mul]; norm_num

/-- A positive real factor leaves the largest value where it was. -/
theorem mul_sup {n : ℕ} (r : ℝ) (hr : 0 < r) (f : Fin n → EReal) : (Finset.univ.sup fun k => f k * (r : EReal)) = Finset.univ.sup f * (r : EReal) :=
  (Finset.comp_sup_eq_sup_comp (fun x : EReal => x * (r : EReal))
    (fun x y => (show Monotone fun x : EReal => x * (r : EReal) from fun _ _ h => mul_le_mul_of_nonneg_right h (EReal.coe_nonneg.mpr hr.le)).map_sup x y)
    (EReal.bot_mul_coe_of_pos hr)).symm

/-- A positive real factor goes through a difference. -/
theorem sub_mul (r : ℝ) (hr : 0 < r) (x y : EReal) : (x - y) * (r : EReal) = x * r - y * r := by
  rw [sub_eq_add_neg, sub_eq_add_neg, EReal.right_distrib_of_nonneg_of_ne_top (EReal.coe_nonneg.mpr hr.le) (EReal.coe_ne_top r), EReal.neg_mul]

/-- A power of two of a multiple is an exponential. -/
theorem exp2_mul (x : EReal) : Ideal.exp2 (x * (((Real.log 2)⁻¹ : ℝ) : EReal)) = Ideal.exp x := by
  have h2 : 0 < Real.log 2 := Real.log_pos (by norm_num)
  have h : 0 < (Real.log 2)⁻¹ := inv_pos.mpr h2
  induction x using EReal.rec with
  | bot => rw [EReal.bot_mul_coe_of_pos h]; rfl
  | coe r =>
    rw [← EReal.coe_mul, Ideal.exp2_coe, Ideal.exp_coe]
    show (((2 : ℝ) ^ (r * (Real.log 2)⁻¹) : ℝ) : EReal) = _
    rw [Real.rpow_def_of_pos (by norm_num), mul_comm r, mul_inv_cancel_left₀ h2.ne']
  | top => rw [EReal.top_mul_coe_of_pos h]; rfl

/-- The shares in base two of multiples are the shares in the exponential's base. -/
theorem shares_mul {n : ℕ} (s : Fin n → EReal) : shares Ideal.exp2 (fun k => s k * (((Real.log 2)⁻¹ : ℝ) : EReal)) = shares Ideal.exp s := by
  have h : 0 < (Real.log 2)⁻¹ := inv_pos.mpr (Real.log_pos (by norm_num))
  funext k
  unfold shares
  simp only [mul_sup _ h, ← sub_mul _ h, exp2_mul]

/-- A score whose query carries the scale. -/
theorem score_scaled (q : Fin 1024 → EReal) (key : Fin 256 → Fin 1024 → EReal) (h : Fin 4) (l : Fin 256) :
    score (fun d => q d * (((1 / 16) * (Real.log 2)⁻¹ : ℝ) : EReal)) key h l
      = score q key h l * Ideal.ofBits .f32 0x3D800000#32 * (((Real.log 2)⁻¹ : ℝ) : EReal) := by
  have hp : (0 : ℝ) ≤ (1 / 16) * (Real.log 2)⁻¹ := by have := Real.log_pos (show (1 : ℝ) < 2 by norm_num); positivity
  rw [ofBits_sixteenth, mul_assoc, ← EReal.coe_mul]
  unfold score
  rw [Cert.Attn.sum_mul_coe _ _ _ hp]
  exact Finset.sum_congr rfl fun d _ => by rw [mul_right_comm]

end Cert.MergeRow
-- ==== Proof.MergeTile.lean ====
module

public import proofs.«01_k».proof.Proof.MergeRow
public import proofs.«01_k».proof.Proof.Gen.MergeIdeal.Value
public import Idealize.ShloMosaic.PureOps.Ideal.Laws
public import Idealize.ShloMosaic.Lib.Pipeline.ValueKit
public import Idealize.ShloMosaic.Lib.Pointwise

@[expose] public section

set_option maxRecDepth 16384

noncomputable section

namespace Cert.MergeTile
open Idealize.ShloMosaic Idealize.ShloMosaic.TcCoe Idealize.SL.Sem Cert.MergeIdeal Cert.MergeIdeal.Gen

/-- The largest score of each row. -/
def kmax (s : FVec Ideal S512x256 .f32) : FVec Ideal S512 .f32 :=
  multiReduction .maximumf [1] S512 s 0xFF800000#32 reduces_S512x256_S512 (.inl rfl) rfl

/-- A row's largest score. -/
theorem kmax_apply (s : FVec Ideal S512x256 .f32) (i : Fin 512) : (kmax s (ix1 i) : EReal) = Finset.univ.sup fun l : Fin 256 => (s (ix2 i l) : EReal) := by
  refine (Ideal.multiReduction_maximumf_single s _ reduces_S512x256_S512 (.inl rfl) rfl (ix1 i)).trans ?_
  have e : (s ∘ reduces_S512x256_S512.lift (ix1 i)) = fun l : Fin 256 => s (ix2 i l) := by
    funext l
    exact congrArg s (by funext a; fin_cases a <;> rfl)
  rw [e]
  show Finset.fold max (Ideal.ofBits .f32 0xFF800000#32) _ _ = _
  rw [Cert.Attn.ofBits_neg_inf]
  rfl

/-- The shares of a head's scores in base two. -/
def kshares (s : FVec Ideal S512x256 .f32) : FVec Ideal S512x256 .f32 :=
  divf (exp2 (subf s (broadcastTo S512x256 (shapeCast S512x1 (kmax s) shapeCasts_S512_S512x1) broadcasts_S512x1_S512x256)))
    (broadcastTo S512x256 (shapeCast S512x1 (multiReduction .add [1] S512
      (exp2 (subf s (broadcastTo S512x256 (shapeCast S512x1 (kmax s) shapeCasts_S512_S512x1) broadcasts_S512x1_S512x256)))
      0x00000000#32 reduces_S512x256_S512 (.inl rfl) rfl) shapeCasts_S512_S512x1) broadcasts_S512x1_S512x256)

/-- A share at its place. -/
theorem kshares_apply (s : FVec Ideal S512x256 .f32) (i : Fin 512) (l : Fin 256) : (kshares s (ix2 i l) : EReal)
    = Cert.MergeRow.shares Ideal.exp2 (fun l => s (ix2 i l)) l := by
  pointwise [kshares, kmax_apply]
  rfl

/-- A head's scores from its columns of the queries and the keys. -/
def kscores (q : FVec Ideal S512x256 .bf16) (k : FVec Ideal S256x256 .bf16) : FVec Ideal S512x256 .f32 :=
  matmul dot_S512x256_S256x256_S512x256_1_1_0_0_n_n none q k (constant S512x256 .f32 0x00000000#32)

/-- A score at its place. -/
theorem kscores_apply (q : FVec Ideal S512x256 .bf16) (k : FVec Ideal S256x256 .bf16) (i : Fin 512) (l : Fin 256) :
    (kscores q k (ix2 i l) : EReal) = ∑ d, (q (ix2 i d) : EReal) * k (ix2 l d) := by
  pointwise [kscores]

/-- A head from its columns of the queries, its keys and its values. -/
def khead (q : FVec Ideal S512x256 .bf16) (k v : Vec Ideal S1x256x256 .bf16) : FVec Ideal S512x256 .f32 :=
  matmul dot_S512x256_S256x256_S512x256_1_0_0_1_n_n none
    (truncf .bf16 (kshares (kscores q (shapeCast S256x256 k shapeCasts_S1x256x256_S256x256))) bitsLt_bf16_f32)
    (shapeCast S256x256 v shapeCasts_S1x256x256_S256x256 : FVec Ideal S256x256 .bf16) (constant S512x256 .f32 0x00000000#32)

/-- A head at its place. -/
theorem khead_apply (q : FVec Ideal S512x256 .bf16) (k v : Vec Ideal S1x256x256 .bf16) (i : Fin 512) (e : Fin 256) : (khead q k v (ix2 i e) : EReal)
    = ∑ l : Fin 256, Cert.MergeRow.shares Ideal.exp2 (fun l => ∑ d, (q (ix2 i d) : EReal) * k (ix3 0 l d)) l * v (ix3 0 l e) := by
  pointwise [khead, kshares_apply, kscores_apply]

section Rows
variable (x : Vec Ideal S1x512x1024 .f32) (a b c : Vec Ideal S1x512x512 .f32) (w0 w1 w2 t0 t1 t2 : Vec Ideal S1x512x1024 .bf16)
  (wo : Vec Ideal S1024x1024 .bf16) (g : Vec Ideal S1x1024 .f32)

/-- A point's rows of the mixer, -/
def kmid : FVec Ideal S512x1024 .f32 := k0_pay5 (F := Ideal) (k0_pay2 x) (k0_pay3 a w0 t0 b w1 t1) (k0_pay4 c) w2 t2 wo g

/-- at their place. -/
theorem kmid_apply (i : Fin 512) (j : Fin 1024) : (kmid x a b c w0 w1 w2 t0 t1 t2 wo g (ix2 i j) : EReal)
    = Cert.MergeRow.mid (fun d => x (ix3 0 i d)) (fun d => a (ix3 0 d i)) (fun d => b (ix3 0 d i)) (fun d => c (ix3 0 d i))
        (fun n d => ![t0, t1, t2] n (ix3 0 i d)) (fun n d j => ![w0, w1, w2] n (ix3 0 d j)) (fun d j => wo (ix2 d j)) (fun d => g (ix2 0 d)) j := by
  pointwise [kmid, k0_pay5, k0_pay2, k0_pay3, k0_pay4]
  rfl

/-- The named constant. -/
theorem scale : (Named.named (F := Ideal) Cert.MergeIdeal.κ "mem_scale" (φ := .f32) 0x3DB8AA3B#32 : EReal) = (((1 / 16) * (Real.log 2)⁻¹ : ℝ) : EReal) :=
  IdealRules.named_const.ideal_named_scalar _ _ _ _ rfl

variable (r : FVec Ideal S512x1024 .f32) (gp : Vec Ideal S1x1024 .f32) (wq : Vec Ideal S1024x1024 .bf16)

/-- A point's normalised rows at their place. -/
theorem knorm_apply (i : Fin 512) (j : Fin 1024) :
    (k0_pay6 (F := Ideal) (k0_pay2 x) (k0_pay3 a w0 t0 b w1 t1) (k0_pay4 c) w2 t2 wo g gp (ix2 i j) : EReal)
    = Cert.Norm.rms Cert.MergeRow.width (fun d => kmid x a b c w0 w1 w2 t0 t1 t2 wo g (ix2 i d)) (fun d => gp (ix2 0 d)) j := by
  unfold k0_pay6 kmid
  generalize k0_pay5 (F := Ideal) (k0_pay2 x) (k0_pay3 a w0 t0 b w1 t1) (k0_pay4 c) w2 t2 wo g = y
  pointwise []
  rfl

/-- A query at its place. -/
theorem kquery_apply (h : FVec Ideal S512x1024 .bf16) (i : Fin 512) (j : Fin 1024) :
    (k0_pay7 (F := Ideal) h wq (constant S512x1024 .f32 0x00000000#32) (ix2 i j) : EReal)
    = Cert.MergeRow.times (fun d => h (ix2 i d)) (fun d j => wq (ix2 d j)) j * (((1 / 16) * (Real.log 2)⁻¹ : ℝ) : EReal) := by
  pointwise [k0_pay7, scale]
  rfl

/-- The four heads beside each other, -/
def kheads (q : FVec Ideal S512x1024 .bf16) (k0 v0 k1 v1 k2 v2 k3 v3 : Vec Ideal S1x256x256 .bf16) : FVec Ideal S512x1024 .f32 :=
  concatenate S512x1024 1 [⟨S512x256, khead (extractStridedSlice S512x256 ![0, 0] q slices_S512x1024_o0_0_S512x256) k0 v0⟩,
    ⟨S512x256, khead (extractStridedSlice S512x256 ![0, 256] q slices_S512x1024_o0_256_S512x256) k1 v1⟩,
    ⟨S512x256, khead (extractStridedSlice S512x256 ![0, 512] q slices_S512x1024_o0_512_S512x256) k2 v2⟩,
    ⟨S512x256, khead (extractStridedSlice S512x256 ![0, 768] q slices_S512x1024_o0_768_S512x256) k3 v3⟩] concatenates_S512x256_S512x256_S512x256_S512x256_S512x1024_d1

/-- The body's projection of the heads. -/
def kback (o : FVec Ideal S512x1024 .f32) (mwo : Vec Ideal S1024x1024 .bf16) : FVec Ideal S512x1024 .f32 :=
  matmul (φ₂ := .bf16) dot_S512x1024_S1024x1024_S512x1024_1_0_0_1_n_n none (truncf .bf16 o bitsLt_bf16_f32) mwo (constant S512x1024 .f32 0x00000000#32)

/-- The body's last product is the heads projected. -/
theorem body (h : FVec Ideal S512x1024 .bf16) (z : FVec Ideal S512x1024 .f32) (k0 v0 k1 v1 k2 v2 k3 v3 : Vec Ideal S1x256x256 .bf16) (mwo : Vec Ideal S1024x1024 .bf16) :
    k0_pay10 (F := Ideal) (k0_pay7 h wq z) (k0_pay8 h wq z k0 v0) (k0_pay9 h wq z k1 v1) k2 v2 k3 v3 mwo
      = kback (kheads (k0_pay7 h wq z) k0 v0 k1 v1 k2 v2 k3 v3) mwo := rfl

/-- A head's entry: column `j` belongs to head `j / 256`. -/
theorem kheads_apply (q : FVec Ideal S512x1024 .bf16) (k0 v0 k1 v1 k2 v2 k3 v3 : Vec Ideal S1x256x256 .bf16) (i : Fin 512) (j : Fin 1024) :
    (kheads q k0 v0 k1 v1 k2 v2 k3 v3 (ix2 i j) : EReal) = ∑ l : Fin 256, Cert.MergeRow.shares Ideal.exp2 (fun l => ∑ d : Fin 256,
        (q (ix2 i ⟨256 * (j.val / 256) + d.val, by omega⟩) : EReal) * ![k0, k1, k2, k3] ⟨j.val / 256, by omega⟩ (ix3 0 l d)) l
      * ![v0, v1, v2, v3] ⟨j.val / 256, by omega⟩ (ix3 0 l ⟨j.val % 256, by omega⟩) := by
  pointwise [kheads, khead_apply]
  have hj := j.isLt
  rcases (by omega : j.val / 256 = 0 ∨ j.val / 256 = 1 ∨ j.val / 256 = 2 ∨ j.val / 256 = 3) with h | h | h | h
  · rw [dif_pos (by omega)]
    simp only [h, show j.val % 256 = j.val by omega, Nat.mul_zero, Nat.zero_add]
    rfl
  · rw [dif_neg (by omega), dif_pos (by omega)]
    simp only [h, show j.val % 256 = j.val - 256 by omega]
    rfl
  · rw [dif_neg (by omega), dif_neg (by omega), dif_pos (by omega)]
    simp only [h, show j.val % 256 = j.val - 256 - 256 by omega]
    rfl
  · rw [dif_neg (by omega), dif_neg (by omega), dif_neg (by omega)]
    simp only [h, show j.val % 256 = j.val - 256 - 256 - 256 by omega]
    rfl

/-- The projection at its place. -/
theorem kback_apply (o : FVec Ideal S512x1024 .f32) (mwo : Vec Ideal S1024x1024 .bf16) (i : Fin 512) (j : Fin 1024) : (kback o mwo (ix2 i j) : EReal)
    = Cert.MergeRow.times (fun d => o (ix2 i d)) (fun d j => mwo (ix2 d j)) j := by
  pointwise [kback]
  rfl

/-- What a point writes, from its rows of the mixer and its projection, at its place. -/
theorem klast_apply (y : FVec Ideal S512x1024 .f32) (i : Fin 512) (j : Fin 1024) : (k0_pay1 (F := Ideal) r y g (ix3 0 i j) : EReal)
    = r (ix2 i j) + Cert.Norm.rms Cert.MergeRow.width (fun d => y (ix2 i d)) (fun d => g (ix2 0 d)) j := by
  pointwise [k0_pay1]
  rfl

end Rows

section Written
variable (x : Vec Ideal S1x512x1024 .f32) (a b c : Vec Ideal S1x512x512 .f32) (gt : Vec Ideal S1x512x3072 .bf16) (wb : Vec Ideal S3x512x1024 .bf16)
  (wo : Vec Ideal S1024x1024 .bf16) (g : Vec Ideal S1x1024 .f32) (kv : Vec Ideal S1x256x2048 .bf16) (gp : Vec Ideal S1x1024 .f32)
  (wq mwo : Vec Ideal S1024x1024 .bf16) (gl : Vec Ideal S1x1024 .f32)

/-- The three weights, -/
def cut (n : Fin 3) : Vec Ideal S1x512x1024 .bf16 := ![View.ld wb r0_2, View.ld wb r0_4, View.ld wb r0_6] n

/-- the three gates, -/
def open' (n : Fin 3) : Vec Ideal S1x512x1024 .bf16 := ![View.ld gt r0_3, View.ld gt r0_5, View.ld gt r0_7] n

/-- the four heads' keys, -/
def keys (n : Fin 4) : Vec Ideal S1x256x256 .bf16 := ![View.ld kv r0_10, View.ld kv r0_12, View.ld kv r0_14, View.ld kv r0_16] n

/-- and their values. -/
def vals (n : Fin 4) : Vec Ideal S1x256x256 .bf16 := ![View.ld kv r0_11, View.ld kv r0_13, View.ld kv r0_15, View.ld kv r0_17] n

/-- A weight at its place, -/
theorem cut_apply (n : Fin 3) (d : Fin 512) (j : Fin 1024) : cut wb n (ix3 0 d j) = wb (ix3 n d j) := by
  fin_cases n
  · show View.ld wb r0_2 (ix3 0 d j) = _
    pointwise []
  · show View.ld wb r0_4 (ix3 0 d j) = _
    pointwise []
  · show View.ld wb r0_6 (ix3 0 d j) = _
    pointwise []

/-- a gate, -/
theorem open_apply (n : Fin 3) (i : Fin 512) (j : Fin 1024) : open' gt n (ix3 0 i j) = gt (ix3 0 i ⟨1024 * n.val + j.val, by omega⟩) := by
  fin_cases n
  · show View.ld gt r0_3 (ix3 0 i j) = _
    pointwise []
  · show View.ld gt r0_5 (ix3 0 i j) = _
    pointwise []
  · show View.ld gt r0_7 (ix3 0 i j) = _
    pointwise []

/-- a key, -/
theorem keys_apply (n : Fin 4) (l d : Fin 256) : keys kv n (ix3 0 l d) = kv (ix3 0 l ⟨256 * n.val + d.val, by omega⟩) := by
  fin_cases n
  · show View.ld kv r0_10 (ix3 0 l d) = _
    pointwise []
  · show View.ld kv r0_12 (ix3 0 l d) = _
    pointwise []
  · show View.ld kv r0_14 (ix3 0 l d) = _
    pointwise []
  · show View.ld kv r0_16 (ix3 0 l d) = _
    pointwise []

/-- and a value. -/
theorem vals_apply (n : Fin 4) (l d : Fin 256) : vals kv n (ix3 0 l d) = kv (ix3 0 l ⟨1024 + (256 * n.val + d.val), by omega⟩) := by
  fin_cases n
  · show View.ld kv r0_11 (ix3 0 l d) = _
    pointwise []
  · show View.ld kv r0_13 (ix3 0 l d) = _
    pointwise []
    exact congrArg (fun z => kv (ix3 (0 : Fin 1) l z)) (Fin.ext (by show 1280 + d.val = 1024 + (256 + d.val); omega))
  · show View.ld kv r0_15 (ix3 0 l d) = _
    pointwise []
    exact congrArg (fun z => kv (ix3 (0 : Fin 1) l z)) (Fin.ext (by show 1536 + d.val = 1024 + (512 + d.val); omega))
  · show View.ld kv r0_17 (ix3 0 l d) = _
    pointwise []
    exact congrArg (fun z => kv (ix3 (0 : Fin 1) l z)) (Fin.ext (by show 1792 + d.val = 1024 + (768 + d.val); omega))

/-- A point's rows of the mixer, from its blocks, -/
def rows : FVec Ideal S512x1024 .f32 := kmid x a b c (View.ld wb r0_2) (View.ld wb r0_4) (View.ld wb r0_6) (View.ld gt r0_3) (View.ld gt r0_5) (View.ld gt r0_7) wo g

/-- at their place. -/
theorem rows_apply (i : Fin 512) (j : Fin 1024) : (rows x a b c gt wb wo g (ix2 i j) : EReal)
    = Cert.MergeRow.mid (fun d => x (ix3 0 i d)) (fun d => a (ix3 0 d i)) (fun d => b (ix3 0 d i)) (fun d => c (ix3 0 d i))
        (fun n d => gt (ix3 0 i ⟨1024 * n.val + d.val, by omega⟩)) (fun n d j => wb (ix3 n d j)) (fun d j => wo (ix2 d j)) (fun d => g (ix2 0 d)) j := by
  refine (kmid_apply x a b c _ _ _ _ _ _ wo g i j).trans ?_
  have hw : (fun (n : Fin 3) (d : Fin 512) (j : Fin 1024) => (![View.ld wb r0_2, View.ld wb r0_4, View.ld wb r0_6] n (ix3 0 d j) : EReal)) = fun n d j => wb (ix3 n d j) :=
    funext fun n => funext fun d => funext fun j => cut_apply wb n d j
  have hg : (fun (n : Fin 3) (d : Fin 1024) => (![View.ld gt r0_3, View.ld gt r0_5, View.ld gt r0_7] n (ix3 0 i d) : EReal))
      = fun n d => gt (ix3 0 i ⟨1024 * n.val + d.val, by omega⟩) :=
    funext fun n => funext fun d => open_apply gt n i d
  exact congrArg₂ (fun p q => Cert.MergeRow.mid (fun d => x (ix3 0 i d)) (fun d => a (ix3 0 d i)) (fun d => b (ix3 0 d i)) (fun d => c (ix3 0 d i)) p q
    (fun d j => wo (ix2 d j)) (fun d => g (ix2 0 d)) j) hg hw

/-- A point's queries. -/
def query : FVec Ideal S512x1024 .bf16 :=
  k0_pay7 (F := Ideal) (k0_pay6 (F := Ideal) (k0_pay2 x) (k0_pay3 a (View.ld wb r0_2) (View.ld gt r0_3) b (View.ld wb r0_4) (View.ld gt r0_5)) (k0_pay4 c)
    (View.ld wb r0_6) (View.ld gt r0_7) wo g gp) wq (constant S512x1024 .f32 0x00000000#32)

/-- A query at its place. -/
theorem query_apply (i : Fin 512) (j : Fin 1024) : (query x a b c gt wb wo g gp wq (ix2 i j) : EReal)
    = Cert.MergeRow.times (Cert.Norm.rms Cert.MergeRow.width (fun d => rows x a b c gt wb wo g (ix2 i d)) fun d => gp (ix2 0 d)) (fun d j => wq (ix2 d j)) j
      * (((1 / 16) * (Real.log 2)⁻¹ : ℝ) : EReal) := by
  refine (kquery_apply wq _ i j).trans ?_
  simp only [knorm_apply]
  rfl

/-- A point's heads. -/
def heads : FVec Ideal S512x1024 .f32 := kheads (query x a b c gt wb wo g gp wq) (View.ld kv r0_10) (View.ld kv r0_11) (View.ld kv r0_12) (View.ld kv r0_13)
  (View.ld kv r0_14) (View.ld kv r0_15) (View.ld kv r0_16) (View.ld kv r0_17)

/-- A head's entry is the attention's. -/
theorem heads_apply (i : Fin 512) (j : Fin 1024) : (heads x a b c gt wb wo g kv gp wq (ix2 i j) : EReal)
    = Cert.MergeRow.attended (Cert.MergeRow.times (Cert.Norm.rms Cert.MergeRow.width (fun d => rows x a b c gt wb wo g (ix2 i d)) fun d => gp (ix2 0 d))
        fun d j => wq (ix2 d j)) (fun l d => kv (ix3 0 l ⟨d.val, by omega⟩)) (fun l d => kv (ix3 0 l ⟨1024 + d.val, by omega⟩)) j := by
  refine (kheads_apply _ _ _ _ _ _ _ _ _ i j).trans ?_
  unfold Cert.MergeRow.attended
  rw [← Cert.MergeRow.shares_mul]
  refine Finset.sum_congr rfl fun l _ => congrArg₂ (· * ·) (congrArg (fun s => Cert.MergeRow.shares Ideal.exp2 s l) (funext fun l => ?_)) ?_
  · rw [← Cert.MergeRow.score_scaled]
    refine Finset.sum_congr rfl fun d _ => congrArg₂ (· * ·) (query_apply x a b c gt wb wo g gp wq i _) ?_
    exact keys_apply kv ⟨j.val / 256, by omega⟩ l d
  · refine (vals_apply kv ⟨j.val / 256, by omega⟩ l ⟨j.val % 256, by omega⟩).trans (congrArg kv ?_)
    exact congrArg (fun z => ix3 (0 : Fin 1) l z) (Fin.ext (by show 1024 + (256 * (j.val / 256) + j.val % 256) = 1024 + j.val; omega))

/-- What a point writes. -/
def written : FVec Ideal S1x512x1024 .f32 :=
  k0_pay1 (F := Ideal) (rows x a b c gt wb wo g) (kback (heads x a b c gt wb wo g kv gp wq) mwo) gl

/-- What a point writes, at its place. -/
theorem written_apply (i : Fin 512) (j : Fin 1024) : (written x a b c gt wb wo g kv gp wq mwo gl (ix3 0 i j) : EReal)
    = Cert.MergeRow.entry (Cert.MergeRow.mid (fun d => x (ix3 0 i d)) (fun d => a (ix3 0 d i)) (fun d => b (ix3 0 d i)) (fun d => c (ix3 0 d i))
        (fun n d => gt (ix3 0 i ⟨1024 * n.val + d.val, by omega⟩)) (fun n d j => wb (ix3 n d j)) (fun d j => wo (ix2 d j)) (fun d => g (ix2 0 d)))
      (fun d => gp (ix2 0 d)) (fun d j => wq (ix2 d j)) (fun l d => kv (ix3 0 l ⟨d.val, by omega⟩)) (fun l d => kv (ix3 0 l ⟨1024 + d.val, by omega⟩))
      (fun d j => mwo (ix2 d j)) (fun d => gl (ix2 0 d)) j := by
  refine (klast_apply gl _ _ i j).trans ?_
  simp only [kback_apply, heads_apply, rows_apply]
  rfl

/-- What the call leaves in a point's block. -/
theorem left : out0_13 (F := Ideal) x a b c gt wb wo g kv gp wq mwo gl = written x a b c gt wb wo g kv gp wq mwo gl := by
  unfold_out out0_13
  frame_out
  rfl

end Written
end Cert.MergeTile
-- ==== Proof.MergeRef.lean ====
module

public import proofs.«01_k».proof.Proof.MergeRow
public import proofs.«01_k».proof.Proof.Gen.MergeRefIdeal.Run
public import Idealize.ShloMosaic.Lib.Pointwise

@[expose] public section

set_option maxRecDepth 16384

noncomputable section

namespace Cert.MergeHost
open Idealize.ShloMosaic Idealize.ShloMosaic.TcCoe Idealize.SL.Sem Cert.MergeRefIdeal Cert.MergeRefIdeal.Gen

/-- A host maximum over one axis, after one more with minus infinity, is the largest of the axis. -/
theorem hostMax {s t u : Shape} {a : Fin s.rank} (x : FVec Ideal s .f32) (c : FVec Ideal t .f32) (h' : s.ReducesTo [a] t) (h : s.Reduces [a] t)
    (hu : 0 < u.numel) (hc : ∀ j, c j = Ideal.ofBits .f32 0xFF800000#32) (j : t.Idx) :
    (maximumf c (Host.reduce (α := Ideal .f32) FloatOps.maximumf x (constant u .f32 0xFF800000#32) h' hu) j : Ideal .f32)
      = Finset.univ.sup fun k => (x (h.lift j k) : EReal) := by
  show max (c j : EReal) (Host.reduce (α := Ideal .f32) FloatOps.maximumf x (constant u .f32 0xFF800000#32) h' hu j : Ideal .f32) = _
  rw [Host.reduce_eq_fold_single _ _ _ h' h, hc, Cert.Attn.ofBits_neg_inf, bot_sup_eq]
  show Finset.fold max (Ideal.ofBits .f32 0xFF800000#32) (fun k => (x (h.lift j k) : EReal)) Finset.univ = _
  rw [Cert.Attn.ofBits_neg_inf]
  rfl

section Steps
variable (y : FVec Ideal S4x8192x1024 .f32) (w : FVec Ideal S1x1024 .f32) (p : FVec Ideal S1024x1024 .bf16)

/-- The reference's normalisation, -/
def rnorm : FVec Ideal S4x8192x1024 .f32 :=
  mulf (mulf y (broadcastInDim S4x8192x1024 ![0, 1, 2] bcast_S4x8192x1_S4x8192x1024_0_1_2
    (Host.rsqrt (addf (Host.divf (broadcastInDim S4x8192x1 ![0, 1] bcast_S4x8192_S4x8192x1_0_1
        (Host.reduceAdd (mulf y y) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ w shapeCasts_S1x1024_S1024)))

/-- at its place. -/
theorem rnorm_apply (b : Fin 4) (i : Fin 8192) (j : Fin 1024) : (rnorm y w (ix3 b i j) : EReal)
    = Cert.Norm.rms Cert.MergeRow.width (fun d => y (ix3 b i d)) (fun d => w (ix2 0 d)) j := by
  pointwise [rnorm]
  rfl

/-- Rows against a matrix, -/
def rtimes : FVec Ideal S4x8192x1024 .f32 :=
  Host.dotGeneral dot_S4x8192x1024_S1024x1024_S4x8192x1024_2_0_01_1_n_n none y (extf .f32 p bitsLt_bf16_f32)

/-- at their place. -/
theorem rtimes_apply (b : Fin 4) (i : Fin 8192) (j : Fin 1024) : (rtimes y p (ix3 b i j) : EReal)
    = Cert.MergeRow.times (fun d => y (ix3 b i d)) (fun d j => p (ix2 d j)) j := by
  pointwise [rtimes]
  rfl

end Steps

section Mixer
variable (x : FVec Ideal S4x8192x1024 .f32) (x1 x2 x3 : FVec Ideal S4x512x8192 .f32) (gt : FVec Ideal S4x8192x3072 .bf16)
  (wb : FVec Ideal S3x512x1024 .bf16) (wo : FVec Ideal S1024x1024 .bf16) (g : FVec Ideal S1x1024 .f32)

/-- The branches stacked, a token's features last, -/
def rstack : FVec Ideal S4x8192x3x512 .f32 :=
  transpose S4x8192x3x512 [0, 3, 1, 2] (concatenate S4x3x512x8192 1
    [⟨S4x1x512x8192, (broadcastInDim S4x1x512x8192 ![0, 2, 3] bcast_S4x512x8192_S4x1x512x8192_0_2_3 x1)⟩,
      ⟨S4x1x512x8192, (broadcastInDim S4x1x512x8192 ![0, 2, 3] bcast_S4x512x8192_S4x1x512x8192_0_2_3 x2)⟩,
      ⟨S4x1x512x8192, (broadcastInDim S4x1x512x8192 ![0, 2, 3] bcast_S4x512x8192_S4x1x512x8192_0_2_3 x3)⟩]
    concatenates_S4x1x512x8192_S4x1x512x8192_S4x1x512x8192_S4x3x512x8192_d1) transposes_S4x3x512x8192_S4x8192x3x512_0_3_1_2

/-- at their place. -/
theorem rstack_apply (b : Fin 4) (i : Fin 8192) (n : Fin 3) (d : Fin 512) : (rstack x1 x2 x3 (ix4 b i n d) : EReal)
    = ![x1, x2, x3] n (ix3 b d i) := by
  fin_cases n
  · pointwise [rstack]
  · pointwise [rstack]
  · pointwise [rstack]

/-- The branches projected, gated and summed, -/
def rmerged : FVec Ideal S4x8192x1024 .f32 :=
  Host.reduceAdd (mulf (shapeCast _ (extf .f32 gt bitsLt_bf16_f32) shapeCasts_S4x8192x3072_S4x8192x3x1024)
    (transpose S4x8192x3x1024 [2, 3, 0, 1] (Host.dotGeneral dot_S3x512x1024_S4x8192x3x512_S3x1024x4x8192_1_3_2_01_0_2 none
      (extf .f32 wb bitsLt_bf16_f32) (rstack x1 x2 x3)) transposes_S3x1024x4x8192_S4x8192x3x1024_2_3_0_1))
    (constant S_ .f32 0x00000000#32) reducesTo_S4x8192x3x1024_S4x8192x1024_d2 h_S_

/-- at their place. -/
theorem rmerged_apply (b : Fin 4) (i : Fin 8192) (j : Fin 1024) : (rmerged x1 x2 x3 gt wb (ix3 b i j) : EReal)
    = Cert.MergeRow.merged (fun d => x1 (ix3 b d i)) (fun d => x2 (ix3 b d i)) (fun d => x3 (ix3 b d i))
        (fun n d => gt (ix3 b i ⟨1024 * n.val + d.val, by omega⟩)) (fun n d j => wb (ix3 n d j)) j := by
  pointwise [rmerged, rstack_apply]
  rw [Fin.sum_univ_three]
  unfold Cert.MergeRow.merged Cert.MergeRow.times
  refine congrArg₂ (· + ·) (congrArg₂ (· + ·) ?_ ?_) ?_
  · exact congrArg₂ (· * ·) (congrArg gt (congrArg (fun z => ix3 b i z) (Fin.ext rfl))) (Finset.sum_congr rfl fun d _ => mul_comm _ _)
  · exact congrArg₂ (· * ·) (congrArg gt (congrArg (fun z => ix3 b i z) (Fin.ext rfl))) (Finset.sum_congr rfl fun d _ => mul_comm _ _)
  · exact congrArg₂ (· * ·) (congrArg gt (congrArg (fun z => ix3 b i z) (Fin.ext rfl))) (Finset.sum_congr rfl fun d _ => mul_comm _ _)

/-- The mixer's rows, -/
def rmid : FVec Ideal S4x8192x1024 .f32 := addf x (rnorm (rtimes (rmerged x1 x2 x3 gt wb) wo) g)

/-- at their place. -/
theorem rmid_apply (b : Fin 4) (i : Fin 8192) (j : Fin 1024) : (rmid x x1 x2 x3 gt wb wo g (ix3 b i j) : EReal)
    = Cert.MergeRow.mid (fun d => x (ix3 b i d)) (fun d => x1 (ix3 b d i)) (fun d => x2 (ix3 b d i)) (fun d => x3 (ix3 b d i))
        (fun n d => gt (ix3 b i ⟨1024 * n.val + d.val, by omega⟩)) (fun n d j => wb (ix3 n d j)) (fun d j => wo (ix2 d j)) (fun d => g (ix2 0 d)) j := by
  pointwise [rmid, rnorm_apply]
  simp only [rtimes_apply, rmerged_apply]
  rfl

end Mixer

section Memory
variable (q : FVec Ideal S4x8192x1024 .f32) (kv : FVec Ideal S4x256x2048 .bf16)

/-- The memory's keys and values. -/
def rkv : FVec Ideal S4x256x2x4x256 .f32 := shapeCast _ (extf .f32 kv bitsLt_bf16_f32) shapeCasts_S4x256x2048_S4x256x2x4x256

/-- The keys, -/
def rkey : FVec Ideal S4x256x4x256 .f32 :=
  shapeCast _ (extractStridedSlice S4x256x1x4x256 ![0, 0, 0, 0, 0] (rkv kv) slices_S4x256x2x4x256_S4x256x1x4x256_0_0_0_0_0) shapeCasts_S4x256x1x4x256_S4x256x4x256

/-- the values, -/
def rval : FVec Ideal S4x256x4x256 .f32 :=
  shapeCast _ (extractStridedSlice S4x256x1x4x256 ![0, 0, 1, 0, 0] (rkv kv) slices_S4x256x2x4x256_S4x256x1x4x256_0_0_1_0_0) shapeCasts_S4x256x1x4x256_S4x256x4x256

/-- a key at its place, -/
theorem rkey_apply (b h : Fin 4) (l d : Fin 256) : (rkey kv (ix4 b l h d) : EReal) = kv (ix3 b l ⟨256 * h.val + d.val, by omega⟩) := by
  pointwise [rkey, rkv]
  exact congrArg (fun z => kv (ix3 b l z)) (Fin.ext (by show h.val * 256 + d.val = 256 * h.val + d.val; omega))

/-- and a value. -/
theorem rval_apply (b h : Fin 4) (l d : Fin 256) : (rval kv (ix4 b l h d) : EReal) = kv (ix3 b l ⟨1024 + (256 * h.val + d.val), by omega⟩) := by
  pointwise [rval, rkv]
  exact congrArg (fun z => kv (ix3 b l z)) (Fin.ext (by show 1024 + h.val * 256 + d.val = 1024 + (256 * h.val + d.val); omega))

/-- The scores, -/
def rscores : FVec Ideal S4x4x8192x256 .f32 :=
  mulf (Host.dotGeneral dot_S4x8192x4x256_S4x256x4x256_S4x4x8192x256_3_3_1_1_02_02 none
      (shapeCast _ q shapeCasts_S4x8192x1024_S4x8192x4x256) (rkey kv))
    (broadcastInDim S4x4x8192x256 ![] bcast_S_S4x4x8192x256 (constant S_ .f32 0x3D800000#32))

/-- at their place. -/
theorem rscores_apply (b h : Fin 4) (i : Fin 8192) (l : Fin 256) : (rscores q kv (ix4 b h i l) : EReal)
    = Cert.MergeRow.score (fun d => q (ix3 b i d)) (fun l d => kv (ix3 b l ⟨d.val, by omega⟩)) h l * Ideal.ofBits .f32 0x3D800000#32 := by
  pointwise [rscores, rkey_apply]
  refine congrArg (· * _) (Finset.sum_congr rfl fun d _ => congrArg (· * _) ?_)
  exact congrArg (fun z => q (ix3 b i z)) (Fin.ext (by show h.val * 256 + d.val = 256 * h.val + d.val; omega))

variable (s : FVec Ideal S4x4x8192x256 .f32)

/-- The largest scores, -/
def rmax : FVec Ideal S4x4x8192 .f32 :=
  maximumf (broadcastInDim S4x4x8192 ![] bcast_S_S4x4x8192 (constant S_ .f32 0xFF800000#32))
    (Host.reduce FloatOps.maximumf s (constant S_ .f32 0xFF800000#32) reducesTo_S4x4x8192x256_S4x4x8192_d3 h_S_)

/-- at their place. -/
theorem rmax_apply (b h : Fin 4) (i : Fin 8192) : (rmax s (ix3 b h i) : EReal) = Finset.univ.sup fun l : Fin 256 => (s (ix4 b h i l) : EReal) := by
  refine (hostMax s _ reducesTo_S4x4x8192x256_S4x4x8192_d3 ⟨rfl, Nat.succ_pos 2, reducesTo_S4x4x8192x256_S4x4x8192_d3.2⟩ h_S_ (fun _ => rfl) (ix3 b h i)).trans ?_
  exact congrArg (Finset.sup Finset.univ) (funext fun l => congrArg s (by funext a; fin_cases a <;> rfl))

/-- The exponentials, -/
def rexp : FVec Ideal S4x4x8192x256 .f32 :=
  Host.exp (subf s (broadcastInDim S4x4x8192x256 ![0, 1, 2, 3] bcast_S4x4x8192x1_S4x4x8192x256_0_1_2_3
    (broadcastInDim S4x4x8192x1 ![0, 1, 2] bcast_S4x4x8192_S4x4x8192x1_0_1_2 (rmax s))))

/-- the shares, -/
def rshare : FVec Ideal S4x4x8192x256 .f32 :=
  Host.divf (rexp s) (broadcastInDim S4x4x8192x256 ![0, 1, 2, 3] bcast_S4x4x8192x1_S4x4x8192x256_0_1_2_3
    (broadcastInDim S4x4x8192x1 ![0, 1, 2] bcast_S4x4x8192_S4x4x8192x1_0_1_2
      (Host.reduceAdd (rexp s) (constant S_ .f32 0x00000000#32) reducesTo_S4x4x8192x256_S4x4x8192_d3 h_S_)))

/-- an exponential at its place, -/
theorem rexp_apply (b h : Fin 4) (i : Fin 8192) (l : Fin 256) : (rexp s (ix4 b h i l) : EReal)
    = Ideal.exp (s (ix4 b h i l) - Finset.univ.sup fun l : Fin 256 => (s (ix4 b h i l) : EReal)) := by
  pointwise [rexp, rmax_apply]

/-- and a share. -/
theorem rshare_apply (b h : Fin 4) (i : Fin 8192) (l : Fin 256) : (rshare s (ix4 b h i l) : EReal)
    = Cert.MergeRow.shares Ideal.exp (fun l => s (ix4 b h i l)) l := by
  pointwise [rshare, rexp_apply]
  rfl

/-- The heads beside each other, -/
def rheads : FVec Ideal S4x8192x1024 .f32 :=
  shapeCast _ (transpose S4x8192x4x256 [0, 3, 1, 2] (Host.dotGeneral dot_S4x256x4x256_S4x4x8192x256_S4x4x256x8192_1_3_3_2_02_01 none (rval kv) (rshare s))
    transposes_S4x4x256x8192_S4x8192x4x256_0_3_1_2) shapeCasts_S4x8192x4x256_S4x8192x1024

/-- at their place. -/
theorem rheads_apply (b : Fin 4) (i : Fin 8192) (j : Fin 1024) : (rheads kv (rscores q kv) (ix3 b i j) : EReal)
    = Cert.MergeRow.attended (fun d => q (ix3 b i d)) (fun l d => kv (ix3 b l ⟨d.val, by omega⟩)) (fun l d => kv (ix3 b l ⟨1024 + d.val, by omega⟩)) j := by
  pointwise [rheads, rval_apply, rshare_apply, rscores_apply]
  refine Finset.sum_congr rfl fun l _ => Eq.trans (congrArg₂ (· * ·) ?_ rfl) (mul_comm _ _)
  exact congrArg (fun z => kv (ix3 b l z)) (Fin.ext (by show 1024 + (256 * (j.val / 256) + j.val % 256) = 1024 + j.val; omega))

end Memory

section Whole
variable (x : FVec Ideal S4x8192x1024 .f32) (x1 x2 x3 : FVec Ideal S4x512x8192 .f32) (gt : FVec Ideal S4x8192x3072 .bf16)
  (wb : FVec Ideal S3x512x1024 .bf16) (wo : FVec Ideal S1024x1024 .bf16) (g : FVec Ideal S1x1024 .f32) (kv : FVec Ideal S4x256x2048 .bf16)
  (gp : FVec Ideal S1x1024 .f32) (wq mwo : FVec Ideal S1024x1024 .bf16) (gl : FVec Ideal S1x1024 .f32)

/-- The reference's result, -/
def rout : FVec Ideal S4x8192x1024 .f32 :=
  addf (rmid x x1 x2 x3 gt wb wo g)
    (rnorm (rtimes (rheads kv (rscores (rtimes (rnorm (rmid x x1 x2 x3 gt wb wo g) gp) wq) kv)) mwo) gl)

/-- at its place. -/
theorem rout_apply (b : Fin 4) (i : Fin 8192) (j : Fin 1024) : (rout x x1 x2 x3 gt wb wo g kv gp wq mwo gl (ix3 b i j) : EReal)
    = Cert.MergeRow.entry (Cert.MergeRow.mid (fun d => x (ix3 b i d)) (fun d => x1 (ix3 b d i)) (fun d => x2 (ix3 b d i)) (fun d => x3 (ix3 b d i))
        (fun n d => gt (ix3 b i ⟨1024 * n.val + d.val, by omega⟩)) (fun n d j => wb (ix3 n d j)) (fun d j => wo (ix2 d j)) (fun d => g (ix2 0 d)))
      (fun d => gp (ix2 0 d)) (fun d j => wq (ix2 d j)) (fun l d => kv (ix3 b l ⟨d.val, by omega⟩)) (fun l d => kv (ix3 b l ⟨1024 + d.val, by omega⟩))
      (fun d j => mwo (ix2 d j)) (fun d => gl (ix2 0 d)) j := by
  pointwise [rout, rnorm_apply]
  simp only [rtimes_apply, rheads_apply, rnorm_apply, rmid_apply]
  rfl

end Whole

/-- The reference's run, its result named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v85)
        = rout (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  Value.run m ρ

end Cert.MergeHost
-- ==== Proof.MergeValue.lean ====
module

public import proofs.«01_k».proof.Defs
public import proofs.«01_k».proof.Proof.MergeTile
public import proofs.«01_k».proof.Proof.MergeRef
public import Idealize.ShloMosaic.Lib.Quiescent

@[expose] public section

set_option maxRecDepth 16384

noncomputable section

namespace Cert.MergeTie
open Idealize.ShloMosaic Idealize.ShloMosaic.TcCoe Idealize.SL.Sem

section Call
open Cert.MergeIdeal Cert.MergeIdeal.Gen

/-- Point `t` reads tile `t % 16` of sequence `t / 16`, its memory, and the whole of the weights. -/
theorem idx : ∀ t : Fin grid0.N, win0_0.index t = ![t.val / 16, t.val % 16, 0]
    ∧ win0_1.index t = ![t.val / 16, 0, t.val % 16]
    ∧ win0_2.index t = ![t.val / 16, 0, t.val % 16]
    ∧ win0_3.index t = ![t.val / 16, 0, t.val % 16]
    ∧ win0_4.index t = ![t.val / 16, t.val % 16, 0]
    ∧ win0_5.index t = ![0, 0, 0]
    ∧ win0_6.index t = ![0, 0]
    ∧ win0_7.index t = ![0, 0]
    ∧ win0_8.index t = ![t.val / 16, 0, 0]
    ∧ win0_9.index t = ![0, 0]
    ∧ win0_10.index t = ![0, 0]
    ∧ win0_11.index t = ![0, 0]
    ∧ win0_12.index t = ![0, 0]
    ∧ win0_13.index t = ![t.val / 16, t.val % 16, 0] := by
  decide +kernel

/-- There are 64 points. -/
theorem lt_N (t : Fin grid0.N) : t.val < 64 := lt_of_lt_of_eq t.isLt N_0

variable (m : (ℓ : Loc nD τ sig) → Buf (Elt Ideal) ℓ) (c : Dev nD)

/-- The blocks a point reads. -/
def b0 (t : Fin cfg0.N) : Vec Ideal S1x512x1024 .f32 := iblk m c 0 t
def b1 (t : Fin cfg0.N) : Vec Ideal S1x512x512 .f32 := iblk m c 1 t
def b2 (t : Fin cfg0.N) : Vec Ideal S1x512x512 .f32 := iblk m c 2 t
def b3 (t : Fin cfg0.N) : Vec Ideal S1x512x512 .f32 := iblk m c 3 t
def b4 (t : Fin cfg0.N) : Vec Ideal S1x512x3072 .bf16 := iblk m c 4 t
def b5 (t : Fin cfg0.N) : Vec Ideal S3x512x1024 .bf16 := iblk m c 5 t
def b6 (t : Fin cfg0.N) : Vec Ideal S1024x1024 .bf16 := iblk m c 6 t
def b7 (t : Fin cfg0.N) : Vec Ideal S1x1024 .f32 := iblk m c 7 t
def b8 (t : Fin cfg0.N) : Vec Ideal S1x256x2048 .bf16 := iblk m c 8 t
def b9 (t : Fin cfg0.N) : Vec Ideal S1x1024 .f32 := iblk m c 9 t
def b10 (t : Fin cfg0.N) : Vec Ideal S1024x1024 .bf16 := iblk m c 10 t
def b11 (t : Fin cfg0.N) : Vec Ideal S1024x1024 .bf16 := iblk m c 11 t
def b12 (t : Fin cfg0.N) : Vec Ideal S1x1024 .f32 := iblk m c 12 t

/-- What a point writes is the payload of its blocks. -/
theorem left (t : Fin cfg0.N) : (dats m 0 c).after 13 t
    = Cert.MergeTile.written (b0 m c t) (b1 m c t) (b2 m c t) (b3 m c t) (b4 m c t) (b5 m c t) (b6 m c t) (b7 m c t) (b8 m c t) (b9 m c t) (b10 m c t) (b11 m c t) (b12 m c t) :=
  (after0_13 m c t).trans (Cert.MergeTile.left (b0 m c t) (b1 m c t) (b2 m c t) (b3 m c t) (b4 m c t) (b5 m c t) (b6 m c t) (b7 m c t) (b8 m c t) (b9 m c t) (b10 m c t) (b11 m c t) (b12 m c t))

/-- The blocks at an index: the rows, -/
theorem blk0 (t : Fin cfg0.N) (r : Fin 512) (d : Fin 1024) (b : Fin 4) (i : Fin 8192) (hb : b.val = t.val / 16) (hi : i.val = 512 * (t.val % 16) + r.val) :
    (b0 m c t (ix3 0 r d) : EReal) = m ((c : Thread nD τ).loc main_arg0) (ix3 b i d) := by
  have e := (idx t).1
  blk_ext [b0, iblk, V, e]

/-- the first branch, -/
theorem blk1 (t : Fin cfg0.N) (r d : Fin 512) (b : Fin 4) (i : Fin 8192) (hb : b.val = t.val / 16) (hi : i.val = 512 * (t.val % 16) + r.val) :
    (b1 m c t (ix3 0 d r) : EReal) = m ((c : Thread nD τ).loc main_arg1) (ix3 b d i) := by
  have e := (idx t).2.1
  blk_ext [b1, iblk, V, e]

/-- the second, -/
theorem blk2 (t : Fin cfg0.N) (r d : Fin 512) (b : Fin 4) (i : Fin 8192) (hb : b.val = t.val / 16) (hi : i.val = 512 * (t.val % 16) + r.val) :
    (b2 m c t (ix3 0 d r) : EReal) = m ((c : Thread nD τ).loc main_arg2) (ix3 b d i) := by
  have e := (idx t).2.2.1
  blk_ext [b2, iblk, V, e]

/-- the third, -/
theorem blk3 (t : Fin cfg0.N) (r d : Fin 512) (b : Fin 4) (i : Fin 8192) (hb : b.val = t.val / 16) (hi : i.val = 512 * (t.val % 16) + r.val) :
    (b3 m c t (ix3 0 d r) : EReal) = m ((c : Thread nD τ).loc main_arg3) (ix3 b d i) := by
  have e := (idx t).2.2.2.1
  blk_ext [b3, iblk, V, e]

/-- the gates, -/
theorem blk4 (t : Fin cfg0.N) (r : Fin 512) (d : Fin 3072) (b : Fin 4) (i : Fin 8192) (hb : b.val = t.val / 16) (hi : i.val = 512 * (t.val % 16) + r.val) :
    (b4 m c t (ix3 0 r d) : EReal) = m ((c : Thread nD τ).loc main_arg4) (ix3 b i d) := by
  have e := (idx t).2.2.2.2.1
  blk_ext [b4, iblk, V, e]

/-- the branches' weights, -/
theorem blk5 (t : Fin cfg0.N) (n : Fin 3) (d : Fin 512) (j : Fin 1024) :
    (b5 m c t (ix3 n d j) : EReal) = m ((c : Thread nD τ).loc main_arg5) (ix3 n d j) := by
  have e := (idx t).2.2.2.2.2.1
  blk_ext [b5, iblk, V, e]

/-- the mixer's projection, -/
theorem blk6 (t : Fin cfg0.N) (d j : Fin 1024) :
    (b6 m c t (ix2 d j) : EReal) = m ((c : Thread nD τ).loc main_arg6) (ix2 d j) := by
  have e := (idx t).2.2.2.2.2.2.1
  blk_ext [b6, iblk, V, e]

/-- its norm's weights, -/
theorem blk7 (t : Fin cfg0.N) (d : Fin 1024) :
    (b7 m c t (ix2 0 d) : EReal) = m ((c : Thread nD τ).loc main_arg7) (ix2 0 d) := by
  have e := (idx t).2.2.2.2.2.2.2.1
  blk_ext [b7, iblk, V, e]

/-- the memory's keys and values, -/
theorem blk8 (t : Fin cfg0.N) (l : Fin 256) (d : Fin 2048) (b : Fin 4) (hb : b.val = t.val / 16) :
    (b8 m c t (ix3 0 l d) : EReal) = m ((c : Thread nD τ).loc main_arg8) (ix3 b l d) := by
  have e := (idx t).2.2.2.2.2.2.2.2.1
  blk_ext [b8, iblk, V, e]

/-- the norm's weights before the memory, -/
theorem blk9 (t : Fin cfg0.N) (d : Fin 1024) :
    (b9 m c t (ix2 0 d) : EReal) = m ((c : Thread nD τ).loc main_arg9) (ix2 0 d) := by
  have e := (idx t).2.2.2.2.2.2.2.2.2.1
  blk_ext [b9, iblk, V, e]

/-- the queries' projection, -/
theorem blk10 (t : Fin cfg0.N) (d j : Fin 1024) :
    (b10 m c t (ix2 d j) : EReal) = m ((c : Thread nD τ).loc main_arg10) (ix2 d j) := by
  have e := (idx t).2.2.2.2.2.2.2.2.2.2.1
  blk_ext [b10, iblk, V, e]

/-- the heads' projection, -/
theorem blk11 (t : Fin cfg0.N) (d j : Fin 1024) :
    (b11 m c t (ix2 d j) : EReal) = m ((c : Thread nD τ).loc main_arg11) (ix2 d j) := by
  have e := (idx t).2.2.2.2.2.2.2.2.2.2.2.1
  blk_ext [b11, iblk, V, e]

/-- and the last norm's weights. -/
theorem blk12 (t : Fin cfg0.N) (d : Fin 1024) :
    (b12 m c t (ix2 0 d) : EReal) = m ((c : Thread nD τ).loc main_arg12) (ix2 0 d) := by
  have e := (idx t).2.2.2.2.2.2.2.2.2.2.2.2.1
  blk_ext [b12, iblk, V, e]

/-- The array after the run is the reference's. -/
theorem final : (dats m 0 c).arrAt 13 cfg0.N
    = Cert.MergeHost.rout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t hf y => ?_
  blk_simp
  rw [left]
  obtain ⟨r, j, rfl⟩ : ∃ (r : Fin 512) (j : Fin 1024), y = ix3 0 r j := ⟨y 1, y 2, by funext a; fin_cases a <;> first | rfl | exact Subsingleton.elim (α := Fin 1) _ _⟩
  have ht := lt_N t
  have hb : t.val / 16 < 4 := by omega
  have hi : 512 * (t.val % 16) + r.val < 8192 := by omega
  refine (Cert.MergeTile.written_apply _ _ _ _ _ _ _ _ _ _ _ _ _ r j).trans (Eq.trans ?_
    ((Cert.MergeHost.rout_apply _ _ _ _ _ _ _ _ _ _ _ _ _ ⟨t.val / 16, hb⟩ ⟨512 * (t.val % 16) + r.val, hi⟩ j).symm.trans (congrArg _ ?_)))
  · simp only [blk0 m c t r _ ⟨t.val / 16, hb⟩ ⟨512 * (t.val % 16) + r.val, hi⟩ rfl rfl, blk1 m c t r _ ⟨t.val / 16, hb⟩ ⟨512 * (t.val % 16) + r.val, hi⟩ rfl rfl,
      blk2 m c t r _ ⟨t.val / 16, hb⟩ ⟨512 * (t.val % 16) + r.val, hi⟩ rfl rfl, blk3 m c t r _ ⟨t.val / 16, hb⟩ ⟨512 * (t.val % 16) + r.val, hi⟩ rfl rfl,
      blk4 m c t r _ ⟨t.val / 16, hb⟩ ⟨512 * (t.val % 16) + r.val, hi⟩ rfl rfl, blk5, blk6, blk7, blk8 m c t _ _ ⟨t.val / 16, hb⟩ rfl, blk9, blk10, blk11, blk12]
  · have e := (idx t).2.2.2.2.2.2.2.2.2.2.2.2.2
    blk_ext [e]

end Call

/-- The kernel keeps the named constant's word. -/
theorem preserves : Cert.preserves_Merge_MergeIdeal :=
  IdealRules.named_const.statement Cert.MergeIdeal.κ "mem_scale" .f32 0x3DB8AA3B#32 (((1 / 16) * (Real.log 2)⁻¹ : ℝ) : EReal) rfl

/-- The reference keeps its arguments and ends with its counters at zero. -/
theorem ref_frame : Cert.quiescent_MergeRefIdeal (hMergeRefIdeal := Cert.MergeRefIdeal.Gen.facts) := fun m ρ _ =>
  (θ_run _ _ _).mono (fun r h => ⟨fun c => (h c).2, sem_eq_zero_of_no_sems (by decide) r.2⟩) (Cert.MergeRefIdeal.Value.run m ρ)

/-- The value claim. -/
theorem algebraic : Cert.algebraic_MergeIdeal_MergeRefIdeal := fun m g m' g' _ hagree =>
  ⟨fun c => (Cert.MergeIdeal.Gen.dats m 0 c).arrAt 13 Cert.MergeIdeal.cfg0.N, Cert.MergeIdeal.Value.run_blocks m g,
    (θ_run _ _ _).mono (fun r h c => by
      refine ⟨?_, (h c).2⟩
      rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
      exact (final m c).symm) (Cert.MergeHost.ref_run m' g')⟩

end Cert.MergeTie
-- ==== Proof.DiftChain.lean ====
module

public import proofs.«01_k».proof.Proof.Gen.DiftIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DiftIdeal.Value
open Idealize.ShloMosaic Idealize.ShloMosaic.TcCoe Idealize.SL.Sem
open Idealize.ShloMosaic.Pipeline (Dat)
open Cert.DiftIdeal Cert.DiftIdeal.Gen

variable {F : FTy → Type} [FloatOps F]

/-- The queries of the two maps of a block, side by side. -/
def qcat (x : Vec F S1x2x128x512 .bf16) : FVec F S128x1024 .bf16 :=
  k0_pay2 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0))

/-- The scores of a chunk of keys against a tile of queries. -/
def scr (q : FVec F S128x1024 .bf16) (k : Vec F S1x256x128 .bf16) : FVec F S256x1024 .f32 :=
  matmul dot_S256x128_S128x1024_S256x1024_1_0_0_1_n_n none (shapeCast S256x128 k shapeCasts_S1x256x128_S256x128) q (constant S256x1024 .f32 0x00000000#32)

/-- The scores a point keeps for its next tile: the first chunk's, -/
def kept (x : Vec F S1x2x128x512 .bf16) (k : Vec F S1x256x128 .bf16) : FVec F S1x256x1024 .f32 :=
  k0_pay175 (k0_pay174 (k0_pay5 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0))) k)

/-- and their largest. -/
def keptMax (x : Vec F S1x2x128x512 .bf16) (k : Vec F S1x256x128 .bf16) : FVec F S8x1024 .f32 :=
  k0_pay176 (k0_pay174 (k0_pay5 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0))) k)

/-- The same for its own tile. -/
def made (x : Vec F S1x2x128x512 .bf16) (k : Vec F S1x256x128 .bf16) : FVec F S1x256x1024 .f32 :=
  k0_pay7 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0)) k

/-- and their largest. -/
def madeMax (x : Vec F S1x2x128x512 .bf16) (k : Vec F S1x256x128 .bf16) : FVec F S8x1024 .f32 :=
  k0_pay8 (View.ld x (Rect.unit (s := S1x2x128x512) ![0, 0, 0, 0] S1x1x128x512.size inb_S1x2x128x512_S1x1x128x512_0_0_0_0))
    (View.ld x (Rect.unit (s := S1x2x128x512) ![0, 1, 0, 0] S1x1x128x512.size inb_S1x2x128x512_S1x1x128x512_0_1_0_0)) k

/-- The largest score of each query of a tile, over a chunk. -/
def cmx (s : FVec F S256x1024 .f32) : FVec F S1x1024 .f32 :=
  shapeCast S1x1024 (multiReduction .maximumf [0] S1024 s 0xFF800000#32 reduces_S256x1024_S1024 (.inl rfl) rfl) shapeCasts_S1024_S1x1024

/-- Chunk `n` of the keys. -/
def kch (x2 : Vec F S1x8192x128 .bf16) (n : ℕ) : Vec F S1x256x128 .bf16 :=
  View.ld x2 (Rect.unit (s := S1x8192x128) ![0, 256 * (n % 32), 0] S1x256x128.size
    (fun a => by match a with
      | ⟨0, _⟩ => exact Nat.le_refl 1
      | ⟨1, _⟩ => show 256 * (n % 32) + 256 ≤ 8192; omega
      | ⟨2, _⟩ => exact Nat.le_refl 128))

/-- Chunk `n` of the values. -/
def vch (x3 : Vec F S1x64x8192 .bf16) (n : ℕ) : Vec F S1x64x256 .bf16 :=
  View.ld x3 (Rect.unit (s := S1x64x8192) ![0, 0, 256 * (n % 32)] S1x64x256.size
    (fun a => by match a with
      | ⟨0, _⟩ => exact Nat.le_refl 1
      | ⟨1, _⟩ => exact Nat.le_refl 64
      | ⟨2, _⟩ => show 256 * (n % 32) + 256 ≤ 8192; omega))

/-- One step of the running weighted sums: the old sums rescaled to the new maximum, plus the chunk's. -/
def stp (mo mn : FVec F S1x1024 .f32) (s : Vec F S1x256x1024 .f32) (v : Vec F S1x64x256 .bf16) (a : FVec F S80x1024 .f32) : FVec F S80x1024 .f32 :=
  addf (mulf a (broadcastTo S80x1024 (exp2 (subf mo mn)) broadcasts_S1x1024_S80x1024))
    (matmul dot_S80x256_S256x1024_S80x1024_1_0_0_1_n_n none
      (concatenate S80x256 0 [⟨S64x256, shapeCast S64x256 v shapeCasts_S1x64x256_S64x256⟩, ⟨S16x256, broadcast S16x256 (Scalar.ofBits .bf16 0x3F80#16)⟩] concatenates_S64x256_S16x256_S80x256_d0)
      (truncf .bf16 (exp2 (subf (shapeCast S256x1024 s shapeCasts_S1x256x1024_S256x1024) (broadcastTo S256x1024 mn broadcasts_S1x1024_S256x1024))) bitsLt_bf16_f32)
      (constant S80x1024 .f32 0x00000000#32))

/-- The running maximum after `n` chunks, from the first chunk's `m0`. -/
def mxs (m0 : FVec F S1x1024 .f32) (q : FVec F S128x1024 .bf16) (x2 : Vec F S1x8192x128 .bf16) : ℕ → FVec F S1x1024 .f32
  | 0 => broadcast S1x1024 (Scalar.ofBits .f32 0xFF800000#32)
  | 1 => maximumf (broadcast S1x1024 (Scalar.ofBits .f32 0xFF800000#32)) m0
  | n + 2 => maximumf (mxs m0 q x2 (n + 1)) (cmx (scr q (kch x2 (n + 1))))

/-- The scores of chunk `n`; the first chunk's are `s0`. -/
def scs (s0 : Vec F S1x256x1024 .f32) (q : FVec F S128x1024 .bf16) (x2 : Vec F S1x8192x128 .bf16) : ℕ → Vec F S1x256x1024 .f32
  | 0 => s0
  | n + 1 => shapeCast S1x256x1024 (scr q (kch x2 (n + 1))) shapeCasts_S256x1024_S1x256x1024

/-- The running weighted sums after `n` chunks. -/
def acc (m0 : FVec F S1x1024 .f32) (s0 : Vec F S1x256x1024 .f32) (q : FVec F S128x1024 .bf16) (x2 : Vec F S1x8192x128 .bf16) (x3 : Vec F S1x64x8192 .bf16) :
    ℕ → FVec F S80x1024 .f32
  | 0 => broadcast S80x1024 (Scalar.ofBits .f32 0x00000000#32)
  | n + 1 => stp (mxs m0 q x2 n) (mxs m0 q x2 (n + 1)) (scs s0 q x2 n) (vch x3 n) (acc m0 s0 q x2 x3 n)

/-- The weighted sums of the values over the sum of the weights, for both maps. -/
def quo (a : FVec F S80x1024 .f32) : FVec F S64x1024 .f32 :=
  divf (extractStridedSlice S64x1024 ![0, 0] a slices_S80x1024_o0_0_S64x1024)
    (broadcastTo S64x1024 (extractStridedSlice S1x1024 ![64, 0] a slices_S80x1024_o64_0_S1x1024) broadcasts_S1x1024_S64x1024)

/-- The tile's result: the difference of the two maps, normalised. -/
def fin (a : FVec F S80x1024 .f32) (x0 x1 x2 x3 : Vec F S1x32 .f32) (x4 : Vec F S64x1 .f32) : FVec F S1x64x512 .f32 :=
  k0_pay1 (k0_pay179 (quo a) (k0_pay178 x0 x1) x2 x3 x4)

set_option maxHeartbeats 4000000 in
/-- A later point's tile, from the scratch `xs0`, `xs1` the point before left. -/
theorem out_B (c : Dev nD) (i : grid0.Coords) (a3 h3 a4 h4 a5 h5 a6 h6 a7 h7 a8 h8 a9 h9 a10 h10 a11 h11 a12 h12 hc x0 x1 x2 x3 x4 x5 x6 x7 x8 xs0 xs1) :
   out0_B_9 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8 xs0 xs1
     = fin (acc (k0_pay9 xs1) (View.ld xs0 (Rect.unit (s := S2x256x1024) ![0, 0, 0] S1x256x1024.size inb_S2x256x1024_S1x256x1024_0_0_0)) (qcat x5) x7 x8 32) x0 x1 x2 x3 x4 := by
  frame_open
  simp (disch := decide) only [↓ View.readCov_skip, ↓ View.readCov_cons_toLoadRect, ↓ View.readCov_fill]
  frame_out
  try simp only [read_unread_whole]
  rfl

set_option maxHeartbeats 4000000 in
/-- A first point's tile. -/
theorem out_A (c : Dev nD) (i : grid0.Coords) (a3 h3 a4 h4 a5 h5 a6 h6 a7 h7 a8 h8 a9 h9 a10 h10 a11 h11 a12 h12 hc x0 x1 x2 x3 x4 x5 x6 x7 x8) :
   out0_A_9 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8
     = fin (acc (k0_pay9 (madeMax x5 (kch x7 0))) (made x5 (kch x7 0)) (qcat x5) x7 x8 32) x0 x1 x2 x3 x4 := by
  frame_open
  simp (disch := decide) only [↓ View.readCov_skip, ↓ View.readCov_cons_toLoadRect, ↓ View.readCov_fill]
  frame_out
  try simp only [read_unread_whole]
  rfl

set_option maxHeartbeats 4000000 in
/-- A first point leaves the maximum of the next tile's first chunk, -/
theorem mx_A (c : Dev nD) (i : grid0.Coords) (a3 h3 a4 h4 a5 h5 a6 h6 a7 h7 a8 h8 a9 h9 a10 h10 a11 h11 a12 h12 hc x0 x1 x2 x3 x4 x5 x6 x7 x8) :
   sout0_A_1 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8
     = keptMax x6 (kch x7 0) := by
  frame_open
  simp (disch := decide) only [↓ View.readCov_skip, ↓ View.readCov_cons_toLoadRect, ↓ View.readCov_fill]
  frame_out
  try simp only [read_unread_whole]
  rfl

set_option maxHeartbeats 4000000 in
/-- and so does a later one. -/
theorem mx_B (c : Dev nD) (i : grid0.Coords) (a3 h3 a4 h4 a5 h5 a6 h6 a7 h7 a8 h8 a9 h9 a10 h10 a11 h11 a12 h12 hc x0 x1 x2 x3 x4 x5 x6 x7 x8 xs0 xs1) :
   sout0_B_1 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8 xs0 xs1
     = keptMax x6 (kch x7 0) := by
  frame_open
  simp (disch := decide) only [↓ View.readCov_skip, ↓ View.readCov_cons_toLoadRect, ↓ View.readCov_fill]
  frame_out
  try simp only [read_unread_whole]
  rfl

set_option maxHeartbeats 4000000 in
/-- A first point leaves the scores of the next tile's first chunk, -/
theorem sc_A (c : Dev nD) (i : grid0.Coords) (a3 h3 a4 h4 a5 h5 a6 h6 a7 h7 a8 h8 a9 h9 a10 h10 a11 h11 a12 h12 hc x0 x1 x2 x3 x4 x5 x6 x7 x8) :
   View.ld (sout0_A_0 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8)
      (Rect.unit (s := S2x256x1024) ![0, 0, 0] S1x256x1024.size inb_S2x256x1024_S1x256x1024_0_0_0)
     = kept x6 (kch x7 0) := by
  frame_open
  simp (disch := decide) only [↓ View.readCov_skip, ↓ View.readCov_cons_toLoadRect, ↓ View.readCov_fill]
  frame_out
  try simp only [read_unread_whole]
  exact funext fun y => View.canon_cons_emb _ _ _ y

set_option maxHeartbeats 4000000 in
/-- and so does a later one. -/
theorem sc_B (c : Dev nD) (i : grid0.Coords) (a3 h3 a4 h4 a5 h5 a6 h6 a7 h7 a8 h8 a9 h9 a10 h10 a11 h11 a12 h12 hc x0 x1 x2 x3 x4 x5 x6 x7 x8 xs0 xs1) :
   View.ld (sout0_B_0 (F := F) c i a3 h3 a4 h4 a5 h5 a6 h6 a7 h7 a8 h8 a9 h9 a10 h10 a11 h11 a12 h12 scM0_0 (Memref.isWhole_whole _) scM0_1 (Memref.isWhole_whole _) scM0_2 (Memref.isWhole_whole _) hc x0 x1 x2 x3 x4 x5 x6 x7 x8 xs0 xs1)
      (Rect.unit (s := S2x256x1024) ![0, 0, 0] S1x256x1024.size inb_S2x256x1024_S1x256x1024_0_0_0)
     = kept x6 (kch x7 0) := by
  frame_open
  simp (disch := decide) only [↓ View.readCov_skip, ↓ View.readCov_cons_toLoadRect, ↓ View.readCov_fill]
  frame_out
  try simp only [read_unread_whole]
  exact funext fun y => View.canon_cons_emb _ _ _ y

end Cert.DiftIdeal.Value
-- ==== Proof.DiftTile.lean ====
module

public import proofs.«01_k».proof.Proof.DiftChain
public import proofs.«01_k».proof.Proof.Softmax
public import proofs.«01_k».proof.Proof.Norm

@[expose] public section

set_option maxRecDepth 16384

noncomputable section

namespace Cert.DiftIdeal.Value
open Idealize.ShloMosaic Idealize.ShloMosaic.TcCoe Idealize.SL.Sem
open Cert.DiftIdeal Cert.DiftIdeal.Gen

/-! ## The chunk operations at an index -/

/-- A score is the product of its key and its query. -/
theorem scr_apply (q : FVec Ideal S128x1024 .bf16) (k : Vec Ideal S1x256x128 .bf16) (j : Fin 256) (r : Fin 1024) :
    (scr (F := Ideal) q k (ix2 j r) : EReal) = ∑ d : Fin 128, k (ix3 0 j d) * q (ix2 d r) := by
  pointwise [scr]

/-- The largest score of a chunk. -/
theorem cmx_apply (s : FVec Ideal S256x1024 .f32) (r : Fin 1024) :
    (cmx (F := Ideal) s (ix2 0 r) : EReal) = Finset.univ.fold max (⊥ : EReal) fun j : Fin 256 => s (ix2 j r) := by
  pointwise [cmx, Cert.Attn.ofBits_neg_inf]

/-- One step at a value's row. -/
theorem stp_apply (mo mn : FVec Ideal S1x1024 .f32) (s : Vec Ideal S1x256x1024 .f32) (v : Vec Ideal S1x64x256 .bf16)
    (a : FVec Ideal S80x1024 .f32) (x : Fin 64) (r : Fin 1024) :
    (stp (F := Ideal) mo mn s v a (ix2 ⟨x.val, by omega⟩ r) : EReal)
      = a (ix2 ⟨x.val, by omega⟩ r) * Ideal.exp2 (mo (ix2 0 r) - mn (ix2 0 r))
        + ∑ j : Fin 256, v (ix3 0 x j) * Ideal.exp2 (s (ix3 0 j r) - mn (ix2 0 r)) := by
  pointwise [stp]
  rfl

/-- One step at the row of ones. -/
theorem stp_one (mo mn : FVec Ideal S1x1024 .f32) (s : Vec Ideal S1x256x1024 .f32) (v : Vec Ideal S1x64x256 .bf16)
    (a : FVec Ideal S80x1024 .f32) (r : Fin 1024) :
    (stp (F := Ideal) mo mn s v a (ix2 64 r) : EReal)
      = a (ix2 64 r) * Ideal.exp2 (mo (ix2 0 r) - mn (ix2 0 r))
        + ∑ j : Fin 256, 1 * Ideal.exp2 (s (ix3 0 j r) - mn (ix2 0 r)) := by
  pointwise [stp]
  rfl

/-- The two maps' results at an index. -/
theorem quo_apply (a : FVec Ideal S80x1024 .f32) (x : Fin 64) (r : Fin 1024) :
    (quo (F := Ideal) a (ix2 x r) : EReal) = Ideal.div (a (ix2 ⟨x.val, by omega⟩ r)) (a (ix2 64 r)) := by
  pointwise [quo]

/-- The column of map `u`'s query `r` in a tile. -/
abbrev col (u : Fin 2) (r : Fin 512) : Fin 1024 := ⟨512 * u.val + r.val, by omega⟩

/-- The weight of the second map, from the sums of four rows of numbers. -/
def lam (x0 x1 x2 x3 : Fin 32 → EReal) : EReal :=
  Ideal.exp (∑ i, x0 i * x1 i) - Ideal.exp (∑ i, x2 i * x3 i) + Ideal.ofBits .f32 0x3EB60549#32

/-- The result from the two maps' columns: their difference normalised, and scaled. -/
def out (o1 o2 : Fin 64 → EReal) (l : EReal) (g : Fin 64 → EReal) (x : Fin 64) : EReal :=
  Cert.Norm.rms (Ideal.ofBits .f32 0x42800000#32) (fun x => o1 x - l * o2 x) g x * Ideal.ofBits .f32 0x3F24FD5C#32

/-- A tile's result at an index. -/
theorem fin_apply (a : FVec Ideal S80x1024 .f32) (x0 x1 x2 x3 : Vec Ideal S1x32 .f32) (x4 : Vec Ideal S64x1 .f32) (x : Fin 64) (r : Fin 512) :
    (fin (F := Ideal) a x0 x1 x2 x3 x4 (ix3 0 x r) : EReal)
      = out (fun x => quo (F := Ideal) a (ix2 x (col 0 r))) (fun x => quo (F := Ideal) a (ix2 x (col 1 r)))
          (lam (fun i => x0 (ix2 0 i)) (fun i => x1 (ix2 0 i)) (fun i => x2 (ix2 0 i)) fun i => x3 (ix2 0 i)) (fun x => x4 (ix2 x 0)) x := by
  unfold fin
  generalize quo (F := Ideal) a = o
  pointwise [k0_pay1, k0_pay179, k0_pay178]
  rw [show col 0 r = ⟨r.val, by omega⟩ from Fin.ext (by show 512 * 0 + r.val = r.val; omega)]
  rfl

/-- The queries of a map lie in its columns. -/
theorem qcat_apply (q : Vec Ideal S1x2x128x512 .bf16) (u : Fin 2) (d : Fin 128) (r : Fin 512) :
    (qcat (F := Ideal) q (ix2 d (col u r)) : EReal) = q (ix4 0 u d r) := by
  fin_cases u
  · pointwise [qcat, k0_pay2]
  · pointwise [qcat, k0_pay2]

/-- A chunk's key is a key of the head. -/
theorem kch_apply (x2 : Vec Ideal S1x8192x128 .bf16) (n : ℕ) (j : Fin 256) (d : Fin 128) :
    kch (F := Ideal) x2 n (ix3 0 j d) = x2 (ix3 0 ⟨256 * (n % 32) + j.val, by omega⟩ d) := by
  pointwise [kch]

/-- A chunk's value is a value of the head. -/
theorem vch_apply (x3 : Vec Ideal S1x64x8192 .bf16) (n : ℕ) (x : Fin 64) (j : Fin 256) :
    vch (F := Ideal) x3 n (ix3 0 x j) = x3 (ix3 0 x ⟨256 * (n % 32) + j.val, by omega⟩) := by
  pointwise [vch]

/-! ## A tile of queries -/

/-- A column of a map: its values weighted by the shares of its scores. The first chunk's scores `s0` are handed over, with any real
    `ρ` no matter which as its maximum. -/
theorem tile (m0 : FVec Ideal S1x1024 .f32) (s0 : Vec Ideal S1x256x1024 .f32) (q : FVec Ideal S128x1024 .bf16)
    (x2 : Vec Ideal S1x8192x128 .bf16) (x3 : Vec Ideal S1x64x8192 .bf16) (x : Fin 64) (r : Fin 1024)
    (S : Fin 8192 → ℝ) (hS : ∀ k : Fin 8192, (∑ d : Fin 128, x2 (ix3 0 k d) * q (ix2 d r) : EReal) = S k)
    (ρ : ℝ) (hm : (m0 (ix2 0 r) : EReal) = ρ)
    (hs0 : ∀ j : Fin 256, (s0 (ix3 0 j r) : EReal) = S ⟨j.val, by omega⟩) :
    (quo (acc m0 s0 q x2 x3 32) (ix2 x r) : EReal) = ∑ k : Fin 8192, x3 (ix3 0 x k) * (Cert.Attn.share S k : EReal) := by
  have hscr : ∀ n (j : Fin 256), (scr (F := Ideal) q (kch x2 n) (ix2 j r) : EReal) = S ⟨256 * (n % 32) + j.val, by omega⟩ := fun n j => by
    rw [scr_apply, ← hS]
    exact Finset.sum_congr rfl fun d _ => by rw [kch_apply]
  have hcmx : ∀ n, ∃ ρ : ℝ, (cmx (F := Ideal) (scr q (kch x2 n)) (ix2 0 r) : EReal) = ρ := fun n => by
    rw [cmx_apply]
    exact Cert.Attn.fold_max_real _ _ (hscr n)
  choose ν hν using hcmx
  have hscs : ∀ n (j : Fin 256), (scs s0 q x2 n (ix3 0 j r) : EReal) = S ⟨256 * (n % 32) + j.val, by omega⟩ := fun n j => by
    match n with
    | 0 => exact (hs0 j).trans (by congr 2; apply Fin.ext; show j.val = 256 * (0 % 32) + j.val; omega)
    | n + 1 => rw [← hscr]; pointwise [scs]
  rw [quo_apply]
  refine Cert.Attn.attend (K := 256) (C := 31) rfl S (fun k => x3 (ix3 0 x k))
    (fun n => mxs m0 q x2 n (ix2 0 r)) (fun n => acc m0 s0 q x2 x3 n (ix2 ⟨x.val, by omega⟩ r)) (fun n => acc m0 s0 q x2 x3 n (ix2 64 r))
    (fun n => if n = 0 then ρ else ν n) (fun n j => S ⟨256 * (n % 32) + j.val, by omega⟩)
    (fun n j => x3 (ix3 0 x ⟨256 * (n % 32) + j.val, by omega⟩)) ?_ ?_ ?_ ?_ ?_ ?_ ?_ ?_ ?_
  · intro n j h hn
    congr 1; apply Fin.ext; show 256 * (n % 32) + j.val = n * 256 + j.val; omega
  · intro n j h hn
    congr 2; apply Fin.ext; show 256 * (n % 32) + j.val = n * 256 + j.val; omega
  · exact Cert.Attn.ofBits_neg_inf
  · rw [if_pos rfl, ← hm, ← Cert.Attn.ofBits_neg_inf]; rfl
  · intro n
    rw [if_neg (Nat.succ_ne_zero n), ← hν]; rfl
  · exact Ideal.ofBits_zero_f32
  · intro n
    refine (stp_apply _ _ _ _ _ x r).trans ?_
    congr 1
    exact Finset.sum_congr rfl fun j _ => by rw [vch_apply, hscs]
  · exact Ideal.ofBits_zero_f32
  · intro n
    refine (stp_one _ _ _ _ _ r).trans ?_
    congr 1
    exact Finset.sum_congr rfl fun j _ => by rw [hscs]

/-! ## What a point hands on: the first chunk's scores of the next tile -/

/-- The first chunk's scores when the point makes them itself, -/
theorem made_apply (q : Vec Ideal S1x2x128x512 .bf16) (k : Vec Ideal S1x256x128 .bf16) (j : Fin 256) (r : Fin 1024) :
    (made (F := Ideal) q k (ix3 0 j r) : EReal) = ∑ d : Fin 128, k (ix3 0 j d) * qcat (F := Ideal) q (ix2 d r) := by
  unfold made k0_pay7 k0_pay6
  change shapeCast S1x256x1024 (scr (qcat q) k) _ _ = _
  rw [← scr_apply]
  generalize scr (qcat q) k = s
  pointwise []

/-- and those made for the next tile. -/
theorem kept_apply (q : Vec Ideal S1x2x128x512 .bf16) (k : Vec Ideal S1x256x128 .bf16) (j : Fin 256) (r : Fin 1024) :
    (kept (F := Ideal) q k (ix3 0 j r) : EReal) = ∑ d : Fin 128, k (ix3 0 j d) * qcat (F := Ideal) q (ix2 d r) := by
  unfold kept k0_pay175 k0_pay174 k0_pay5
  change shapeCast S1x256x1024 (matmul _ none _ (shapeCast S128x1024 (shapeCast S1x128x1024 (qcat q) _) _) _) _ _ = _
  generalize qcat q = q
  pointwise []

/-- The largest of the first chunk's scores is real when the point makes them itself, -/
theorem madeMax_real (q : Vec Ideal S1x2x128x512 .bf16) (k : Vec Ideal S1x256x128 .bf16) (r : Fin 1024) (S : Fin 256 → ℝ)
    (h : ∀ j, (∑ d : Fin 128, k (ix3 0 j d) * qcat (F := Ideal) q (ix2 d r) : EReal) = S j) :
    ∃ ρ : ℝ, (k0_pay9 (F := Ideal) (madeMax (F := Ideal) q k) (ix2 0 r) : EReal) = ρ := by
  obtain ⟨ρ, hρ⟩ := Cert.Attn.fold_max_real _ S h
  refine Exists.imp (fun ρ' h' => ?_) (Cert.Attn.fold_max_real (ι := Fin 8) _ (fun _ => ρ) fun _ => hρ)
  rw [← h']
  unfold madeMax k0_pay8 k0_pay6
  change k0_pay9 (shapeCast S8x1024 (broadcastTo S8x1024 (shapeCast S1x1024 (cmx (scr (qcat q) k)) _) _) _) _ = _
  generalize qcat q = q
  pointwise [k0_pay9, cmx, scr, Cert.Attn.ofBits_neg_inf]

/-- and when the point before made them. -/
theorem keptMax_real (q : Vec Ideal S1x2x128x512 .bf16) (k : Vec Ideal S1x256x128 .bf16) (r : Fin 1024) (S : Fin 256 → ℝ)
    (h : ∀ j, (∑ d : Fin 128, k (ix3 0 j d) * qcat (F := Ideal) q (ix2 d r) : EReal) = S j) :
    ∃ ρ : ℝ, (k0_pay9 (F := Ideal) (keptMax (F := Ideal) q k) (ix2 0 r) : EReal) = ρ := by
  obtain ⟨ρ, hρ⟩ := Cert.Attn.fold_max_real _ S h
  refine Exists.imp (fun ρ' h' => ?_) (Cert.Attn.fold_max_real (ι := Fin 8) _ (fun _ => ρ) fun _ => hρ)
  rw [← h']
  unfold keptMax k0_pay176 k0_pay174 k0_pay5
  change k0_pay9 (shapeCast S8x1024 (broadcastTo S8x1024 (shapeCast S1x1024 (shapeCast S1x1024 (multiReduction .maximumf [0] S1024
    (matmul _ none _ (shapeCast S128x1024 (shapeCast S1x128x1024 (qcat q) _) _) _) _ _ _ _) _) _) _) _) _ = _
  generalize qcat q = q
  pointwise [k0_pay9, Cert.Attn.ofBits_neg_inf]

end Cert.DiftIdeal.Value
-- ==== Proof.DiftPoint.lean ====
module

public import proofs.«01_k».proof.Proof.DiftTile

@[expose] public section

set_option maxRecDepth 16384

noncomputable section

namespace Cert.DiftIdeal.Value
open Idealize.ShloMosaic Idealize.ShloMosaic.TcCoe Idealize.SL.Sem
open Cert.DiftIdeal Cert.DiftIdeal.Gen

/-! ## The blocks of a point -/

/-- Point `128 b + 16 h + i` reads the whole of the five small arrays, -/
theorem idx_small : ∀ t : Fin grid0.N, win0_0.index t = ![0, 0] ∧ win0_1.index t = ![0, 0] ∧ win0_2.index t = ![0, 0] ∧ win0_3.index t = ![0, 0]
    ∧ win0_4.index t = ![0, 0] := by
  decide +kernel

/-- the queries' tile `i` of the two maps of head `h`, the next tile too, the keys of the head's pair and its values. -/
theorem idx : ∀ t : Fin grid0.N, win0_5.index t = ![t.val / 128, t.val / 16 % 8, 0, t.val % 16]
    ∧ win0_6.index t = ![t.val / 128, t.val / 16 % 8, 0, min (t.val % 16 + 1) 15]
    ∧ win0_7.index t = ![t.val / 128, 0, t.val / 16 % 8 / 2] ∧ win0_8.index t = ![t.val / 128, t.val / 16 % 8, 0] := by
  decide +kernel

/-- There are 512 points. -/
theorem lt_N (t : Fin grid0.N) : t.val < 512 := lt_of_lt_of_eq t.isLt N_0

section Blocks

variable {F : FTy → Type} [FloatOps F] (m : (ℓ : Loc nD τ sig) → Buf (Elt F) ℓ) (c : Dev nD)

/-- The nine blocks a point reads. -/
def b0 (t : Fin cfg0.N) : Vec F S1x32 .f32 := iblk m c 0 t
def b1 (t : Fin cfg0.N) : Vec F S1x32 .f32 := iblk m c 1 t
def b2 (t : Fin cfg0.N) : Vec F S1x32 .f32 := iblk m c 2 t
def b3 (t : Fin cfg0.N) : Vec F S1x32 .f32 := iblk m c 3 t
def b4 (t : Fin cfg0.N) : Vec F S64x1 .f32 := iblk m c 4 t
def b5 (t : Fin cfg0.N) : Vec F S1x2x128x512 .bf16 := iblk m c 5 t
def b6 (t : Fin cfg0.N) : Vec F S1x2x128x512 .bf16 := iblk m c 6 t
def b7 (t : Fin cfg0.N) : Vec F S1x8192x128 .bf16 := iblk m c 7 t
def b8 (t : Fin cfg0.N) : Vec F S1x64x8192 .bf16 := iblk m c 8 t

/-! ## What a point leaves -/

set_option maxHeartbeats 2000000 in
/-- The scores a point hands on are those of its next tile with its head's first chunk of keys, -/
theorem left_scores (t : Fin cfg0.N) : View.ld (outsAt0 m c t.val t.isLt).2.1
      (Rect.unit (s := S2x256x1024) ![0, 0, 0] S1x256x1024.size inb_S2x256x1024_S1x256x1024_0_0_0)
    = kept (b6 m c t) (kch (b7 m c t) 0) := by
  by_cases h0 : t.val % 16 = 0
  · rw [outsAt0_A m c t h0]; dsimp only; rw [sc_A]; rfl
  · rw [outsAt0_B m c t h0]; dsimp only; rw [sc_B]; rfl

set_option maxHeartbeats 2000000 in
/-- and the maximum is theirs. -/
theorem left_max (t : Fin cfg0.N) : (outsAt0 m c t.val t.isLt).2.2 = keptMax (b6 m c t) (kch (b7 m c t) 0) := by
  by_cases h0 : t.val % 16 = 0
  · rw [outsAt0_A m c t h0]; dsimp only; rw [mx_A]; rfl
  · rw [outsAt0_B m c t h0]; dsimp only; rw [mx_B]; rfl

/-- A point's tile from the first chunk's maximum and scores. -/
def tileOf (m0 : FVec F S1x1024 .f32) (s0 : Vec F S1x256x1024 .f32) (t : Fin cfg0.N) : FVec F S1x64x512 .f32 :=
  fin (acc m0 s0 (qcat (b5 m c t)) (b7 m c t) (b8 m c t) 32) (b0 m c t) (b1 m c t) (b2 m c t) (b3 m c t) (b4 m c t)

set_option maxHeartbeats 2000000 in
/-- The tile of a point that starts a row of tiles: it makes the first chunk's scores itself. -/
theorem out_first (t : Fin cfg0.N) (h0 : t.val % 16 = 0) : (outsAt0 m c t.val t.isLt).1
    = tileOf m c (k0_pay9 (madeMax (b5 m c t) (kch (b7 m c t) 0))) (made (b5 m c t) (kch (b7 m c t) 0)) t := by
  rw [outsAt0_A m c t h0]; dsimp only; rw [out_A]; rfl

set_option maxHeartbeats 2000000 in
/-- The tile of any other point: the point before made them. -/
theorem out_next (n : ℕ) (hn : n + 1 < cfg0.N) (h0 : ¬(n + 1) % 16 = 0) : (outsAt0 m c (n + 1) hn).1
    = tileOf m c (k0_pay9 (keptMax (b6 m c ⟨n, Nat.lt_of_succ_lt hn⟩) (kch (b7 m c ⟨n, Nat.lt_of_succ_lt hn⟩) 0)))
        (kept (b6 m c ⟨n, Nat.lt_of_succ_lt hn⟩) (kch (b7 m c ⟨n, Nat.lt_of_succ_lt hn⟩) 0)) ⟨n + 1, hn⟩ := by
  rw [← left_scores m c ⟨n, Nat.lt_of_succ_lt hn⟩, ← left_max m c ⟨n, Nat.lt_of_succ_lt hn⟩]
  have h := outsAt0_B m c ⟨n + 1, hn⟩ h0
  dsimp only at h
  rw [h]; dsimp only; rw [out_B]; rfl

end Blocks

variable (m : (ℓ : Loc nD τ sig) → Buf (Elt Ideal) ℓ) (c : Dev nD)

/-- The queries, the keys, the values, the four rows and the norm's weights. -/
abbrev qs (b : Fin 4) (h : Fin 16) (d : Fin 128) (p : Fin 8192) : EReal := m ((c : Thread nD τ).loc main_arg0) (ix4 b h d p)
abbrev ks (b : Fin 4) (k : Fin 8192) (d : Fin 512) : EReal := m ((c : Thread nD τ).loc main_arg1) (ix3 b k d)
abbrev vs (b : Fin 4) (d : Fin 512) (k : Fin 8192) : EReal := m ((c : Thread nD τ).loc main_arg2) (ix3 b d k)
abbrev l1 (i : Fin 32) : EReal := m ((c : Thread nD τ).loc main_arg3) (ix2 0 i)
abbrev l2 (i : Fin 32) : EReal := m ((c : Thread nD τ).loc main_arg4) (ix2 0 i)
abbrev l3 (i : Fin 32) : EReal := m ((c : Thread nD τ).loc main_arg5) (ix2 0 i)
abbrev l4 (i : Fin 32) : EReal := m ((c : Thread nD τ).loc main_arg6) (ix2 0 i)
abbrev gs (x : Fin 64) : EReal := m ((c : Thread nD τ).loc main_arg7) (ix2 x 0)

/-- The blocks at an index: the first of the four rows, -/
theorem blk0 (t : Fin cfg0.N) (i : Fin 32) : (b0 m c t (ix2 0 i) : EReal) = l1 m c i := by
  have e := (idx_small t).1
  blk_ext [b0, iblk, V, e]
/-- the second, -/
theorem blk1 (t : Fin cfg0.N) (i : Fin 32) : (b1 m c t (ix2 0 i) : EReal) = l2 m c i := by
  have e := (idx_small t).2.1
  blk_ext [b1, iblk, V, e]
/-- the third, -/
theorem blk2 (t : Fin cfg0.N) (i : Fin 32) : (b2 m c t (ix2 0 i) : EReal) = l3 m c i := by
  have e := (idx_small t).2.2.1
  blk_ext [b2, iblk, V, e]
/-- the last, -/
theorem blk3 (t : Fin cfg0.N) (i : Fin 32) : (b3 m c t (ix2 0 i) : EReal) = l4 m c i := by
  have e := (idx_small t).2.2.2.1
  blk_ext [b3, iblk, V, e]

/-- the norm's weights, -/
theorem blk4 (t : Fin cfg0.N) (x : Fin 64) : (b4 m c t (ix2 x 0) : EReal) = gs m c x := by
  have e := (idx_small t).2.2.2.2
  blk_ext [b4, iblk, V, e]

/-- the tile's queries, -/
theorem blk5 (t : Fin cfg0.N) (u : Fin 2) (d : Fin 128) (r : Fin 512) (b : Fin 4) (h : Fin 16) (p : Fin 8192) (hb : b.val = t.val / 128)
    (hh : h.val = 2 * (t.val / 16 % 8) + u.val) (hp : p.val = 512 * (t.val % 16) + r.val) : (b5 m c t (ix4 0 u d r) : EReal) = qs m c b h d p := by
  have e := (idx t).1
  blk_ext [b5, iblk, V, e]

/-- the next tile's, -/
theorem blk6 (t : Fin cfg0.N) (u : Fin 2) (d : Fin 128) (r : Fin 512) (b : Fin 4) (h : Fin 16) (p : Fin 8192) (hb : b.val = t.val / 128)
    (hh : h.val = 2 * (t.val / 16 % 8) + u.val) (hp : p.val = 512 * min (t.val % 16 + 1) 15 + r.val) : (b6 m c t (ix4 0 u d r) : EReal) = qs m c b h d p := by
  have e := (idx t).2.1
  blk_ext [b6, iblk, V, e]

/-- the keys of the pair -/
theorem blk7 (t : Fin cfg0.N) (k : Fin 8192) (d : Fin 128) (b : Fin 4) (f : Fin 512) (hb : b.val = t.val / 128)
    (hf : f.val = 128 * (t.val / 16 % 8 / 2) + d.val) : (b7 m c t (ix3 0 k d) : EReal) = ks m c b k f := by
  have e := (idx t).2.2.1
  blk_ext [b7, iblk, V, e]

/-- and the head's values. -/
theorem blk8 (t : Fin cfg0.N) (x : Fin 64) (k : Fin 8192) (b : Fin 4) (f : Fin 512) (hb : b.val = t.val / 128)
    (hf : f.val = 64 * (t.val / 16 % 8) + x.val) : (b8 m c t (ix3 0 x k) : EReal) = vs m c b f k := by
  have e := (idx t).2.2.2
  blk_ext [b8, iblk, V, e]

/-- Every score is real. -/
abbrev Scored (S : Fin 4 → Fin 16 → Fin 8192 → Fin 8192 → ℝ) : Prop := ∀ (b : Fin 4) (h : Fin 16) (p k : Fin 8192),
  ∑ d : Fin 128, ks m c b k ⟨128 * (h.val / 4) + d.val, by omega⟩ * qs m c b h d p = S b h p k

variable {m c} in
/-- A map's column of the first chunk's keys against the block of queries that lies at column `p`. -/
theorem chunk0 {S : Fin 4 → Fin 16 → Fin 8192 → Fin 8192 → ℝ} (hS : Scored m c S) (t : Fin cfg0.N) (q : Vec Ideal S1x2x128x512 .bf16)
    (u : Fin 2) (r : Fin 512) (b : Fin 4) (h : Fin 16) (p : Fin 8192) (hb : b.val = t.val / 128) (hh : h.val = 2 * (t.val / 16 % 8) + u.val)
    (hq : ∀ d : Fin 128, (q (ix4 0 u d r) : EReal) = qs m c b h d p) (j : Fin 256) :
    (∑ d : Fin 128, kch (F := Ideal) (b7 m c t) 0 (ix3 0 j d) * qcat (F := Ideal) q (ix2 d (col u r)) : EReal) = S b h p ⟨j.val, by omega⟩ := by
  rw [← hS]
  refine Finset.sum_congr rfl fun d _ => ?_
  rw [kch_apply, blk7 m c t _ d b ⟨128 * (h.val / 4) + d.val, by omega⟩ hb (by dsimp only; omega), qcat_apply, hq]
  congr 3
  omega

/-- Map `u`'s column of head `h` over the values: the values weighted by the shares of its scores. -/
def head (S : Fin 4 → Fin 16 → Fin 8192 → Fin 8192 → ℝ) (b : Fin 4) (h : Fin 8) (u : Fin 2) (p : Fin 8192) (x : Fin 64) : EReal :=
  ∑ k : Fin 8192, vs m c b ⟨64 * h.val + x.val, by omega⟩ k * (Cert.Attn.share (S b ⟨2 * h.val + u.val, by omega⟩ p) k : EReal)

variable {m c} in
/-- The tile a point computes, from its first chunk's. -/
theorem point_of {S : Fin 4 → Fin 16 → Fin 8192 → Fin 8192 → ℝ} (hS : Scored m c S) (t : Fin cfg0.N) (x : Fin 64) (r : Fin 512)
    (b : Fin 4) (h : Fin 8) (p : Fin 8192) (hb : b.val = t.val / 128) (hh : h.val = t.val / 16 % 8) (hp : p.val = 512 * (t.val % 16) + r.val)
    (m0 : FVec Ideal S1x1024 .f32) (s0 : Vec Ideal S1x256x1024 .f32) (hm : ∀ u : Fin 2, ∃ ρ : ℝ, (m0 (ix2 0 (col u r)) : EReal) = ρ)
    (hs : ∀ (u : Fin 2) (j : Fin 256), (s0 (ix3 0 j (col u r)) : EReal) = S b ⟨2 * h.val + u.val, by omega⟩ p ⟨j.val, by omega⟩) :
    (tileOf m c m0 s0 t (ix3 0 x r) : EReal) = out (head m c S b h 0 p) (head m c S b h 1 p) (lam (l1 m c) (l2 m c) (l3 m c) (l4 m c)) (gs m c) x := by
  have ht := lt_N t
  have hcol : ∀ (u : Fin 2) (x : Fin 64), (quo (F := Ideal) (acc m0 s0 (qcat (b5 m c t)) (b7 m c t) (b8 m c t) 32) (ix2 x (col u r)) : EReal) = head m c S b h u p x := fun u x => by
    have hk : ∀ k : Fin 8192, (∑ d : Fin 128, b7 m c t (ix3 0 k d) * qcat (F := Ideal) (b5 m c t) (ix2 d (col u r)) : EReal) = S b ⟨2 * h.val + u.val, by omega⟩ p k := fun k => by
      rw [← hS]
      refine Finset.sum_congr rfl fun d _ => ?_
      rw [qcat_apply, blk5 m c t u d r b ⟨2 * h.val + u.val, by omega⟩ p hb (by dsimp only; omega) hp,
        blk7 m c t k d b ⟨128 * ((2 * h.val + u.val) / 4) + d.val, by omega⟩ hb (by dsimp only; omega)]
    obtain ⟨ρ, hρ⟩ := hm u
    rw [tile _ _ _ _ _ x (col u r) _ hk ρ hρ (hs u)]
    refine Finset.sum_congr rfl fun k _ => ?_
    rw [blk8 m c t x k b ⟨64 * h.val + x.val, by omega⟩ hb (by dsimp only; omega)]
  refine (fin_apply _ _ _ _ _ _ x r).trans ?_
  simp only [hcol, blk0, blk1, blk2, blk3, blk4]

variable {m c} in
/-- The tile a point computes. -/
theorem point {S : Fin 4 → Fin 16 → Fin 8192 → Fin 8192 → ℝ} (hS : Scored m c S) (t : Fin cfg0.N) (x : Fin 64) (r : Fin 512)
    (b : Fin 4) (h : Fin 8) (p : Fin 8192) (hb : b.val = t.val / 128) (hh : h.val = t.val / 16 % 8) (hp : p.val = 512 * (t.val % 16) + r.val) :
    ((outsAt0 m c t.val t.isLt).1 (ix3 0 x r) : EReal) = out (head m c S b h 0 p) (head m c S b h 1 p) (lam (l1 m c) (l2 m c) (l3 m c) (l4 m c)) (gs m c) x := by
  have ht' := lt_N t
  by_cases hA : t.val % 16 = 0
  · rw [out_first m c t hA]
    have hc := fun u => chunk0 hS t (b5 m c t) u r b ⟨2 * h.val + u.val, by omega⟩ p hb (by dsimp only; omega)
      fun d => blk5 m c t u d r b ⟨2 * h.val + u.val, by omega⟩ p hb (by dsimp only; omega) hp
    exact point_of hS t x r b h p hb hh hp _ _ (fun u => madeMax_real _ _ _ _ (hc u)) fun u j => (made_apply _ _ j _).trans (hc u j)
  · obtain ⟨n, hn⟩ : ∃ n, t.val = n + 1 := ⟨t.val - 1, by omega⟩
    obtain ⟨t, ht⟩ := t
    dsimp only at hn
    subst hn
    dsimp only at hA hb hh hp
    rw [out_next m c n ht hA]
    have hc := fun u => chunk0 hS ⟨n, Nat.lt_of_succ_lt ht⟩ (b6 m c ⟨n, Nat.lt_of_succ_lt ht⟩) u r b ⟨2 * h.val + u.val, by omega⟩ p (by dsimp only; omega)
      (by dsimp only; omega)
      fun d => blk6 m c _ u d r b ⟨2 * h.val + u.val, by omega⟩ p (by dsimp only; omega) (by dsimp only; omega) (by dsimp only; omega)
    exact point_of hS _ x r b h p hb hh hp _ _ (fun u => keptMax_real _ _ _ _ (hc u)) fun u j => (kept_apply _ _ j _).trans (hc u j)

variable {m c} in
/-- The result array. -/
theorem result {S : Fin 4 → Fin 16 → Fin 8192 → Fin 8192 → ℝ} (hS : Scored m c S) (b : Fin 4) (v : Fin 512) (p : Fin 8192) :
    (G9 m c (ix3 b v p) : EReal) = out (head m c S b ⟨v.val / 64, by omega⟩ 0 p) (head m c S b ⟨v.val / 64, by omega⟩ 1 p)
      (lam (l1 m c) (l2 m c) (l3 m c) (l4 m c)) (gs m c) ⟨v.val % 64, by omega⟩ := by
  have e : pt9Of (ix3 b v p) = 128 * b.val + 16 * (v.val / 64) + p.val / 512 := by
    show 128 * (b.val / 1 - 0) + 16 * (v.val / 64 - 0) + 1 * (p.val / 512 - 0) = _
    omega
  have hlt : pt9Of (ix3 b v p) < cfg0.N := by rw [e, show cfg0.N = 512 from N_0]; omega
  unfold G9
  rw [dif_pos hlt, ← outsAt0_sweep m c _ hlt]
  refine Eq.trans (congrArg _ ?_) (point hS ⟨_, hlt⟩ ⟨v.val % 64, by omega⟩ ⟨p.val % 512, by omega⟩ b ⟨v.val / 64, by omega⟩ p ?_ ?_ ?_)
  · funext a; fin_cases a
    · apply Fin.ext; show b.val % 1 = 0; omega
    · rfl
    · rfl
  all_goals dsimp only; omega

end Cert.DiftIdeal.Value
-- ==== Proof.DiftValue.lean ====
module

public import proofs.«01_k».proof.Defs
public import proofs.«01_k».proof.Proof.DiftPoint
public import proofs.«01_k».proof.Proof.Gen.DiftRefIdeal.Run
public import proofs.«01_k».proof.Proof.Gen.Pre_diff_finite
public import Idealize.ShloMosaic.Lib.Quiescent

@[expose] public section

set_option maxRecDepth 16384

noncomputable section

namespace Cert.DiftTie
open Idealize.ShloMosaic Idealize.ShloMosaic.TcCoe Idealize.SL.Sem

/-- Over real numbers the difference of two weighted sums is the sum weighted by the differences. -/
theorem diff_sum {ι : Type*} [Fintype ι] (w s t : ι → ℝ) (l : ℝ) :
    (∑ k, (w k : EReal) * (s k : EReal)) - (l : EReal) * ∑ k, (w k : EReal) * (t k : EReal) = ∑ k, (w k : EReal) * ((s k : EReal) - (l : EReal) * (t k : EReal)) := by
  simp only [← EReal.coe_mul, ← EReal.coe_sub, ← Cert.Attn.coe_sum]
  congr 1
  rw [Finset.mul_sum, ← Finset.sum_sub_distrib]
  exact Finset.sum_congr rfl fun k _ => by ring

section Reference
open Cert.DiftRefIdeal Cert.DiftRefIdeal.Gen

variable (q : FVec Ideal S4x16x128x8192 .bf16) (k : FVec Ideal S4x8192x512 .bf16) (v : FVec Ideal S4x512x8192 .bf16)
  (x0 x1 x2 x3 : FVec Ideal S1x32 .f32) (g : FVec Ideal S64x1 .f32)

/-- The reference's scores in the exponential's base. -/
def rscores : FVec Ideal S4x4x4x8192x8192 .f32 :=
  mulf (Host.dotGeneral dot_S4x4x4x128x8192_S4x8192x4x128_S4x4x4x8192x8192_3_3_24_1_01_02 none
      (shapeCast _ (extf .f32 q bitsLt_bf16_f32) shapeCasts_S4x16x128x8192_S4x4x4x128x8192)
      (shapeCast _ (extf .f32 k bitsLt_bf16_f32) shapeCasts_S4x8192x512_S4x8192x4x128))
    (broadcastInDim S4x4x4x8192x8192 ![] bcast_S_S4x4x4x8192x8192 (Host.log (constant S_ .f32 0x40000000#32)))

/-- A score at its place. -/
theorem rscores_apply (b : Fin 4) (e : Fin 4) (h : Fin 4) (p l : Fin 8192) : (rscores q k (ix5 b e h p l) : EReal)
    = (∑ d : Fin 128, q (ix4 b ⟨4 * e.val + h.val, by omega⟩ d p) * k (ix3 b l ⟨128 * e.val + d.val, by omega⟩)) * Ideal.log (2 : ℝ) := by
  pointwise [rscores, Cert.Attn.ofBits_two]
  simp only [Nat.mul_comm 4, Nat.mul_comm 128]

/-- Its largest score of a query, -/
def rmax : FVec Ideal S4x4x4x8192 .f32 :=
  maximumf (broadcastInDim S4x4x4x8192 ![] bcast_S_S4x4x4x8192 (constant S_ .f32 0xFF800000#32))
    (Host.reduce FloatOps.maximumf (rscores q k) (constant S_ .f32 0xFF800000#32) reducesTo_S4x4x4x8192x8192_S4x4x4x8192_d4 h_S_)

/-- its exponentials, -/
def rexp : FVec Ideal S4x4x4x8192x8192 .f32 :=
  Host.exp (subf (rscores q k) (broadcastInDim S4x4x4x8192x8192 ![0, 1, 2, 3, 4] bcast_S4x4x4x8192x1_S4x4x4x8192x8192_0_1_2_3_4
    (broadcastInDim S4x4x4x8192x1 ![0, 1, 2, 3] bcast_S4x4x4x8192_S4x4x4x8192x1_0_1_2_3 (rmax q k))))

/-- its shares, by head and map, -/
def rshare : FVec Ideal S4x8x2x8192x8192 .f32 :=
  shapeCast _ (Host.divf (rexp q k) (broadcastInDim S4x4x4x8192x8192 ![0, 1, 2, 3, 4] bcast_S4x4x4x8192x1_S4x4x4x8192x8192_0_1_2_3_4
    (broadcastInDim S4x4x4x8192x1 ![0, 1, 2, 3] bcast_S4x4x4x8192_S4x4x4x8192x1_0_1_2_3
      (Host.reduceAdd (rexp q k) (constant S_ .f32 0x00000000#32) reducesTo_S4x4x4x8192x8192_S4x4x4x8192_d4 h_S_)))) shapeCasts_S4x4x4x8192x8192_S4x8x2x8192x8192

/-- the weight of the second map, -/
def rlam : FVec Ideal S_ .f32 :=
  addf (subf (Host.exp (Host.reduceAdd (mulf x0 x1) (constant S_ .f32 0x00000000#32) reducesTo_S1x32_S_d0_1 h_S_))
    (Host.exp (Host.reduceAdd (mulf x2 x3) (constant S_ .f32 0x00000000#32) reducesTo_S1x32_S_d0_1 h_S_))) (constant S_ .f32 0x3EB60549#32)

/-- the two maps of any shares weighed against each other, -/
def rdiff (s : FVec Ideal S4x8x2x8192x8192 .f32) (l : FVec Ideal S_ .f32) : FVec Ideal S4x8x8192x8192 .f32 :=
  subf (shapeCast _ (extractStridedSlice S4x8x1x8192x8192 ![0, 0, 0, 0, 0] s slices_S4x8x2x8192x8192_S4x8x1x8192x8192_0_0_0_0_0) shapeCasts_S4x8x1x8192x8192_S4x8x8192x8192)
    (mulf (broadcastInDim S4x8x8192x8192 ![] bcast_S_S4x8x8192x8192 l)
      (shapeCast _ (extractStridedSlice S4x8x1x8192x8192 ![0, 0, 1, 0, 0] s slices_S4x8x2x8192x8192_S4x8x1x8192x8192_0_0_1_0_0) shapeCasts_S4x8x1x8192x8192_S4x8x8192x8192))

/-- the values under any weights, -/
def rheads (a : FVec Ideal S4x8x8192x8192 .f32) : FVec Ideal S4x8192x8x64 .f32 :=
  transpose S4x8192x8x64 [0, 3, 1, 2] (Host.dotGeneral dot_S4x8x64x8192_S4x8x8192x8192_S4x8x64x8192_3_3_2_2_01_01 none
    (shapeCast _ (extf .f32 v bitsLt_bf16_f32) shapeCasts_S4x512x8192_S4x8x64x8192) a) transposes_S4x8x64x8192_S4x8192x8x64_0_3_1_2

/-- and any heads normalised, scaled and laid out as the result. -/
def rnorm (o : FVec Ideal S4x8192x8x64 .f32) : FVec Ideal S4x512x8192 .f32 :=
  shapeCast _ (transpose S4x8x64x8192 [0, 2, 3, 1] (mulf (mulf (mulf o (broadcastInDim S4x8192x8x64 ![0, 1, 2, 3] bcast_S4x8192x8x1_S4x8192x8x64_0_1_2_3
    (Host.rsqrt (addf (Host.divf (broadcastInDim S4x8192x8x1 ![0, 1, 2] bcast_S4x8192x8_S4x8192x8x1_0_1_2
        (Host.reduceAdd (mulf o o) (constant S_ .f32 0x00000000#32) reducesTo_S4x8192x8x64_S4x8192x8_d3 h_S_))
      (broadcastInDim S4x8192x8x1 ![] bcast_S_S4x8192x8x1 (constant S_ .f32 0x42800000#32)))
      (broadcastInDim S4x8192x8x1 ![] bcast_S_S4x8192x8x1 (constant S_ .f32 0x358637BD#32))))))
    (broadcastInDim S4x8192x8x64 ![0, 1, 2, 3] bcast_S1x1x1x64_S4x8192x8x64_0_1_2_3 (broadcastInDim S1x1x1x64 ![3] bcast_S64_S1x1x1x64_3
      (shapeCast _ g shapeCasts_S64x1_S64))))
    (broadcastInDim S4x8192x8x64 ![] bcast_S_S4x8192x8x64 (constant S_ .f32 0x3F24FD5C#32))) transposes_S4x8192x8x64_S4x8x64x8192_0_2_3_1)
    shapeCasts_S4x8x64x8192_S4x512x8192

/-- The reference's result. -/
def rout : FVec Ideal S4x512x8192 .f32 := rnorm g (rheads v (rdiff (rshare q k) (rlam x0 x1 x2 x3)))

/-- The largest of real scores is real. -/
theorem rmax_real (hs : ∀ i, ∃ ρ : ℝ, (rscores q k i : EReal) = ρ) (j : S4x4x4x8192.Idx) : ∃ ρ : ℝ, (rmax q k j : EReal) = ρ :=
  Cert.Attn.hostMax_real_of (rscores q k) _ reducesTo_S4x4x4x8192x8192_S4x4x4x8192_d4 ⟨rfl, Nat.succ_pos 3, reducesTo_S4x4x4x8192x8192_S4x4x4x8192_d4.2⟩ h_S_
    (Nat.succ_pos 8191) hs (fun _ => rfl) j

/-- An exponential at its place. -/
theorem rexp_apply (b e h : Fin 4) (p l : Fin 8192) : (rexp q k (ix5 b e h p l) : EReal)
    = Ideal.exp (rscores q k (ix5 b e h p l) - rmax q k (ix4 b e h p)) := by
  pointwise [rexp]

/-- A share at its place. -/
theorem rshare_apply (b : Fin 4) (h : Fin 8) (u : Fin 2) (p l : Fin 8192) : (rshare q k (ix5 b h u p l) : EReal)
    = Ideal.div (rexp q k (ix5 b ⟨(2 * h.val + u.val) / 4, by omega⟩ ⟨(2 * h.val + u.val) % 4, by omega⟩ p l))
        (∑ l : Fin 8192, rexp q k (ix5 b ⟨(2 * h.val + u.val) / 4, by omega⟩ ⟨(2 * h.val + u.val) % 4, by omega⟩ p l)) := by
  pointwise [rshare]
  rw [show (⟨h.val / 2, by omega⟩ : Fin 4) = ⟨(2 * h.val + u.val) / 4, by omega⟩ from Fin.ext (by show h.val / 2 = (2 * h.val + u.val) / 4; omega),
    show (⟨h.val % 2 * 2 + u.val, by omega⟩ : Fin 4) = ⟨(2 * h.val + u.val) % 4, by omega⟩ from Fin.ext (by show h.val % 2 * 2 + u.val = (2 * h.val + u.val) % 4; omega)]

/-- The weight of the second map. -/
theorem rlam_apply : (rlam x0 x1 x2 x3 ix0 : EReal)
    = Cert.DiftIdeal.Value.lam (fun i => x0 (ix2 0 i)) (fun i => x1 (ix2 0 i)) (fun i => x2 (ix2 0 i)) fun i => x3 (ix2 0 i) := by
  pointwise [rlam]
  simp only [Fin.sum_univ_one]
  rfl

/-- The difference at its place. -/
theorem rdiff_apply (s : FVec Ideal S4x8x2x8192x8192 .f32) (w : FVec Ideal S_ .f32) (b : Fin 4) (h : Fin 8) (p l : Fin 8192) :
    (rdiff s w (ix4 b h p l) : EReal) = s (ix5 b h 0 p l) - w ix0 * s (ix5 b h 1 p l) := by
  pointwise [rdiff]

/-- The heads at their place. -/
theorem rheads_apply (a : FVec Ideal S4x8x8192x8192 .f32) (b : Fin 4) (p : Fin 8192) (h : Fin 8) (x : Fin 64) :
    (rheads v a (ix4 b p h x) : EReal) = ∑ l : Fin 8192, v (ix3 b ⟨64 * h.val + x.val, by omega⟩ l) * a (ix4 b h p l) := by
  pointwise [rheads]
  simp only [Nat.mul_comm 64]

/-- The norm at its place. -/
theorem rnorm_apply (o : FVec Ideal S4x8192x8x64 .f32) (b : Fin 4) (e : Fin 512) (p : Fin 8192) : (rnorm g o (ix3 b e p) : EReal)
    = Cert.Norm.rms (Ideal.ofBits .f32 0x42800000#32) (fun x => o (ix4 b p ⟨e.val / 64, by omega⟩ x)) (fun x => g (ix2 x 0)) ⟨e.val % 64, by omega⟩
      * Ideal.ofBits .f32 0x3F24FD5C#32 := by
  pointwise [rnorm]
  rfl

/-- With real scores, real values and a real weight the reference weighs the values by their shares. -/
theorem rresult {S : Fin 4 → Fin 16 → Fin 8192 → Fin 8192 → ℝ}
    (hS : ∀ (b : Fin 4) (h : Fin 16) (p l : Fin 8192), (∑ d : Fin 128, k (ix3 b l ⟨128 * (h.val / 4) + d.val, by omega⟩) * q (ix4 b h d p) : EReal) = S b h p l)
    (hv : ∀ i, ∃ r : ℝ, (v i : EReal) = r) (w : EReal) (hw : (rlam x0 x1 x2 x3 ix0 : EReal) = w) (hr : ∃ r : ℝ, w = r)
    (b : Fin 4) (e : Fin 512) (p : Fin 8192) : (rout q k v x0 x1 x2 x3 g (ix3 b e p) : EReal)
    = Cert.DiftIdeal.Value.out
        (fun x => ∑ l : Fin 8192, v (ix3 b ⟨64 * (e.val / 64) + x.val, by omega⟩ l) * (Cert.Attn.share (S b ⟨2 * (e.val / 64) + 0, by omega⟩ p) l : EReal))
        (fun x => ∑ l : Fin 8192, v (ix3 b ⟨64 * (e.val / 64) + x.val, by omega⟩ l) * (Cert.Attn.share (S b ⟨2 * (e.val / 64) + 1, by omega⟩ p) l : EReal))
        w (fun x => g (ix2 x 0)) ⟨e.val % 64, by omega⟩ := by
  have hs : ∀ b (e h : Fin 4) p l, (rscores q k (ix5 b e h p l) : EReal) = ((S b ⟨4 * e.val + h.val, by omega⟩ p l * Real.log 2 : ℝ) : EReal) := fun b e h p l => by
    rw [rscores_apply, EReal.coe_mul, ← hS]
    congr 1
    · refine Finset.sum_congr rfl fun d _ => (mul_comm _ _).trans ?_
      congr 3
      apply Fin.ext
      show 128 * e.val + d.val = 128 * ((4 * e.val + h.val) / 4) + d.val
      omega
    · exact (Ideal.log_coe _).trans (if_neg (by norm_num))
  have hr' : ∀ i, ∃ ρ : ℝ, (rscores q k i : EReal) = ρ := fun i => by
    obtain ⟨b, e, h, p, l, rfl⟩ : ∃ b e h p l, i = ix5 b e h p l := ⟨i 0, i 1, i 2, i 3, i 4, by funext a; fin_cases a <;> rfl⟩
    exact ⟨_, hs b e h p l⟩
  have hsh : ∀ (h : Fin 8) (u : Fin 2) (l : Fin 8192), (rshare q k (ix5 b h u p l) : EReal) = (Cert.Attn.share (S b ⟨2 * h.val + u.val, by omega⟩ p) l : EReal) := fun h u l => by
    obtain ⟨ρ, hρ⟩ := rmax_real q k hr' (ix4 b ⟨(2 * h.val + u.val) / 4, by omega⟩ ⟨(2 * h.val + u.val) % 4, by omega⟩ p)
    rw [rshare_apply]
    simp only [rexp_apply, hs, hρ, Nat.div_add_mod]
    exact Cert.Attn.softmax_shares _ _ _
  obtain ⟨r, rfl⟩ := hr
  choose y hy using hv
  refine (rnorm_apply g _ b e p).trans ?_
  unfold Cert.DiftIdeal.Value.out
  congr 2
  funext x
  refine (rheads_apply v _ b p ⟨e.val / 64, by omega⟩ x).trans ?_
  simp only [rdiff_apply, hsh, hw, hy]
  exact (diff_sum _ _ _ _).symm

end Reference

section Finite
open Cert.Pre_diff_finite

variable (q : FVec Ideal S4x16x128x8192 .bf16) (k : FVec Ideal S4x8192x512 .bf16) (v : FVec Ideal S4x512x8192 .bf16)
  (x0 x1 x2 x3 : FVec Ideal S1x32 .f32) (g : FVec Ideal S64x1 .f32)

/-- The precondition makes every query real, -/
theorem finite_q (h : (fn (F := Ideal) q k v x0 x1 x2 x3 g).1 = fun _ => 1#1) (i : S4x16x128x8192.Idx) : ∃ r : ℝ, (q i : EReal) = r := by
  have h := congrFun h i
  dsimp only [fn, fn_part1] at h
  pointwise [Cert.Attn.ofBits_inf] at h
  exact Cert.Attn.real_of_bit h

/-- every key, -/
theorem finite_k (h : (fn (F := Ideal) q k v x0 x1 x2 x3 g).2.1 = fun _ => 1#1) (i : S4x8192x512.Idx) : ∃ r : ℝ, (k i : EReal) = r := by
  have h := congrFun h i
  dsimp only [fn, fn_part1] at h
  pointwise [Cert.Attn.ofBits_inf] at h
  exact Cert.Attn.real_of_bit h

/-- every value -/
theorem finite_v (h : (fn (F := Ideal) q k v x0 x1 x2 x3 g).2.2.1 = fun _ => 1#1) (i : S4x512x8192.Idx) : ∃ r : ℝ, (v i : EReal) = r := by
  have h := congrFun h i
  dsimp only [fn, fn_part1] at h
  pointwise [Cert.Attn.ofBits_inf] at h
  exact Cert.Attn.real_of_bit h

/-- and the four rows: the first, -/
theorem finite_x0 (h : (fn (F := Ideal) q k v x0 x1 x2 x3 g).2.2.2.1 = fun _ => 1#1) (i : S1x32.Idx) : ∃ r : ℝ, (x0 i : EReal) = r := by
  have h := congrFun h i
  dsimp only [fn, fn_part1] at h
  pointwise [Cert.Attn.ofBits_inf] at h
  exact Cert.Attn.real_of_bit h

/-- the second, -/
theorem finite_x1 (h : (fn (F := Ideal) q k v x0 x1 x2 x3 g).2.2.2.2.1 = fun _ => 1#1) (i : S1x32.Idx) : ∃ r : ℝ, (x1 i : EReal) = r := by
  have h := congrFun h i
  dsimp only [fn, fn_part1] at h
  pointwise [Cert.Attn.ofBits_inf] at h
  exact Cert.Attn.real_of_bit h

/-- the third -/
theorem finite_x2 (h : (fn (F := Ideal) q k v x0 x1 x2 x3 g).2.2.2.2.2.1 = fun _ => 1#1) (i : S1x32.Idx) : ∃ r : ℝ, (x2 i : EReal) = r := by
  have h := congrFun h i
  dsimp only [fn, fn_part1] at h
  pointwise [Cert.Attn.ofBits_inf] at h
  exact Cert.Attn.real_of_bit h

/-- and the last. -/
theorem finite_x3 (h : (fn (F := Ideal) q k v x0 x1 x2 x3 g).2.2.2.2.2.2 = fun _ => 1#1) (i : S1x32.Idx) : ∃ r : ℝ, (x3 i : EReal) = r := by
  have h := congrFun h i
  dsimp only [fn, fn_part1] at h
  pointwise [Cert.Attn.ofBits_inf] at h
  exact Cert.Attn.real_of_bit h

end Finite

section Runs

open Cert.DiftRefIdeal in
/-- The reference's run, its result named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56)
        = rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run m ρ

/-- The reference keeps its arguments and ends with its counters at zero. -/
theorem ref_frame : Cert.quiescent_DiftRefIdeal (hDiftRefIdeal := Cert.DiftRefIdeal.Gen.facts) := fun m ρ _ =>
  (θ_run _ _ _).mono (fun r h => ⟨fun c => (h c).2, sem_eq_zero_of_no_sems (by decide) r.2⟩) (Cert.DiftRefIdeal.Value.run m ρ)

open Cert.DiftIdeal in
/-- The call and its reference leave the same array. -/
theorem tie (m : (ℓ : Loc nD τ sig) → Buf (Elt Ideal) ℓ) (hm : Cert.Pre_DiftIdeal_diff_finite m) (c : Dev nD) :
    rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = Cert.DiftIdeal.Value.G9 m c := by
  have hq := finite_q _ _ _ _ _ _ _ _ (hm c).1
  have hk := finite_k _ _ _ _ _ _ _ _ (hm c).2.1
  have hv := finite_v _ _ _ _ _ _ _ _ (hm c).2.2.1
  have hx0 := finite_x0 _ _ _ _ _ _ _ _ (hm c).2.2.2.1
  have hx1 := finite_x1 _ _ _ _ _ _ _ _ (hm c).2.2.2.2.1
  have hx2 := finite_x2 _ _ _ _ _ _ _ _ (hm c).2.2.2.2.2.1
  have hx3 := finite_x3 _ _ _ _ _ _ _ _ (hm c).2.2.2.2.2.2
  have hS : ∃ S, Cert.DiftIdeal.Value.Scored m c S := by
    choose S hS using fun (b : Fin 4) (h : Fin 16) (p l : Fin 8192) => Cert.Attn.sum_mul_real
      (fun d : Fin 128 => Cert.DiftIdeal.Value.ks m c b l ⟨128 * (h.val / 4) + d.val, by omega⟩) (fun d => Cert.DiftIdeal.Value.qs m c b h d p)
      (fun d => hk _) (fun d => hq _)
    exact ⟨S, hS⟩
  obtain ⟨S, hS⟩ := hS
  have hl : ∃ r : ℝ, Cert.DiftIdeal.Value.lam (Cert.DiftIdeal.Value.l1 m c) (Cert.DiftIdeal.Value.l2 m c) (Cert.DiftIdeal.Value.l3 m c) (Cert.DiftIdeal.Value.l4 m c) = r := by
    obtain ⟨a, ha⟩ := Cert.Attn.sum_mul_real (Cert.DiftIdeal.Value.l1 m c) (Cert.DiftIdeal.Value.l2 m c) (fun _ => hx0 _) fun _ => hx1 _
    obtain ⟨b, hb⟩ := Cert.Attn.sum_mul_real (Cert.DiftIdeal.Value.l3 m c) (Cert.DiftIdeal.Value.l4 m c) (fun _ => hx2 _) fun _ => hx3 _
    obtain ⟨d, hd⟩ : ∃ d : ℝ, Ideal.ofBits .f32 0x3EB60549#32 = (d : EReal) := ⟨_, by simp [Ideal.ofBits, Ideal.ieee, -EReal.coe_mul]; rfl⟩
    refine ⟨Real.exp a - Real.exp b + d, ?_⟩
    unfold Cert.DiftIdeal.Value.lam
    rw [ha, hb, hd, EReal.coe_add, EReal.coe_sub]
    rfl
  funext i
  obtain ⟨b, e, p, rfl⟩ : ∃ (b : Fin 4) (e : Fin 512) (p : Fin 8192), i = ix3 b e p := ⟨i 0, i 1, i 2, by funext a; fin_cases a <;> rfl⟩
  exact (rresult _ _ _ _ _ _ _ _ hS hv _ (rlam_apply _ _ _ _) hl b e p).trans (Cert.DiftIdeal.Value.result hS b e p).symm

/-- The value claim. -/
theorem algebraic : Cert.algebraic_DiftIdeal_DiftRefIdeal_pre_diff_finite := fun m g m' g' hm hagree =>
  ⟨fun c => Cert.DiftIdeal.Value.G9 m c, Cert.DiftIdeal.Value.run m g,
    (θ_run _ _ _).mono (fun r h c => by
      refine ⟨?_, (h c).2⟩
      rw [(h c).1, (hagree c).1, (hagree c).2.1, (hagree c).2.2.1, (hagree c).2.2.2.1, (hagree c).2.2.2.2.1, (hagree c).2.2.2.2.2.1,
        (hagree c).2.2.2.2.2.2.1, (hagree c).2.2.2.2.2.2.2]
      exact tie m hm c) (ref_run m' g')⟩

end Runs
end Cert.DiftTie
-- ==== Proof.PrepRow.lean ====
/- One token of the start of the mixer: its features, queries, keys, values and gates, by the places of their features. -/
module

public import proofs.«01_k».proof.Proof.Norm
public import Idealize.ShloMosaic.PureOps.Ideal.Laws

@[expose] public section

noncomputable section

namespace Cert.PrepRow
open Idealize.ShloMosaic

/-- Finitely many entries as a function of the place, zero beyond them, -/
def lift {n : ℕ} (u : Fin n → EReal) (k : ℕ) : EReal := if h : k < n then u ⟨k, h⟩ else 0

/-- which at a place is the entry. -/
theorem lift_val {n : ℕ} (u : Fin n → EReal) (f : Fin n) : lift u f.val = u f := dif_pos f.isLt

/-- Norm and projection of a row: the features. -/
def feats {n k : ℕ} (N : EReal) (x g : Fin n → EReal) (w : Fin k → Fin n → EReal) : ℕ → EReal :=
  lift fun f => ∑ d, Cert.Norm.rms N x g d * w f d

/-- A head of a query of the latent branch: its features, its turned ones and zeros, of `n`, `a` and `b` from `o` and `p` on, -/
def headQ (n a b : ℕ → EReal) (o p d : ℕ) : EReal :=
  if d < 64 then n (o + d) else if d - 64 < 16 then a (p + (d - 64)) else if d - 64 - 16 < 16 then b (p + (d - 64 - 16)) else 0

/-- of a query's projection `q`, scaled. -/
def qm (q cm sm : ℕ → EReal) (h d : ℕ) : EReal :=
  headQ (fun j => q j * Ideal.ofBits .f32 0x3E16C740#32)
    (fun j => (q (512 + j) * cm j - q (640 + j) * sm j) * Ideal.ofBits .f32 0x3E16C740#32)
    (fun j => (q (640 + j) * cm j + q (512 + j) * sm j) * Ideal.ofBits .f32 0x3E16C740#32) (h * 64) (h * 16) d

/-- A head of a key of the latent branch: its own features beside the turned ones that all heads share. -/
def km (kv z cm sm : ℕ → EReal) (h d : ℕ) : EReal :=
  headQ kv (fun j => z (640 + j) * cm j - z (656 + j) * sm j) (fun j => z (656 + j) * cm j + z (640 + j) * sm j) (h * 64) 0 d

/-- Features normalised in a group of 64 from `o` on, -/
def nrm (z g : ℕ → EReal) (o k : ℕ) : EReal :=
  z (o + k) * Ideal.rsqrt (Ideal.div (∑ x : Fin 64, z (o + x.val) * z (o + x.val)) (Ideal.ofBits .f32 0x42800000#32) + Ideal.ofBits .f32 0x358637BD#32) * g k

/-- and turned: the first half, -/
def turn1 (z g c s : ℕ → EReal) (o k : ℕ) : EReal := nrm z g o k * c k - nrm z g o (32 + k) * s k
/-- the second. -/
def turn2 (z g c s : ℕ → EReal) (o k : ℕ) : EReal := nrm z g o (32 + k) * c k + nrm z g o k * s k

/-- A group of a query of the grouped branch, scaled, -/
def axial (z g c s : ℕ → EReal) (o d : ℕ) : EReal :=
  (if d < 32 then turn1 z g c s o d else turn2 z g c s o (d - 32)) * Ideal.ofBits .f32 0x3E38AA3B#32

/-- before zeros, -/
def before (u : ℕ → EReal) (d : ℕ) : EReal := if d < 64 then u d else 0
/-- or after them. -/
def after (u : ℕ → EReal) (d : ℕ) : EReal := if d < 64 then 0 else u (d - 64)

/-- A head of the grouped branch's query. -/
def qg (z g c s : ℕ → EReal) (h d : ℕ) : EReal :=
  if h < 4 then before (axial z g c s (h * 64)) d else after (axial z g c s (h * 64)) d

/-- The grouped branch's key. -/
def kg (z g c s : ℕ → EReal) (d : ℕ) : EReal :=
  if d < 32 then turn1 z g c s 0 d else if d - 32 < 32 then turn2 z g c s 0 (d - 32)
    else if d - 32 - 32 < 32 then turn1 z g c s 64 (d - 32 - 32) else turn2 z g c s 64 (d - 32 - 32 - 32)

/-- A head of the differential branch before its two maps are parted: turned features and plain ones. -/
def part (z c s : ℕ → EReal) (o p d : ℕ) : EReal :=
  if d < 8 then z (o + d) * c (o + d) - z (64 + (o + d)) * s (o + d)
    else if d - 8 < 8 then z (64 + (o + (d - 8))) * c (o + (d - 8)) + z (o + (d - 8)) * s (o + (d - 8))
      else z (128 + (p + (d - 8 - 8)))

/-- Whether a feature is of the first map. -/
def first (d : ℕ) : BitVec 1 := if d < 4 ∨ (8 ≤ d ∧ d < 12) ∨ (16 ≤ d ∧ d < 40) then 1#1 else 0#1

/-- The features of one map of a head's query, scaled, the other's zero: the first map, -/
def one (z c s : ℕ → EReal) (o p d : ℕ) : EReal :=
  Scalar.select (first d) (part z c s o p d * Ideal.ofBits .f32 0x3E8293EE#32) 0
/-- the second. -/
def two (z c s : ℕ → EReal) (o p d : ℕ) : EReal :=
  Scalar.select (IntOp.xori (first d) 1#1) (part z c s o p d * Ideal.ofBits .f32 0x3E8293EE#32) 0

/-- A map of a head of the differential branch's query. -/
def qd (z c s : ℕ → EReal) (h d : ℕ) : EReal :=
  if h % 4 = 0 then before (one z c s (h / 2 * 8) (h / 2 * 48)) d
    else if h % 4 = 1 then before (two z c s (h / 2 * 8) (h / 2 * 48)) d
      else if h % 4 = 2 then after (one z c s (h / 2 * 8) (h / 2 * 48)) d
        else after (two z c s (h / 2 * 8) (h / 2 * 48)) d

/-- Two heads of the differential branch's key. -/
def kd (z c s : ℕ → EReal) (h d : ℕ) : EReal :=
  if d < 64 then part z c s (h * 2 * 8) (h * 2 * 48) d else part z c s ((h * 2 + 1) * 8) ((h * 2 + 1) * 48) (d - 64)

/-- A gate. -/
def gate (N : EReal) (x g w : Fin 1024 → EReal) : EReal :=
  Ideal.div 1 (1 + Ideal.exp (-∑ d, Cert.Norm.rms N x g d * w d))

end Cert.PrepRow
-- ==== Proof.PrepTile.lean ====
/- The start of the mixer's tile: what each store of the kernel writes, by the places of the features. -/
module

public import proofs.«01_k».proof.Proof.PrepRow
public import proofs.«01_k».proof.Proof.Gen.PrepIdeal.Value
public import Idealize.ShloMosaic.Lib.Pipeline.ValueKit
public import Idealize.ShloMosaic.Lib.Pointwise

@[expose] public section

set_option maxRecDepth 16384

noncomputable section

namespace Cert.PrepTile
open Idealize.ShloMosaic Idealize.ShloMosaic.TcCoe Idealize.SL.Sem Cert.PrepIdeal Cert.PrepIdeal.Gen Cert.PrepRow

/-- The width of a token, as a pattern's value. -/
abbrev W : EReal := Ideal.ofBits .f32 0x44800000#32

/-- The features. -/
theorem z_apply (x : Vec Ideal S1x512x1024 .f32) (g : Vec Ideal S1x1024 .f32) (w : Vec Ideal S2976x1024 .bf16) (l : Fin 512) (f : Fin 2976) :
    (k0_pay4 (F := Ideal) x g w (ix2 f l) : EReal)
      = feats W (fun d => x (ix3 0 l d)) (fun d => g (ix2 0 d)) (fun f d => w (ix2 f d)) f.val := by
  refine Eq.trans ?_ (lift_val _ f).symm
  unfold k0_pay4
  pointwise [k0_pay3]
  exact Finset.sum_congr rfl fun d _ => mul_comm _ _

/-- The gates. -/
theorem gate_apply (x : Vec Ideal S1x512x1024 .f32) (g : Vec Ideal S1x1024 .f32) (w : Vec Ideal S1024x3072 .bf16) (l : Fin 512) (j : Fin 3072) :
    (k0_pay5 (F := Ideal) x g w (ix3 0 l j) : EReal)
      = gate W (fun d => x (ix3 0 l d)) (fun d => g (ix2 0 d)) (fun d => w (ix2 d j)) := by
  unfold k0_pay5
  pointwise [k0_pay3]
  simp only [Cert.Norm.sigmoid]
  rfl

section Features
variable (Z : FVec Ideal S2976x512 .f32) (z : ℕ → EReal) (l : Fin 512) (hz : ∀ f, (Z (ix2 f l) : EReal) = z f.val)
include hz

/-- The latent branch's queries' projection. -/
theorem q_apply (g : Vec Ideal S384x1 .f32) (w : Vec Ideal S768x384 .bf16) (j : Fin 768) :
    (k0_pay8 (F := Ideal) Z g w (ix2 j l) : EReal)
      = feats (Ideal.ofBits .f32 0x43C00000#32) (fun d : Fin 384 => z d.val) (fun d => g (ix2 d 0)) (fun j d => w (ix2 j d)) j.val := by
  refine Eq.trans ?_ (lift_val _ j).symm
  unfold k0_pay8
  pointwise [hz]
  exact Finset.sum_congr rfl fun d _ => mul_comm _ _

/-- The latent branch's keys' and values' projection. -/
theorem kv_apply (g : Vec Ideal S256x1 .f32) (w : Vec Ideal S1024x256 .bf16) (j : Fin 1024) :
    (k0_pay23 (F := Ideal) Z g w (ix2 j l) : EReal)
      = feats (Ideal.ofBits .f32 0x43800000#32) (fun d : Fin 256 => z (384 + d.val)) (fun d => g (ix2 d 0)) (fun j d => w (ix2 j d)) j.val := by
  refine Eq.trans ?_ (lift_val _ j).symm
  unfold k0_pay23
  pointwise [hz]
  exact Finset.sum_congr rfl fun d _ => mul_comm _ _

/-- The values of the grouped branch, -/
theorem vg_apply (d : Fin 128) : (k0_pay75 (F := Ideal) Z (ix3 0 d l) : EReal) = z (1312 + d.val) := by
  unfold k0_pay75
  pointwise [hz]

/-- and of the differential one. -/
theorem vd_apply (d : Fin 512) : (k0_pay2 (F := Ideal) Z (ix3 0 d l) : EReal) = z (2464 + d.val) := by
  unfold k0_pay2
  pointwise [hz]

/-- The grouped branch's part of the features, -/
theorem gq_apply (f : Fin 512) : (k0_pay41 (F := Ideal) Z (ix2 f l) : EReal) = (fun k => z (672 + k)) f.val := by
  unfold k0_pay41
  pointwise [hz]

/-- the differential branch's. -/
theorem dq_apply (f : Fin 512) : (k0_pay77 (F := Ideal) Z (ix2 f l) : EReal) = (fun k => z (1440 + k)) f.val := by
  unfold k0_pay77
  pointwise [hz]

/-- The grouped branch's key. -/
theorem kg_apply (ca sa : Vec Ideal S32x512 .f32) (w : Vec Ideal S64x1 .f32) (c s g : ℕ → EReal) (hc : ∀ f, (ca (ix2 f l) : EReal) = c f.val)
    (hs : ∀ f, (sa (ix2 f l) : EReal) = s f.val) (hg : ∀ f, (w (ix2 f 0) : EReal) = g f.val) (d : Fin 128) :
    (k0_pay74 (F := Ideal) ca sa (k0_pay69 Z ca sa w) (k0_pay70 Z ca sa w) (k0_pay71 Z) w (k0_pay72 Z) k0_pay73 (ix3 0 l d) : EReal)
      = kg (fun k => z (1184 + k)) g c s d.val := by
  unfold k0_pay74
  pointwise [k0_pay69, k0_pay70, k0_pay71, k0_pay72, k0_pay73, k0_pay68, k0_pay67, k0_pay66, k0_pay65, hz, hc, hs, hg]
  simp only [kg, turn1, turn2, nrm, Nat.zero_add, dite_eq_ite]

end Features

section Latent
variable (N : FVec Ideal S512x512 .f32) (A B : FVec Ideal S128x512 .f32) (n a b : ℕ → EReal) (l : Fin 512)
  (hn : ∀ f, (N (ix2 f l) : EReal) = n f.val) (ha : ∀ f, (A (ix2 f l) : EReal) = a f.val) (hb : ∀ f, (B (ix2 f l) : EReal) = b f.val)
include hn ha hb

/-- Head 1 of the latent branch's query. -/
theorem qm1 (d : Fin 128) : (k0_pay15 (F := Ideal) k0_pay6 N A B (ix4 0 0 d l) : EReal) = headQ n a b 64 16 d.val := by
  unfold k0_pay15
  pointwise [k0_pay6, hn, ha, hb]
  simp only [headQ, dite_eq_ite]

/-- Head 2 of the latent branch's query. -/
theorem qm2 (d : Fin 128) : (k0_pay16 (F := Ideal) k0_pay6 N A B (ix4 0 0 d l) : EReal) = headQ n a b 128 32 d.val := by
  unfold k0_pay16
  pointwise [k0_pay6, hn, ha, hb]
  simp only [headQ, dite_eq_ite]

/-- Head 3 of the latent branch's query. -/
theorem qm3 (d : Fin 128) : (k0_pay17 (F := Ideal) k0_pay6 N A B (ix4 0 0 d l) : EReal) = headQ n a b 192 48 d.val := by
  unfold k0_pay17
  pointwise [k0_pay6, hn, ha, hb]
  simp only [headQ, dite_eq_ite]

/-- Head 4 of the latent branch's query. -/
theorem qm4 (d : Fin 128) : (k0_pay18 (F := Ideal) k0_pay6 N A B (ix4 0 0 d l) : EReal) = headQ n a b 256 64 d.val := by
  unfold k0_pay18
  pointwise [k0_pay6, hn, ha, hb]
  simp only [headQ, dite_eq_ite]

/-- Head 5 of the latent branch's query. -/
theorem qm5 (d : Fin 128) : (k0_pay20 (F := Ideal) (k0_pay19 k0_pay6 N A B) (ix4 0 0 d l) : EReal) = headQ n a b 320 80 d.val := by
  unfold k0_pay20
  pointwise [k0_pay6, k0_pay19, hn, ha, hb]
  simp only [headQ, dite_eq_ite]

/-- Head 6 of the latent branch's query. -/
theorem qm6 (d : Fin 128) : (k0_pay21 (F := Ideal) k0_pay6 N A B (ix4 0 0 d l) : EReal) = headQ n a b 384 96 d.val := by
  unfold k0_pay21
  pointwise [k0_pay6, hn, ha, hb]
  simp only [headQ, dite_eq_ite]

/-- Head 7 of the latent branch's query. -/
theorem qm7 (d : Fin 128) : (k0_pay22 (F := Ideal) k0_pay6 N A B (ix4 0 0 d l) : EReal) = headQ n a b 448 112 d.val := by
  unfold k0_pay22
  pointwise [k0_pay6, hn, ha, hb]
  simp only [headQ, dite_eq_ite]

end Latent

section LatentParts
variable (Z : FVec Ideal S2976x512 .f32) (q c s : ℕ → EReal) (l : Fin 512) (cm sm : Vec Ideal S128x512 .f32) (g : Vec Ideal S384x1 .f32) (w : Vec Ideal S768x384 .bf16)
  (hq : ∀ j, (k0_pay8 (F := Ideal) Z g w (ix2 j l) : EReal) = q j.val)
  (hc : ∀ f, (cm (ix2 f l) : EReal) = c f.val) (hs : ∀ f, (sm (ix2 f l) : EReal) = s f.val)
include hq

/-- The scaled features of the latent branch's query, -/
theorem qn_apply (f : Fin 512) : (k0_pay9 (F := Ideal) Z g w (ix2 f l) : EReal) = (fun j => q j * Ideal.ofBits .f32 0x3E16C740#32) f.val := by
  unfold k0_pay9
  pointwise [hq]

include hc hs

/-- the turned ones, first half, -/
theorem qa_apply (f : Fin 128) : (k0_pay12 (F := Ideal) Z cm sm g w (ix2 f l) : EReal)
    = (fun j => (q (512 + j) * c j - q (640 + j) * s j) * Ideal.ofBits .f32 0x3E16C740#32) f.val := by
  unfold k0_pay12
  pointwise [k0_pay10, k0_pay11, hq, hc, hs]

/-- second half. -/
theorem qb_apply (f : Fin 128) : (k0_pay13 (F := Ideal) Z cm sm g w (ix2 f l) : EReal)
    = (fun j => (q (640 + j) * c j + q (512 + j) * s j) * Ideal.ofBits .f32 0x3E16C740#32) f.val := by
  unfold k0_pay13
  pointwise [k0_pay10, k0_pay11, hq, hc, hs]

/-- Head 0 of the latent branch's query. -/
theorem qm0 (d : Fin 128) : (k0_pay14 (F := Ideal) Z k0_pay6 cm sm g w (ix4 0 0 d l) : EReal) = qm q c s 0 d.val := by
  unfold k0_pay14
  pointwise [k0_pay6, qn_apply Z q l g w hq, qa_apply Z q c s l cm sm g w hq hc hs, qb_apply Z q c s l cm sm g w hq hc hs]
  simp only [qm, headQ, Nat.zero_mul, Nat.zero_add, dite_eq_ite]

end LatentParts

section LatentKeys
variable (Z : FVec Ideal S2976x512 .f32) (z c s : ℕ → EReal) (l : Fin 512) (cm sm : Vec Ideal S128x512 .f32) (N : FVec Ideal S1024x512 .f32) (n : ℕ → EReal)
  (hz : ∀ f, (Z (ix2 f l) : EReal) = z f.val) (hn : ∀ f, (N (ix2 f l) : EReal) = n f.val)
  (hc : ∀ f, (cm (ix2 f l) : EReal) = c f.val) (hs : ∀ f, (sm (ix2 f l) : EReal) = s f.val)
include hz hc hs

/-- The turned features of the latent branch's key, first half, -/
theorem ka_apply (f : Fin 16) : (k0_pay31 (F := Ideal) Z cm sm (ix2 f l) : EReal) = (fun j => z (640 + j) * c j - z (656 + j) * s j) f.val := by
  unfold k0_pay31
  pointwise [k0_pay26, k0_pay27, k0_pay28, k0_pay29, k0_pay30, hz, hc, hs]
  try simp only [← Nat.add_assoc, Nat.reduceAdd]

/-- second half. -/
theorem kb_apply (f : Fin 16) : (k0_pay32 (F := Ideal) Z cm sm (ix2 f l) : EReal) = (fun j => z (656 + j) * c j + z (640 + j) * s j) f.val := by
  unfold k0_pay32
  pointwise [k0_pay26, k0_pay27, k0_pay28, k0_pay29, k0_pay30, hz, hc, hs]
  try simp only [← Nat.add_assoc, Nat.reduceAdd]

include hn

/-- Head 0 of the latent branch's key. -/
theorem km0 (d : Fin 128) : (k0_pay33 (F := Ideal) Z k0_pay6 cm sm N (ix3 0 l d) : EReal) = km n z c s 0 d.val := by
  unfold k0_pay33
  pointwise [k0_pay6, ka_apply Z z c s l cm sm hz hc hs, kb_apply Z z c s l cm sm hz hc hs, hn]
  simp only [km, headQ, Nat.reduceMul, Nat.zero_mul, Nat.zero_add, dite_eq_ite]

/-- Head 1 of the latent branch's key. -/
theorem km1 (d : Fin 128) : (k0_pay34 (F := Ideal) Z k0_pay6 cm sm N (ix3 0 l d) : EReal) = km n z c s 1 d.val := by
  unfold k0_pay34
  pointwise [k0_pay6, ka_apply Z z c s l cm sm hz hc hs, kb_apply Z z c s l cm sm hz hc hs, hn]
  simp only [km, headQ, Nat.reduceMul, Nat.zero_mul, Nat.zero_add, dite_eq_ite]

/-- Head 2 of the latent branch's key. -/
theorem km2 (d : Fin 128) : (k0_pay35 (F := Ideal) Z k0_pay6 cm sm N (ix3 0 l d) : EReal) = km n z c s 2 d.val := by
  unfold k0_pay35
  pointwise [k0_pay6, ka_apply Z z c s l cm sm hz hc hs, kb_apply Z z c s l cm sm hz hc hs, hn]
  simp only [km, headQ, Nat.reduceMul, Nat.zero_mul, Nat.zero_add, dite_eq_ite]

/-- Head 3 of the latent branch's key. -/
theorem km3 (d : Fin 128) : (k0_pay36 (F := Ideal) Z k0_pay6 cm sm N (ix3 0 l d) : EReal) = km n z c s 3 d.val := by
  unfold k0_pay36
  pointwise [k0_pay6, ka_apply Z z c s l cm sm hz hc hs, kb_apply Z z c s l cm sm hz hc hs, hn]
  simp only [km, headQ, Nat.reduceMul, Nat.zero_mul, Nat.zero_add, dite_eq_ite]

/-- Head 4 of the latent branch's key. -/
theorem km4 (d : Fin 128) : (k0_pay37 (F := Ideal) k0_pay6 N (k0_pay31 Z cm sm) (k0_pay32 Z cm sm) (ix3 0 l d) : EReal) = km n z c s 4 d.val := by
  unfold k0_pay37
  pointwise [k0_pay6, ka_apply Z z c s l cm sm hz hc hs, kb_apply Z z c s l cm sm hz hc hs, hn]
  simp only [km, headQ, Nat.reduceMul, Nat.zero_mul, Nat.zero_add, dite_eq_ite]

/-- Head 5 of the latent branch's key. -/
theorem km5 (d : Fin 128) : (k0_pay38 (F := Ideal) k0_pay6 N (k0_pay31 Z cm sm) (k0_pay32 Z cm sm) (ix3 0 l d) : EReal) = km n z c s 5 d.val := by
  unfold k0_pay38
  pointwise [k0_pay6, ka_apply Z z c s l cm sm hz hc hs, kb_apply Z z c s l cm sm hz hc hs, hn]
  simp only [km, headQ, Nat.reduceMul, Nat.zero_mul, Nat.zero_add, dite_eq_ite]

/-- Head 6 of the latent branch's key. -/
theorem km6 (d : Fin 128) : (k0_pay39 (F := Ideal) k0_pay6 N (k0_pay31 Z cm sm) (k0_pay32 Z cm sm) (ix3 0 l d) : EReal) = km n z c s 6 d.val := by
  unfold k0_pay39
  pointwise [k0_pay6, ka_apply Z z c s l cm sm hz hc hs, kb_apply Z z c s l cm sm hz hc hs, hn]
  simp only [km, headQ, Nat.reduceMul, Nat.zero_mul, Nat.zero_add, dite_eq_ite]

/-- Head 7 of the latent branch's key. -/
theorem km7 (d : Fin 128) : (k0_pay40 (F := Ideal) k0_pay6 N (k0_pay31 Z cm sm) (k0_pay32 Z cm sm) (ix3 0 l d) : EReal) = km n z c s 7 d.val := by
  unfold k0_pay40
  pointwise [k0_pay6, ka_apply Z z c s l cm sm hz hc hs, kb_apply Z z c s l cm sm hz hc hs, hn]
  simp only [km, headQ, Nat.reduceMul, Nat.zero_mul, Nat.zero_add, dite_eq_ite]

end LatentKeys

/-- The values of the latent branch. -/
theorem vm_apply (Z : FVec Ideal S2976x512 .f32) (g : Vec Ideal S256x1 .f32) (w : Vec Ideal S1024x256 .bf16) (n : ℕ → EReal) (l : Fin 512)
    (hn : ∀ f, (k0_pay23 (F := Ideal) Z g w (ix2 f l) : EReal) = n f.val) (d : Fin 512) :
    (k0_pay25 (F := Ideal) (k0_pay24 Z g w) (ix3 0 d l) : EReal) = n (512 + d.val) := by
  unfold k0_pay25
  pointwise [k0_pay24, hn]

section Grouped
variable (G : FVec Ideal S512x512 .f32) (ca sa : Vec Ideal S32x512 .f32) (w : Vec Ideal S64x1 .f32) (z g c s : ℕ → EReal) (l : Fin 512)
  (hz : ∀ f, (G (ix2 f l) : EReal) = z f.val) (hc : ∀ f, (ca (ix2 f l) : EReal) = c f.val)
  (hs : ∀ f, (sa (ix2 f l) : EReal) = s f.val) (hg : ∀ f, (w (ix2 f 0) : EReal) = g f.val)
include hz hc hs hg

/-- Head 1 of the grouped branch's query. -/
theorem qg1 (d : Fin 128) : (k0_pay46 (F := Ideal) k0_pay7 (k0_pay45 ca sa G w) (ix4 0 0 d l) : EReal) = before (axial z g c s 64) d.val := by
  unfold k0_pay46
  pointwise [k0_pay7, k0_pay45, hz, hc, hs, hg]
  simp only [before, after, axial, turn1, turn2, nrm, dite_eq_ite]

/-- Head 2 of the grouped branch's query. -/
theorem qg2 (d : Fin 128) : (k0_pay47 (F := Ideal) k0_pay7 ca sa G w (ix4 0 0 d l) : EReal) = before (axial z g c s 128) d.val := by
  unfold k0_pay47
  pointwise [k0_pay7, hz, hc, hs, hg]
  simp only [before, after, axial, turn1, turn2, nrm, dite_eq_ite]

/-- Head 3 of the grouped branch's query. -/
theorem qg3 (d : Fin 128) : (k0_pay50 (F := Ideal) k0_pay7 ca sa (k0_pay48 G) w (k0_pay49 G) (ix4 0 0 d l) : EReal) = before (axial z g c s 192) d.val := by
  unfold k0_pay50
  pointwise [k0_pay7, k0_pay48, k0_pay49, hz, hc, hs, hg]
  simp only [before, after, axial, turn1, turn2, nrm, dite_eq_ite]

/-- Head 4 of the grouped branch's query. -/
theorem qg4 (d : Fin 128) : (k0_pay56 (F := Ideal) k0_pay7 sa (k0_pay52 G w) (k0_pay54 ca sa G w) (k0_pay55 ca G w) (ix4 0 0 d l) : EReal) = after (axial z g c s 256) d.val := by
  unfold k0_pay56
  pointwise [k0_pay7, k0_pay51, k0_pay52, k0_pay53, k0_pay54, k0_pay55, hz, hc, hs, hg]
  simp only [before, after, axial, turn1, turn2, nrm, dite_eq_ite]

/-- Head 5 of the grouped branch's query. -/
theorem qg5 (d : Fin 128) : (k0_pay57 (F := Ideal) k0_pay7 ca sa G w (ix4 0 0 d l) : EReal) = after (axial z g c s 320) d.val := by
  unfold k0_pay57
  pointwise [k0_pay7, hz, hc, hs, hg]
  simp only [before, after, axial, turn1, turn2, nrm, dite_eq_ite]

/-- Head 6 of the grouped branch's query. -/
theorem qg6 (d : Fin 128) : (k0_pay59 (F := Ideal) k0_pay7 ca sa (k0_pay58 G) w (ix4 0 0 d l) : EReal) = after (axial z g c s 384) d.val := by
  unfold k0_pay59
  pointwise [k0_pay7, k0_pay58, hz, hc, hs, hg]
  simp only [before, after, axial, turn1, turn2, nrm, dite_eq_ite]

/-- Head 7 of the grouped branch's query. -/
theorem qg7 (d : Fin 128) : (k0_pay64 (F := Ideal) k0_pay7 ca sa (k0_pay61 G w) (k0_pay62 G w) (k0_pay63 ca G w) (ix4 0 0 d l) : EReal) = after (axial z g c s 448) d.val := by
  unfold k0_pay64
  pointwise [k0_pay7, k0_pay60, k0_pay61, k0_pay62, k0_pay63, hz, hc, hs, hg]
  simp only [before, after, axial, turn1, turn2, nrm, dite_eq_ite]

end Grouped

/-- Head 0 of the grouped branch's query. -/
theorem qg0 (Z : FVec Ideal S2976x512 .f32) (ca sa : Vec Ideal S32x512 .f32) (w : Vec Ideal S64x1 .f32) (z g c s : ℕ → EReal) (l : Fin 512)
    (hz : ∀ f, (Z (ix2 f l) : EReal) = z f.val) (hc : ∀ f, (ca (ix2 f l) : EReal) = c f.val)
    (hs : ∀ f, (sa (ix2 f l) : EReal) = s f.val) (hg : ∀ f, (w (ix2 f 0) : EReal) = g f.val) (d : Fin 128) :
    (k0_pay44 (F := Ideal) k0_pay7 ca sa (k0_pay42 Z) w (k0_pay43 Z) (Scalar.ofBits .f32 0x42800000#32) (ix4 0 0 d l) : EReal)
      = before (axial (fun k => z (672 + k)) g c s 0) d.val := by
  unfold k0_pay44
  pointwise [k0_pay7, k0_pay42, k0_pay43, k0_pay41, hz, hc, hs, hg]
  simp only [before, after, axial, turn1, turn2, nrm, Nat.zero_add, dite_eq_ite]

/-- The mask of the first map's features. -/
theorem mask_apply (e : Fin 64) : k0_pay76 (ix2 e 0) = first e.val := by
  unfold k0_pay76
  pointwise []
  revert e
  decide +kernel

section Differential
variable (G : FVec Ideal S512x512 .f32) (cp sp : Vec Ideal S64x512 .f32) (z c s : ℕ → EReal) (l : Fin 512)
  (hz : ∀ f, (G (ix2 f l) : EReal) = z f.val) (hc : ∀ f, (cp (ix2 f l) : EReal) = c f.val) (hs : ∀ f, (sp (ix2 f l) : EReal) = s f.val)

section Heads
include hz hc hs

/-- Head 1 of the differential branch's query before it is parted. -/
theorem dh1 (e : Fin 64) : (k0_pay83 (F := Ideal) cp sp G (ix2 e l) : EReal) = part z c s 8 48 e.val := by
  unfold k0_pay83
  pointwise [k0_pay78, k0_pay79, k0_pay80, k0_pay81, k0_pay82, hz, hc, hs]
  simp only [part, dite_eq_ite]

/-- Head 2 of the differential branch's query before it is parted. -/
theorem dh2 (e : Fin 64) : (k0_pay84 (F := Ideal) cp sp G (ix2 e l) : EReal) = part z c s 16 96 e.val := by
  unfold k0_pay84
  pointwise [k0_pay78, k0_pay79, k0_pay80, k0_pay81, k0_pay82, hz, hc, hs]
  simp only [part, dite_eq_ite]

/-- Head 3 of the differential branch's query before it is parted. -/
theorem dh3 (e : Fin 64) : (k0_pay85 (F := Ideal) cp sp G (ix2 e l) : EReal) = part z c s 24 144 e.val := by
  unfold k0_pay85
  pointwise [k0_pay78, k0_pay79, k0_pay80, k0_pay81, k0_pay82, hz, hc, hs]
  simp only [part, dite_eq_ite]

/-- Head 4 of the differential branch's query before it is parted. -/
theorem dh4 (e : Fin 64) : (k0_pay86 (F := Ideal) cp sp G (ix2 e l) : EReal) = part z c s 32 192 e.val := by
  unfold k0_pay86
  pointwise [k0_pay78, k0_pay79, k0_pay80, k0_pay81, k0_pay82, hz, hc, hs]
  simp only [part, dite_eq_ite]

/-- Head 5 of the differential branch's query before it is parted. -/
theorem dh5 (e : Fin 64) : (k0_pay87 (F := Ideal) cp sp G (ix2 e l) : EReal) = part z c s 40 240 e.val := by
  unfold k0_pay87
  pointwise [k0_pay78, k0_pay79, k0_pay80, k0_pay81, k0_pay82, hz, hc, hs]
  simp only [part, dite_eq_ite]

/-- Head 6 of the differential branch's query before it is parted. -/
theorem dh6 (e : Fin 64) : (k0_pay88 (F := Ideal) cp sp G (ix2 e l) : EReal) = part z c s 48 288 e.val := by
  unfold k0_pay88
  pointwise [k0_pay78, k0_pay79, k0_pay80, k0_pay81, k0_pay82, hz, hc, hs]
  simp only [part, dite_eq_ite]

/-- Head 7 of the differential branch's query before it is parted. -/
theorem dh7 (e : Fin 64) : (k0_pay89 (F := Ideal) cp sp G (ix2 e l) : EReal) = part z c s 56 336 e.val := by
  unfold k0_pay89
  pointwise [k0_pay78, k0_pay79, k0_pay80, k0_pay81, k0_pay82, hz, hc, hs]
  simp only [part, dite_eq_ite]

/-- The two maps of head 0 of the differential branch's query. -/
theorem qd0 (d : Fin 128) : (k0_pay91 (F := Ideal) k0_pay7 cp sp k0_pay76 G (ix4 0 0 d l) : EReal) = before (one z c s 0 0) d.val := by
  unfold k0_pay91
  pointwise [k0_pay7, mask_apply, k0_pay90, k0_pay78, k0_pay79, k0_pay80, k0_pay81, k0_pay82, hz, hc, hs]
  simp only [before, one, part, Nat.zero_add, dite_eq_ite]

/-- The second. -/
theorem qd1 (d : Fin 128) : (k0_pay92 (F := Ideal) k0_pay7 k0_pay76 (k0_pay90 cp sp G) (constantI S64x1 1 1#1) (ix4 0 0 d l) : EReal) = before (two z c s 0 0) d.val := by
  unfold k0_pay92
  pointwise [k0_pay7, mask_apply, k0_pay90, k0_pay78, k0_pay79, k0_pay80, k0_pay81, k0_pay82, hz, hc, hs]
  simp only [before, two, part, Nat.zero_add, dite_eq_ite]

end Heads

section Maps
variable (P : FVec Ideal S64x512 .f32) (u : ℕ → EReal) (hu : ∀ e, (P (ix2 e l) : EReal) = u e.val)
include hu

/-- Map 0 of head 1 of the differential branch's query. -/
theorem qd2 (d : Fin 128) : (k0_pay94 (F := Ideal) k0_pay7 k0_pay76 P (ix4 0 0 d l) : EReal)
    = after (fun e => Scalar.select (first e) (u e * Ideal.ofBits .f32 0x3E8293EE#32) 0) d.val := by
  unfold k0_pay94
  pointwise [k0_pay7, mask_apply, k0_pay93, hu]
  simp only [before, after, dite_eq_ite]

/-- Map 1 of head 1 of the differential branch's query. -/
theorem qd3 (d : Fin 128) : (k0_pay95 (F := Ideal) k0_pay7 k0_pay76 P (ix4 0 0 d l) : EReal)
    = after (fun e => Scalar.select (IntOp.xori (first e) 1#1) (u e * Ideal.ofBits .f32 0x3E8293EE#32) 0) d.val := by
  unfold k0_pay95
  pointwise [k0_pay7, mask_apply, k0_pay93, hu]
  simp only [before, after, dite_eq_ite]

/-- Map 0 of head 2 of the differential branch's query. -/
theorem qd4 (d : Fin 128) : (k0_pay98 (F := Ideal) (k0_pay97 k0_pay7 k0_pay76 P) (ix4 0 0 d l) : EReal)
    = before (fun e => Scalar.select (first e) (u e * Ideal.ofBits .f32 0x3E8293EE#32) 0) d.val := by
  unfold k0_pay98
  pointwise [k0_pay7, mask_apply, k0_pay97, k0_pay96, hu]
  simp only [before, after, dite_eq_ite]

/-- Map 1 of head 2 of the differential branch's query. -/
theorem qd5 (d : Fin 128) : (k0_pay99 (F := Ideal) k0_pay7 k0_pay76 (k0_pay96 P) (ix4 0 0 d l) : EReal)
    = before (fun e => Scalar.select (IntOp.xori (first e) 1#1) (u e * Ideal.ofBits .f32 0x3E8293EE#32) 0) d.val := by
  unfold k0_pay99
  pointwise [k0_pay7, mask_apply, k0_pay96, hu]
  simp only [before, after, dite_eq_ite]

/-- Map 0 of head 3 of the differential branch's query. -/
theorem qd6 (d : Fin 128) : (k0_pay101 (F := Ideal) k0_pay7 k0_pay76 P (ix4 0 0 d l) : EReal)
    = after (fun e => Scalar.select (first e) (u e * Ideal.ofBits .f32 0x3E8293EE#32) 0) d.val := by
  unfold k0_pay101
  pointwise [k0_pay7, mask_apply, k0_pay100, hu]
  simp only [before, after, dite_eq_ite]

/-- Map 1 of head 3 of the differential branch's query. -/
theorem qd7 (d : Fin 128) : (k0_pay102 (F := Ideal) k0_pay7 k0_pay76 P (ix4 0 0 d l) : EReal)
    = after (fun e => Scalar.select (IntOp.xori (first e) 1#1) (u e * Ideal.ofBits .f32 0x3E8293EE#32) 0) d.val := by
  unfold k0_pay102
  pointwise [k0_pay7, mask_apply, k0_pay100, hu]
  simp only [before, after, dite_eq_ite]

/-- Map 0 of head 4 of the differential branch's query. -/
theorem qd8 (d : Fin 128) : (k0_pay104 (F := Ideal) k0_pay7 k0_pay76 P (ix4 0 0 d l) : EReal)
    = before (fun e => Scalar.select (first e) (u e * Ideal.ofBits .f32 0x3E8293EE#32) 0) d.val := by
  unfold k0_pay104
  pointwise [k0_pay7, mask_apply, k0_pay103, hu]
  simp only [before, after, dite_eq_ite]

/-- Map 1 of head 4 of the differential branch's query. -/
theorem qd9 (d : Fin 128) : (k0_pay105 (F := Ideal) k0_pay7 k0_pay76 P (ix4 0 0 d l) : EReal)
    = before (fun e => Scalar.select (IntOp.xori (first e) 1#1) (u e * Ideal.ofBits .f32 0x3E8293EE#32) 0) d.val := by
  unfold k0_pay105
  pointwise [k0_pay7, mask_apply, k0_pay103, hu]
  simp only [before, after, dite_eq_ite]

/-- Map 0 of head 5 of the differential branch's query. -/
theorem qd10 (d : Fin 128) : (k0_pay107 (F := Ideal) k0_pay7 k0_pay76 P (ix4 0 0 d l) : EReal)
    = after (fun e => Scalar.select (first e) (u e * Ideal.ofBits .f32 0x3E8293EE#32) 0) d.val := by
  unfold k0_pay107
  pointwise [k0_pay7, mask_apply, k0_pay106, hu]
  simp only [before, after, dite_eq_ite]

/-- Map 1 of head 5 of the differential branch's query. -/
theorem qd11 (d : Fin 128) : (k0_pay110 (F := Ideal) k0_pay7 (k0_pay106 P) (k0_pay108 k0_pay76) k0_pay109 (ix4 0 0 d l) : EReal)
    = after (fun e => Scalar.select (IntOp.xori (first e) 1#1) (u e * Ideal.ofBits .f32 0x3E8293EE#32) 0) d.val := by
  unfold k0_pay110
  pointwise [k0_pay7, mask_apply, k0_pay106, k0_pay108, k0_pay109, hu]
  simp only [before, after, dite_eq_ite]

/-- Map 0 of head 6 of the differential branch's query. -/
theorem qd12 (d : Fin 128) : (k0_pay112 (F := Ideal) k0_pay7 k0_pay76 P (ix4 0 0 d l) : EReal)
    = before (fun e => Scalar.select (first e) (u e * Ideal.ofBits .f32 0x3E8293EE#32) 0) d.val := by
  unfold k0_pay112
  pointwise [k0_pay7, mask_apply, k0_pay111, hu]
  simp only [before, after, dite_eq_ite]

/-- Map 1 of head 6 of the differential branch's query. -/
theorem qd13 (d : Fin 128) : (k0_pay113 (F := Ideal) k0_pay7 k0_pay76 P (ix4 0 0 d l) : EReal)
    = before (fun e => Scalar.select (IntOp.xori (first e) 1#1) (u e * Ideal.ofBits .f32 0x3E8293EE#32) 0) d.val := by
  unfold k0_pay113
  pointwise [k0_pay7, mask_apply, k0_pay111, hu]
  simp only [before, after, dite_eq_ite]

/-- Map 0 of head 7 of the differential branch's query. -/
theorem qd14 (d : Fin 128) : (k0_pay116 (F := Ideal) (k0_pay115 k0_pay7 k0_pay76 P) (ix4 0 0 d l) : EReal)
    = after (fun e => Scalar.select (first e) (u e * Ideal.ofBits .f32 0x3E8293EE#32) 0) d.val := by
  unfold k0_pay116
  pointwise [k0_pay7, mask_apply, k0_pay115, k0_pay114, hu]
  simp only [before, after, dite_eq_ite]

/-- Map 1 of head 7 of the differential branch's query. -/
theorem qd15 (d : Fin 128) : (k0_pay117 (F := Ideal) k0_pay7 k0_pay76 (k0_pay114 P) (ix4 0 0 d l) : EReal)
    = after (fun e => Scalar.select (IntOp.xori (first e) 1#1) (u e * Ideal.ofBits .f32 0x3E8293EE#32) 0) d.val := by
  unfold k0_pay117
  pointwise [k0_pay7, mask_apply, k0_pay114, hu]
  simp only [before, after, dite_eq_ite]

end Maps
end Differential

section DifferentialKeys
variable (Z : FVec Ideal S2976x512 .f32) (cp sp : Vec Ideal S64x512 .f32) (z c s : ℕ → EReal) (l : Fin 512)
  (hz : ∀ f, (Z (ix2 f l) : EReal) = z f.val) (hc : ∀ f, (cp (ix2 f l) : EReal) = c f.val) (hs : ∀ f, (sp (ix2 f l) : EReal) = s f.val)
include hz hc hs

/-- Heads 0 and 1 of the differential branch's key. -/
theorem kd0 (d : Fin 128) : (k0_pay132 (F := Ideal) (k0_pay124 Z cp sp) (k0_pay125 Z cp sp) (ix3 0 l d) : EReal) = kd (fun k => z (1952 + k)) c s 0 d.val := by
  unfold k0_pay132
  pointwise [k0_pay124, k0_pay125, k0_pay118, k0_pay119, k0_pay120, k0_pay121, k0_pay122, k0_pay123, hz, hc, hs]
  simp only [kd, part, Nat.reduceMul, Nat.reduceAdd, Nat.zero_mul, Nat.zero_add, dite_eq_ite]

/-- Heads 2 and 3 of the differential branch's key. -/
theorem kd1 (d : Fin 128) : (k0_pay133 (F := Ideal) (k0_pay126 Z cp sp) (k0_pay127 Z cp sp) (ix3 0 l d) : EReal) = kd (fun k => z (1952 + k)) c s 1 d.val := by
  unfold k0_pay133
  pointwise [k0_pay126, k0_pay127, k0_pay118, k0_pay119, k0_pay120, k0_pay121, k0_pay122, k0_pay123, hz, hc, hs]
  simp only [kd, part, Nat.reduceMul, Nat.reduceAdd, Nat.zero_mul, Nat.zero_add, dite_eq_ite]

/-- Heads 4 and 5 of the differential branch's key. -/
theorem kd2 (d : Fin 128) : (k0_pay134 (F := Ideal) (k0_pay128 Z cp sp) (k0_pay129 Z cp sp) (ix3 0 l d) : EReal) = kd (fun k => z (1952 + k)) c s 2 d.val := by
  unfold k0_pay134
  pointwise [k0_pay128, k0_pay129, k0_pay118, k0_pay119, k0_pay120, k0_pay121, k0_pay122, k0_pay123, hz, hc, hs]
  simp only [kd, part, Nat.reduceMul, Nat.reduceAdd, Nat.zero_mul, Nat.zero_add, dite_eq_ite]

/-- Heads 6 and 7 of the differential branch's key. -/
theorem kd3 (d : Fin 128) : (k0_pay1 (F := Ideal) (k0_pay135 (k0_pay122 Z cp sp) (k0_pay123 Z) (k0_pay130 Z cp sp) (k0_pay131 Z cp sp)) (ix3 0 l d) : EReal) = kd (fun k => z (1952 + k)) c s 3 d.val := by
  unfold k0_pay1
  pointwise [k0_pay135, k0_pay130, k0_pay131, k0_pay118, k0_pay119, k0_pay120, k0_pay121, k0_pay122, k0_pay123, hz, hc, hs]
  simp only [kd, part, Nat.reduceMul, Nat.reduceAdd, Nat.zero_mul, Nat.zero_add, dite_eq_ite]

end DifferentialKeys

end Cert.PrepTile
-- ==== Proof.PrepOut.lean ====
/- The start of the mixer's tile: what a point leaves in each of its ten blocks, at a place. -/
module

public import proofs.«01_k».proof.Proof.PrepTile

@[expose] public section

set_option maxRecDepth 16384

noncomputable section

namespace Cert.PrepTile
open Idealize.ShloMosaic Idealize.ShloMosaic.TcCoe Idealize.SL.Sem Cert.PrepIdeal Cert.PrepIdeal.Gen Cert.PrepRow

/-- A block of a head's features by tokens has the features and the tokens for places, -/
theorem idx4 (x : S1x1x128x512.Idx) : ∃ (d : Fin 128) (l : Fin 512), x = ix4 0 0 d l :=
  ⟨x 2, x 3, by funext a; fin_cases a <;> first | rfl | exact Subsingleton.elim (α := Fin 1) _ _⟩

/-- one of tokens by a head's features the tokens and the features. -/
theorem idx3 (x : S1x512x128.Idx) : ∃ (l : Fin 512) (d : Fin 128), x = ix3 0 l d :=
  ⟨x 1, x 2, by funext a; fin_cases a <;> first | rfl | exact Subsingleton.elim (α := Fin 1) _ _⟩

/-- A head's place among the heads, -/
theorem emb4 (n o : ℕ) (inb) (h : o < n) (d : Fin 128) (l : Fin 512) :
    (Rect.unit (s := ⟨4, ![1, n, 128, 512]⟩) ![0, o, 0, 0] S1x1x128x512.size inb).emb (ix4 0 0 d l) = ix4 0 ⟨o, h⟩ d l := by
  funext a
  apply Fin.ext
  fin_cases a
  · rfl
  · show o + 1 * 0 = o; omega
  · show 0 + 1 * d.val = d.val; omega
  · show 0 + 1 * l.val = l.val; omega

/-- and among the columns. -/
theorem emb3 (n o : ℕ) (inb) (l : Fin 512) (d : Fin 128) (h : o + d.val < n) :
    (Rect.unit (s := ⟨3, ![1, 512, n]⟩) ![0, 0, o] S1x512x128.size inb).emb (ix3 0 l d) = ix3 0 l ⟨o + d.val, h⟩ := by
  funext a
  apply Fin.ext
  fin_cases a
  · rfl
  · show 0 + 1 * l.val = l.val; omega
  · show o + 1 * d.val = o + d.val; omega

/-- A token's column of a table. -/
def col {k n : ℕ} (x : Vec Ideal ⟨2, ![k, n]⟩ .f32) (l : Fin n) : ℕ → EReal := lift fun f : Fin k => (x (ix2 f l) : EReal)

/-- at its place. -/
theorem col_val {k n : ℕ} (x : Vec Ideal ⟨2, ![k, n]⟩ .f32) (l : Fin n) (f : Fin k) : (x (ix2 f l) : EReal) = col x l f.val := (lift_val (fun g => (x (ix2 g l) : EReal)) f).symm

/-- A token's features, -/
def tz (x0 : Vec Ideal S1x512x1024 .f32) (x1 : Vec Ideal S1x1024 .f32) (x2 : Vec Ideal S2976x1024 .bf16) (l : Fin 512) : ℕ → EReal :=
  feats W (fun d : Fin 1024 => (x0 (ix3 0 l d) : EReal)) (fun d => x1 (ix2 0 d)) (fun (f : Fin 2976) d => x2 (ix2 f d))

/-- its query of the latent branch, -/
def tq (z : ℕ → EReal) (x6 : Vec Ideal S384x1 .f32) (x4 : Vec Ideal S768x384 .bf16) : ℕ → EReal :=
  feats (Ideal.ofBits .f32 0x43C00000#32) (fun d : Fin 384 => z d.val) (fun d => x6 (ix2 d 0)) (fun (j : Fin 768) d => x4 (ix2 j d))

/-- its key and value. -/
def tkv (z : ℕ → EReal) (x7 : Vec Ideal S256x1 .f32) (x5 : Vec Ideal S1024x256 .bf16) : ℕ → EReal :=
  feats (Ideal.ofBits .f32 0x43800000#32) (fun d : Fin 256 => z (384 + d.val)) (fun d => x7 (ix2 d 0)) (fun (j : Fin 1024) d => x5 (ix2 j d))

/-- A whole block is read as it is. -/
theorem ld0 (x : Vec Ideal S1x512x1024 .f32) : View.ld x r0_0 = x := by
  have h : (![0, 0, 0] : Fin 3 → ℕ) = fun _ => 0 := by funext a; fin_cases a <;> rfl
  exact View.ld_unit_zero h _ x

/-- A whole block is read as it is. -/
theorem ld1 (x : Vec Ideal S1x1024 .f32) : View.ld x r0_1 = x := by
  have h : (![0, 0] : Fin 2 → ℕ) = fun _ => 0 := by funext a; fin_cases a <;> rfl
  exact View.ld_unit_zero h _ x

/-- A whole block is read as it is. -/
theorem ld2 (x : Vec Ideal S2976x1024 .bf16) : View.ld x r0_2 = x := by
  have h : (![0, 0] : Fin 2 → ℕ) = fun _ => 0 := by funext a; fin_cases a <;> rfl
  exact View.ld_unit_zero h _ x

/-- A whole block is read as it is. -/
theorem ld3 (x : Vec Ideal S1024x3072 .bf16) : View.ld x r0_3 = x := by
  have h : (![0, 0] : Fin 2 → ℕ) = fun _ => 0 := by funext a; fin_cases a <;> rfl
  exact View.ld_unit_zero h _ x

/-- A whole block is read as it is. -/
theorem ld5 (x : Vec Ideal S128x512 .f32) : View.ld x r0_5 = x := by
  have h : (![0, 0] : Fin 2 → ℕ) = fun _ => 0 := by funext a; fin_cases a <;> rfl
  exact View.ld_unit_zero h _ x

/-- A whole block is read as it is. -/
theorem ld6 (x : Vec Ideal S384x1 .f32) : View.ld x r0_6 = x := by
  have h : (![0, 0] : Fin 2 → ℕ) = fun _ => 0 := by funext a; fin_cases a <;> rfl
  exact View.ld_unit_zero h _ x

/-- A whole block is read as it is. -/
theorem ld7 (x : Vec Ideal S768x384 .bf16) : View.ld x r0_7 = x := by
  have h : (![0, 0] : Fin 2 → ℕ) = fun _ => 0 := by funext a; fin_cases a <;> rfl
  exact View.ld_unit_zero h _ x

/-- A whole block is read as it is. -/
theorem ld16 (x : Vec Ideal S256x1 .f32) : View.ld x r0_16 = x := by
  have h : (![0, 0] : Fin 2 → ℕ) = fun _ => 0 := by funext a; fin_cases a <;> rfl
  exact View.ld_unit_zero h _ x

/-- A whole block is read as it is. -/
theorem ld17 (x : Vec Ideal S1024x256 .bf16) : View.ld x r0_17 = x := by
  have h : (![0, 0] : Fin 2 → ℕ) = fun _ => 0 := by funext a; fin_cases a <;> rfl
  exact View.ld_unit_zero h _ x

/-- A whole block is read as it is. -/
theorem ld27 (x : Vec Ideal S32x512 .f32) : View.ld x r0_27 = x := by
  have h : (![0, 0] : Fin 2 → ℕ) = fun _ => 0 := by funext a; fin_cases a <;> rfl
  exact View.ld_unit_zero h _ x

/-- A whole block is read as it is. -/
theorem ld28 (x : Vec Ideal S64x1 .f32) : View.ld x r0_28 = x := by
  have h : (![0, 0] : Fin 2 → ℕ) = fun _ => 0 := by funext a; fin_cases a <;> rfl
  exact View.ld_unit_zero h _ x

/-- A whole block is read as it is. -/
theorem ld31 (x : Vec Ideal S64x512 .f32) : View.ld x r0_31 = x := by
  have h : (![0, 0] : Fin 2 → ℕ) = fun _ => 0 := by funext a; fin_cases a <;> rfl
  exact View.ld_unit_zero h _ x

section Named
variable (x0 : Vec Ideal S1x512x1024 .f32) (x1 : Vec Ideal S1x1024 .f32) (x2 : Vec Ideal S2976x1024 .bf16) (x3 : Vec Ideal S1024x3072 .bf16) (x4 : Vec Ideal S768x384 .bf16) (x5 : Vec Ideal S1024x256 .bf16) (x6 : Vec Ideal S384x1 .f32) (x7 : Vec Ideal S256x1 .f32) (x8 : Vec Ideal S64x1 .f32) (x9 : Vec Ideal S64x1 .f32) (x10 : Vec Ideal S128x512 .f32) (x11 : Vec Ideal S128x512 .f32) (x12 : Vec Ideal S32x512 .f32) (x13 : Vec Ideal S32x512 .f32) (x14 : Vec Ideal S64x512 .f32) (x15 : Vec Ideal S64x512 .f32)

/-- A value of the body by the blocks it is of. -/
theorem e136 : k0_pay136 (F := Ideal) x0 x1 x2 x3 x4 x5 x6 x7 x8 x9 x10 x11 x12 x13 x14 x15 = k0_pay4 x0 x1 x2 := by
  simp only [k0_pay136, ld0, ld1, ld2, ld3, ld5, ld6, ld7, ld16, ld17, ld27, ld28, ld31]

/-- A value of the body by the blocks it is of. -/
theorem e137 : k0_pay137 (F := Ideal) x0 x1 x2 x3 x4 x5 x6 x7 x8 x9 x10 x11 x12 x13 x14 x15 = k0_pay6 := by
  simp only [k0_pay137, k0_pay136, ld0, ld1, ld2, ld3, ld5, ld6, ld7, ld16, ld17, ld27, ld28, ld31]

/-- A value of the body by the blocks it is of. -/
theorem e138 : k0_pay138 (F := Ideal) x0 x1 x2 x3 x4 x5 x6 x7 x8 x9 x10 x11 x12 x13 x14 x15 = k0_pay7 := by
  simp only [k0_pay138, k0_pay136, ld0, ld1, ld2, ld3, ld5, ld6, ld7, ld16, ld17, ld27, ld28, ld31]

/-- A value of the body by the blocks it is of. -/
theorem e139 : k0_pay139 (F := Ideal) x0 x1 x2 x3 x4 x5 x6 x7 x8 x9 x10 x11 x12 x13 x14 x15 = k0_pay9 (k0_pay4 x0 x1 x2) x6 x4 := by
  simp only [k0_pay139, k0_pay136, ld0, ld1, ld2, ld3, ld5, ld6, ld7, ld16, ld17, ld27, ld28, ld31]

/-- A value of the body by the blocks it is of. -/
theorem e140 : k0_pay140 (F := Ideal) x0 x1 x2 x3 x4 x5 x6 x7 x8 x9 x10 x11 x12 x13 x14 x15 = k0_pay12 (k0_pay4 x0 x1 x2) x10 x11 x6 x4 := by
  simp only [k0_pay140, k0_pay136, ld0, ld1, ld2, ld3, ld5, ld6, ld7, ld16, ld17, ld27, ld28, ld31]

/-- A value of the body by the blocks it is of. -/
theorem e141 : k0_pay141 (F := Ideal) x0 x1 x2 x3 x4 x5 x6 x7 x8 x9 x10 x11 x12 x13 x14 x15 = k0_pay13 (k0_pay4 x0 x1 x2) x10 x11 x6 x4 := by
  simp only [k0_pay141, k0_pay136, ld0, ld1, ld2, ld3, ld5, ld6, ld7, ld16, ld17, ld27, ld28, ld31]

/-- A value of the body by the blocks it is of. -/
theorem e142 : k0_pay142 (F := Ideal) x0 x1 x2 x3 x4 x5 x6 x7 x8 x9 x10 x11 x12 x13 x14 x15 = k0_pay23 (k0_pay4 x0 x1 x2) x7 x5 := by
  simp only [k0_pay142, k0_pay136, ld0, ld1, ld2, ld3, ld5, ld6, ld7, ld16, ld17, ld27, ld28, ld31]

/-- A value of the body by the blocks it is of. -/
theorem e143 : k0_pay143 (F := Ideal) x0 x1 x2 x3 x4 x5 x6 x7 x8 x9 x10 x11 x12 x13 x14 x15 = k0_pay31 (k0_pay4 x0 x1 x2) x10 x11 := by
  simp only [k0_pay143, k0_pay136, ld0, ld1, ld2, ld3, ld5, ld6, ld7, ld16, ld17, ld27, ld28, ld31]

/-- A value of the body by the blocks it is of. -/
theorem e144 : k0_pay144 (F := Ideal) x0 x1 x2 x3 x4 x5 x6 x7 x8 x9 x10 x11 x12 x13 x14 x15 = k0_pay32 (k0_pay4 x0 x1 x2) x10 x11 := by
  simp only [k0_pay144, k0_pay136, ld0, ld1, ld2, ld3, ld5, ld6, ld7, ld16, ld17, ld27, ld28, ld31]

/-- A value of the body by the blocks it is of. -/
theorem e145 : k0_pay145 (F := Ideal) x0 x1 x2 x3 x4 x5 x6 x7 x8 x9 x10 x11 x12 x13 x14 x15 = k0_pay41 (k0_pay4 x0 x1 x2) := by
  simp only [k0_pay145, k0_pay136, ld0, ld1, ld2, ld3, ld5, ld6, ld7, ld16, ld17, ld27, ld28, ld31]

/-- A value of the body by the blocks it is of. -/
theorem e146 : k0_pay146 (F := Ideal) x0 x1 x2 x3 x4 x5 x6 x7 x8 x9 x10 x11 x12 x13 x14 x15 = k0_pay76 := by
  simp only [k0_pay146, k0_pay136, ld0, ld1, ld2, ld3, ld5, ld6, ld7, ld16, ld17, ld27, ld28, ld31]

/-- A value of the body by the blocks it is of. -/
theorem e147 : k0_pay147 (F := Ideal) x0 x1 x2 x3 x4 x5 x6 x7 x8 x9 x10 x11 x12 x13 x14 x15 = k0_pay77 (k0_pay4 x0 x1 x2) := by
  simp only [k0_pay147, k0_pay136, ld0, ld1, ld2, ld3, ld5, ld6, ld7, ld16, ld17, ld27, ld28, ld31]

/-- A value of the body by the blocks it is of. -/
theorem e148 : k0_pay148 (F := Ideal) x0 x1 x2 x3 x4 x5 x6 x7 x8 x9 x10 x11 x12 x13 x14 x15 = k0_pay83 x14 x15 (k0_pay77 (k0_pay4 x0 x1 x2)) := by
  simp only [k0_pay148, k0_pay136, k0_pay147, ld0, ld1, ld2, ld3, ld5, ld6, ld7, ld16, ld17, ld27, ld28, ld31]

/-- A value of the body by the blocks it is of. -/
theorem e149 : k0_pay149 (F := Ideal) x0 x1 x2 x3 x4 x5 x6 x7 x8 x9 x10 x11 x12 x13 x14 x15 = k0_pay84 x14 x15 (k0_pay77 (k0_pay4 x0 x1 x2)) := by
  simp only [k0_pay149, k0_pay136, k0_pay147, ld0, ld1, ld2, ld3, ld5, ld6, ld7, ld16, ld17, ld27, ld28, ld31]

/-- A value of the body by the blocks it is of. -/
theorem e150 : k0_pay150 (F := Ideal) x0 x1 x2 x3 x4 x5 x6 x7 x8 x9 x10 x11 x12 x13 x14 x15 = k0_pay85 x14 x15 (k0_pay77 (k0_pay4 x0 x1 x2)) := by
  simp only [k0_pay150, k0_pay136, k0_pay147, ld0, ld1, ld2, ld3, ld5, ld6, ld7, ld16, ld17, ld27, ld28, ld31]

/-- A value of the body by the blocks it is of. -/
theorem e151 : k0_pay151 (F := Ideal) x0 x1 x2 x3 x4 x5 x6 x7 x8 x9 x10 x11 x12 x13 x14 x15 = k0_pay86 x14 x15 (k0_pay77 (k0_pay4 x0 x1 x2)) := by
  simp only [k0_pay151, k0_pay136, k0_pay147, ld0, ld1, ld2, ld3, ld5, ld6, ld7, ld16, ld17, ld27, ld28, ld31]

/-- A value of the body by the blocks it is of. -/
theorem e152 : k0_pay152 (F := Ideal) x0 x1 x2 x3 x4 x5 x6 x7 x8 x9 x10 x11 x12 x13 x14 x15 = k0_pay87 x14 x15 (k0_pay77 (k0_pay4 x0 x1 x2)) := by
  simp only [k0_pay152, k0_pay136, k0_pay147, ld0, ld1, ld2, ld3, ld5, ld6, ld7, ld16, ld17, ld27, ld28, ld31]

/-- A value of the body by the blocks it is of. -/
theorem e153 : k0_pay153 (F := Ideal) x0 x1 x2 x3 x4 x5 x6 x7 x8 x9 x10 x11 x12 x13 x14 x15 = k0_pay88 x14 x15 (k0_pay77 (k0_pay4 x0 x1 x2)) := by
  simp only [k0_pay153, k0_pay136, k0_pay147, ld0, ld1, ld2, ld3, ld5, ld6, ld7, ld16, ld17, ld27, ld28, ld31]

/-- A value of the body by the blocks it is of. -/
theorem e154 : k0_pay154 (F := Ideal) x0 x1 x2 x3 x4 x5 x6 x7 x8 x9 x10 x11 x12 x13 x14 x15 = k0_pay89 x14 x15 (k0_pay77 (k0_pay4 x0 x1 x2)) := by
  simp only [k0_pay154, k0_pay136, k0_pay147, ld0, ld1, ld2, ld3, ld5, ld6, ld7, ld16, ld17, ld27, ld28, ld31]

end Named

/-- Heads of the differential branch's query by their rest: the first map before zeros, -/
theorem at0 (z c s : ℕ → EReal) (h d : ℕ) (hh : h % 4 = 0) : qd z c s h d = before (one z c s (h / 2 * 8) (h / 2 * 48)) d := if_pos hh
/-- the second, -/
theorem at1 (z c s : ℕ → EReal) (h d : ℕ) (hh : h % 4 = 1) : qd z c s h d = before (two z c s (h / 2 * 8) (h / 2 * 48)) d := by
  unfold qd; rw [if_neg (by omega), if_pos hh]
/-- the first after zeros, -/
theorem at2 (z c s : ℕ → EReal) (h d : ℕ) (hh : h % 4 = 2) : qd z c s h d = after (one z c s (h / 2 * 8) (h / 2 * 48)) d := by
  unfold qd; rw [if_neg (by omega), if_neg (by omega), if_pos hh]
/-- the second. -/
theorem at3 (z c s : ℕ → EReal) (h d : ℕ) (hh : h % 4 = 3) : qd z c s h d = after (two z c s (h / 2 * 8) (h / 2 * 48)) d := by
  unfold qd; rw [if_neg (by omega), if_neg (by omega), if_neg (by omega)]

section Out
variable (x0 : Vec Ideal S1x512x1024 .f32) (x1 : Vec Ideal S1x1024 .f32) (x2 : Vec Ideal S2976x1024 .bf16) (x3 : Vec Ideal S1024x3072 .bf16) (x4 : Vec Ideal S768x384 .bf16) (x5 : Vec Ideal S1024x256 .bf16) (x6 : Vec Ideal S384x1 .f32) (x7 : Vec Ideal S256x1 .f32) (x8 : Vec Ideal S64x1 .f32) (x9 : Vec Ideal S64x1 .f32) (x10 : Vec Ideal S128x512 .f32) (x11 : Vec Ideal S128x512 .f32) (x12 : Vec Ideal S32x512 .f32) (x13 : Vec Ideal S32x512 .f32) (x14 : Vec Ideal S64x512 .f32) (x15 : Vec Ideal S64x512 .f32)

/-- The latent branch's queries a point leaves, -/
def g16 (y : S1x8x128x512.Idx) : EReal := qm (tq (tz x0 x1 x2 (y 3)) x6 x4) (col x10 (y 3)) (col x11 (y 3)) (y 1).val (y 2).val
/-- its keys, -/
def g17 (y : S1x512x1024.Idx) : EReal :=
  km (tkv (tz x0 x1 x2 (y 1)) x7 x5) (tz x0 x1 x2 (y 1)) (col x10 (y 1)) (col x11 (y 1)) ((y 2).val / 128) ((y 2).val % 128)
/-- the grouped branch's queries, -/
def g19 (y : S1x8x128x512.Idx) : EReal := qg (fun k => tz x0 x1 x2 (y 3) (672 + k)) (col x8 0) (col x12 (y 3)) (col x13 (y 3)) (y 1).val (y 2).val
/-- the differential branch's queries, -/
def g22 (y : S1x16x128x512.Idx) : EReal := qd (fun k => tz x0 x1 x2 (y 3) (1440 + k)) (col x14 (y 3)) (col x15 (y 3)) (y 1).val (y 2).val
/-- and its keys. -/
def g23 (y : S1x512x512.Idx) : EReal :=
  kd (fun k => tz x0 x1 x2 (y 1) (1952 + k)) (col x14 (y 1)) (col x15 (y 1)) ((y 2).val / 128) ((y 2).val % 128)

/-- The latent branch's queries. -/
theorem o16 (y : S1x8x128x512.Idx) : (out0_16 (F := Ideal) x0 x1 x2 x3 x4 x5 x6 x7 x8 x9 x10 x11 x12 x13 x14 x15 y : EReal) = g16 x0 x1 x2 x4 x6 x10 x11 y := by
  unfold out0_16
  simp only [e136, e137, e138, e139, e140, e141, e142, e143, e144, e145, e146, e147, e148, e149, e150, e151, e152, e153, e154, ld0, ld1, ld2, ld3, ld5, ld6, ld7, ld16, ld17, ld27, ld28, ld31]
  refine View.canon_apply_of_pieces (Val := Elt Ideal) (e := EltTy.bf16) (g16 x0 x1 x2 x4 x6 x10 x11) _ ?_ y (cover0_16 _ _ _ _ _ _ _ _ y)
  intro pc hpc x
  simp only [List.mem_cons, List.not_mem_nil, or_false] at hpc
  rcases hpc with rfl | rfl | rfl | rfl | rfl | rfl | rfl | rfl
  · obtain ⟨d, l, rfl⟩ := idx4 x
    refine (qm7 _ _ _ (fun j => (tq (tz x0 x1 x2 l) x6 x4) j * Ideal.ofBits .f32 0x3E16C740#32) (fun j => ((tq (tz x0 x1 x2 l) x6 x4) (512 + j) * (col x10 l) j - (tq (tz x0 x1 x2 l) x6 x4) (640 + j) * (col x11 l) j) * Ideal.ofBits .f32 0x3E16C740#32) (fun j => ((tq (tz x0 x1 x2 l) x6 x4) (640 + j) * (col x10 l) j + (tq (tz x0 x1 x2 l) x6 x4) (512 + j) * (col x11 l) j) * Ideal.ofBits .f32 0x3E16C740#32) l (qn_apply (k0_pay4 x0 x1 x2) (tq (tz x0 x1 x2 l) x6 x4) l x6 x4 (q_apply _ (tz x0 x1 x2 l) l (z_apply x0 x1 x2 l) x6 x4)) (qa_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) (qb_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) d).trans (Eq.trans ?_ (congrArg (g16 x0 x1 x2 x4 x6 x10 x11) (emb4 8 7 inb_S1x8x128x512_S1x1x128x512_0_7_0_0 (by omega) d l)).symm)
    show _ = qm (tq (tz x0 x1 x2 l) x6 x4) (col x10 l) (col x11 l) 7 d.val
    rfl
  · obtain ⟨d, l, rfl⟩ := idx4 x
    refine (qm6 _ _ _ (fun j => (tq (tz x0 x1 x2 l) x6 x4) j * Ideal.ofBits .f32 0x3E16C740#32) (fun j => ((tq (tz x0 x1 x2 l) x6 x4) (512 + j) * (col x10 l) j - (tq (tz x0 x1 x2 l) x6 x4) (640 + j) * (col x11 l) j) * Ideal.ofBits .f32 0x3E16C740#32) (fun j => ((tq (tz x0 x1 x2 l) x6 x4) (640 + j) * (col x10 l) j + (tq (tz x0 x1 x2 l) x6 x4) (512 + j) * (col x11 l) j) * Ideal.ofBits .f32 0x3E16C740#32) l (qn_apply (k0_pay4 x0 x1 x2) (tq (tz x0 x1 x2 l) x6 x4) l x6 x4 (q_apply _ (tz x0 x1 x2 l) l (z_apply x0 x1 x2 l) x6 x4)) (qa_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) (qb_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) d).trans (Eq.trans ?_ (congrArg (g16 x0 x1 x2 x4 x6 x10 x11) (emb4 8 6 inb_S1x8x128x512_S1x1x128x512_0_6_0_0 (by omega) d l)).symm)
    show _ = qm (tq (tz x0 x1 x2 l) x6 x4) (col x10 l) (col x11 l) 6 d.val
    rfl
  · obtain ⟨d, l, rfl⟩ := idx4 x
    refine (qm5 _ _ _ (fun j => (tq (tz x0 x1 x2 l) x6 x4) j * Ideal.ofBits .f32 0x3E16C740#32) (fun j => ((tq (tz x0 x1 x2 l) x6 x4) (512 + j) * (col x10 l) j - (tq (tz x0 x1 x2 l) x6 x4) (640 + j) * (col x11 l) j) * Ideal.ofBits .f32 0x3E16C740#32) (fun j => ((tq (tz x0 x1 x2 l) x6 x4) (640 + j) * (col x10 l) j + (tq (tz x0 x1 x2 l) x6 x4) (512 + j) * (col x11 l) j) * Ideal.ofBits .f32 0x3E16C740#32) l (qn_apply (k0_pay4 x0 x1 x2) (tq (tz x0 x1 x2 l) x6 x4) l x6 x4 (q_apply _ (tz x0 x1 x2 l) l (z_apply x0 x1 x2 l) x6 x4)) (qa_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) (qb_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) d).trans (Eq.trans ?_ (congrArg (g16 x0 x1 x2 x4 x6 x10 x11) (emb4 8 5 inb_S1x8x128x512_S1x1x128x512_0_5_0_0 (by omega) d l)).symm)
    show _ = qm (tq (tz x0 x1 x2 l) x6 x4) (col x10 l) (col x11 l) 5 d.val
    rfl
  · obtain ⟨d, l, rfl⟩ := idx4 x
    refine (qm4 _ _ _ (fun j => (tq (tz x0 x1 x2 l) x6 x4) j * Ideal.ofBits .f32 0x3E16C740#32) (fun j => ((tq (tz x0 x1 x2 l) x6 x4) (512 + j) * (col x10 l) j - (tq (tz x0 x1 x2 l) x6 x4) (640 + j) * (col x11 l) j) * Ideal.ofBits .f32 0x3E16C740#32) (fun j => ((tq (tz x0 x1 x2 l) x6 x4) (640 + j) * (col x10 l) j + (tq (tz x0 x1 x2 l) x6 x4) (512 + j) * (col x11 l) j) * Ideal.ofBits .f32 0x3E16C740#32) l (qn_apply (k0_pay4 x0 x1 x2) (tq (tz x0 x1 x2 l) x6 x4) l x6 x4 (q_apply _ (tz x0 x1 x2 l) l (z_apply x0 x1 x2 l) x6 x4)) (qa_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) (qb_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) d).trans (Eq.trans ?_ (congrArg (g16 x0 x1 x2 x4 x6 x10 x11) (emb4 8 4 inb_S1x8x128x512_S1x1x128x512_0_4_0_0 (by omega) d l)).symm)
    show _ = qm (tq (tz x0 x1 x2 l) x6 x4) (col x10 l) (col x11 l) 4 d.val
    rfl
  · obtain ⟨d, l, rfl⟩ := idx4 x
    refine (qm3 _ _ _ (fun j => (tq (tz x0 x1 x2 l) x6 x4) j * Ideal.ofBits .f32 0x3E16C740#32) (fun j => ((tq (tz x0 x1 x2 l) x6 x4) (512 + j) * (col x10 l) j - (tq (tz x0 x1 x2 l) x6 x4) (640 + j) * (col x11 l) j) * Ideal.ofBits .f32 0x3E16C740#32) (fun j => ((tq (tz x0 x1 x2 l) x6 x4) (640 + j) * (col x10 l) j + (tq (tz x0 x1 x2 l) x6 x4) (512 + j) * (col x11 l) j) * Ideal.ofBits .f32 0x3E16C740#32) l (qn_apply (k0_pay4 x0 x1 x2) (tq (tz x0 x1 x2 l) x6 x4) l x6 x4 (q_apply _ (tz x0 x1 x2 l) l (z_apply x0 x1 x2 l) x6 x4)) (qa_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) (qb_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) d).trans (Eq.trans ?_ (congrArg (g16 x0 x1 x2 x4 x6 x10 x11) (emb4 8 3 inb_S1x8x128x512_S1x1x128x512_0_3_0_0 (by omega) d l)).symm)
    show _ = qm (tq (tz x0 x1 x2 l) x6 x4) (col x10 l) (col x11 l) 3 d.val
    rfl
  · obtain ⟨d, l, rfl⟩ := idx4 x
    refine (qm2 _ _ _ (fun j => (tq (tz x0 x1 x2 l) x6 x4) j * Ideal.ofBits .f32 0x3E16C740#32) (fun j => ((tq (tz x0 x1 x2 l) x6 x4) (512 + j) * (col x10 l) j - (tq (tz x0 x1 x2 l) x6 x4) (640 + j) * (col x11 l) j) * Ideal.ofBits .f32 0x3E16C740#32) (fun j => ((tq (tz x0 x1 x2 l) x6 x4) (640 + j) * (col x10 l) j + (tq (tz x0 x1 x2 l) x6 x4) (512 + j) * (col x11 l) j) * Ideal.ofBits .f32 0x3E16C740#32) l (qn_apply (k0_pay4 x0 x1 x2) (tq (tz x0 x1 x2 l) x6 x4) l x6 x4 (q_apply _ (tz x0 x1 x2 l) l (z_apply x0 x1 x2 l) x6 x4)) (qa_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) (qb_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) d).trans (Eq.trans ?_ (congrArg (g16 x0 x1 x2 x4 x6 x10 x11) (emb4 8 2 inb_S1x8x128x512_S1x1x128x512_0_2_0_0 (by omega) d l)).symm)
    show _ = qm (tq (tz x0 x1 x2 l) x6 x4) (col x10 l) (col x11 l) 2 d.val
    rfl
  · obtain ⟨d, l, rfl⟩ := idx4 x
    refine (qm1 _ _ _ (fun j => (tq (tz x0 x1 x2 l) x6 x4) j * Ideal.ofBits .f32 0x3E16C740#32) (fun j => ((tq (tz x0 x1 x2 l) x6 x4) (512 + j) * (col x10 l) j - (tq (tz x0 x1 x2 l) x6 x4) (640 + j) * (col x11 l) j) * Ideal.ofBits .f32 0x3E16C740#32) (fun j => ((tq (tz x0 x1 x2 l) x6 x4) (640 + j) * (col x10 l) j + (tq (tz x0 x1 x2 l) x6 x4) (512 + j) * (col x11 l) j) * Ideal.ofBits .f32 0x3E16C740#32) l (qn_apply (k0_pay4 x0 x1 x2) (tq (tz x0 x1 x2 l) x6 x4) l x6 x4 (q_apply _ (tz x0 x1 x2 l) l (z_apply x0 x1 x2 l) x6 x4)) (qa_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) (qb_apply (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l)) d).trans (Eq.trans ?_ (congrArg (g16 x0 x1 x2 x4 x6 x10 x11) (emb4 8 1 inb_S1x8x128x512_S1x1x128x512_0_1_0_0 (by omega) d l)).symm)
    show _ = qm (tq (tz x0 x1 x2 l) x6 x4) (col x10 l) (col x11 l) 1 d.val
    rfl
  · obtain ⟨d, l, rfl⟩ := idx4 x
    refine (qm0 (k0_pay4 x0 x1 x2) (tq (tz x0 x1 x2 l) x6 x4) (col x10 l) (col x11 l) l x10 x11 x6 x4 (q_apply _ (tz x0 x1 x2 l) l (z_apply x0 x1 x2 l) x6 x4) (col_val x10 l) (col_val x11 l) d).trans (Eq.trans ?_ (congrArg (g16 x0 x1 x2 x4 x6 x10 x11) (emb4 8 0 inb_S1x8x128x512_S1x1x128x512_0_0_0_0 (by omega) d l)).symm)
    show _ = qm (tq (tz x0 x1 x2 l) x6 x4) (col x10 l) (col x11 l) 0 d.val
    rfl

/-- The latent branch's keys. -/
theorem o17 (y : S1x512x1024.Idx) : (out0_17 (F := Ideal) x0 x1 x2 x3 x4 x5 x6 x7 x8 x9 x10 x11 x12 x13 x14 x15 y : EReal) = g17 x0 x1 x2 x5 x7 x10 x11 y := by
  unfold out0_17
  simp only [e136, e137, e138, e139, e140, e141, e142, e143, e144, e145, e146, e147, e148, e149, e150, e151, e152, e153, e154, ld0, ld1, ld2, ld3, ld5, ld6, ld7, ld16, ld17, ld27, ld28, ld31]
  refine View.canon_apply_of_pieces (Val := Elt Ideal) (e := EltTy.bf16) (g17 x0 x1 x2 x5 x7 x10 x11) _ ?_ y (cover0_17 _ _ _ _ _ _ _ _ y)
  intro pc hpc x
  simp only [List.mem_cons, List.not_mem_nil, or_false] at hpc
  rcases hpc with rfl | rfl | rfl | rfl | rfl | rfl | rfl | rfl
  · obtain ⟨l, d, rfl⟩ := idx3 x
    refine (km7 (k0_pay4 x0 x1 x2) (tz x0 x1 x2 l) (col x10 l) (col x11 l) l x10 x11 _ (tkv (tz x0 x1 x2 l) x7 x5) (z_apply x0 x1 x2 l) (kv_apply _ (tz x0 x1 x2 l) l (z_apply x0 x1 x2 l) x7 x5) (col_val x10 l) (col_val x11 l) d).trans (Eq.trans ?_ (congrArg (g17 x0 x1 x2 x5 x7 x10 x11) (emb3 1024 896 inb_S1x512x1024_S1x512x128_0_0_896 l d (by omega))).symm)
    show _ = km (tkv (tz x0 x1 x2 l) x7 x5) (tz x0 x1 x2 l) (col x10 l) (col x11 l) ((896 + d.val) / 128) ((896 + d.val) % 128)
    rw [show (896 + d.val) / 128 = 7 by omega, show (896 + d.val) % 128 = d.val by omega]
  · obtain ⟨l, d, rfl⟩ := idx3 x
    refine (km6 (k0_pay4 x0 x1 x2) (tz x0 x1 x2 l) (col x10 l) (col x11 l) l x10 x11 _ (tkv (tz x0 x1 x2 l) x7 x5) (z_apply x0 x1 x2 l) (kv_apply _ (tz x0 x1 x2 l) l (z_apply x0 x1 x2 l) x7 x5) (col_val x10 l) (col_val x11 l) d).trans (Eq.trans ?_ (congrArg (g17 x0 x1 x2 x5 x7 x10 x11) (emb3 1024 768 inb_S1x512x1024_S1x512x128_0_0_768 l d (by omega))).symm)
    show _ = km (tkv (tz x0 x1 x2 l) x7 x5) (tz x0 x1 x2 l) (col x10 l) (col x11 l) ((768 + d.val) / 128) ((768 + d.val) % 128)
    rw [show (768 + d.val) / 128 = 6 by omega, show (768 + d.val) % 128 = d.val by omega]
  · obtain ⟨l, d, rfl⟩ := idx3 x
    refine (km5 (k0_pay4 x0 x1 x2) (tz x0 x1 x2 l) (col x10 l) (col x11 l) l x10 x11 _ (tkv (tz x0 x1 x2 l) x7 x5) (z_apply x0 x1 x2 l) (kv_apply _ (tz x0 x1 x2 l) l (z_apply x0 x1 x2 l) x7 x5) (col_val x10 l) (col_val x11 l) d).trans (Eq.trans ?_ (congrArg (g17 x0 x1 x2 x5 x7 x10 x11) (emb3 1024 640 inb_S1x512x1024_S1x512x128_0_0_640 l d (by omega))).symm)
    show _ = km (tkv (tz x0 x1 x2 l) x7 x5) (tz x0 x1 x2 l) (col x10 l) (col x11 l) ((640 + d.val) / 128) ((640 + d.val) % 128)
    rw [show (640 + d.val) / 128 = 5 by omega, show (640 + d.val) % 128 = d.val by omega]
  · obtain ⟨l, d, rfl⟩ := idx3 x
    refine (km4 (k0_pay4 x0 x1 x2) (tz x0 x1 x2 l) (col x10 l) (col x11 l) l x10 x11 _ (tkv (tz x0 x1 x2 l) x7 x5) (z_apply x0 x1 x2 l) (kv_apply _ (tz x0 x1 x2 l) l (z_apply x0 x1 x2 l) x7 x5) (col_val x10 l) (col_val x11 l) d).trans (Eq.trans ?_ (congrArg (g17 x0 x1 x2 x5 x7 x10 x11) (emb3 1024 512 inb_S1x512x1024_S1x512x128_0_0_512 l d (by omega))).symm)
    show _ = km (tkv (tz x0 x1 x2 l) x7 x5) (tz x0 x1 x2 l) (col x10 l) (col x11 l) ((512 + d.val) / 128) ((512 + d.val) % 128)
    rw [show (512 + d.val) / 128 = 4 by omega, show (512 + d.val) % 128 = d.val by omega]
  · obtain ⟨l, d, rfl⟩ := idx3 x
    refine (km3 (k0_pay4 x0 x1 x2) (tz x0 x1 x2 l) (col x10 l) (col x11 l) l x10 x11 _ (tkv (tz x0 x1 x2 l) x7 x5) (z_apply x0 x1 x2 l) (kv_apply _ (tz x0 x1 x2 l) l (z_apply x0 x1 x2 l) x7 x5) (col_val x10 l) (col_val x11 l) d).trans (Eq.trans ?_ (congrArg (g17 x0 x1 x2 x5 x7 x10 x11) (emb3 1024 384 inb_S1x512x1024_S1x512x128_0_0_384 l d (by omega))).symm)
    show _ = km (tkv (tz x0 x1 x2 l) x7 x5) (tz x0 x1 x2 l) (col x10 l) (col x11 l) ((384 + d.val) / 128) ((384 + d.val) % 128)
    rw [show (384 + d.val) / 128 = 3 by omega, show (384 + d.val) % 128 = d.val by omega]
  · obtain ⟨l, d, rfl⟩ := idx3 x
    refine (km2 (k0_pay4 x0 x1 x2) (tz x0 x1 x2 l) (col x10 l) (col x11 l) l x10 x11 _ (tkv (tz x0 x1 x2 l) x7 x5) (z_apply x0 x1 x2 l) (kv_apply _ (tz x0 x1 x2 l) l (z_apply x0 x1 x2 l) x7 x5) (col_val x10 l) (col_val x11 l) d).trans (Eq.trans ?_ (congrArg (g17 x0 x1 x2 x5 x7 x10 x11) (emb3 1024 256 inb_S1x512x1024_S1x512x128_0_0_256 l d (by omega))).symm)
    show _ = km (tkv (tz x0 x1 x2 l) x7 x5) (tz x0 x1 x2 l) (col x10 l) (col x11 l) ((256 + d.val) / 128) ((256 + d.val) % 128)
    rw [show (256 + d.val) / 128 = 2 by omega, show (256 + d.val) % 128 = d.val by omega]
  · obtain ⟨l, d, rfl⟩ := idx3 x
    refine (km1 (k0_pay4 x0 x1 x2) (tz x0 x1 x2 l) (col x10 l) (col x11 l) l x10 x11 _ (tkv (tz x0 x1 x2 l) x7 x5) (z_apply x0 x1 x2 l) (kv_apply _ (tz x0 x1 x2 l) l (z_apply x0 x1 x2 l) x7 x5) (col_val x10 l) (col_val x11 l) d).trans (Eq.trans ?_ (congrArg (g17 x0 x1 x2 x5 x7 x10 x11) (emb3 1024 128 inb_S1x512x1024_S1x512x128_0_0_128 l d (by omega))).symm)
    show _ = km (tkv (tz x0 x1 x2 l) x7 x5) (tz x0 x1 x2 l) (col x10 l) (col x11 l) ((128 + d.val) / 128) ((128 + d.val) % 128)
    rw [show (128 + d.val) / 128 = 1 by omega, show (128 + d.val) % 128 = d.val by omega]
  · obtain ⟨l, d, rfl⟩ := idx3 x
    refine (km0 (k0_pay4 x0 x1 x2) (tz x0 x1 x2 l) (col x10 l) (col x11 l) l x10 x11 _ (tkv (tz x0 x1 x2 l) x7 x5) (z_apply x0 x1 x2 l) (kv_apply _ (tz x0 x1 x2 l) l (z_apply x0 x1 x2 l) x7 x5) (col_val x10 l) (col_val x11 l) d).trans (Eq.trans ?_ (congrArg (g17 x0 x1 x2 x5 x7 x10 x11) (emb3 1024 0 inb_S1x512x1024_S1x512x128_0_0_0 l d (by omega))).symm)
    show _ = km (tkv (tz x0 x1 x2 l) x7 x5) (tz x0 x1 x2 l) (col x10 l) (col x11 l) ((0 + d.val) / 128) ((0 + d.val) % 128)
    rw [show (0 + d.val) / 128 = 0 by omega, show (0 + d.val) % 128 = d.val by omega]

/-- The grouped branch's queries. -/
theorem o19 (y : S1x8x128x512.Idx) : (out0_19 (F := Ideal) x0 x1 x2 x3 x4 x5 x6 x7 x8 x9 x10 x11 x12 x13 x14 x15 y : EReal) = g19 x0 x1 x2 x8 x12 x13 y := by
  unfold out0_19
  simp only [e136, e137, e138, e139, e140, e141, e142, e143, e144, e145, e146, e147, e148, e149, e150, e151, e152, e153, e154, ld0, ld1, ld2, ld3, ld5, ld6, ld7, ld16, ld17, ld27, ld28, ld31]
  refine View.canon_apply_of_pieces (Val := Elt Ideal) (e := EltTy.bf16) (g19 x0 x1 x2 x8 x12 x13) _ ?_ y (cover0_19 _ _ _ _ _ _ _ _ y)
  intro pc hpc x
  simp only [List.mem_cons, List.not_mem_nil, or_false] at hpc
  rcases hpc with rfl | rfl | rfl | rfl | rfl | rfl | rfl | rfl
  · obtain ⟨d, l, rfl⟩ := idx4 x
    refine (qg7 _ x12 x13 x8 (fun k => tz x0 x1 x2 l (672 + k)) (col x8 0) (col x12 l) (col x13 l) l (gq_apply (k0_pay4 x0 x1 x2) (tz x0 x1 x2 l) l (z_apply x0 x1 x2 l)) (col_val x12 l) (col_val x13 l) (col_val x8 0) d).trans (Eq.trans ?_ (congrArg (g19 x0 x1 x2 x8 x12 x13) (emb4 8 7 inb_S1x8x128x512_S1x1x128x512_0_7_0_0 (by omega) d l)).symm)
    show _ = qg (fun k => tz x0 x1 x2 l (672 + k)) (col x8 0) (col x12 l) (col x13 l) 7 d.val
    exact (if_neg (by omega)).symm
  · obtain ⟨d, l, rfl⟩ := idx4 x
    refine (qg6 _ x12 x13 x8 (fun k => tz x0 x1 x2 l (672 + k)) (col x8 0) (col x12 l) (col x13 l) l (gq_apply (k0_pay4 x0 x1 x2) (tz x0 x1 x2 l) l (z_apply x0 x1 x2 l)) (col_val x12 l) (col_val x13 l) (col_val x8 0) d).trans (Eq.trans ?_ (congrArg (g19 x0 x1 x2 x8 x12 x13) (emb4 8 6 inb_S1x8x128x512_S1x1x128x512_0_6_0_0 (by omega) d l)).symm)
    show _ = qg (fun k => tz x0 x1 x2 l (672 + k)) (col x8 0) (col x12 l) (col x13 l) 6 d.val
    exact (if_neg (by omega)).symm
  · obtain ⟨d, l, rfl⟩ := idx4 x
    refine (qg5 _ x12 x13 x8 (fun k => tz x0 x1 x2 l (672 + k)) (col x8 0) (col x12 l) (col x13 l) l (gq_apply (k0_pay4 x0 x1 x2) (tz x0 x1 x2 l) l (z_apply x0 x1 x2 l)) (col_val x12 l) (col_val x13 l) (col_val x8 0) d).trans (Eq.trans ?_ (congrArg (g19 x0 x1 x2 x8 x12 x13) (emb4 8 5 inb_S1x8x128x512_S1x1x128x512_0_5_0_0 (by omega) d l)).symm)
    show _ = qg (fun k => tz x0 x1 x2 l (672 + k)) (col x8 0) (col x12 l) (col x13 l) 5 d.val
    exact (if_neg (by omega)).symm
  · obtain ⟨d, l, rfl⟩ := idx4 x
    refine (qg4 _ x12 x13 x8 (fun k => tz x0 x1 x2 l (672 + k)) (col x8 0) (col x12 l) (col x13 l) l (gq_apply (k0_pay4 x0 x1 x2) (tz x0 x1 x2 l) l (z_apply x0 x1 x2 l)) (col_val x12 l) (col_val x13 l) (col_val x8 0) d).trans (Eq.trans ?_ (congrArg (g19 x0 x1 x2 x8 x12 x13) (emb4 8 4 inb_S1x8x128x512_S1x1x128x512_0_4_0_0 (by omega) d l)).symm)
    show _ = qg (fun k => tz x0 x1 x2 l (672 + k)) (col x8 0) (col x12 l) (col x13 l) 4 d.val
    exact (if_neg (by omega)).symm
  · obtain ⟨d, l, rfl⟩ := idx4 x
    refine (qg3 _ x12 x13 x8 (fun k => tz x0 x1 x2 l (672 + k)) (col x8 0) (col x12 l) (col x13 l) l (gq_apply (k0_pay4 x0 x1 x2) (tz x0 x1 x2 l) l (z_apply x0 x1 x2 l)) (col_val x12 l) (col_val x13 l) (col_val x8 0) d).trans (Eq.trans ?_ (congrArg (g19 x0 x1 x2 x8 x12 x13) (emb4 8 3 inb_S1x8x128x512_S1x1x128x512_0_3_0_0 (by omega) d l)).symm)
    show _ = qg (fun k => tz x0 x1 x2 l (672 + k)) (col x8 0) (col x12 l) (col x13 l) 3 d.val
    exact (if_pos (by omega)).symm
  · obtain ⟨d, l, rfl⟩ := idx4 x
    refine (qg2 _ x12 x13 x8 (fun k => tz x0 x1 x2 l (672 + k)) (col x8 0) (col x12 l) (col x13 l) l (gq_apply (k0_pay4 x0 x1 x2) (tz x0 x1 x2 l) l (z_apply x0 x1 x2 l)) (col_val x12 l) (col_val x13 l) (col_val x8 0) d).trans (Eq.trans ?_ (congrArg (g19 x0 x1 x2 x8 x12 x13) (emb4 8 2 inb_S1x8x128x512_S1x1x128x512_0_2_0_0 (by omega) d l)).symm)
    show _ = qg (fun k => tz x0 x1 x2 l (672 + k)) (col x8 0) (col x12 l) (col x13 l) 2 d.val
    exact (if_pos (by omega)).symm
  · obtain ⟨d, l, rfl⟩ := idx4 x
    refine (qg1 _ x12 x13 x8 (fun k => tz x0 x1 x2 l (672 + k)) (col x8 0) (col x12 l) (col x13 l) l (gq_apply (k0_pay4 x0 x1 x2) (tz x0 x1 x2 l) l (z_apply x0 x1 x2 l)) (col_val x12 l) (col_val x13 l) (col_val x8 0) d).trans (Eq.trans ?_ (congrArg (g19 x0 x1 x2 x8 x12 x13) (emb4 8 1 inb_S1x8x128x512_S1x1x128x512_0_1_0_0 (by omega) d l)).symm)
    show _ = qg (fun k => tz x0 x1 x2 l (672 + k)) (col x8 0) (col x12 l) (col x13 l) 1 d.val
    exact (if_pos (by omega)).symm
  · obtain ⟨d, l, rfl⟩ := idx4 x
    refine (qg0 (k0_pay4 x0 x1 x2) x12 x13 x8 (tz x0 x1 x2 l) (col x8 0) (col x12 l) (col x13 l) l (z_apply x0 x1 x2 l) (col_val x12 l) (col_val x13 l) (col_val x8 0) d).trans (Eq.trans ?_ (congrArg (g19 x0 x1 x2 x8 x12 x13) (emb4 8 0 inb_S1x8x128x512_S1x1x128x512_0_0_0_0 (by omega) d l)).symm)
    show _ = qg (fun k => tz x0 x1 x2 l (672 + k)) (col x8 0) (col x12 l) (col x13 l) 0 d.val
    exact (if_pos (by omega)).symm

/-- The differential branch's queries. -/
theorem o22 (y : S1x16x128x512.Idx) : (out0_22 (F := Ideal) x0 x1 x2 x3 x4 x5 x6 x7 x8 x9 x10 x11 x12 x13 x14 x15 y : EReal) = g22 x0 x1 x2 x14 x15 y := by
  unfold out0_22
  simp only [e136, e137, e138, e139, e140, e141, e142, e143, e144, e145, e146, e147, e148, e149, e150, e151, e152, e153, e154, ld0, ld1, ld2, ld3, ld5, ld6, ld7, ld16, ld17, ld27, ld28, ld31]
  refine View.canon_apply_of_pieces (Val := Elt Ideal) (e := EltTy.bf16) (g22 x0 x1 x2 x14 x15) _ ?_ y (cover0_22 _ _ _ _ _ _ _ _ _ _ _ _ _ _ _ _ y)
  intro pc hpc x
  simp only [List.mem_cons, List.not_mem_nil, or_false] at hpc
  rcases hpc with rfl | rfl | rfl | rfl | rfl | rfl | rfl | rfl | rfl | rfl | rfl | rfl | rfl | rfl | rfl | rfl
  · obtain ⟨d, l, rfl⟩ := idx4 x
    refine (qd15 l _ (part (fun k => tz x0 x1 x2 l (1440 + k)) (col x14 l) (col x15 l) 56 336) (dh7 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 15 inb_S1x16x128x512_S1x1x128x512_0_15_0_0 (by omega) d l)).symm)
    show _ = qd (fun k => tz x0 x1 x2 l (1440 + k)) (col x14 l) (col x15 l) 15 d.val
    exact (at3 _ _ _ 15 _ rfl).symm
  · obtain ⟨d, l, rfl⟩ := idx4 x
    refine (qd14 l _ (part (fun k => tz x0 x1 x2 l (1440 + k)) (col x14 l) (col x15 l) 56 336) (dh7 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 14 inb_S1x16x128x512_S1x1x128x512_0_14_0_0 (by omega) d l)).symm)
    show _ = qd (fun k => tz x0 x1 x2 l (1440 + k)) (col x14 l) (col x15 l) 14 d.val
    exact (at2 _ _ _ 14 _ rfl).symm
  · obtain ⟨d, l, rfl⟩ := idx4 x
    refine (qd13 l _ (part (fun k => tz x0 x1 x2 l (1440 + k)) (col x14 l) (col x15 l) 48 288) (dh6 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 13 inb_S1x16x128x512_S1x1x128x512_0_13_0_0 (by omega) d l)).symm)
    show _ = qd (fun k => tz x0 x1 x2 l (1440 + k)) (col x14 l) (col x15 l) 13 d.val
    exact (at1 _ _ _ 13 _ rfl).symm
  · obtain ⟨d, l, rfl⟩ := idx4 x
    refine (qd12 l _ (part (fun k => tz x0 x1 x2 l (1440 + k)) (col x14 l) (col x15 l) 48 288) (dh6 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 12 inb_S1x16x128x512_S1x1x128x512_0_12_0_0 (by omega) d l)).symm)
    show _ = qd (fun k => tz x0 x1 x2 l (1440 + k)) (col x14 l) (col x15 l) 12 d.val
    exact (at0 _ _ _ 12 _ rfl).symm
  · obtain ⟨d, l, rfl⟩ := idx4 x
    refine (qd11 l _ (part (fun k => tz x0 x1 x2 l (1440 + k)) (col x14 l) (col x15 l) 40 240) (dh5 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 11 inb_S1x16x128x512_S1x1x128x512_0_11_0_0 (by omega) d l)).symm)
    show _ = qd (fun k => tz x0 x1 x2 l (1440 + k)) (col x14 l) (col x15 l) 11 d.val
    exact (at3 _ _ _ 11 _ rfl).symm
  · obtain ⟨d, l, rfl⟩ := idx4 x
    refine (qd10 l _ (part (fun k => tz x0 x1 x2 l (1440 + k)) (col x14 l) (col x15 l) 40 240) (dh5 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 10 inb_S1x16x128x512_S1x1x128x512_0_10_0_0 (by omega) d l)).symm)
    show _ = qd (fun k => tz x0 x1 x2 l (1440 + k)) (col x14 l) (col x15 l) 10 d.val
    exact (at2 _ _ _ 10 _ rfl).symm
  · obtain ⟨d, l, rfl⟩ := idx4 x
    refine (qd9 l _ (part (fun k => tz x0 x1 x2 l (1440 + k)) (col x14 l) (col x15 l) 32 192) (dh4 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 9 inb_S1x16x128x512_S1x1x128x512_0_9_0_0 (by omega) d l)).symm)
    show _ = qd (fun k => tz x0 x1 x2 l (1440 + k)) (col x14 l) (col x15 l) 9 d.val
    exact (at1 _ _ _ 9 _ rfl).symm
  · obtain ⟨d, l, rfl⟩ := idx4 x
    refine (qd8 l _ (part (fun k => tz x0 x1 x2 l (1440 + k)) (col x14 l) (col x15 l) 32 192) (dh4 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 8 inb_S1x16x128x512_S1x1x128x512_0_8_0_0 (by omega) d l)).symm)
    show _ = qd (fun k => tz x0 x1 x2 l (1440 + k)) (col x14 l) (col x15 l) 8 d.val
    exact (at0 _ _ _ 8 _ rfl).symm
  · obtain ⟨d, l, rfl⟩ := idx4 x
    refine (qd7 l _ (part (fun k => tz x0 x1 x2 l (1440 + k)) (col x14 l) (col x15 l) 24 144) (dh3 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 7 inb_S1x16x128x512_S1x1x128x512_0_7_0_0 (by omega) d l)).symm)
    show _ = qd (fun k => tz x0 x1 x2 l (1440 + k)) (col x14 l) (col x15 l) 7 d.val
    exact (at3 _ _ _ 7 _ rfl).symm
  · obtain ⟨d, l, rfl⟩ := idx4 x
    refine (qd6 l _ (part (fun k => tz x0 x1 x2 l (1440 + k)) (col x14 l) (col x15 l) 24 144) (dh3 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 6 inb_S1x16x128x512_S1x1x128x512_0_6_0_0 (by omega) d l)).symm)
    show _ = qd (fun k => tz x0 x1 x2 l (1440 + k)) (col x14 l) (col x15 l) 6 d.val
    exact (at2 _ _ _ 6 _ rfl).symm
  · obtain ⟨d, l, rfl⟩ := idx4 x
    refine (qd5 l _ (part (fun k => tz x0 x1 x2 l (1440 + k)) (col x14 l) (col x15 l) 16 96) (dh2 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 5 inb_S1x16x128x512_S1x1x128x512_0_5_0_0 (by omega) d l)).symm)
    show _ = qd (fun k => tz x0 x1 x2 l (1440 + k)) (col x14 l) (col x15 l) 5 d.val
    exact (at1 _ _ _ 5 _ rfl).symm
  · obtain ⟨d, l, rfl⟩ := idx4 x
    refine (qd4 l _ (part (fun k => tz x0 x1 x2 l (1440 + k)) (col x14 l) (col x15 l) 16 96) (dh2 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 4 inb_S1x16x128x512_S1x1x128x512_0_4_0_0 (by omega) d l)).symm)
    show _ = qd (fun k => tz x0 x1 x2 l (1440 + k)) (col x14 l) (col x15 l) 4 d.val
    exact (at0 _ _ _ 4 _ rfl).symm
  · obtain ⟨d, l, rfl⟩ := idx4 x
    refine (qd3 l _ (part (fun k => tz x0 x1 x2 l (1440 + k)) (col x14 l) (col x15 l) 8 48) (dh1 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 3 inb_S1x16x128x512_S1x1x128x512_0_3_0_0 (by omega) d l)).symm)
    show _ = qd (fun k => tz x0 x1 x2 l (1440 + k)) (col x14 l) (col x15 l) 3 d.val
    exact (at3 _ _ _ 3 _ rfl).symm
  · obtain ⟨d, l, rfl⟩ := idx4 x
    refine (qd2 l _ (part (fun k => tz x0 x1 x2 l (1440 + k)) (col x14 l) (col x15 l) 8 48) (dh1 _ x14 x15 (fun k => tz x0 x1 x2 l (1440 + k)) (col x14 l) (col x15 l) l (dq_apply (k0_pay4 x0 x1 x2) (tz x0 x1 x2 l) l (z_apply x0 x1 x2 l)) (col_val x14 l) (col_val x15 l)) d).trans (Eq.trans ?_ (congrArg (g22 x0 x1 x2 x14 x15) (emb4 16 2 inb_S1x16x128x512_S1x1x128x512_0_2_0_0 (by omega) d l)).symm)
    show _ = qd (fun k => tz x0 x1 x2 l (1440 + k)) (col x14 l) (col x15 l) 2 d.val
    exact (at2 _ _ _ 2 _ rfl).symm
  · obtain ⟨d, l, rfl⟩ := idx4 x
    refine (qd1 _ x14 x15 (fun k => tz x0 x1 x2 l (1440 + k)) (col x14 l) (col x15 l) l (dq_apply (k0_pay4 x0 x1 x2) (tz x0 x1 x2 l) l (z_apply x0 x1 x2 l)) (col_val x14 l) (col_val x15 l) d).trans (Eq.trans ?_ (congrArg (g22 x0 x1 x2 x14 x15) (emb4 16 1 inb_S1x16x128x512_S1x1x128x512_0_1_0_0 (by omega) d l)).symm)
    show _ = qd (fun k => tz x0 x1 x2 l (1440 + k)) (col x14 l) (col x15 l) 1 d.val
    exact (at1 _ _ _ 1 _ rfl).symm
  · obtain ⟨d, l, rfl⟩ := idx4 x
    refine (qd0 _ x14 x15 (fun k => tz x0 x1 x2 l (1440 + k)) (col x14 l) (col x15 l) l (dq_apply (k0_pay4 x0 x1 x2) (tz x0 x1 x2 l) l (z_apply x0 x1 x2 l)) (col_val x14 l) (col_val x15 l) d).trans (Eq.trans ?_ (congrArg (g22 x0 x1 x2 x14 x15) (emb4 16 0 inb_S1x16x128x512_S1x1x128x512_0_0_0_0 (by omega) d l)).symm)
    show _ = qd (fun k => tz x0 x1 x2 l (1440 + k)) (col x14 l) (col x15 l) 0 d.val
    exact (at0 _ _ _ 0 _ rfl).symm

/-- The differential branch's keys. -/
theorem o23 (y : S1x512x512.Idx) : (out0_23 (F := Ideal) x0 x1 x2 x3 x4 x5 x6 x7 x8 x9 x10 x11 x12 x13 x14 x15 y : EReal) = g23 x0 x1 x2 x14 x15 y := by
  unfold out0_23
  simp only [e136, e137, e138, e139, e140, e141, e142, e143, e144, e145, e146, e147, e148, e149, e150, e151, e152, e153, e154, ld0, ld1, ld2, ld3, ld5, ld6, ld7, ld16, ld17, ld27, ld28, ld31]
  refine View.canon_apply_of_pieces (Val := Elt Ideal) (e := EltTy.bf16) (g23 x0 x1 x2 x14 x15) _ ?_ y (cover0_23 _ _ _ _ y)
  intro pc hpc x
  simp only [List.mem_cons, List.not_mem_nil, or_false] at hpc
  rcases hpc with rfl | rfl | rfl | rfl
  · obtain ⟨l, d, rfl⟩ := idx3 x
    refine (kd3 (k0_pay4 x0 x1 x2) x14 x15 (tz x0 x1 x2 l) (col x14 l) (col x15 l) l (z_apply x0 x1 x2 l) (col_val x14 l) (col_val x15 l) d).trans (Eq.trans ?_ (congrArg (g23 x0 x1 x2 x14 x15) (emb3 512 384 inb_S1x512x512_S1x512x128_0_0_384 l d (by omega))).symm)
    show _ = kd (fun k => tz x0 x1 x2 l (1952 + k)) (col x14 l) (col x15 l) ((384 + d.val) / 128) ((384 + d.val) % 128)
    rw [show (384 + d.val) / 128 = 3 by omega, show (384 + d.val) % 128 = d.val by omega]
  · obtain ⟨l, d, rfl⟩ := idx3 x
    refine (kd2 (k0_pay4 x0 x1 x2) x14 x15 (tz x0 x1 x2 l) (col x14 l) (col x15 l) l (z_apply x0 x1 x2 l) (col_val x14 l) (col_val x15 l) d).trans (Eq.trans ?_ (congrArg (g23 x0 x1 x2 x14 x15) (emb3 512 256 inb_S1x512x512_S1x512x128_0_0_256 l d (by omega))).symm)
    show _ = kd (fun k => tz x0 x1 x2 l (1952 + k)) (col x14 l) (col x15 l) ((256 + d.val) / 128) ((256 + d.val) % 128)
    rw [show (256 + d.val) / 128 = 2 by omega, show (256 + d.val) % 128 = d.val by omega]
  · obtain ⟨l, d, rfl⟩ := idx3 x
    refine (kd1 (k0_pay4 x0 x1 x2) x14 x15 (tz x0 x1 x2 l) (col x14 l) (col x15 l) l (z_apply x0 x1 x2 l) (col_val x14 l) (col_val x15 l) d).trans (Eq.trans ?_ (congrArg (g23 x0 x1 x2 x14 x15) (emb3 512 128 inb_S1x512x512_S1x512x128_0_0_128 l d (by omega))).symm)
    show _ = kd (fun k => tz x0 x1 x2 l (1952 + k)) (col x14 l) (col x15 l) ((128 + d.val) / 128) ((128 + d.val) % 128)
    rw [show (128 + d.val) / 128 = 1 by omega, show (128 + d.val) % 128 = d.val by omega]
  · obtain ⟨l, d, rfl⟩ := idx3 x
    refine (kd0 (k0_pay4 x0 x1 x2) x14 x15 (tz x0 x1 x2 l) (col x14 l) (col x15 l) l (z_apply x0 x1 x2 l) (col_val x14 l) (col_val x15 l) d).trans (Eq.trans ?_ (congrArg (g23 x0 x1 x2 x14 x15) (emb3 512 0 inb_S1x512x512_S1x512x128_0_0_0 l d (by omega))).symm)
    show _ = kd (fun k => tz x0 x1 x2 l (1952 + k)) (col x14 l) (col x15 l) ((0 + d.val) / 128) ((0 + d.val) % 128)
    rw [show (0 + d.val) / 128 = 0 by omega, show (0 + d.val) % 128 = d.val by omega]

/-- The latent branch's values. -/
theorem o18 (d l : Fin 512) : (out0_18 (F := Ideal) x0 x1 x2 x3 x4 x5 x6 x7 x8 x9 x10 x11 x12 x13 x14 x15 (ix3 0 d l) : EReal) = (tkv (tz x0 x1 x2 l) x7 x5) (512 + d.val) := by
  unfold out0_18
  simp only [e136, e137, e138, e139, e140, e141, e142, e143, e144, e145, e146, e147, e148, e149, e150, e151, e152, e153, e154, ld0, ld1, ld2, ld3, ld5, ld6, ld7, ld16, ld17, ld27, ld28, ld31]
  have h0 : (![0, 0, 0] : Fin 3 → ℕ) = fun _ => 0 := by funext a; fin_cases a <;> rfl
  refine (congrFun (View.canon_unit_zero (Val := Elt Ideal) (e := EltTy.bf16) h0 _ _) _).trans ?_
  exact vm_apply _ x7 x5 (tkv (tz x0 x1 x2 l) x7 x5) l (kv_apply _ (tz x0 x1 x2 l) l (z_apply x0 x1 x2 l) x7 x5) d

/-- The grouped branch's keys. -/
theorem o20 (l : Fin 512) (d : Fin 128) : (out0_20 (F := Ideal) x0 x1 x2 x3 x4 x5 x6 x7 x8 x9 x10 x11 x12 x13 x14 x15 (ix3 0 l d) : EReal) = kg (fun k => (tz x0 x1 x2 l) (1184 + k)) (col x9 0) (col x12 l) (col x13 l) d.val := by
  unfold out0_20
  simp only [e136, e137, e138, e139, e140, e141, e142, e143, e144, e145, e146, e147, e148, e149, e150, e151, e152, e153, e154, ld0, ld1, ld2, ld3, ld5, ld6, ld7, ld16, ld17, ld27, ld28, ld31]
  have h0 : (![0, 0, 0] : Fin 3 → ℕ) = fun _ => 0 := by funext a; fin_cases a <;> rfl
  refine (congrFun (View.canon_unit_zero (Val := Elt Ideal) (e := EltTy.bf16) h0 _ _) _).trans ?_
  exact kg_apply _ (tz x0 x1 x2 l) l (z_apply x0 x1 x2 l) x12 x13 x9 (col x12 l) (col x13 l) (col x9 0) (col_val x12 l) (col_val x13 l) (col_val x9 0) d

/-- The grouped branch's values. -/
theorem o21 (d : Fin 128) (l : Fin 512) : (out0_21 (F := Ideal) x0 x1 x2 x3 x4 x5 x6 x7 x8 x9 x10 x11 x12 x13 x14 x15 (ix3 0 d l) : EReal) = (tz x0 x1 x2 l) (1312 + d.val) := by
  unfold out0_21
  simp only [e136, e137, e138, e139, e140, e141, e142, e143, e144, e145, e146, e147, e148, e149, e150, e151, e152, e153, e154, ld0, ld1, ld2, ld3, ld5, ld6, ld7, ld16, ld17, ld27, ld28, ld31]
  have h0 : (![0, 0, 0] : Fin 3 → ℕ) = fun _ => 0 := by funext a; fin_cases a <;> rfl
  refine (congrFun (View.canon_unit_zero (Val := Elt Ideal) (e := EltTy.bf16) h0 _ _) _).trans ?_
  exact vg_apply _ (tz x0 x1 x2 l) l (z_apply x0 x1 x2 l) d

/-- The differential branch's values. -/
theorem o24 (d l : Fin 512) : (out0_24 (F := Ideal) x0 x1 x2 x3 x4 x5 x6 x7 x8 x9 x10 x11 x12 x13 x14 x15 (ix3 0 d l) : EReal) = (tz x0 x1 x2 l) (2464 + d.val) := by
  unfold out0_24
  simp only [e136, e137, e138, e139, e140, e141, e142, e143, e144, e145, e146, e147, e148, e149, e150, e151, e152, e153, e154, ld0, ld1, ld2, ld3, ld5, ld6, ld7, ld16, ld17, ld27, ld28, ld31]
  have h0 : (![0, 0, 0] : Fin 3 → ℕ) = fun _ => 0 := by funext a; fin_cases a <;> rfl
  refine (congrFun (View.canon_unit_zero (Val := Elt Ideal) (e := EltTy.bf16) h0 _ _) _).trans ?_
  exact vd_apply _ (tz x0 x1 x2 l) l (z_apply x0 x1 x2 l) d

/-- The gates. -/
theorem o25 (l : Fin 512) (j : Fin 3072) : (out0_25 (F := Ideal) x0 x1 x2 x3 x4 x5 x6 x7 x8 x9 x10 x11 x12 x13 x14 x15 (ix3 0 l j) : EReal) = gate W (fun d : Fin 1024 => (x0 (ix3 0 l d) : EReal)) (fun d => x1 (ix2 0 d)) (fun d => x3 (ix2 d j)) := by
  unfold out0_25
  simp only [e136, e137, e138, e139, e140, e141, e142, e143, e144, e145, e146, e147, e148, e149, e150, e151, e152, e153, e154, ld0, ld1, ld2, ld3, ld5, ld6, ld7, ld16, ld17, ld27, ld28, ld31]
  have h0 : (![0, 0, 0] : Fin 3 → ℕ) = fun _ => 0 := by funext a; fin_cases a <;> rfl
  refine (congrFun (View.canon_unit_zero (Val := Elt Ideal) (e := EltTy.bf16) h0 _ _) _).trans ?_
  exact gate_apply x0 x1 x3 l j

end Out

end Cert.PrepTile
-- ==== Proof.PrepRef.lean ====
/- The start of the mixer's reference: its values at their places, by the places of the features. -/
module

public import proofs.«01_k».proof.Proof.PrepRow
public import proofs.«01_k».proof.Proof.Gen.PrepRefIdeal.Run
public import Idealize.ShloMosaic.Lib.Pointwise

@[expose] public section

set_option maxRecDepth 16384

noncomputable section

namespace Cert.PrepHost
open Idealize.ShloMosaic Idealize.ShloMosaic.TcCoe Idealize.SL.Sem Cert.PrepRefIdeal Cert.PrepRefIdeal.Gen Cert.PrepRefIdeal.Value Cert.PrepRow

/-- The width of a token, as a pattern's value. -/
abbrev W : EReal := Ideal.ofBits .f32 0x44800000#32

/-- The reference's latent branch's query. -/
def r305 (V : Valuation τ sig (Elt Ideal)) : FVec Ideal S4x8x128x8192 .bf16 :=
  truncf .bf16 (transpose S4x8x128x8192 [0, 2, 3, 1] (concatenate S4x8192x8x128 3 [⟨S4x8192x8x96, (mulf (concatenate S4x8192x8x96 3 [⟨S4x8192x8x64, (shapeCast _ (extractStridedSlice S4x8192x512 ![0, 0, 0] (res_main_v42 V) slices_S4x8192x768_S4x8192x512_0_0_0) shapeCasts_S4x8192x512_S4x8192x8x64)⟩, ⟨S4x8192x8x32, (concatenate S4x8192x8x32 3 [⟨S4x8192x8x16, (subf (mulf (res_main_v44 V) (broadcastInDim S4x8192x8x16 ![0, 1, 2, 3] bcast_S1x8192x8x16_S4x8192x8x16_0_1_2_3 (broadcastInDim S1x8192x8x16 ![1, 2, 3] bcast_S8192x8x16_S1x8192x8x16_1_2_3 (res_main_v48 V)))) (mulf (res_main_v46 V) (broadcastInDim S4x8192x8x16 ![0, 1, 2, 3] bcast_S1x8192x8x16_S4x8192x8x16_0_1_2_3 (broadcastInDim S1x8192x8x16 ![1, 2, 3] bcast_S8192x8x16_S1x8192x8x16_1_2_3 (res_main_v50 V)))))⟩, ⟨S4x8192x8x16, (addf (mulf (res_main_v46 V) (broadcastInDim S4x8192x8x16 ![0, 1, 2, 3] bcast_S1x8192x8x16_S4x8192x8x16_0_1_2_3 (broadcastInDim S1x8192x8x16 ![1, 2, 3] bcast_S8192x8x16_S1x8192x8x16_1_2_3 (res_main_v48 V)))) (mulf (res_main_v44 V) (broadcastInDim S4x8192x8x16 ![0, 1, 2, 3] bcast_S1x8192x8x16_S4x8192x8x16_0_1_2_3 (broadcastInDim S1x8192x8x16 ![1, 2, 3] bcast_S8192x8x16_S1x8192x8x16_1_2_3 (res_main_v50 V)))))⟩] concatenates_S4x8192x8x16_S4x8192x8x16_S4x8192x8x32_d3)⟩] concatenates_S4x8192x8x64_S4x8192x8x32_S4x8192x8x96_d3) (broadcastInDim S4x8192x8x96 ![] bcast_S_S4x8192x8x96 (constant S_ .f32 0x3E16C740#32)))⟩, ⟨S4x8192x8x32, (broadcastInDim S4x8192x8x32 ![] bcast_S_S4x8192x8x32 (constant S_ .f32 0x00000000#32))⟩] concatenates_S4x8192x8x96_S4x8192x8x32_S4x8192x8x128_d3) transposes_S4x8192x8x128_S4x8x128x8192_0_2_3_1) bitsLt_bf16_f32

/-- The reference's latent branch's key, its heads apart. -/
def u306 (V : Valuation τ sig (Elt Ideal)) : FVec Ideal S4x8192x8x128 .f32 :=
  (concatenate S4x8192x8x128 3 [⟨S4x8192x8x64, ((shapeCast _ (extractStridedSlice S4x8192x512 ![0, 0, 0] (res_main_v91 V) slices_S4x8192x1024_S4x8192x512_0_0_0) shapeCasts_S4x8192x512_S4x8192x8x64) : FVec Ideal S4x8192x8x64 .f32)⟩, ⟨S4x8192x8x32, ((broadcastInDim S4x8192x8x32 ![0, 1, 2, 3] bcast_S4x8192x1x32_S4x8192x8x32_0_1_2_3 (broadcastInDim S4x8192x1x32 ![0, 1, 3] bcast_S4x8192x32_S4x8192x1x32_0_1_3 (concatenate S4x8192x32 2 [⟨S4x8192x16, (subf (mulf (res_main_v92 V) (broadcastInDim S4x8192x16 ![0, 1, 2] bcast_S1x8192x16_S4x8192x16_0_1_2 (broadcastInDim S1x8192x16 ![1, 2] bcast_S8192x16_S1x8192x16_1_2 (res_main_v95 V)))) (mulf (res_main_v93 V) (broadcastInDim S4x8192x16 ![0, 1, 2] bcast_S1x8192x16_S4x8192x16_0_1_2 (broadcastInDim S1x8192x16 ![1, 2] bcast_S8192x16_S1x8192x16_1_2 (res_main_v97 V)))))⟩, ⟨S4x8192x16, (addf (mulf (res_main_v93 V) (broadcastInDim S4x8192x16 ![0, 1, 2] bcast_S1x8192x16_S4x8192x16_0_1_2 (broadcastInDim S1x8192x16 ![1, 2] bcast_S8192x16_S1x8192x16_1_2 (res_main_v95 V)))) (mulf (res_main_v92 V) (broadcastInDim S4x8192x16 ![0, 1, 2] bcast_S1x8192x16_S4x8192x16_0_1_2 (broadcastInDim S1x8192x16 ![1, 2] bcast_S8192x16_S1x8192x16_1_2 (res_main_v97 V)))))⟩] concatenates_S4x8192x16_S4x8192x16_S4x8192x32_d2))) : FVec Ideal S4x8192x8x32 .f32)⟩, ⟨S4x8192x8x32, ((broadcastInDim S4x8192x8x32 ![] bcast_S_S4x8192x8x32 (constant S_ .f32 0x00000000#32)) : FVec Ideal S4x8192x8x32 .f32)⟩] concatenates_S4x8192x8x64_S4x8192x8x32_S4x8192x8x32_S4x8192x8x128_d3 : FVec Ideal S4x8192x8x128 .f32)

/-- The heads in a row. -/
def s306 (V : Valuation τ sig (Elt Ideal)) : FVec Ideal S4x8192x1024 .f32 := shapeCast _ (u306 V) shapeCasts_S4x8192x8x128_S4x8192x1024

/-- The reference's latent branch's key. -/
def r306 (V : Valuation τ sig (Elt Ideal)) : FVec Ideal S4x8192x1024 .bf16 :=
  truncf .bf16 (s306 V) bitsLt_bf16_f32

/-- The reference's latent branch's values. -/
def r307 (V : Valuation τ sig (Elt Ideal)) : FVec Ideal S4x512x8192 .bf16 :=
  truncf .bf16 (transpose S4x512x8192 [0, 2, 1] (extractStridedSlice S4x8192x512 ![0, 0, 512] (res_main_v91 V) slices_S4x8192x1024_S4x8192x512_0_0_512) transposes_S4x8192x512_S4x512x8192_0_2_1) bitsLt_bf16_f32

/-- The reference's grouped branch's query. -/
def r308 (V : Valuation τ sig (Elt Ideal)) : FVec Ideal S4x8x128x8192 .bf16 :=
  truncf .bf16 (transpose S4x8x128x8192 [0, 2, 3, 1] (concatenate S4x8192x8x128 2 [⟨S4x8192x4x128, (concatenate S4x8192x4x128 3 [⟨S4x8192x4x64, (extractStridedSlice S4x8192x4x64 ![0, 0, 0, 0] (res_main_v160 V) slices_S4x8192x8x64_S4x8192x4x64_0_0_0_0)⟩, ⟨S4x8192x4x64, (broadcastInDim S4x8192x4x64 ![] bcast_S_S4x8192x4x64 (constant S_ .f32 0x00000000#32))⟩] concatenates_S4x8192x4x64_S4x8192x4x64_S4x8192x4x128_d3)⟩, ⟨S4x8192x4x128, (concatenate S4x8192x4x128 3 [⟨S4x8192x4x64, (broadcastInDim S4x8192x4x64 ![] bcast_S_S4x8192x4x64 (constant S_ .f32 0x00000000#32))⟩, ⟨S4x8192x4x64, (extractStridedSlice S4x8192x4x64 ![0, 0, 4, 0] (res_main_v160 V) slices_S4x8192x8x64_S4x8192x4x64_0_0_4_0)⟩] concatenates_S4x8192x4x64_S4x8192x4x64_S4x8192x4x128_d3)⟩] concatenates_S4x8192x4x128_S4x8192x4x128_S4x8192x8x128_d2) transposes_S4x8192x8x128_S4x8x128x8192_0_2_3_1) bitsLt_bf16_f32

/-- The reference's grouped branch's key, its heads apart. -/
def u309 (V : Valuation τ sig (Elt Ideal)) : FVec Ideal S4x8192x2x64 .f32 :=
  concatenate S4x8192x2x64 3 [⟨S4x8192x2x32, (subf (mulf (res_main_v185 V) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v188 V)))) (mulf (res_main_v186 V) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v190 V)))))⟩, ⟨S4x8192x2x32, (addf (mulf (res_main_v186 V) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v188 V)))) (mulf (res_main_v185 V) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v190 V)))))⟩] concatenates_S4x8192x2x32_S4x8192x2x32_S4x8192x2x64_d3

/-- The heads in a row. -/
def s309 (V : Valuation τ sig (Elt Ideal)) : FVec Ideal S4x8192x128 .f32 := shapeCast _ (u309 V) shapeCasts_S4x8192x2x64_S4x8192x128

/-- The reference's grouped branch's key. -/
def r309 (V : Valuation τ sig (Elt Ideal)) : FVec Ideal S4x8192x128 .bf16 :=
  truncf .bf16 (s309 V) bitsLt_bf16_f32

/-- The reference's grouped branch's values. -/
def r310 (V : Valuation τ sig (Elt Ideal)) : FVec Ideal S4x128x8192 .bf16 :=
  truncf .bf16 (transpose S4x128x8192 [0, 2, 1] (extractStridedSlice S4x8192x128 ![0, 0, 1312] (res_main_v16 V) slices_S4x8192x2976_S4x8192x128_0_0_1312) transposes_S4x8192x128_S4x128x8192_0_2_1) bitsLt_bf16_f32

/-- The reference's differential branch's query, its heads apart. -/
def u311 (V : Valuation τ sig (Elt Ideal)) : FVec Ideal S4x8192x4x2x2x128 .f32 :=
  concatenate S4x8192x4x2x2x128 3 [⟨S4x8192x4x1x2x128, (concatenate S4x8192x4x1x2x128 5 [⟨S4x8192x4x1x2x64, (extractStridedSlice S4x8192x4x1x2x64 ![0, 0, 0, 0, 0, 0] (res_main_v263 V) slices_S4x8192x4x2x2x64_S4x8192x4x1x2x64_0_0_0_0_0_0)⟩, ⟨S4x8192x4x1x2x64, (broadcastInDim S4x8192x4x1x2x64 ![] bcast_S_S4x8192x4x1x2x64 (constant S_ .f32 0x00000000#32))⟩] concatenates_S4x8192x4x1x2x64_S4x8192x4x1x2x64_S4x8192x4x1x2x128_d5)⟩, ⟨S4x8192x4x1x2x128, (concatenate S4x8192x4x1x2x128 5 [⟨S4x8192x4x1x2x64, (broadcastInDim S4x8192x4x1x2x64 ![] bcast_S_S4x8192x4x1x2x64 (constant S_ .f32 0x00000000#32))⟩, ⟨S4x8192x4x1x2x64, (extractStridedSlice S4x8192x4x1x2x64 ![0, 0, 0, 1, 0, 0] (res_main_v263 V) slices_S4x8192x4x2x2x64_S4x8192x4x1x2x64_0_0_0_1_0_0)⟩] concatenates_S4x8192x4x1x2x64_S4x8192x4x1x2x64_S4x8192x4x1x2x128_d5)⟩] concatenates_S4x8192x4x1x2x128_S4x8192x4x1x2x128_S4x8192x4x2x2x128_d3

/-- The heads in a row. -/
def s311 (V : Valuation τ sig (Elt Ideal)) : FVec Ideal S4x8192x16x128 .f32 := shapeCast _ (u311 V) shapeCasts_S4x8192x4x2x2x128_S4x8192x16x128

/-- The reference's differential branch's query. -/
def r311 (V : Valuation τ sig (Elt Ideal)) : FVec Ideal S4x16x128x8192 .bf16 :=
  truncf .bf16 (transpose S4x16x128x8192 [0, 2, 3, 1] (s311 V) transposes_S4x8192x16x128_S4x16x128x8192_0_2_3_1) bitsLt_bf16_f32

/-- The reference's differential branch's key, its heads apart. -/
def u312 (V : Valuation τ sig (Elt Ideal)) : FVec Ideal S4x8192x8x64 .f32 :=
  (concatenate S4x8192x8x64 3 [⟨S4x8192x8x8, ((shapeCast _ (shapeCast _ (subf (mulf (res_main_v274 V) (broadcastInDim S4x8192x64 ![0, 1, 2] bcast_S1x8192x64_S4x8192x64_0_1_2 (broadcastInDim S1x8192x64 ![1, 2] bcast_S8192x64_S1x8192x64_1_2 (transpose S8192x64 [1, 0] (V (Proc.devRef .tc main_arg14)) transposes_S64x8192_S8192x64_1_0)))) (mulf (res_main_v275 V) (broadcastInDim S4x8192x64 ![0, 1, 2] bcast_S1x8192x64_S4x8192x64_0_1_2 (broadcastInDim S1x8192x64 ![1, 2] bcast_S8192x64_S1x8192x64_1_2 (transpose S8192x64 [1, 0] (V (Proc.devRef .tc main_arg15)) transposes_S64x8192_S8192x64_1_0))))) shapeCasts_S4x8192x64_S4x8192x8x2x4) shapeCasts_S4x8192x8x2x4_S4x8192x8x8) : FVec Ideal S4x8192x8x8 .f32)⟩, ⟨S4x8192x8x8, ((shapeCast _ (shapeCast _ (addf (mulf (res_main_v275 V) (broadcastInDim S4x8192x64 ![0, 1, 2] bcast_S1x8192x64_S4x8192x64_0_1_2 (broadcastInDim S1x8192x64 ![1, 2] bcast_S8192x64_S1x8192x64_1_2 (transpose S8192x64 [1, 0] (V (Proc.devRef .tc main_arg14)) transposes_S64x8192_S8192x64_1_0)))) (mulf (res_main_v274 V) (broadcastInDim S4x8192x64 ![0, 1, 2] bcast_S1x8192x64_S4x8192x64_0_1_2 (broadcastInDim S1x8192x64 ![1, 2] bcast_S8192x64_S1x8192x64_1_2 (transpose S8192x64 [1, 0] (V (Proc.devRef .tc main_arg15)) transposes_S64x8192_S8192x64_1_0))))) shapeCasts_S4x8192x64_S4x8192x8x2x4) shapeCasts_S4x8192x8x2x4_S4x8192x8x8) : FVec Ideal S4x8192x8x8 .f32)⟩, ⟨S4x8192x8x48, ((shapeCast _ (shapeCast _ (extractStridedSlice S4x8192x384 ![0, 0, 128] (res_main_v273 V) slices_S4x8192x512_S4x8192x384_0_0_128) shapeCasts_S4x8192x384_S4x8192x8x2x24) shapeCasts_S4x8192x8x2x24_S4x8192x8x48) : FVec Ideal S4x8192x8x48 .f32)⟩] concatenates_S4x8192x8x8_S4x8192x8x8_S4x8192x8x48_S4x8192x8x64_d3 : FVec Ideal S4x8192x8x64 .f32)

/-- The heads in a row. -/
def s312 (V : Valuation τ sig (Elt Ideal)) : FVec Ideal S4x8192x512 .f32 := shapeCast _ (u312 V) shapeCasts_S4x8192x8x64_S4x8192x512

/-- The reference's differential branch's key. -/
def r312 (V : Valuation τ sig (Elt Ideal)) : FVec Ideal S4x8192x512 .bf16 :=
  truncf .bf16 (s312 V) bitsLt_bf16_f32

/-- The reference's differential branch's values. -/
def r313 (V : Valuation τ sig (Elt Ideal)) : FVec Ideal S4x512x8192 .bf16 :=
  truncf .bf16 (transpose S4x512x8192 [0, 2, 1] (extractStridedSlice S4x8192x512 ![0, 0, 2464] (res_main_v16 V) slices_S4x8192x2976_S4x8192x512_0_0_2464) transposes_S4x8192x512_S4x512x8192_0_2_1) bitsLt_bf16_f32

/-- The reference's gates. -/
def r314 (V : Valuation τ sig (Elt Ideal)) : FVec Ideal S4x8192x3072 .bf16 :=
  truncf .bf16 (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf (Host.dotGeneral (φ₁ := .f32) (φ₂ := .f32) dot_S4x8192x1024_S1024x3072_S4x8192x3072_2_0_01_1_n_n none (res_main_v13 V) (extf (φ := .bf16) .f32 (V (Proc.devRef .tc main_arg3)) bitsLt_bf16_f32)))))) bitsLt_bf16_f32

section Rows
variable (V : Valuation τ sig (Elt Ideal)) (b : Fin 4) (i : Fin 8192)

/-- The normalised rows. -/
theorem v13_apply (d : Fin 1024) : (res_main_v13 V (ix3 b i d) : EReal)
    = Cert.Norm.rms W (fun d => (V (Proc.devRef .tc main_arg0) (ix3 b i d) : EReal)) (fun d => (V (Proc.devRef .tc main_arg1) (ix2 0 d) : EReal)) d := by
  pointwise [res_main_v13]
  rfl

/-- The features. -/
theorem z_apply (f : Fin 2976) : (res_main_v16 V (ix3 b i f) : EReal)
    = feats W (fun d : Fin 1024 => (V (Proc.devRef .tc main_arg0) (ix3 b i d) : EReal)) (fun d => (V (Proc.devRef .tc main_arg1) (ix2 0 d) : EReal))
        (fun f d => (V (Proc.devRef .tc main_arg2) (ix2 f d) : EReal)) f.val := by
  refine Eq.trans ?_ (lift_val _ f).symm
  pointwise [res_main_v16, v13_apply]

/-- The gates. -/
theorem gate_apply (j : Fin 3072) : (r314 V (ix3 b i j) : EReal)
    = gate W (fun d : Fin 1024 => (V (Proc.devRef .tc main_arg0) (ix3 b i d) : EReal)) (fun d => (V (Proc.devRef .tc main_arg1) (ix2 0 d) : EReal))
        (fun d => (V (Proc.devRef .tc main_arg3) (ix2 d j) : EReal)) := by
  pointwise [r314, v13_apply]
  rfl

variable (z : ℕ → EReal) (hz : ∀ f, (res_main_v16 V (ix3 b i f) : EReal) = z f.val)
include hz

/-- The latent branch's queries' projection. -/
theorem q_apply (j : Fin 768) : (res_main_v42 V (ix3 b i j) : EReal)
    = feats (Ideal.ofBits .f32 0x43C00000#32) (fun d : Fin 384 => z d.val) (fun d => (V (Proc.devRef .tc main_arg6) (ix2 d 0) : EReal))
        (fun j d => (V (Proc.devRef .tc main_arg4) (ix2 j d) : EReal)) j.val := by
  refine Eq.trans ?_ (lift_val _ j).symm
  pointwise [res_main_v42, res_main_v25, hz]
  try rfl

/-- The latent branch's keys' and values' projection. -/
theorem kv_apply (j : Fin 1024) : (res_main_v91 V (ix3 b i j) : EReal)
    = feats (Ideal.ofBits .f32 0x43800000#32) (fun d : Fin 256 => z (384 + d.val)) (fun d => (V (Proc.devRef .tc main_arg7) (ix2 d 0) : EReal))
        (fun j d => (V (Proc.devRef .tc main_arg5) (ix2 j d) : EReal)) j.val := by
  refine Eq.trans ?_ (lift_val _ j).symm
  pointwise [res_main_v91, res_main_v74, hz]
  try rfl

/-- The values of the grouped branch, -/
theorem vg_apply (d : Fin 128) : (r310 V (ix3 b d i) : EReal) = z (1312 + d.val) := by
  pointwise [r310, hz]

/-- and of the differential one. -/
theorem vd_apply (d : Fin 512) : (r313 V (ix3 b d i) : EReal) = z (2464 + d.val) := by
  pointwise [r313, hz]

/-- The latent branch's query. -/
theorem qm_apply (q c s : ℕ → EReal) (hq : ∀ f, (res_main_v42 V (ix3 b i f) : EReal) = q f.val)
    (hc : ∀ f, (V (Proc.devRef .tc main_arg10) (ix2 f i) : EReal) = c f.val) (hs : ∀ f, (V (Proc.devRef .tc main_arg11) (ix2 f i) : EReal) = s f.val)
    (h : Fin 8) (d : Fin 128) : (r305 V (ix4 b h d i) : EReal) = qm q c s h.val d.val := by
  pointwise [r305, res_main_v44, res_main_v46, res_main_v48, res_main_v50, hq, hc, hs]
  simp only [qm, headQ]
  split_ifs <;> first | rfl | (exfalso; omega)

/-- The latent branch's values. -/
theorem vm_apply (n : ℕ → EReal) (hn : ∀ f, (res_main_v91 V (ix3 b i f) : EReal) = n f.val)
    (d : Fin 512) : (r307 V (ix3 b d i) : EReal) = n (512 + d.val) := by
  pointwise [r307, hn]

/-- The grouped branch's query. -/
theorem qg_apply (g c s : ℕ → EReal) (hg : ∀ f, (V (Proc.devRef .tc main_arg8) (ix2 f 0) : EReal) = g f.val)
    (hc : ∀ f, (V (Proc.devRef .tc main_arg12) (ix2 f i) : EReal) = c f.val) (hs : ∀ f, (V (Proc.devRef .tc main_arg13) (ix2 f i) : EReal) = s f.val)
    (h : Fin 8) (d : Fin 128) : (r308 V (ix4 b h d i) : EReal) = qg (fun k => z (672 + k)) g c s h.val d.val := by
  pointwise [r308, res_main_v160, res_main_v138, res_main_v139, res_main_v137, res_main_v123, res_main_v141, res_main_v143, hz, hc, hs, hg]
  by_cases hh : h.val < 4
  · simp only [dif_pos hh, qg, if_pos hh, before, axial, turn1, turn2, nrm, dite_eq_ite]
  · rw [show 4 + (h.val - 4) = h.val by omega]
    simp only [dif_neg hh, qg, if_neg hh, after, axial, turn1, turn2, nrm, dite_eq_ite]

/-- A head of the latent branch's key. -/
theorem u306_apply (n c s : ℕ → EReal) (hn : ∀ f, (res_main_v91 V (ix3 b i f) : EReal) = n f.val)
    (hc : ∀ f, (V (Proc.devRef .tc main_arg10) (ix2 f i) : EReal) = c f.val) (hs : ∀ f, (V (Proc.devRef .tc main_arg11) (ix2 f i) : EReal) = s f.val)
    (h : Fin 8) (d : Fin 128) : (u306 V (ix4 b i h d) : EReal) = km n z c s h.val d.val := by
  pointwise [u306, res_main_v92, res_main_v93, res_main_v95, res_main_v97, hn, hz, hc, hs]
  simp only [km, headQ, Nat.zero_add]
  split_ifs <;> first | rfl | (exfalso; omega)

/-- A head of the grouped branch's key. -/
theorem u309_apply (g c s : ℕ → EReal) (hg : ∀ f, (V (Proc.devRef .tc main_arg9) (ix2 f 0) : EReal) = g f.val)
    (hc : ∀ f, (V (Proc.devRef .tc main_arg12) (ix2 f i) : EReal) = c f.val) (hs : ∀ f, (V (Proc.devRef .tc main_arg13) (ix2 f i) : EReal) = s f.val)
    (k : Fin 2) (d : Fin 64) : (u309 V (ix4 b i k d) : EReal)
      = if d.val < 32 then turn1 (fun k => z (1184 + k)) g c s (k.val * 64) d.val else turn2 (fun k => z (1184 + k)) g c s (k.val * 64) (d.val - 32) := by
  pointwise [u309, res_main_v185, res_main_v186, res_main_v184, res_main_v170, res_main_v188, res_main_v190, hz, hc, hs, hg]
  simp only [turn1, turn2, nrm, dite_eq_ite]

/-- A head of the differential branch's key. -/
theorem u312_apply (c s : ℕ → EReal)
    (hc : ∀ f, (V (Proc.devRef .tc main_arg14) (ix2 f i) : EReal) = c f.val) (hs : ∀ f, (V (Proc.devRef .tc main_arg15) (ix2 f i) : EReal) = s f.val)
    (h : Fin 8) (d : Fin 64) : (u312 V (ix4 b i h d) : EReal) = part (fun k => z (1952 + k)) c s (h.val * 8) (h.val * 48) d.val := by
  pointwise [u312, res_main_v274, res_main_v275, res_main_v273, hz, hc, hs]
  simp only [part, dite_eq_ite]

/-- The differential branch's query, the first turned part, -/
theorem v235_apply (c s : ℕ → EReal)
    (hc : ∀ f, (V (Proc.devRef .tc main_arg14) (ix2 f i) : EReal) = c f.val) (hs : ∀ f, (V (Proc.devRef .tc main_arg15) (ix2 f i) : EReal) = s f.val)
    (k : Fin 8) (a : Fin 2) (e : Fin 4) : (res_main_v235 V (ix5 b i k a e) : EReal)
      = (fun j => (z (1440 + j) * c j - z (1440 + (64 + j)) * s j) * Ideal.ofBits .f32 0x3E8293EE#32) (k.val * 8 + a.val * 4 + e.val) := by
  pointwise [res_main_v235, res_main_v210, res_main_v211, res_main_v209, hz, hc, hs]

/-- the second, -/
theorem v237_apply (c s : ℕ → EReal)
    (hc : ∀ f, (V (Proc.devRef .tc main_arg14) (ix2 f i) : EReal) = c f.val) (hs : ∀ f, (V (Proc.devRef .tc main_arg15) (ix2 f i) : EReal) = s f.val)
    (k : Fin 8) (a : Fin 2) (e : Fin 4) : (res_main_v237 V (ix5 b i k a e) : EReal)
      = (fun j => (z (1440 + (64 + j)) * c j + z (1440 + j) * s j) * Ideal.ofBits .f32 0x3E8293EE#32) (k.val * 8 + a.val * 4 + e.val) := by
  pointwise [res_main_v237, res_main_v210, res_main_v211, res_main_v209, hz, hc, hs]

/-- and the plain one. -/
theorem v239_apply (k : Fin 8) (a : Fin 2) (e : Fin 24) : (res_main_v239 V (ix5 b i k a e) : EReal)
      = (fun j => z (1440 + (128 + j)) * Ideal.ofBits .f32 0x3E8293EE#32) (k.val * 48 + a.val * 24 + e.val) := by
  pointwise [res_main_v239, res_main_v209, hz]

/-- The two maps of a head of the differential branch's query. -/
theorem v263_apply (c s : ℕ → EReal)
    (hc : ∀ f, (V (Proc.devRef .tc main_arg14) (ix2 f i) : EReal) = c f.val) (hs : ∀ f, (V (Proc.devRef .tc main_arg15) (ix2 f i) : EReal) = s f.val)
    (k : Fin 4) (a m : Fin 2) (e : Fin 64) : (res_main_v263 V (ix6 b i k a m e) : EReal)
      = if m.val < 1 then one (fun k => z (1440 + k)) c s ((k.val * 2 + a.val) * 8) ((k.val * 2 + a.val) * 48) e.val
        else two (fun k => z (1440 + k)) c s ((k.val * 2 + a.val) * 8) ((k.val * 2 + a.val) * 48) e.val := by
  pointwise [res_main_v263, v235_apply V b i z hz c s hc hs, v237_apply V b i z hz c s hc hs, v239_apply V b i z hz]
  have he := e.isLt
  generalize e.val = e at he ⊢
  generalize k.val * 2 + a.val = o
  have h1 : e - 4 - 4 = e - 8 := by omega
  have h2 : e - 8 - 4 - 4 = e - 8 - 8 := by omega
  by_cases hm : m.val < 1
  · simp only [dif_pos hm, if_pos hm, one, part, h1, h2]
    rcases (by omega : e < 4 ∨ (4 ≤ e ∧ e < 8) ∨ (8 ≤ e ∧ e < 12) ∨ (12 ≤ e ∧ e < 16) ∨ (16 ≤ e ∧ e < 40) ∨ 40 ≤ e) with x | x | x | x | x | x
    · rw [show first e = 1#1 from if_pos (by omega)]; split_ifs <;> first | (exfalso; omega) | rfl
    · rw [show first e = 0#1 from if_neg (by omega)]; split_ifs <;> first | (exfalso; omega) | rfl
    · rw [show first e = 1#1 from if_pos (by omega)]; split_ifs <;> first | (exfalso; omega) | rfl
    · rw [show first e = 0#1 from if_neg (by omega)]; split_ifs <;> first | (exfalso; omega) | rfl
    · rw [show first e = 1#1 from if_pos (by omega)]; split_ifs <;> first | (exfalso; omega) | rfl
    · rw [show first e = 0#1 from if_neg (by omega)]; split_ifs <;> first | (exfalso; omega) | rfl
  · simp only [dif_neg hm, if_neg hm, two, part, h1, h2]
    rcases (by omega : e < 4 ∨ (4 ≤ e ∧ e < 8) ∨ (8 ≤ e ∧ e < 12) ∨ (12 ≤ e ∧ e < 16) ∨ (16 ≤ e ∧ e < 40) ∨ 40 ≤ e) with x | x | x | x | x | x
    · rw [show first e = 1#1 from if_pos (by omega)]; split_ifs <;> first | (exfalso; omega) | rfl
    · rw [show first e = 0#1 from if_neg (by omega), show o * 8 + 4 + (e - 4) = o * 8 + e by omega]; split_ifs <;> first | (exfalso; omega) | rfl
    · rw [show first e = 1#1 from if_pos (by omega)]; split_ifs <;> first | (exfalso; omega) | rfl
    · rw [show first e = 0#1 from if_neg (by omega), show o * 8 + 4 + (e - 8 - 4) = o * 8 + (e - 8) by omega]; split_ifs <;> first | (exfalso; omega) | rfl
    · rw [show first e = 1#1 from if_pos (by omega)]; split_ifs <;> first | (exfalso; omega) | rfl
    · rw [show first e = 0#1 from if_neg (by omega), show o * 48 + 24 + (e - 8 - 8 - 24) = o * 48 + (e - 8 - 8) by omega]; split_ifs <;> first | (exfalso; omega) | rfl

end Rows
end Cert.PrepHost
-- ==== Proof.PrepBlk.lean ====
/- The start of the mixer: the blocks a point reads, at their places in the arrays. -/
module

public import proofs.«01_k».proof.Defs
public import proofs.«01_k».proof.Proof.PrepOut
public import proofs.«01_k».proof.Proof.PrepRef

@[expose] public section

set_option maxRecDepth 16384

noncomputable section

namespace Cert.PrepTie
open Idealize.ShloMosaic Idealize.ShloMosaic.TcCoe Idealize.SL.Sem

section Call
open Cert.PrepIdeal Cert.PrepIdeal.Gen Cert.PrepTile Cert.PrepRow

/-! Point `t` reads tile `t % 16` of sequence `t / 16`, the whole of the weights, and its tile of the tables. -/
/-- Array 0 at a point. -/
theorem idx0 : ∀ t : Fin grid0.N, win0_0.index t = ![t.val / 16, t.val % 16, 0] := by decide +kernel
/-- Array 1 at a point. -/
theorem idx1 : ∀ t : Fin grid0.N, win0_1.index t = ![0, 0] := by decide +kernel
/-- Array 2 at a point. -/
theorem idx2 : ∀ t : Fin grid0.N, win0_2.index t = ![0, 0] := by decide +kernel
/-- Array 3 at a point. -/
theorem idx3 : ∀ t : Fin grid0.N, win0_3.index t = ![0, 0] := by decide +kernel
/-- Array 4 at a point. -/
theorem idx4 : ∀ t : Fin grid0.N, win0_4.index t = ![0, 0] := by decide +kernel
/-- Array 5 at a point. -/
theorem idx5 : ∀ t : Fin grid0.N, win0_5.index t = ![0, 0] := by decide +kernel
/-- Array 6 at a point. -/
theorem idx6 : ∀ t : Fin grid0.N, win0_6.index t = ![0, 0] := by decide +kernel
/-- Array 7 at a point. -/
theorem idx7 : ∀ t : Fin grid0.N, win0_7.index t = ![0, 0] := by decide +kernel
/-- Array 8 at a point. -/
theorem idx8 : ∀ t : Fin grid0.N, win0_8.index t = ![0, 0] := by decide +kernel
/-- Array 9 at a point. -/
theorem idx9 : ∀ t : Fin grid0.N, win0_9.index t = ![0, 0] := by decide +kernel
/-- Array 10 at a point. -/
theorem idx10 : ∀ t : Fin grid0.N, win0_10.index t = ![0, t.val % 16] := by decide +kernel
/-- Array 11 at a point. -/
theorem idx11 : ∀ t : Fin grid0.N, win0_11.index t = ![0, t.val % 16] := by decide +kernel
/-- Array 12 at a point. -/
theorem idx12 : ∀ t : Fin grid0.N, win0_12.index t = ![0, t.val % 16] := by decide +kernel
/-- Array 13 at a point. -/
theorem idx13 : ∀ t : Fin grid0.N, win0_13.index t = ![0, t.val % 16] := by decide +kernel
/-- Array 14 at a point. -/
theorem idx14 : ∀ t : Fin grid0.N, win0_14.index t = ![0, t.val % 16] := by decide +kernel
/-- Array 15 at a point. -/
theorem idx15 : ∀ t : Fin grid0.N, win0_15.index t = ![0, t.val % 16] := by decide +kernel
/-- Array 16 at a point. -/
theorem idx16 : ∀ t : Fin grid0.N, win0_16.index t = ![t.val / 16, 0, 0, t.val % 16] := by decide +kernel
/-- Array 17 at a point. -/
theorem idx17 : ∀ t : Fin grid0.N, win0_17.index t = ![t.val / 16, t.val % 16, 0] := by decide +kernel
/-- Array 18 at a point. -/
theorem idx18 : ∀ t : Fin grid0.N, win0_18.index t = ![t.val / 16, 0, t.val % 16] := by decide +kernel
/-- Array 19 at a point. -/
theorem idx19 : ∀ t : Fin grid0.N, win0_19.index t = ![t.val / 16, 0, 0, t.val % 16] := by decide +kernel
/-- Array 20 at a point. -/
theorem idx20 : ∀ t : Fin grid0.N, win0_20.index t = ![t.val / 16, t.val % 16, 0] := by decide +kernel
/-- Array 21 at a point. -/
theorem idx21 : ∀ t : Fin grid0.N, win0_21.index t = ![t.val / 16, 0, t.val % 16] := by decide +kernel
/-- Array 22 at a point. -/
theorem idx22 : ∀ t : Fin grid0.N, win0_22.index t = ![t.val / 16, 0, 0, t.val % 16] := by decide +kernel
/-- Array 23 at a point. -/
theorem idx23 : ∀ t : Fin grid0.N, win0_23.index t = ![t.val / 16, t.val % 16, 0] := by decide +kernel
/-- Array 24 at a point. -/
theorem idx24 : ∀ t : Fin grid0.N, win0_24.index t = ![t.val / 16, 0, t.val % 16] := by decide +kernel
/-- Array 25 at a point. -/
theorem idx25 : ∀ t : Fin grid0.N, win0_25.index t = ![t.val / 16, t.val % 16, 0] := by decide +kernel

/-- There are 64 points. -/
theorem lt_N (t : Fin grid0.N) : t.val < 64 := lt_of_lt_of_eq t.isLt N_0

variable (m : (ℓ : Loc nD τ sig) → Buf (Elt Ideal) ℓ) (c : Dev nD)
variable (V' : Valuation Cert.PrepRefIdeal.τ Cert.PrepRefIdeal.sig (Elt Ideal))

/-- The blocks a point reads. -/
def b0 (t : Fin cfg0.N) : Vec Ideal S1x512x1024 .f32 := iblk m c 0 t
def b1 (t : Fin cfg0.N) : Vec Ideal S1x1024 .f32 := iblk m c 1 t
def b2 (t : Fin cfg0.N) : Vec Ideal S2976x1024 .bf16 := iblk m c 2 t
def b3 (t : Fin cfg0.N) : Vec Ideal S1024x3072 .bf16 := iblk m c 3 t
def b4 (t : Fin cfg0.N) : Vec Ideal S768x384 .bf16 := iblk m c 4 t
def b5 (t : Fin cfg0.N) : Vec Ideal S1024x256 .bf16 := iblk m c 5 t
def b6 (t : Fin cfg0.N) : Vec Ideal S384x1 .f32 := iblk m c 6 t
def b7 (t : Fin cfg0.N) : Vec Ideal S256x1 .f32 := iblk m c 7 t
def b8 (t : Fin cfg0.N) : Vec Ideal S64x1 .f32 := iblk m c 8 t
def b9 (t : Fin cfg0.N) : Vec Ideal S64x1 .f32 := iblk m c 9 t
def b10 (t : Fin cfg0.N) : Vec Ideal S128x512 .f32 := iblk m c 10 t
def b11 (t : Fin cfg0.N) : Vec Ideal S128x512 .f32 := iblk m c 11 t
def b12 (t : Fin cfg0.N) : Vec Ideal S32x512 .f32 := iblk m c 12 t
def b13 (t : Fin cfg0.N) : Vec Ideal S32x512 .f32 := iblk m c 13 t
def b14 (t : Fin cfg0.N) : Vec Ideal S64x512 .f32 := iblk m c 14 t
def b15 (t : Fin cfg0.N) : Vec Ideal S64x512 .f32 := iblk m c 15 t

/-- Argument 0 at a place of its block. -/
theorem blk0 (a0 : V' (Proc.devRef .tc Cert.PrepRefIdeal.main_arg0) = m ((c : Thread nD τ).loc main_arg0)) (t : Fin cfg0.N) (l : Fin 512) (b : Fin 4) (i : Fin 8192) (hb : b.val = t.val / 16) (hi : i.val = 512 * (t.val % 16) + l.val) (d : Fin 1024) :
    (V' (Proc.devRef .tc Cert.PrepRefIdeal.main_arg0) (ix3 b i d) : EReal) = b0 m c t (ix3 0 l d) := by
  rw [a0]
  have e := idx0 t
  symm
  blk_ext [b0, iblk, V, e]

/-- Argument 1 at a place of its block. -/
theorem blk1 (a1 : V' (Proc.devRef .tc Cert.PrepRefIdeal.main_arg1) = m ((c : Thread nD τ).loc main_arg1)) (t : Fin cfg0.N) (d : Fin 1024) :
    (V' (Proc.devRef .tc Cert.PrepRefIdeal.main_arg1) (ix2 0 d) : EReal) = b1 m c t (ix2 0 d) := by
  rw [a1]
  have e := idx1 t
  symm
  blk_ext [b1, iblk, V, e]

/-- Argument 2 at a place of its block. -/
theorem blk2 (a2 : V' (Proc.devRef .tc Cert.PrepRefIdeal.main_arg2) = m ((c : Thread nD τ).loc main_arg2)) (t : Fin cfg0.N) (d : Fin 2976) (j : Fin 1024) :
    (V' (Proc.devRef .tc Cert.PrepRefIdeal.main_arg2) (ix2 d j) : EReal) = b2 m c t (ix2 d j) := by
  rw [a2]
  have e := idx2 t
  symm
  blk_ext [b2, iblk, V, e]

/-- Argument 3 at a place of its block. -/
theorem blk3 (a3 : V' (Proc.devRef .tc Cert.PrepRefIdeal.main_arg3) = m ((c : Thread nD τ).loc main_arg3)) (t : Fin cfg0.N) (d : Fin 1024) (j : Fin 3072) :
    (V' (Proc.devRef .tc Cert.PrepRefIdeal.main_arg3) (ix2 d j) : EReal) = b3 m c t (ix2 d j) := by
  rw [a3]
  have e := idx3 t
  symm
  blk_ext [b3, iblk, V, e]

/-- Argument 4 at a place of its block. -/
theorem blk4 (a4 : V' (Proc.devRef .tc Cert.PrepRefIdeal.main_arg4) = m ((c : Thread nD τ).loc main_arg4)) (t : Fin cfg0.N) (d : Fin 768) (j : Fin 384) :
    (V' (Proc.devRef .tc Cert.PrepRefIdeal.main_arg4) (ix2 d j) : EReal) = b4 m c t (ix2 d j) := by
  rw [a4]
  have e := idx4 t
  symm
  blk_ext [b4, iblk, V, e]

/-- Argument 5 at a place of its block. -/
theorem blk5 (a5 : V' (Proc.devRef .tc Cert.PrepRefIdeal.main_arg5) = m ((c : Thread nD τ).loc main_arg5)) (t : Fin cfg0.N) (d : Fin 1024) (j : Fin 256) :
    (V' (Proc.devRef .tc Cert.PrepRefIdeal.main_arg5) (ix2 d j) : EReal) = b5 m c t (ix2 d j) := by
  rw [a5]
  have e := idx5 t
  symm
  blk_ext [b5, iblk, V, e]

/-- Argument 6 at a place of its block. -/
theorem blk6 (a6 : V' (Proc.devRef .tc Cert.PrepRefIdeal.main_arg6) = m ((c : Thread nD τ).loc main_arg6)) (t : Fin cfg0.N) (d : Fin 384) :
    (V' (Proc.devRef .tc Cert.PrepRefIdeal.main_arg6) (ix2 d 0) : EReal) = b6 m c t (ix2 d 0) := by
  rw [a6]
  have e := idx6 t
  symm
  blk_ext [b6, iblk, V, e]

/-- Argument 7 at a place of its block. -/
theorem blk7 (a7 : V' (Proc.devRef .tc Cert.PrepRefIdeal.main_arg7) = m ((c : Thread nD τ).loc main_arg7)) (t : Fin cfg0.N) (d : Fin 256) :
    (V' (Proc.devRef .tc Cert.PrepRefIdeal.main_arg7) (ix2 d 0) : EReal) = b7 m c t (ix2 d 0) := by
  rw [a7]
  have e := idx7 t
  symm
  blk_ext [b7, iblk, V, e]

/-- Argument 8 at a place of its block. -/
theorem blk8 (a8 : V' (Proc.devRef .tc Cert.PrepRefIdeal.main_arg8) = m ((c : Thread nD τ).loc main_arg8)) (t : Fin cfg0.N) (d : Fin 64) :
    (V' (Proc.devRef .tc Cert.PrepRefIdeal.main_arg8) (ix2 d 0) : EReal) = col (b8 m c t) 0 d.val := by
  rw [a8]
  have e := idx8 t
  refine Eq.trans ?_ (col_val (b8 m c t) 0 d)
  symm
  blk_ext [b8, iblk, V, e]

/-- Argument 9 at a place of its block. -/
theorem blk9 (a9 : V' (Proc.devRef .tc Cert.PrepRefIdeal.main_arg9) = m ((c : Thread nD τ).loc main_arg9)) (t : Fin cfg0.N) (d : Fin 64) :
    (V' (Proc.devRef .tc Cert.PrepRefIdeal.main_arg9) (ix2 d 0) : EReal) = col (b9 m c t) 0 d.val := by
  rw [a9]
  have e := idx9 t
  refine Eq.trans ?_ (col_val (b9 m c t) 0 d)
  symm
  blk_ext [b9, iblk, V, e]

/-- Argument 10 at a place of its block. -/
theorem blk10 (a10 : V' (Proc.devRef .tc Cert.PrepRefIdeal.main_arg10) = m ((c : Thread nD τ).loc main_arg10)) (t : Fin cfg0.N) (l : Fin 512) (i : Fin 8192) (hi : i.val = 512 * (t.val % 16) + l.val) (d : Fin 128) :
    (V' (Proc.devRef .tc Cert.PrepRefIdeal.main_arg10) (ix2 d i) : EReal) = col (b10 m c t) l d.val := by
  rw [a10]
  have e := idx10 t
  refine Eq.trans ?_ (col_val (b10 m c t) l d)
  symm
  blk_ext [b10, iblk, V, e]

/-- Argument 11 at a place of its block. -/
theorem blk11 (a11 : V' (Proc.devRef .tc Cert.PrepRefIdeal.main_arg11) = m ((c : Thread nD τ).loc main_arg11)) (t : Fin cfg0.N) (l : Fin 512) (i : Fin 8192) (hi : i.val = 512 * (t.val % 16) + l.val) (d : Fin 128) :
    (V' (Proc.devRef .tc Cert.PrepRefIdeal.main_arg11) (ix2 d i) : EReal) = col (b11 m c t) l d.val := by
  rw [a11]
  have e := idx11 t
  refine Eq.trans ?_ (col_val (b11 m c t) l d)
  symm
  blk_ext [b11, iblk, V, e]

/-- Argument 12 at a place of its block. -/
theorem blk12 (a12 : V' (Proc.devRef .tc Cert.PrepRefIdeal.main_arg12) = m ((c : Thread nD τ).loc main_arg12)) (t : Fin cfg0.N) (l : Fin 512) (i : Fin 8192) (hi : i.val = 512 * (t.val % 16) + l.val) (d : Fin 32) :
    (V' (Proc.devRef .tc Cert.PrepRefIdeal.main_arg12) (ix2 d i) : EReal) = col (b12 m c t) l d.val := by
  rw [a12]
  have e := idx12 t
  refine Eq.trans ?_ (col_val (b12 m c t) l d)
  symm
  blk_ext [b12, iblk, V, e]

/-- Argument 13 at a place of its block. -/
theorem blk13 (a13 : V' (Proc.devRef .tc Cert.PrepRefIdeal.main_arg13) = m ((c : Thread nD τ).loc main_arg13)) (t : Fin cfg0.N) (l : Fin 512) (i : Fin 8192) (hi : i.val = 512 * (t.val % 16) + l.val) (d : Fin 32) :
    (V' (Proc.devRef .tc Cert.PrepRefIdeal.main_arg13) (ix2 d i) : EReal) = col (b13 m c t) l d.val := by
  rw [a13]
  have e := idx13 t
  refine Eq.trans ?_ (col_val (b13 m c t) l d)
  symm
  blk_ext [b13, iblk, V, e]

/-- Argument 14 at a place of its block. -/
theorem blk14 (a14 : V' (Proc.devRef .tc Cert.PrepRefIdeal.main_arg14) = m ((c : Thread nD τ).loc main_arg14)) (t : Fin cfg0.N) (l : Fin 512) (i : Fin 8192) (hi : i.val = 512 * (t.val % 16) + l.val) (d : Fin 64) :
    (V' (Proc.devRef .tc Cert.PrepRefIdeal.main_arg14) (ix2 d i) : EReal) = col (b14 m c t) l d.val := by
  rw [a14]
  have e := idx14 t
  refine Eq.trans ?_ (col_val (b14 m c t) l d)
  symm
  blk_ext [b14, iblk, V, e]

/-- Argument 15 at a place of its block. -/
theorem blk15 (a15 : V' (Proc.devRef .tc Cert.PrepRefIdeal.main_arg15) = m ((c : Thread nD τ).loc main_arg15)) (t : Fin cfg0.N) (l : Fin 512) (i : Fin 8192) (hi : i.val = 512 * (t.val % 16) + l.val) (d : Fin 64) :
    (V' (Proc.devRef .tc Cert.PrepRefIdeal.main_arg15) (ix2 d i) : EReal) = col (b15 m c t) l d.val := by
  rw [a15]
  have e := idx15 t
  refine Eq.trans ?_ (col_val (b15 m c t) l d)
  symm
  blk_ext [b15, iblk, V, e]

/-- A token's features, -/
theorem zeq (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2)) (t : Fin cfg0.N) (l : Fin 512) (b : Fin 4) (i : Fin 8192) (hb : b.val = t.val / 16) (hi : i.val = 512 * (t.val % 16) + l.val) (f : Fin 2976) :
    (Cert.PrepRefIdeal.Value.res_main_v16 V' (ix3 b i f) : EReal) = tz (b0 m c t) (b1 m c t) (b2 m c t) l f.val := by
  refine (Cert.PrepHost.z_apply V' b i f).trans ?_
  simp only [blk0 m c V' a0 t l b i hb hi, blk1 m c V' a1 t, blk2 m c V' a2 t, tz]
  try rfl

/-- its query of the latent branch, -/
theorem qeq (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2))
    (a4 : V' (Proc.devRef .tc Cert.PrepRefIdeal.main_arg4) = m ((c : Thread nD τ).loc main_arg4))
    (a6 : V' (Proc.devRef .tc Cert.PrepRefIdeal.main_arg6) = m ((c : Thread nD τ).loc main_arg6)) (t : Fin cfg0.N) (l : Fin 512) (b : Fin 4) (i : Fin 8192) (hb : b.val = t.val / 16) (hi : i.val = 512 * (t.val % 16) + l.val) (f : Fin 768) :
    (Cert.PrepRefIdeal.Value.res_main_v42 V' (ix3 b i f) : EReal) = tq (tz (b0 m c t) (b1 m c t) (b2 m c t) l) (b6 m c t) (b4 m c t) f.val := by
  refine (Cert.PrepHost.q_apply V' b i _ (zeq m c V' a0 a1 a2 t l b i hb hi) f).trans ?_
  simp only [blk6 m c V' a6 t, blk4 m c V' a4 t, tq]
  try rfl

/-- its key and value, -/
theorem kveq (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2))
    (a5 : V' (Proc.devRef .tc Cert.PrepRefIdeal.main_arg5) = m ((c : Thread nD τ).loc main_arg5))
    (a7 : V' (Proc.devRef .tc Cert.PrepRefIdeal.main_arg7) = m ((c : Thread nD τ).loc main_arg7)) (t : Fin cfg0.N) (l : Fin 512) (b : Fin 4) (i : Fin 8192) (hb : b.val = t.val / 16) (hi : i.val = 512 * (t.val % 16) + l.val) (f : Fin 1024) :
    (Cert.PrepRefIdeal.Value.res_main_v91 V' (ix3 b i f) : EReal) = tkv (tz (b0 m c t) (b1 m c t) (b2 m c t) l) (b7 m c t) (b5 m c t) f.val := by
  refine (Cert.PrepHost.kv_apply V' b i _ (zeq m c V' a0 a1 a2 t l b i hb hi) f).trans ?_
  simp only [blk7 m c V' a7 t, blk5 m c V' a5 t, tkv]
  try rfl

/-- and its gates. -/
theorem geq (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a3 : V' (Proc.devRef .tc Cert.PrepRefIdeal.main_arg3) = m ((c : Thread nD τ).loc main_arg3)) (t : Fin cfg0.N) (l : Fin 512) (b : Fin 4) (i : Fin 8192) (hb : b.val = t.val / 16) (hi : i.val = 512 * (t.val % 16) + l.val) (j : Fin 3072) :
    (Cert.PrepHost.r314 V' (ix3 b i j) : EReal) = gate W (fun d : Fin 1024 => (b0 m c t (ix3 0 l d) : EReal)) (fun d => b1 m c t (ix2 0 d)) (fun d => b3 m c t (ix2 d j)) := by
  refine (Cert.PrepHost.gate_apply V' b i j).trans ?_
  simp only [blk0 m c V' a0 t l b i hb hi, blk1 m c V' a1 t, blk3 m c V' a3 t]
  try rfl

end Call
end Cert.PrepTie
-- ==== Proof.PrepLay.lean ====
/- Rows of heads read at a place. -/
module

public import proofs.«01_k».proof.Proof.Gen.PrepRefIdeal.Run
public import Idealize.ShloMosaic.Lib.Pointwise
public import Idealize.ShloMosaic.Lib.ValueIdxRank6

@[expose] public section

set_option maxRecDepth 16384

namespace Cert.PrepHost
open Idealize.ShloMosaic Idealize.ShloMosaic.TcCoe Cert.PrepRefIdeal Cert.PrepRefIdeal.Gen

/-- Eight heads of 128 features in a row, at their place; -/
theorem row128 {α : Type} (X : S4x8192x8x128.Idx → α) (hh : S4x8192x8x128.ShapeCasts S4x8192x1024) (b : Fin 4) (i : Fin 8192) (d : Fin 1024) :
    shapeCast S4x8192x1024 X hh (ix3 b i d) = X (ix4 b i ⟨d.val / 128, by omega⟩ ⟨d.val % 128, by omega⟩) := by
  refine Idealize.ShloMosaic.shapeCast_apply X hh _ _ ?_
  refine (Shape.rowMajor_val_four _).trans (Eq.trans ?_ (Shape.rowMajor_val_three _).symm)
  change ((b.val * 8192 + i.val) * 8 + d.val / 128) * 128 + d.val % 128 = (b.val * 8192 + i.val) * 1024 + d.val
  generalize b.val * 8192 + i.val = r
  omega

/-- eight heads of 64; -/
theorem row64 {α : Type} (X : S4x8192x8x64.Idx → α) (hh : S4x8192x8x64.ShapeCasts S4x8192x512) (b : Fin 4) (i : Fin 8192) (d : Fin 512) :
    shapeCast S4x8192x512 X hh (ix3 b i d) = X (ix4 b i ⟨d.val / 64, by omega⟩ ⟨d.val % 64, by omega⟩) := by
  refine Idealize.ShloMosaic.shapeCast_apply X hh _ _ ?_
  refine (Shape.rowMajor_val_four _).trans (Eq.trans ?_ (Shape.rowMajor_val_three _).symm)
  change ((b.val * 8192 + i.val) * 8 + d.val / 64) * 64 + d.val % 64 = (b.val * 8192 + i.val) * 512 + d.val
  generalize b.val * 8192 + i.val = r
  omega

/-- two heads of 64. -/
theorem row2 {α : Type} (X : S4x8192x2x64.Idx → α) (hh : S4x8192x2x64.ShapeCasts S4x8192x128) (b : Fin 4) (i : Fin 8192) (d : Fin 128) :
    shapeCast S4x8192x128 X hh (ix3 b i d) = X (ix4 b i ⟨d.val / 64, by omega⟩ ⟨d.val % 64, by omega⟩) := by
  refine Idealize.ShloMosaic.shapeCast_apply X hh _ _ ?_
  refine (Shape.rowMajor_val_four _).trans (Eq.trans ?_ (Shape.rowMajor_val_three _).symm)
  change ((b.val * 8192 + i.val) * 2 + d.val / 64) * 64 + d.val % 64 = (b.val * 8192 + i.val) * 128 + d.val
  generalize b.val * 8192 + i.val = r
  omega

/-- Heads of two maps by their pair, their place in it and their map. -/
theorem rowMaps {α : Type} (X : S4x8192x4x2x2x128.Idx → α) (hh : S4x8192x4x2x2x128.ShapeCasts S4x8192x16x128) (b : Fin 4) (i : Fin 8192) (h : Fin 16) (d : Fin 128) :
    shapeCast S4x8192x16x128 X hh (ix4 b i h d)
      = X (ix6 b i ⟨h.val / 4, by omega⟩ ⟨h.val / 2 % 2, by omega⟩ ⟨h.val % 2, by omega⟩ d) := by
  refine Idealize.ShloMosaic.shapeCast_apply X hh _ _ ?_
  refine (Shape.rowMajor_val_six _).trans (Eq.trans ?_ (Shape.rowMajor_val_four _).symm)
  change ((((b.val * 8192 + i.val) * 4 + h.val / 4) * 2 + h.val / 2 % 2) * 2 + h.val % 2) * 128 + d.val = ((b.val * 8192 + i.val) * 16 + h.val) * 128 + d.val
  generalize b.val * 8192 + i.val = r
  omega

end Cert.PrepHost
-- ==== Proof.PrepTop.lean ====
/- The start of the mixer's reference: its results at their places. -/
module

public import proofs.«01_k».proof.Proof.PrepRef
public import proofs.«01_k».proof.Proof.PrepLay
@[expose] public section
set_option maxRecDepth 16384
noncomputable section
namespace Cert.PrepHost
open Idealize.ShloMosaic Idealize.ShloMosaic.TcCoe Idealize.SL.Sem Cert.PrepRefIdeal Cert.PrepRefIdeal.Gen Cert.PrepRefIdeal.Value Cert.PrepRow

/-- A row of eight heads of 128 features in half precision, at its place; -/
theorem half128 (X : FVec Ideal S4x8192x8x128 .f32) (b : Fin 4) (i : Fin 8192) (d : Fin 1024) :
    (truncf .bf16 (shapeCast S4x8192x1024 X shapeCasts_S4x8192x8x128_S4x8192x1024) bitsLt_bf16_f32 (ix3 b i d) : EReal) = X (ix4 b i ⟨d.val / 128, by omega⟩ ⟨d.val % 128, by omega⟩) :=
  row128 X shapeCasts_S4x8192x8x128_S4x8192x1024 b i d

/-- eight heads of 64; -/
theorem half64 (X : FVec Ideal S4x8192x8x64 .f32) (b : Fin 4) (i : Fin 8192) (d : Fin 512) :
    (truncf .bf16 (shapeCast S4x8192x512 X shapeCasts_S4x8192x8x64_S4x8192x512) bitsLt_bf16_f32 (ix3 b i d) : EReal) = X (ix4 b i ⟨d.val / 64, by omega⟩ ⟨d.val % 64, by omega⟩) :=
  row64 X shapeCasts_S4x8192x8x64_S4x8192x512 b i d

/-- two heads of 64. -/
theorem half2 (X : FVec Ideal S4x8192x2x64 .f32) (b : Fin 4) (i : Fin 8192) (d : Fin 128) :
    (truncf .bf16 (shapeCast S4x8192x128 X shapeCasts_S4x8192x2x64_S4x8192x128) bitsLt_bf16_f32 (ix3 b i d) : EReal) = X (ix4 b i ⟨d.val / 64, by omega⟩ ⟨d.val % 64, by omega⟩) :=
  row2 X shapeCasts_S4x8192x2x64_S4x8192x128 b i d

/-- The first heads' maps before zeros, and the second's after, at a place. -/
theorem cat (X : FVec Ideal S4x8192x4x2x2x64 .f32) (b : Fin 4) (i : Fin 8192) (k : Fin 4) (a m : Fin 2) (d : Fin 128) :
    ((concatenate S4x8192x4x2x2x128 3 [⟨S4x8192x4x1x2x128, (concatenate S4x8192x4x1x2x128 5 [⟨S4x8192x4x1x2x64, (extractStridedSlice S4x8192x4x1x2x64 ![0, 0, 0, 0, 0, 0] X slices_S4x8192x4x2x2x64_S4x8192x4x1x2x64_0_0_0_0_0_0)⟩, ⟨S4x8192x4x1x2x64, (broadcastInDim S4x8192x4x1x2x64 ![] bcast_S_S4x8192x4x1x2x64 (constant S_ .f32 0x00000000#32))⟩] concatenates_S4x8192x4x1x2x64_S4x8192x4x1x2x64_S4x8192x4x1x2x128_d5)⟩, ⟨S4x8192x4x1x2x128, (concatenate S4x8192x4x1x2x128 5 [⟨S4x8192x4x1x2x64, (broadcastInDim S4x8192x4x1x2x64 ![] bcast_S_S4x8192x4x1x2x64 (constant S_ .f32 0x00000000#32))⟩, ⟨S4x8192x4x1x2x64, (extractStridedSlice S4x8192x4x1x2x64 ![0, 0, 0, 1, 0, 0] X slices_S4x8192x4x2x2x64_S4x8192x4x1x2x64_0_0_0_1_0_0)⟩] concatenates_S4x8192x4x1x2x64_S4x8192x4x1x2x64_S4x8192x4x1x2x128_d5)⟩] concatenates_S4x8192x4x1x2x128_S4x8192x4x1x2x128_S4x8192x4x2x2x128_d3) (ix6 b i k a m d) : EReal)
      = if h : a.val < 1 then if h1 : d.val < 64 then (X (ix6 b i k a m ⟨d.val, h1⟩) : EReal) else 0
        else if h1 : d.val < 64 then 0 else X (ix6 b i k ⟨1 + (a.val - 1), by omega⟩ m ⟨d.val - 64, by omega⟩) := by
  pointwise

/-- Features behind tokens, in half precision, at a place. -/
theorem behind (X : FVec Ideal S4x8192x16x128 .f32) (b : Fin 4) (i : Fin 8192) (h : Fin 16) (d : Fin 128) :
    (truncf .bf16 (transpose S4x16x128x8192 [0, 2, 3, 1] X transposes_S4x8192x16x128_S4x16x128x8192_0_2_3_1) bitsLt_bf16_f32 (ix4 b h d i) : EReal) = X (ix4 b i h d) := by
  pointwise

section Rows
variable (V : Valuation τ sig (Elt Ideal)) (b : Fin 4) (i : Fin 8192)
variable (z : ℕ → EReal) (hz : ∀ f, (res_main_v16 V (ix3 b i f) : EReal) = z f.val)
include hz

/-- The latent branch's key. -/
theorem km_apply (n c s : ℕ → EReal) (hn : ∀ f, (res_main_v91 V (ix3 b i f) : EReal) = n f.val)
    (hc : ∀ f, (V (Proc.devRef .tc main_arg10) (ix2 f i) : EReal) = c f.val) (hs : ∀ f, (V (Proc.devRef .tc main_arg11) (ix2 f i) : EReal) = s f.val)
    (d : Fin 1024) : (r306 V (ix3 b i d) : EReal) = km n z c s (d.val / 128) (d.val % 128) :=
  by
  delta r306 s306
  exact (half128 (u306 V) b i d).trans (u306_apply V b i z hz n c s hn hc hs ⟨d.val / 128, by omega⟩ ⟨d.val % 128, by omega⟩)

/-- The grouped branch's key. -/
theorem kg_apply (g c s : ℕ → EReal) (hg : ∀ f, (V (Proc.devRef .tc main_arg9) (ix2 f 0) : EReal) = g f.val)
    (hc : ∀ f, (V (Proc.devRef .tc main_arg12) (ix2 f i) : EReal) = c f.val) (hs : ∀ f, (V (Proc.devRef .tc main_arg13) (ix2 f i) : EReal) = s f.val)
    (d : Fin 128) : (r309 V (ix3 b i d) : EReal) = kg (fun k => z (1184 + k)) g c s d.val := by
  delta r309 s309
  refine (half2 (u309 V) b i d).trans ((u309_apply V b i z hz g c s hg hc hs ⟨d.val / 64, by omega⟩ ⟨d.val % 64, by omega⟩).trans ?_)
  have hd := d.isLt
  show (if d.val % 64 < 32 then turn1 _ g c s (d.val / 64 * 64) (d.val % 64) else turn2 _ g c s (d.val / 64 * 64) (d.val % 64 - 32)) = _
  rcases (by omega : d.val < 64 ∨ 64 ≤ d.val) with e | e
  · rw [show d.val / 64 = 0 by omega, show d.val % 64 = d.val by omega]
    simp only [kg, Nat.zero_mul]
    split_ifs <;> first | rfl | (exfalso; omega)
  · rw [show d.val / 64 = 1 by omega, show d.val % 64 = d.val - 32 - 32 by omega]
    simp only [kg, Nat.one_mul]
    split_ifs <;> first | rfl | (exfalso; omega)

/-- The differential branch's key. -/
theorem kd_apply (c s : ℕ → EReal)
    (hc : ∀ f, (V (Proc.devRef .tc main_arg14) (ix2 f i) : EReal) = c f.val) (hs : ∀ f, (V (Proc.devRef .tc main_arg15) (ix2 f i) : EReal) = s f.val)
    (d : Fin 512) : (r312 V (ix3 b i d) : EReal) = kd (fun k => z (1952 + k)) c s (d.val / 128) (d.val % 128) := by
  delta r312 s312
  refine (half64 (u312 V) b i d).trans ((u312_apply V b i z hz c s hc hs ⟨d.val / 64, by omega⟩ ⟨d.val % 64, by omega⟩).trans ?_)
  show part _ c s (d.val / 64 * 8) (d.val / 64 * 48) (d.val % 64) = _
  unfold kd
  by_cases e : d.val % 128 < 64
  · rw [if_pos e, show d.val / 64 = d.val / 128 * 2 by omega, show d.val % 64 = d.val % 128 by omega]
  · rw [if_neg e, show d.val / 64 = d.val / 128 * 2 + 1 by omega, show d.val % 64 = d.val % 128 - 64 by omega]

/-- A head of two maps in the differential branch's query. -/
theorem u311_apply (c s : ℕ → EReal)
    (hc : ∀ f, (V (Proc.devRef .tc main_arg14) (ix2 f i) : EReal) = c f.val) (hs : ∀ f, (V (Proc.devRef .tc main_arg15) (ix2 f i) : EReal) = s f.val)
    (k : Fin 4) (a m : Fin 2) (d : Fin 128) : (u311 V (ix6 b i k a m d) : EReal) = qd (fun k => z (1440 + k)) c s (k.val * 4 + a.val * 2 + m.val) d.val := by
  delta u311
  refine (cat (res_main_v263 V) b i k a m d).trans ?_
  simp only [v263_apply V b i z hz c s hc hs]
  have hm := m.isLt
  have h1 : (k.val * 4 + a.val * 2 + m.val) / 2 = k.val * 2 + a.val := by omega
  simp only [qd, h1, before, after]
  rcases (by omega : a.val = 0 ∨ a.val = 1) with e | e
  · simp only [e]
    split_ifs <;> first | rfl | (exfalso; omega)
  · simp only [e]
    split_ifs <;> first | rfl | (exfalso; omega)

/-- The differential branch's query. -/
theorem qd_apply (c s : ℕ → EReal)
    (hc : ∀ f, (V (Proc.devRef .tc main_arg14) (ix2 f i) : EReal) = c f.val) (hs : ∀ f, (V (Proc.devRef .tc main_arg15) (ix2 f i) : EReal) = s f.val)
    (h : Fin 16) (d : Fin 128) : (r311 V (ix4 b h d i) : EReal) = qd (fun k => z (1440 + k)) c s h.val d.val := by
  have e : (s311 V (ix4 b i h d) : EReal) = qd (fun k => z (1440 + k)) c s h.val d.val := by
    delta s311
    refine (rowMaps (u311 V) shapeCasts_S4x8192x4x2x2x128_S4x8192x16x128 b i h d).trans ((u311_apply V b i z hz c s hc hs ⟨h.val / 4, by omega⟩ ⟨h.val / 2 % 2, by omega⟩ ⟨h.val % 2, by omega⟩ d).trans ?_)
    exact congrArg (fun n => qd (fun k => z (1440 + k)) c s n d.val) (show h.val / 4 * 4 + h.val / 2 % 2 * 2 + h.val % 2 = h.val by omega)
  delta r311
  exact (behind (s311 V) b i h d).trans e

end Rows
end Cert.PrepHost
-- ==== Proof.PrepRun.lean ====
/- The start of the mixer's reference: its run. -/
module

public import proofs.«01_k».proof.Proof.PrepRef
public import proofs.«01_k».proof.Proof.PrepLay
@[expose] public section
set_option maxRecDepth 16384
noncomputable section
namespace Cert.PrepHost
open Idealize.ShloMosaic Idealize.ShloMosaic.TcCoe Idealize.SL.Sem Cert.PrepRefIdeal Cert.PrepRefIdeal.Gen Cert.PrepRefIdeal.Value Cert.PrepRow Idealize.ShloMosaic.StableHlo

/-- The reference's run, its results named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v305) = r305 (launchContents m c)
      ∧ r.2.mem ((c.tc : Thread nD τ).loc main_v306) = r306 (launchContents m c)
      ∧ r.2.mem ((c.tc : Thread nD τ).loc main_v307) = r307 (launchContents m c)
      ∧ r.2.mem ((c.tc : Thread nD τ).loc main_v308) = r308 (launchContents m c)
      ∧ r.2.mem ((c.tc : Thread nD τ).loc main_v309) = r309 (launchContents m c)
      ∧ r.2.mem ((c.tc : Thread nD τ).loc main_v310) = r310 (launchContents m c)
      ∧ r.2.mem ((c.tc : Thread nD τ).loc main_v311) = r311 (launchContents m c)
      ∧ r.2.mem ((c.tc : Thread nD τ).loc main_v312) = r312 (launchContents m c)
      ∧ r.2.mem ((c.tc : Thread nD τ).loc main_v313) = r313 (launchContents m c)
      ∧ r.2.mem ((c.tc : Thread nD τ).loc main_v314) = r314 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  by
  delta r305 r306 r307 r308 r309 r310 r311 r312 r313 r314 s306 s309 s311 s312 u306 u309 u311 u312
  exact Cert.PrepRefIdeal.Value.run m ρ

end Cert.PrepHost
-- ==== Proof.PrepValue.lean ====
/- The start of the mixer: the ten arrays a run leaves are the reference's. -/
module

public import proofs.«01_k».proof.Defs
public import proofs.«01_k».proof.Proof.PrepBlk
public import proofs.«01_k».proof.Proof.PrepTop
public import proofs.«01_k».proof.Proof.PrepRun
public import proofs.«01_k».proof.Proof.Gen.PrepIdeal.Value
public import Idealize.ShloMosaic.Lib.Quiescent

@[expose] public section

set_option maxRecDepth 16384

noncomputable section

namespace Cert.PrepTie
open Idealize.ShloMosaic Idealize.ShloMosaic.TcCoe Idealize.SL.Sem

section Call
open Cert.PrepIdeal Cert.PrepIdeal.Gen Cert.PrepTile Cert.PrepRow

variable (m : (ℓ : Loc nD τ sig) → Buf (Elt Ideal) ℓ) (c : Dev nD)
variable (V' : Valuation Cert.PrepRefIdeal.τ Cert.PrepRefIdeal.sig (Elt Ideal))

/-- The latent branch's queries after the run are the reference's. -/
theorem final16 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2))
    (a4 : V' (Proc.devRef .tc Cert.PrepRefIdeal.main_arg4) = m ((c : Thread nD τ).loc main_arg4))
    (a6 : V' (Proc.devRef .tc Cert.PrepRefIdeal.main_arg6) = m ((c : Thread nD τ).loc main_arg6))
    (a10 : V' (Proc.devRef .tc Cert.PrepRefIdeal.main_arg10) = m ((c : Thread nD τ).loc main_arg10))
    (a11 : V' (Proc.devRef .tc Cert.PrepRefIdeal.main_arg11) = m ((c : Thread nD τ).loc main_arg11)) :
    (dats m 0 c).arrAt 16 cfg0.N = Cert.PrepHost.r305 V' := by
  refine (dats m 0 c).arrAt_eq_of_covers 16 _ (by decide +kernel) fun t hf y => ?_
  blk_simp
  rw [after0_16]
  have ht := lt_N t
  have hb : t.val / 16 < 4 := by omega
  have hi : ∀ l : Fin 512, 512 * (t.val % 16) + l.val < 8192 := fun l => by have := l.isLt; omega
  obtain ⟨h, d, l, rfl⟩ : ∃ (h : Fin 8) (d : Fin 128) (l : Fin 512), y = ix4 0 h d l := ⟨y 1, y 2, y 3, by funext a; fin_cases a <;> first | rfl | exact Subsingleton.elim (α := Fin 1) _ _⟩
  refine (o16 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (ix4 0 h d l)).trans ((Cert.PrepHost.qm_apply V' ⟨t.val / 16, hb⟩ ⟨512 * (t.val % 16) + l.val, hi l⟩ _ (zeq m c V' a0 a1 a2 t l ⟨t.val / 16, hb⟩ ⟨512 * (t.val % 16) + l.val, hi l⟩ rfl rfl) _ _ _ (qeq m c V' a0 a1 a2 a4 a6 t l ⟨t.val / 16, hb⟩ ⟨512 * (t.val % 16) + l.val, hi l⟩ rfl rfl) (blk10 m c V' a10 t l _ rfl) (blk11 m c V' a11 t l _ rfl) h d).symm.trans (congrArg _ ?_))
  have e := idx16 t
  blk_ext [e]

/-- its keys after the run are the reference's, -/
theorem final17 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2))
    (a5 : V' (Proc.devRef .tc Cert.PrepRefIdeal.main_arg5) = m ((c : Thread nD τ).loc main_arg5))
    (a7 : V' (Proc.devRef .tc Cert.PrepRefIdeal.main_arg7) = m ((c : Thread nD τ).loc main_arg7))
    (a10 : V' (Proc.devRef .tc Cert.PrepRefIdeal.main_arg10) = m ((c : Thread nD τ).loc main_arg10))
    (a11 : V' (Proc.devRef .tc Cert.PrepRefIdeal.main_arg11) = m ((c : Thread nD τ).loc main_arg11)) :
    (dats m 0 c).arrAt 17 cfg0.N = Cert.PrepHost.r306 V' := by
  refine (dats m 0 c).arrAt_eq_of_covers 17 _ (by decide +kernel) fun t hf y => ?_
  blk_simp
  rw [after0_17]
  have ht := lt_N t
  have hb : t.val / 16 < 4 := by omega
  have hi : ∀ l : Fin 512, 512 * (t.val % 16) + l.val < 8192 := fun l => by have := l.isLt; omega
  obtain ⟨l, d, rfl⟩ : ∃ (l : Fin 512) (d : Fin 1024), y = ix3 0 l d := ⟨y 1, y 2, by funext a; fin_cases a <;> first | rfl | exact Subsingleton.elim (α := Fin 1) _ _⟩
  refine (o17 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (ix3 0 l d)).trans ((Cert.PrepHost.km_apply V' ⟨t.val / 16, hb⟩ ⟨512 * (t.val % 16) + l.val, hi l⟩ _ (zeq m c V' a0 a1 a2 t l ⟨t.val / 16, hb⟩ ⟨512 * (t.val % 16) + l.val, hi l⟩ rfl rfl) _ _ _ (kveq m c V' a0 a1 a2 a5 a7 t l ⟨t.val / 16, hb⟩ ⟨512 * (t.val % 16) + l.val, hi l⟩ rfl rfl) (blk10 m c V' a10 t l _ rfl) (blk11 m c V' a11 t l _ rfl) d).symm.trans (congrArg _ ?_))
  have e := idx17 t
  blk_ext [e]

/-- its values after the run are the reference's, -/
theorem final18 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2))
    (a5 : V' (Proc.devRef .tc Cert.PrepRefIdeal.main_arg5) = m ((c : Thread nD τ).loc main_arg5))
    (a7 : V' (Proc.devRef .tc Cert.PrepRefIdeal.main_arg7) = m ((c : Thread nD τ).loc main_arg7)) :
    (dats m 0 c).arrAt 18 cfg0.N = Cert.PrepHost.r307 V' := by
  refine (dats m 0 c).arrAt_eq_of_covers 18 _ (by decide +kernel) fun t hf y => ?_
  blk_simp
  rw [after0_18]
  have ht := lt_N t
  have hb : t.val / 16 < 4 := by omega
  have hi : ∀ l : Fin 512, 512 * (t.val % 16) + l.val < 8192 := fun l => by have := l.isLt; omega
  obtain ⟨d, l, rfl⟩ : ∃ (d : Fin 512) (l : Fin 512), y = ix3 0 d l := ⟨y 1, y 2, by funext a; fin_cases a <;> first | rfl | exact Subsingleton.elim (α := Fin 1) _ _⟩
  refine (o18 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) d l).trans ((Cert.PrepHost.vm_apply V' ⟨t.val / 16, hb⟩ ⟨512 * (t.val % 16) + l.val, hi l⟩ _ (zeq m c V' a0 a1 a2 t l ⟨t.val / 16, hb⟩ ⟨512 * (t.val % 16) + l.val, hi l⟩ rfl rfl) _ (kveq m c V' a0 a1 a2 a5 a7 t l ⟨t.val / 16, hb⟩ ⟨512 * (t.val % 16) + l.val, hi l⟩ rfl rfl) d).symm.trans (congrArg _ ?_))
  have e := idx18 t
  blk_ext [e]

/-- the grouped branch's queries after the run are the reference's, -/
theorem final19 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2))
    (a8 : V' (Proc.devRef .tc Cert.PrepRefIdeal.main_arg8) = m ((c : Thread nD τ).loc main_arg8))
    (a12 : V' (Proc.devRef .tc Cert.PrepRefIdeal.main_arg12) = m ((c : Thread nD τ).loc main_arg12))
    (a13 : V' (Proc.devRef .tc Cert.PrepRefIdeal.main_arg13) = m ((c : Thread nD τ).loc main_arg13)) :
    (dats m 0 c).arrAt 19 cfg0.N = Cert.PrepHost.r308 V' := by
  refine (dats m 0 c).arrAt_eq_of_covers 19 _ (by decide +kernel) fun t hf y => ?_
  blk_simp
  rw [after0_19]
  have ht := lt_N t
  have hb : t.val / 16 < 4 := by omega
  have hi : ∀ l : Fin 512, 512 * (t.val % 16) + l.val < 8192 := fun l => by have := l.isLt; omega
  obtain ⟨h, d, l, rfl⟩ : ∃ (h : Fin 8) (d : Fin 128) (l : Fin 512), y = ix4 0 h d l := ⟨y 1, y 2, y 3, by funext a; fin_cases a <;> first | rfl | exact Subsingleton.elim (α := Fin 1) _ _⟩
  refine (o19 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (ix4 0 h d l)).trans ((Cert.PrepHost.qg_apply V' ⟨t.val / 16, hb⟩ ⟨512 * (t.val % 16) + l.val, hi l⟩ _ (zeq m c V' a0 a1 a2 t l ⟨t.val / 16, hb⟩ ⟨512 * (t.val % 16) + l.val, hi l⟩ rfl rfl) _ _ _ (blk8 m c V' a8 t) (blk12 m c V' a12 t l _ rfl) (blk13 m c V' a13 t l _ rfl) h d).symm.trans (congrArg _ ?_))
  have e := idx19 t
  blk_ext [e]

/-- its keys after the run are the reference's, -/
theorem final20 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2))
    (a9 : V' (Proc.devRef .tc Cert.PrepRefIdeal.main_arg9) = m ((c : Thread nD τ).loc main_arg9))
    (a12 : V' (Proc.devRef .tc Cert.PrepRefIdeal.main_arg12) = m ((c : Thread nD τ).loc main_arg12))
    (a13 : V' (Proc.devRef .tc Cert.PrepRefIdeal.main_arg13) = m ((c : Thread nD τ).loc main_arg13)) :
    (dats m 0 c).arrAt 20 cfg0.N = Cert.PrepHost.r309 V' := by
  refine (dats m 0 c).arrAt_eq_of_covers 20 _ (by decide +kernel) fun t hf y => ?_
  blk_simp
  rw [after0_20]
  have ht := lt_N t
  have hb : t.val / 16 < 4 := by omega
  have hi : ∀ l : Fin 512, 512 * (t.val % 16) + l.val < 8192 := fun l => by have := l.isLt; omega
  obtain ⟨l, d, rfl⟩ : ∃ (l : Fin 512) (d : Fin 128), y = ix3 0 l d := ⟨y 1, y 2, by funext a; fin_cases a <;> first | rfl | exact Subsingleton.elim (α := Fin 1) _ _⟩
  refine (o20 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) l d).trans ((Cert.PrepHost.kg_apply V' ⟨t.val / 16, hb⟩ ⟨512 * (t.val % 16) + l.val, hi l⟩ _ (zeq m c V' a0 a1 a2 t l ⟨t.val / 16, hb⟩ ⟨512 * (t.val % 16) + l.val, hi l⟩ rfl rfl) _ _ _ (blk9 m c V' a9 t) (blk12 m c V' a12 t l _ rfl) (blk13 m c V' a13 t l _ rfl) d).symm.trans (congrArg _ ?_))
  have e := idx20 t
  blk_ext [e]

/-- its values after the run are the reference's, -/
theorem final21 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2)) :
    (dats m 0 c).arrAt 21 cfg0.N = Cert.PrepHost.r310 V' := by
  refine (dats m 0 c).arrAt_eq_of_covers 21 _ (by decide +kernel) fun t hf y => ?_
  blk_simp
  rw [after0_21]
  have ht := lt_N t
  have hb : t.val / 16 < 4 := by omega
  have hi : ∀ l : Fin 512, 512 * (t.val % 16) + l.val < 8192 := fun l => by have := l.isLt; omega
  obtain ⟨d, l, rfl⟩ : ∃ (d : Fin 128) (l : Fin 512), y = ix3 0 d l := ⟨y 1, y 2, by funext a; fin_cases a <;> first | rfl | exact Subsingleton.elim (α := Fin 1) _ _⟩
  refine (o21 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) d l).trans ((Cert.PrepHost.vg_apply V' ⟨t.val / 16, hb⟩ ⟨512 * (t.val % 16) + l.val, hi l⟩ _ (zeq m c V' a0 a1 a2 t l ⟨t.val / 16, hb⟩ ⟨512 * (t.val % 16) + l.val, hi l⟩ rfl rfl) d).symm.trans (congrArg _ ?_))
  have e := idx21 t
  blk_ext [e]

/-- the differential branch's queries after the run are the reference's, -/
theorem final22 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2))
    (a14 : V' (Proc.devRef .tc Cert.PrepRefIdeal.main_arg14) = m ((c : Thread nD τ).loc main_arg14))
    (a15 : V' (Proc.devRef .tc Cert.PrepRefIdeal.main_arg15) = m ((c : Thread nD τ).loc main_arg15)) :
    (dats m 0 c).arrAt 22 cfg0.N = Cert.PrepHost.r311 V' := by
  refine (dats m 0 c).arrAt_eq_of_covers 22 _ (by decide +kernel) fun t hf y => ?_
  blk_simp
  rw [after0_22]
  have ht := lt_N t
  have hb : t.val / 16 < 4 := by omega
  have hi : ∀ l : Fin 512, 512 * (t.val % 16) + l.val < 8192 := fun l => by have := l.isLt; omega
  obtain ⟨h, d, l, rfl⟩ : ∃ (h : Fin 16) (d : Fin 128) (l : Fin 512), y = ix4 0 h d l := ⟨y 1, y 2, y 3, by funext a; fin_cases a <;> first | rfl | exact Subsingleton.elim (α := Fin 1) _ _⟩
  refine (o22 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (ix4 0 h d l)).trans ((Cert.PrepHost.qd_apply V' ⟨t.val / 16, hb⟩ ⟨512 * (t.val % 16) + l.val, hi l⟩ _ (zeq m c V' a0 a1 a2 t l ⟨t.val / 16, hb⟩ ⟨512 * (t.val % 16) + l.val, hi l⟩ rfl rfl) _ _ (blk14 m c V' a14 t l _ rfl) (blk15 m c V' a15 t l _ rfl) h d).symm.trans (congrArg _ ?_))
  have e := idx22 t
  blk_ext [e]

/-- its keys after the run are the reference's, -/
theorem final23 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2))
    (a14 : V' (Proc.devRef .tc Cert.PrepRefIdeal.main_arg14) = m ((c : Thread nD τ).loc main_arg14))
    (a15 : V' (Proc.devRef .tc Cert.PrepRefIdeal.main_arg15) = m ((c : Thread nD τ).loc main_arg15)) :
    (dats m 0 c).arrAt 23 cfg0.N = Cert.PrepHost.r312 V' := by
  refine (dats m 0 c).arrAt_eq_of_covers 23 _ (by decide +kernel) fun t hf y => ?_
  blk_simp
  rw [after0_23]
  have ht := lt_N t
  have hb : t.val / 16 < 4 := by omega
  have hi : ∀ l : Fin 512, 512 * (t.val % 16) + l.val < 8192 := fun l => by have := l.isLt; omega
  obtain ⟨l, d, rfl⟩ : ∃ (l : Fin 512) (d : Fin 512), y = ix3 0 l d := ⟨y 1, y 2, by funext a; fin_cases a <;> first | rfl | exact Subsingleton.elim (α := Fin 1) _ _⟩
  refine (o23 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (ix3 0 l d)).trans ((Cert.PrepHost.kd_apply V' ⟨t.val / 16, hb⟩ ⟨512 * (t.val % 16) + l.val, hi l⟩ _ (zeq m c V' a0 a1 a2 t l ⟨t.val / 16, hb⟩ ⟨512 * (t.val % 16) + l.val, hi l⟩ rfl rfl) _ _ (blk14 m c V' a14 t l _ rfl) (blk15 m c V' a15 t l _ rfl) d).symm.trans (congrArg _ ?_))
  have e := idx23 t
  blk_ext [e]

/-- its values after the run are the reference's, -/
theorem final24 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a2 : V' (Proc.devRef .tc Cert.PrepRefIdeal.main_arg2) = m ((c : Thread nD τ).loc main_arg2)) :
    (dats m 0 c).arrAt 24 cfg0.N = Cert.PrepHost.r313 V' := by
  refine (dats m 0 c).arrAt_eq_of_covers 24 _ (by decide +kernel) fun t hf y => ?_
  blk_simp
  rw [after0_24]
  have ht := lt_N t
  have hb : t.val / 16 < 4 := by omega
  have hi : ∀ l : Fin 512, 512 * (t.val % 16) + l.val < 8192 := fun l => by have := l.isLt; omega
  obtain ⟨d, l, rfl⟩ : ∃ (d : Fin 512) (l : Fin 512), y = ix3 0 d l := ⟨y 1, y 2, by funext a; fin_cases a <;> first | rfl | exact Subsingleton.elim (α := Fin 1) _ _⟩
  refine (o24 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) d l).trans ((Cert.PrepHost.vd_apply V' ⟨t.val / 16, hb⟩ ⟨512 * (t.val % 16) + l.val, hi l⟩ _ (zeq m c V' a0 a1 a2 t l ⟨t.val / 16, hb⟩ ⟨512 * (t.val % 16) + l.val, hi l⟩ rfl rfl) d).symm.trans (congrArg _ ?_))
  have e := idx24 t
  blk_ext [e]

/-- and the gates after the run are the reference's. -/
theorem final25 (a0 : V' (Proc.devRef .tc Cert.PrepRefIdeal.main_arg0) = m ((c : Thread nD τ).loc main_arg0))
    (a1 : V' (Proc.devRef .tc Cert.PrepRefIdeal.main_arg1) = m ((c : Thread nD τ).loc main_arg1))
    (a3 : V' (Proc.devRef .tc Cert.PrepRefIdeal.main_arg3) = m ((c : Thread nD τ).loc main_arg3)) :
    (dats m 0 c).arrAt 25 cfg0.N = Cert.PrepHost.r314 V' := by
  refine (dats m 0 c).arrAt_eq_of_covers 25 _ (by decide +kernel) fun t hf y => ?_
  blk_simp
  rw [after0_25]
  have ht := lt_N t
  have hb : t.val / 16 < 4 := by omega
  have hi : ∀ l : Fin 512, 512 * (t.val % 16) + l.val < 8192 := fun l => by have := l.isLt; omega
  obtain ⟨l, d, rfl⟩ : ∃ (l : Fin 512) (d : Fin 3072), y = ix3 0 l d := ⟨y 1, y 2, by funext a; fin_cases a <;> first | rfl | exact Subsingleton.elim (α := Fin 1) _ _⟩
  refine (o25 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) l d).trans ((geq m c V' a0 a1 a3 t l ⟨t.val / 16, hb⟩ ⟨512 * (t.val % 16) + l.val, hi l⟩ rfl rfl d).symm.trans (congrArg _ ?_))
  have e := idx25 t
  blk_ext [e]

end Call

end Cert.PrepTie
-- ==== Proof.PrepTie.lean ====
/- The start of the mixer: its claims. -/
module

public import proofs.«01_k».proof.Defs
public import proofs.«01_k».proof.Proof.PrepValue

@[expose] public section

set_option maxRecDepth 16384

noncomputable section

namespace Cert.PrepTie
open Idealize.ShloMosaic Idealize.ShloMosaic.TcCoe Idealize.SL.Sem Idealize.ShloMosaic.StableHlo

/-- The reference keeps its arguments and ends with its counters at zero. -/
theorem ref_frame : Cert.quiescent_PrepRefIdeal (hPrepRefIdeal := Cert.PrepRefIdeal.Gen.facts) := fun m ρ _ =>
  (θ_run _ _ _).mono (fun r h => ⟨fun c => (h c).2.2.2.2.2.2.2.2.2.2, sem_eq_zero_of_no_sems (by decide) r.2⟩) (Cert.PrepRefIdeal.Value.run m ρ)

set_option maxHeartbeats 2000000 in
/-- The value claim. -/
theorem algebraic : Cert.algebraic_PrepIdeal_PrepRefIdeal := fun m g m' g' _ hagree =>
  ⟨fun c => (Cert.PrepIdeal.Gen.dats m 0 c).arrAt 16 Cert.PrepIdeal.cfg0.N, fun c => (Cert.PrepIdeal.Gen.dats m 0 c).arrAt 17 Cert.PrepIdeal.cfg0.N, fun c => (Cert.PrepIdeal.Gen.dats m 0 c).arrAt 18 Cert.PrepIdeal.cfg0.N, fun c => (Cert.PrepIdeal.Gen.dats m 0 c).arrAt 19 Cert.PrepIdeal.cfg0.N, fun c => (Cert.PrepIdeal.Gen.dats m 0 c).arrAt 20 Cert.PrepIdeal.cfg0.N, fun c => (Cert.PrepIdeal.Gen.dats m 0 c).arrAt 21 Cert.PrepIdeal.cfg0.N, fun c => (Cert.PrepIdeal.Gen.dats m 0 c).arrAt 22 Cert.PrepIdeal.cfg0.N, fun c => (Cert.PrepIdeal.Gen.dats m 0 c).arrAt 23 Cert.PrepIdeal.cfg0.N, fun c => (Cert.PrepIdeal.Gen.dats m 0 c).arrAt 24 Cert.PrepIdeal.cfg0.N, fun c => (Cert.PrepIdeal.Gen.dats m 0 c).arrAt 25 Cert.PrepIdeal.cfg0.N,
    Cert.PrepIdeal.Value.run_blocks m g,
    (θ_run _ _ _).mono (fun r h c =>
      ⟨((h c).1).trans (final16 m c (launchContents m' c) ((hagree c).1) ((hagree c).2.1) ((hagree c).2.2.1) ((hagree c).2.2.2.2.1) ((hagree c).2.2.2.2.2.2.1) ((hagree c).2.2.2.2.2.2.2.2.2.2.1) ((hagree c).2.2.2.2.2.2.2.2.2.2.2.1)).symm,
      ((h c).2.1).trans (final17 m c (launchContents m' c) ((hagree c).1) ((hagree c).2.1) ((hagree c).2.2.1) ((hagree c).2.2.2.2.2.1) ((hagree c).2.2.2.2.2.2.2.1) ((hagree c).2.2.2.2.2.2.2.2.2.2.1) ((hagree c).2.2.2.2.2.2.2.2.2.2.2.1)).symm,
      ((h c).2.2.1).trans (final18 m c (launchContents m' c) ((hagree c).1) ((hagree c).2.1) ((hagree c).2.2.1) ((hagree c).2.2.2.2.2.1) ((hagree c).2.2.2.2.2.2.2.1)).symm,
      ((h c).2.2.2.1).trans (final19 m c (launchContents m' c) ((hagree c).1) ((hagree c).2.1) ((hagree c).2.2.1) ((hagree c).2.2.2.2.2.2.2.2.1) ((hagree c).2.2.2.2.2.2.2.2.2.2.2.2.1) ((hagree c).2.2.2.2.2.2.2.2.2.2.2.2.2.1)).symm,
      ((h c).2.2.2.2.1).trans (final20 m c (launchContents m' c) ((hagree c).1) ((hagree c).2.1) ((hagree c).2.2.1) ((hagree c).2.2.2.2.2.2.2.2.2.1) ((hagree c).2.2.2.2.2.2.2.2.2.2.2.2.1) ((hagree c).2.2.2.2.2.2.2.2.2.2.2.2.2.1)).symm,
      ((h c).2.2.2.2.2.1).trans (final21 m c (launchContents m' c) ((hagree c).1) ((hagree c).2.1) ((hagree c).2.2.1)).symm,
      ((h c).2.2.2.2.2.2.1).trans (final22 m c (launchContents m' c) ((hagree c).1) ((hagree c).2.1) ((hagree c).2.2.1) ((hagree c).2.2.2.2.2.2.2.2.2.2.2.2.2.2.1) ((hagree c).2.2.2.2.2.2.2.2.2.2.2.2.2.2.2)).symm,
      ((h c).2.2.2.2.2.2.2.1).trans (final23 m c (launchContents m' c) ((hagree c).1) ((hagree c).2.1) ((hagree c).2.2.1) ((hagree c).2.2.2.2.2.2.2.2.2.2.2.2.2.2.1) ((hagree c).2.2.2.2.2.2.2.2.2.2.2.2.2.2.2)).symm,
      ((h c).2.2.2.2.2.2.2.2.1).trans (final24 m c (launchContents m' c) ((hagree c).1) ((hagree c).2.1) ((hagree c).2.2.1)).symm,
      ((h c).2.2.2.2.2.2.2.2.2.1).trans (final25 m c (launchContents m' c) ((hagree c).1) ((hagree c).2.1) ((hagree c).2.2.2.1)).symm,
      (h c).2.2.2.2.2.2.2.2.2.2⟩) (Cert.PrepHost.ref_run m' g')⟩

end Cert.PrepTie
-- ==== Proof.lean ====
/- The claims, put together: the frames are the generated runs', the value claims are those of Proof/MlaValue.lean,
   Proof/GqaValue.lean, Proof/DiffValue.lean, Proof/DiftValue.lean,
   Proof/FfnValue.lean, Proof/MemKvValue.lean, Proof/MergeValue.lean and Proof/PrepTie.lean. -/
module

public import proofs.«01_k».proof.Defs
public import proofs.«01_k».proof.Proof.Gen.Mla
public import proofs.«01_k».proof.Proof.Gen.Mla.Frame
public import proofs.«01_k».proof.Proof.Gen.MlaIdeal
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.Pre_mla_finite
public import proofs.«01_k».proof.Proof.Gen.Gqa
public import proofs.«01_k».proof.Proof.Gen.Gqa.Frame
public import proofs.«01_k».proof.Proof.Gen.GqaIdeal
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.Pre_gqa_finite
public import proofs.«01_k».proof.Proof.Gen.Diff
public import proofs.«01_k».proof.Proof.Gen.Diff.Frame
public import proofs.«01_k».proof.Proof.Gen.DiffIdeal
public import proofs.«01_k».proof.Proof.Gen.DiffIdeal.Frame
public import proofs.«01_k».proof.Proof.Gen.DiffIdeal.Value
public import proofs.«01_k».proof.Proof.Gen.DiffRefIdeal
public import proofs.«01_k».proof.Proof.Gen.DiffRefIdeal.Run
public import proofs.«01_k».proof.Proof.Gen.Pre_diff_finite
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Dift
public import proofs.«01_k».proof.Proof.Gen.Dift.Frame
public import proofs.«01_k».proof.Proof.Gen.DiftIdeal
public import proofs.«01_k».proof.Proof.Gen.DiftIdeal.Frame
public import proofs.«01_k».proof.Proof.Gen.DiftIdeal.Value
public import proofs.«01_k».proof.Proof.Gen.DiftRefIdeal
public import proofs.«01_k».proof.Proof.Gen.DiftRefIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.MlaValue
public import proofs.«01_k».proof.Proof.GqaValue
public import proofs.«01_k».proof.Proof.DiffValue
public import proofs.«01_k».proof.Proof.FfnValue
public import proofs.«01_k».proof.Proof.MemKvValue
public import proofs.«01_k».proof.Proof.MergeValue
public import proofs.«01_k».proof.Proof.DiftValue
public import proofs.«01_k».proof.Proof.PrepTie
public import Idealize.ShloMosaic.Adequacy
public import Idealize.ShloMosaic.Init
public import Idealize.ShloMosaic.Lib.Quiescent

@[expose] public section

noncomputable section

namespace Cert.Proof

open Idealize.ShloMosaic Idealize.SL.Sem

/-- Every claim holds. -/
theorem claim : Cert.Claim := ⟨Cert.Mla.Gen.facts, Cert.MlaIdeal.Gen.facts, Cert.MlaRefIdeal.Gen.facts, Cert.Gqa.Gen.facts,
  Cert.GqaIdeal.Gen.facts, Cert.GqaRefIdeal.Gen.facts, Cert.Diff.Gen.facts, Cert.DiffIdeal.Gen.facts,
  Cert.DiffRefIdeal.Gen.facts, Cert.Ffn.Gen.facts, Cert.FfnIdeal.Gen.facts, Cert.FfnRefIdeal.Gen.facts,
  Cert.MemKv.Gen.facts, Cert.MemKvIdeal.Gen.facts, Cert.MemKvRefIdeal.Gen.facts, Cert.Merge.Gen.facts, Cert.MergeIdeal.Gen.facts, Cert.MergeRefIdeal.Gen.facts,
  Cert.Dift.Gen.facts, Cert.DiftIdeal.Gen.facts, Cert.DiftRefIdeal.Gen.facts,
  Cert.Prep.Gen.facts, Cert.PrepIdeal.Gen.facts, Cert.PrepRefIdeal.Gen.facts, Cert.Pre_mla_finite.Gen.facts,
  Cert.Pre_gqa_finite.Gen.facts, Cert.Pre_diff_finite.Gen.facts,
  fun m ρ _ => Cert.Mla.Gen.frame m ρ, fun m ρ _ => Cert.MlaIdeal.Gen.frame m ρ, fun m ρ _ => Cert.MlaIdeal.Gen.frame m ρ, fun m ρ _ => Cert.Mla.Tie.ref_frame m ρ, fun m ρ _ => Cert.Mla.Tie.ref_frame m ρ,
  fun m ρ _ => Cert.Gqa.Gen.frame m ρ, fun m ρ _ => Cert.GqaIdeal.Gen.frame m ρ, fun m ρ _ => Cert.GqaIdeal.Gen.frame m ρ, fun m ρ _ => Cert.Gqa.Tie.ref_frame m ρ, fun m ρ _ => Cert.Gqa.Tie.ref_frame m ρ,
  fun m ρ _ => Cert.Diff.Gen.frame m ρ, fun m ρ _ => Cert.DiffIdeal.Gen.frame m ρ, fun m ρ _ => Cert.DiffIdeal.Gen.frame m ρ, fun m ρ _ => Cert.DiffTie.ref_frame m ρ trivial, fun m ρ _ => Cert.DiffTie.ref_frame m ρ trivial,
  fun m ρ _ => Cert.Ffn.Gen.frame m ρ, fun m ρ _ => Cert.FfnIdeal.Gen.frame m ρ, fun m ρ _ => Cert.FfnTie.ref_frame m ρ trivial,
  fun m ρ _ => Cert.MemKv.Gen.frame m ρ, fun m ρ _ => Cert.MemKvIdeal.Gen.frame m ρ, fun m ρ _ => Cert.MemKvTie.ref_frame m ρ trivial,
  fun m ρ _ => Cert.Merge.Gen.frame m ρ, fun m ρ _ => Cert.MergeIdeal.Gen.frame m ρ, fun m ρ _ => Cert.MergeTie.ref_frame m ρ trivial,
  fun m ρ _ => Cert.Dift.Gen.frame m ρ, fun m ρ _ => Cert.DiftIdeal.Gen.frame m ρ, fun m ρ _ => Cert.DiftIdeal.Gen.frame m ρ, fun m ρ _ => Cert.DiftTie.ref_frame m ρ trivial, fun m ρ _ => Cert.DiftTie.ref_frame m ρ trivial,
  fun m ρ _ => Cert.Prep.Gen.frame m ρ, fun m ρ _ => Cert.PrepIdeal.Gen.frame m ρ, fun m ρ _ => Cert.PrepTie.ref_frame m ρ trivial,
  trivial, Cert.Mla.Tie.algebraic,
  trivial, Cert.Gqa.Tie.algebraic,
  trivial, Cert.DiffTie.algebraic,
  trivial, Cert.FfnTie.algebraic,
  trivial, Cert.MemKvTie.algebraic,
  Cert.MergeTie.preserves, Cert.MergeTie.algebraic,
  trivial, Cert.DiftTie.algebraic,
  trivial, Cert.PrepTie.algebraic⟩

end Cert.Proof

end
